-- ==== Defs.lean ====
def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_gates_tame [hPre_gates_tame : Cert.Pre_gates_tame.Facts] (m : (ℓ : Loc Cert.MoeIdeal.nD Cert.MoeIdeal.τ Cert.MoeIdeal.sig) → Buf (Elt Ideal) ℓ) : Prop :=
  ∀ c : Dev Cert.MoeIdeal.nD,
    (Cert.Pre_gates_tame.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_gates_tame [hPre_gates_tame : Cert.Pre_gates_tame.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_gates_tame.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InAtt (m : (ℓ : Loc Cert.InAtt.nD Cert.InAtt.τ Cert.InAtt.sig) → Buf (Elt Bits) ℓ) : Prop :=
  True

def Pre_InAttIdeal (m : (ℓ : Loc Cert.InAttIdeal.nD Cert.InAttIdeal.τ Cert.InAttIdeal.sig) → Buf (Elt Ideal) ℓ) : Prop :=
  True

def Pre_InAttRefIdeal (m : (ℓ : Loc Cert.InAttRefIdeal.nD Cert.InAttRefIdeal.τ Cert.InAttRefIdeal.sig) → Buf (Elt Ideal) ℓ) : Prop :=
  True

def Pre_InSg (m : (ℓ : Loc Cert.InSg.nD Cert.InSg.τ Cert.InSg.sig) → Buf (Elt Bits) ℓ) : Prop :=
  True

def Pre_InSgIdeal (m : (ℓ : Loc Cert.InSgIdeal.nD Cert.InSgIdeal.τ Cert.InSgIdeal.sig) → Buf (Elt Ideal) ℓ) : Prop :=
  True

def Pre_InSgRefIdeal (m : (ℓ : Loc Cert.InSgRefIdeal.nD Cert.InSgRefIdeal.τ Cert.InSgRefIdeal.sig) → Buf (Elt Ideal) ℓ) : Prop :=
  True

def Pre_InMl (m : (ℓ : Loc Cert.InMl.nD Cert.InMl.τ Cert.InMl.sig) → Buf (Elt Bits) ℓ) : Prop :=
  True

def Pre_InMlIdeal (m : (ℓ : Loc Cert.InMlIdeal.nD Cert.InMlIdeal.τ Cert.InMlIdeal.sig) → Buf (Elt Ideal) ℓ) : Prop :=
  True

def Pre_InMlRefIdeal (m : (ℓ : Loc Cert.InMlRefIdeal.nD Cert.InMlRefIdeal.τ Cert.InMlRefIdeal.sig) → Buf (Elt Ideal) ℓ) : Prop :=
  True

def Pre_InIf (m : (ℓ : Loc Cert.InIf.nD Cert.InIf.τ Cert.InIf.sig) → Buf (Elt Bits) ℓ) : Prop :=
  True

def Pre_InIfIdeal (m : (ℓ : Loc Cert.InIfIdeal.nD Cert.InIfIdeal.τ Cert.InIfIdeal.sig) → Buf (Elt Ideal) ℓ) : Prop :=
  True

def Pre_InIfRefIdeal (m : (ℓ : Loc Cert.InIfRefIdeal.nD Cert.InIfRefIdeal.τ Cert.InIfRefIdeal.sig) → Buf (Elt Ideal) ℓ) : Prop :=
  True

def Pre_InGate (m : (ℓ : Loc Cert.InGate.nD Cert.InGate.τ Cert.InGate.sig) → Buf (Elt Bits) ℓ) : Prop :=
  True

def Pre_InGateIdeal (m : (ℓ : Loc Cert.InGateIdeal.nD Cert.InGateIdeal.τ Cert.InGateIdeal.sig) → Buf (Elt Ideal) ℓ) : Prop :=
  True

def Pre_InGateRefIdeal (m : (ℓ : Loc Cert.InGateRefIdeal.nD Cert.InGateRefIdeal.τ Cert.InGateRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_largest_finite [hPre_largest_finite : Cert.Pre_largest_finite.Facts] (m : (ℓ : Loc Cert.MixIdeal.nD Cert.MixIdeal.τ Cert.MixIdeal.sig) → Buf (Elt Ideal) ℓ) : Prop :=
  ∀ c : Dev Cert.MixIdeal.nD,
    (Cert.Pre_largest_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14)) (m ((c.tc : Thread Cert.MixIdeal.nD Cert.MixIdeal.τ).loc Cert.MixIdeal.main_arg15)) (m ((c.tc : Thread Cert.MixIdeal.nD Cert.MixIdeal.τ).loc Cert.MixIdeal.main_arg16)) (m ((c.tc : Thread Cert.MixIdeal.nD Cert.MixIdeal.τ).loc Cert.MixIdeal.main_arg17)) (m ((c.tc : Thread Cert.MixIdeal.nD Cert.MixIdeal.τ).loc Cert.MixIdeal.main_arg18)) (m ((c.tc : Thread Cert.MixIdeal.nD Cert.MixIdeal.τ).loc Cert.MixIdeal.main_arg19))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_largest_finite [hPre_largest_finite : Cert.Pre_largest_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_largest_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13)) (m ((c.tc : Thread Cert.MixRefIdeal.nD Cert.MixRefIdeal.τ).loc Cert.MixRefIdeal.main_arg14)) (m ((c.tc : Thread Cert.MixRefIdeal.nD Cert.MixRefIdeal.τ).loc Cert.MixRefIdeal.main_arg15)) (m ((c.tc : Thread Cert.MixRefIdeal.nD Cert.MixRefIdeal.τ).loc Cert.MixRefIdeal.main_arg16)) (m ((c.tc : Thread Cert.MixRefIdeal.nD Cert.MixRefIdeal.τ).loc Cert.MixRefIdeal.main_arg17)) (m ((c.tc : Thread Cert.MixRefIdeal.nD Cert.MixRefIdeal.τ).loc Cert.MixRefIdeal.main_arg18)) (m ((c.tc : Thread Cert.MixRefIdeal.nD Cert.MixRefIdeal.τ).loc Cert.MixRefIdeal.main_arg19))) = (fun _ => 1#1)

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_all_finite [hPre_all_finite : Cert.Pre_all_finite.Facts] (m : (ℓ : Loc Cert.RouterIdeal.nD Cert.RouterIdeal.τ Cert.RouterIdeal.sig) → Buf (Elt Ideal) ℓ) : Prop :=
  ∀ c : Dev Cert.RouterIdeal.nD,
    (Cert.Pre_all_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2))).1 = (fun _ => 1#1)
    ∧ (Cert.Pre_all_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2))).2.1 = (fun _ => 1#1)
    ∧ (Cert.Pre_all_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2))).2.2 = (fun _ => 1#1)

def Pre_RouterRefIdeal (m : (ℓ : Loc Cert.RouterRefIdeal.nD Cert.RouterRefIdeal.τ Cert.RouterRefIdeal.sig) → Buf (Elt Ideal) ℓ) : Prop :=
  True

def Pre_RouterRefIdeal_all_finite [hPre_all_finite : Cert.Pre_all_finite.Facts] (m : (ℓ : Loc Cert.RouterRefIdeal.nD Cert.RouterRefIdeal.τ Cert.RouterRefIdeal.sig) → Buf (Elt Ideal) ℓ) : Prop :=
  ∀ c : Dev Cert.RouterRefIdeal.nD,
    (Cert.Pre_all_finite.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2))).1 = (fun _ => 1#1)
    ∧ (Cert.Pre_all_finite.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2))).2.1 = (fun _ => 1#1)
    ∧ (Cert.Pre_all_finite.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2))).2.2 = (fun _ => 1#1)

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Mls (m : (ℓ : Loc Cert.Mls.nD Cert.Mls.τ Cert.Mls.sig) → Buf (Elt Bits) ℓ) : Prop :=
  True

def Pre_MlsIdeal (m : (ℓ : Loc Cert.MlsIdeal.nD Cert.MlsIdeal.τ Cert.MlsIdeal.sig) → Buf (Elt Ideal) ℓ) : Prop :=
  True

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeIdeal_pre_gates_tame [hMoeIdeal : Cert.MoeIdeal.Facts] [hPre_gates_tame : Cert.Pre_gates_tame.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_gates_tame m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_MoeRefIdeal_pre_gates_tame [hMoeRefIdeal : Cert.MoeRefIdeal.Facts] [hPre_gates_tame : Cert.Pre_gates_tame.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_gates_tame m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_InAtt [hInAtt : Cert.InAtt.Facts] : Prop :=
  ∀ (m : (ℓ : Loc Cert.InAtt.nD Cert.InAtt.τ Cert.InAtt.sig) → Buf (Elt Bits) ℓ) (g : Dev Cert.InAtt.nD → PrngReg), Pre_InAtt m →
    θ_run (Cert.InAtt.defs (F := Bits)) (onTc (τ := Cert.InAtt.τ) (Cert.InAtt.main (F := Bits))) ⟨m, fun _ => 0, g⟩ (fun r => (∀ c : Dev Cert.InAtt.nD,
      r.2.mem ((c.tc : Thread Cert.InAtt.nD Cert.InAtt.τ).loc Cert.InAtt.main_arg0) = m ((c.tc : Thread Cert.InAtt.nD Cert.InAtt.τ).loc Cert.InAtt.main_arg0)
      ∧ r.2.mem ((c.tc : Thread Cert.InAtt.nD Cert.InAtt.τ).loc Cert.InAtt.main_arg1) = m ((c.tc : Thread Cert.InAtt.nD Cert.InAtt.τ).loc Cert.InAtt.main_arg1)
      ∧ r.2.mem ((c.tc : Thread Cert.InAtt.nD Cert.InAtt.τ).loc Cert.InAtt.main_arg2) = m ((c.tc : Thread Cert.InAtt.nD Cert.InAtt.τ).loc Cert.InAtt.main_arg2))
      ∧ r.2.sem = fun _ => 0)

def quiescent_InAttIdeal [hInAttIdeal : Cert.InAttIdeal.Facts] : Prop :=
  ∀ (m : (ℓ : Loc Cert.InAttIdeal.nD Cert.InAttIdeal.τ Cert.InAttIdeal.sig) → Buf (Elt Ideal) ℓ) (g : Dev Cert.InAttIdeal.nD → PrngReg), Pre_InAttIdeal m →
    θ_run (Cert.InAttIdeal.defs (F := Ideal)) (onTc (τ := Cert.InAttIdeal.τ) (Cert.InAttIdeal.main (F := Ideal))) ⟨m, fun _ => 0, g⟩ (fun r => (∀ c : Dev Cert.InAttIdeal.nD,
      r.2.mem ((c.tc : Thread Cert.InAttIdeal.nD Cert.InAttIdeal.τ).loc Cert.InAttIdeal.main_arg0) = m ((c.tc : Thread Cert.InAttIdeal.nD Cert.InAttIdeal.τ).loc Cert.InAttIdeal.main_arg0)
      ∧ r.2.mem ((c.tc : Thread Cert.InAttIdeal.nD Cert.InAttIdeal.τ).loc Cert.InAttIdeal.main_arg1) = m ((c.tc : Thread Cert.InAttIdeal.nD Cert.InAttIdeal.τ).loc Cert.InAttIdeal.main_arg1)
      ∧ r.2.mem ((c.tc : Thread Cert.InAttIdeal.nD Cert.InAttIdeal.τ).loc Cert.InAttIdeal.main_arg2) = m ((c.tc : Thread Cert.InAttIdeal.nD Cert.InAttIdeal.τ).loc Cert.InAttIdeal.main_arg2))
      ∧ r.2.sem = fun _ => 0)

def quiescent_InAttRefIdeal [hInAttRefIdeal : Cert.InAttRefIdeal.Facts] : Prop :=
  ∀ (m : (ℓ : Loc Cert.InAttRefIdeal.nD Cert.InAttRefIdeal.τ Cert.InAttRefIdeal.sig) → Buf (Elt Ideal) ℓ) (g : Dev Cert.InAttRefIdeal.nD → PrngReg), Pre_InAttRefIdeal m →
    θ_run (Cert.InAttRefIdeal.defs (F := Ideal)) (onTc (τ := Cert.InAttRefIdeal.τ) (Cert.InAttRefIdeal.main (F := Ideal))) ⟨m, fun _ => 0, g⟩ (fun r => (∀ c : Dev Cert.InAttRefIdeal.nD,
      r.2.mem ((c.tc : Thread Cert.InAttRefIdeal.nD Cert.InAttRefIdeal.τ).loc Cert.InAttRefIdeal.main_arg0) = m ((c.tc : Thread Cert.InAttRefIdeal.nD Cert.InAttRefIdeal.τ).loc Cert.InAttRefIdeal.main_arg0)
      ∧ r.2.mem ((c.tc : Thread Cert.InAttRefIdeal.nD Cert.InAttRefIdeal.τ).loc Cert.InAttRefIdeal.main_arg1) = m ((c.tc : Thread Cert.InAttRefIdeal.nD Cert.InAttRefIdeal.τ).loc Cert.InAttRefIdeal.main_arg1)
      ∧ r.2.mem ((c.tc : Thread Cert.InAttRefIdeal.nD Cert.InAttRefIdeal.τ).loc Cert.InAttRefIdeal.main_arg2) = m ((c.tc : Thread Cert.InAttRefIdeal.nD Cert.InAttRefIdeal.τ).loc Cert.InAttRefIdeal.main_arg2))
      ∧ r.2.sem = fun _ => 0)

def quiescent_InSg [hInSg : Cert.InSg.Facts] : Prop :=
  ∀ (m : (ℓ : Loc Cert.InSg.nD Cert.InSg.τ Cert.InSg.sig) → Buf (Elt Bits) ℓ) (g : Dev Cert.InSg.nD → PrngReg), Pre_InSg m →
    θ_run (Cert.InSg.defs (F := Bits)) (onTc (τ := Cert.InSg.τ) (Cert.InSg.main (F := Bits))) ⟨m, fun _ => 0, g⟩ (fun r => (∀ c : Dev Cert.InSg.nD,
      r.2.mem ((c.tc : Thread Cert.InSg.nD Cert.InSg.τ).loc Cert.InSg.main_arg0) = m ((c.tc : Thread Cert.InSg.nD Cert.InSg.τ).loc Cert.InSg.main_arg0)
      ∧ r.2.mem ((c.tc : Thread Cert.InSg.nD Cert.InSg.τ).loc Cert.InSg.main_arg1) = m ((c.tc : Thread Cert.InSg.nD Cert.InSg.τ).loc Cert.InSg.main_arg1)
      ∧ r.2.mem ((c.tc : Thread Cert.InSg.nD Cert.InSg.τ).loc Cert.InSg.main_arg2) = m ((c.tc : Thread Cert.InSg.nD Cert.InSg.τ).loc Cert.InSg.main_arg2))
      ∧ r.2.sem = fun _ => 0)

def quiescent_InSgIdeal [hInSgIdeal : Cert.InSgIdeal.Facts] : Prop :=
  ∀ (m : (ℓ : Loc Cert.InSgIdeal.nD Cert.InSgIdeal.τ Cert.InSgIdeal.sig) → Buf (Elt Ideal) ℓ) (g : Dev Cert.InSgIdeal.nD → PrngReg), Pre_InSgIdeal m →
    θ_run (Cert.InSgIdeal.defs (F := Ideal)) (onTc (τ := Cert.InSgIdeal.τ) (Cert.InSgIdeal.main (F := Ideal))) ⟨m, fun _ => 0, g⟩ (fun r => (∀ c : Dev Cert.InSgIdeal.nD,
      r.2.mem ((c.tc : Thread Cert.InSgIdeal.nD Cert.InSgIdeal.τ).loc Cert.InSgIdeal.main_arg0) = m ((c.tc : Thread Cert.InSgIdeal.nD Cert.InSgIdeal.τ).loc Cert.InSgIdeal.main_arg0)
      ∧ r.2.mem ((c.tc : Thread Cert.InSgIdeal.nD Cert.InSgIdeal.τ).loc Cert.InSgIdeal.main_arg1) = m ((c.tc : Thread Cert.InSgIdeal.nD Cert.InSgIdeal.τ).loc Cert.InSgIdeal.main_arg1)
      ∧ r.2.mem ((c.tc : Thread Cert.InSgIdeal.nD Cert.InSgIdeal.τ).loc Cert.InSgIdeal.main_arg2) = m ((c.tc : Thread Cert.InSgIdeal.nD Cert.InSgIdeal.τ).loc Cert.InSgIdeal.main_arg2))
      ∧ r.2.sem = fun _ => 0)

def quiescent_InSgRefIdeal [hInSgRefIdeal : Cert.InSgRefIdeal.Facts] : Prop :=
  ∀ (m : (ℓ : Loc Cert.InSgRefIdeal.nD Cert.InSgRefIdeal.τ Cert.InSgRefIdeal.sig) → Buf (Elt Ideal) ℓ) (g : Dev Cert.InSgRefIdeal.nD → PrngReg), Pre_InSgRefIdeal m →
    θ_run (Cert.InSgRefIdeal.defs (F := Ideal)) (onTc (τ := Cert.InSgRefIdeal.τ) (Cert.InSgRefIdeal.main (F := Ideal))) ⟨m, fun _ => 0, g⟩ (fun r => (∀ c : Dev Cert.InSgRefIdeal.nD,
      r.2.mem ((c.tc : Thread Cert.InSgRefIdeal.nD Cert.InSgRefIdeal.τ).loc Cert.InSgRefIdeal.main_arg0) = m ((c.tc : Thread Cert.InSgRefIdeal.nD Cert.InSgRefIdeal.τ).loc Cert.InSgRefIdeal.main_arg0)
      ∧ r.2.mem ((c.tc : Thread Cert.InSgRefIdeal.nD Cert.InSgRefIdeal.τ).loc Cert.InSgRefIdeal.main_arg1) = m ((c.tc : Thread Cert.InSgRefIdeal.nD Cert.InSgRefIdeal.τ).loc Cert.InSgRefIdeal.main_arg1)
      ∧ r.2.mem ((c.tc : Thread Cert.InSgRefIdeal.nD Cert.InSgRefIdeal.τ).loc Cert.InSgRefIdeal.main_arg2) = m ((c.tc : Thread Cert.InSgRefIdeal.nD Cert.InSgRefIdeal.τ).loc Cert.InSgRefIdeal.main_arg2))
      ∧ r.2.sem = fun _ => 0)

def quiescent_InMl [hInMl : Cert.InMl.Facts] : Prop :=
  ∀ (m : (ℓ : Loc Cert.InMl.nD Cert.InMl.τ Cert.InMl.sig) → Buf (Elt Bits) ℓ) (g : Dev Cert.InMl.nD → PrngReg), Pre_InMl m →
    θ_run (Cert.InMl.defs (F := Bits)) (onTc (τ := Cert.InMl.τ) (Cert.InMl.main (F := Bits))) ⟨m, fun _ => 0, g⟩ (fun r => (∀ c : Dev Cert.InMl.nD,
      r.2.mem ((c.tc : Thread Cert.InMl.nD Cert.InMl.τ).loc Cert.InMl.main_arg0) = m ((c.tc : Thread Cert.InMl.nD Cert.InMl.τ).loc Cert.InMl.main_arg0)
      ∧ r.2.mem ((c.tc : Thread Cert.InMl.nD Cert.InMl.τ).loc Cert.InMl.main_arg1) = m ((c.tc : Thread Cert.InMl.nD Cert.InMl.τ).loc Cert.InMl.main_arg1)
      ∧ r.2.mem ((c.tc : Thread Cert.InMl.nD Cert.InMl.τ).loc Cert.InMl.main_arg2) = m ((c.tc : Thread Cert.InMl.nD Cert.InMl.τ).loc Cert.InMl.main_arg2))
      ∧ r.2.sem = fun _ => 0)

def quiescent_InMlIdeal [hInMlIdeal : Cert.InMlIdeal.Facts] : Prop :=
  ∀ (m : (ℓ : Loc Cert.InMlIdeal.nD Cert.InMlIdeal.τ Cert.InMlIdeal.sig) → Buf (Elt Ideal) ℓ) (g : Dev Cert.InMlIdeal.nD → PrngReg), Pre_InMlIdeal m →
    θ_run (Cert.InMlIdeal.defs (F := Ideal)) (onTc (τ := Cert.InMlIdeal.τ) (Cert.InMlIdeal.main (F := Ideal))) ⟨m, fun _ => 0, g⟩ (fun r => (∀ c : Dev Cert.InMlIdeal.nD,
      r.2.mem ((c.tc : Thread Cert.InMlIdeal.nD Cert.InMlIdeal.τ).loc Cert.InMlIdeal.main_arg0) = m ((c.tc : Thread Cert.InMlIdeal.nD Cert.InMlIdeal.τ).loc Cert.InMlIdeal.main_arg0)
      ∧ r.2.mem ((c.tc : Thread Cert.InMlIdeal.nD Cert.InMlIdeal.τ).loc Cert.InMlIdeal.main_arg1) = m ((c.tc : Thread Cert.InMlIdeal.nD Cert.InMlIdeal.τ).loc Cert.InMlIdeal.main_arg1)
      ∧ r.2.mem ((c.tc : Thread Cert.InMlIdeal.nD Cert.InMlIdeal.τ).loc Cert.InMlIdeal.main_arg2) = m ((c.tc : Thread Cert.InMlIdeal.nD Cert.InMlIdeal.τ).loc Cert.InMlIdeal.main_arg2))
      ∧ r.2.sem = fun _ => 0)

def quiescent_InMlRefIdeal [hInMlRefIdeal : Cert.InMlRefIdeal.Facts] : Prop :=
  ∀ (m : (ℓ : Loc Cert.InMlRefIdeal.nD Cert.InMlRefIdeal.τ Cert.InMlRefIdeal.sig) → Buf (Elt Ideal) ℓ) (g : Dev Cert.InMlRefIdeal.nD → PrngReg), Pre_InMlRefIdeal m →
    θ_run (Cert.InMlRefIdeal.defs (F := Ideal)) (onTc (τ := Cert.InMlRefIdeal.τ) (Cert.InMlRefIdeal.main (F := Ideal))) ⟨m, fun _ => 0, g⟩ (fun r => (∀ c : Dev Cert.InMlRefIdeal.nD,
      r.2.mem ((c.tc : Thread Cert.InMlRefIdeal.nD Cert.InMlRefIdeal.τ).loc Cert.InMlRefIdeal.main_arg0) = m ((c.tc : Thread Cert.InMlRefIdeal.nD Cert.InMlRefIdeal.τ).loc Cert.InMlRefIdeal.main_arg0)
      ∧ r.2.mem ((c.tc : Thread Cert.InMlRefIdeal.nD Cert.InMlRefIdeal.τ).loc Cert.InMlRefIdeal.main_arg1) = m ((c.tc : Thread Cert.InMlRefIdeal.nD Cert.InMlRefIdeal.τ).loc Cert.InMlRefIdeal.main_arg1)
      ∧ r.2.mem ((c.tc : Thread Cert.InMlRefIdeal.nD Cert.InMlRefIdeal.τ).loc Cert.InMlRefIdeal.main_arg2) = m ((c.tc : Thread Cert.InMlRefIdeal.nD Cert.InMlRefIdeal.τ).loc Cert.InMlRefIdeal.main_arg2))
      ∧ r.2.sem = fun _ => 0)

def quiescent_InIf [hInIf : Cert.InIf.Facts] : Prop :=
  ∀ (m : (ℓ : Loc Cert.InIf.nD Cert.InIf.τ Cert.InIf.sig) → Buf (Elt Bits) ℓ) (g : Dev Cert.InIf.nD → PrngReg), Pre_InIf m →
    θ_run (Cert.InIf.defs (F := Bits)) (onTc (τ := Cert.InIf.τ) (Cert.InIf.main (F := Bits))) ⟨m, fun _ => 0, g⟩ (fun r => (∀ c : Dev Cert.InIf.nD,
      r.2.mem ((c.tc : Thread Cert.InIf.nD Cert.InIf.τ).loc Cert.InIf.main_arg0) = m ((c.tc : Thread Cert.InIf.nD Cert.InIf.τ).loc Cert.InIf.main_arg0)
      ∧ r.2.mem ((c.tc : Thread Cert.InIf.nD Cert.InIf.τ).loc Cert.InIf.main_arg1) = m ((c.tc : Thread Cert.InIf.nD Cert.InIf.τ).loc Cert.InIf.main_arg1)
      ∧ r.2.mem ((c.tc : Thread Cert.InIf.nD Cert.InIf.τ).loc Cert.InIf.main_arg2) = m ((c.tc : Thread Cert.InIf.nD Cert.InIf.τ).loc Cert.InIf.main_arg2))
      ∧ r.2.sem = fun _ => 0)

def quiescent_InIfIdeal [hInIfIdeal : Cert.InIfIdeal.Facts] : Prop :=
  ∀ (m : (ℓ : Loc Cert.InIfIdeal.nD Cert.InIfIdeal.τ Cert.InIfIdeal.sig) → Buf (Elt Ideal) ℓ) (g : Dev Cert.InIfIdeal.nD → PrngReg), Pre_InIfIdeal m →
    θ_run (Cert.InIfIdeal.defs (F := Ideal)) (onTc (τ := Cert.InIfIdeal.τ) (Cert.InIfIdeal.main (F := Ideal))) ⟨m, fun _ => 0, g⟩ (fun r => (∀ c : Dev Cert.InIfIdeal.nD,
      r.2.mem ((c.tc : Thread Cert.InIfIdeal.nD Cert.InIfIdeal.τ).loc Cert.InIfIdeal.main_arg0) = m ((c.tc : Thread Cert.InIfIdeal.nD Cert.InIfIdeal.τ).loc Cert.InIfIdeal.main_arg0)
      ∧ r.2.mem ((c.tc : Thread Cert.InIfIdeal.nD Cert.InIfIdeal.τ).loc Cert.InIfIdeal.main_arg1) = m ((c.tc : Thread Cert.InIfIdeal.nD Cert.InIfIdeal.τ).loc Cert.InIfIdeal.main_arg1)
      ∧ r.2.mem ((c.tc : Thread Cert.InIfIdeal.nD Cert.InIfIdeal.τ).loc Cert.InIfIdeal.main_arg2) = m ((c.tc : Thread Cert.InIfIdeal.nD Cert.InIfIdeal.τ).loc Cert.InIfIdeal.main_arg2))
      ∧ r.2.sem = fun _ => 0)

def quiescent_InIfRefIdeal [hInIfRefIdeal : Cert.InIfRefIdeal.Facts] : Prop :=
  ∀ (m : (ℓ : Loc Cert.InIfRefIdeal.nD Cert.InIfRefIdeal.τ Cert.InIfRefIdeal.sig) → Buf (Elt Ideal) ℓ) (g : Dev Cert.InIfRefIdeal.nD → PrngReg), Pre_InIfRefIdeal m →
    θ_run (Cert.InIfRefIdeal.defs (F := Ideal)) (onTc (τ := Cert.InIfRefIdeal.τ) (Cert.InIfRefIdeal.main (F := Ideal))) ⟨m, fun _ => 0, g⟩ (fun r => (∀ c : Dev Cert.InIfRefIdeal.nD,
      r.2.mem ((c.tc : Thread Cert.InIfRefIdeal.nD Cert.InIfRefIdeal.τ).loc Cert.InIfRefIdeal.main_arg0) = m ((c.tc : Thread Cert.InIfRefIdeal.nD Cert.InIfRefIdeal.τ).loc Cert.InIfRefIdeal.main_arg0)
      ∧ r.2.mem ((c.tc : Thread Cert.InIfRefIdeal.nD Cert.InIfRefIdeal.τ).loc Cert.InIfRefIdeal.main_arg1) = m ((c.tc : Thread Cert.InIfRefIdeal.nD Cert.InIfRefIdeal.τ).loc Cert.InIfRefIdeal.main_arg1)
      ∧ r.2.mem ((c.tc : Thread Cert.InIfRefIdeal.nD Cert.InIfRefIdeal.τ).loc Cert.InIfRefIdeal.main_arg2) = m ((c.tc : Thread Cert.InIfRefIdeal.nD Cert.InIfRefIdeal.τ).loc Cert.InIfRefIdeal.main_arg2))
      ∧ r.2.sem = fun _ => 0)

def quiescent_InGate [hInGate : Cert.InGate.Facts] : Prop :=
  ∀ (m : (ℓ : Loc Cert.InGate.nD Cert.InGate.τ Cert.InGate.sig) → Buf (Elt Bits) ℓ) (g : Dev Cert.InGate.nD → PrngReg), Pre_InGate m →
    θ_run (Cert.InGate.defs (F := Bits)) (onTc (τ := Cert.InGate.τ) (Cert.InGate.main (F := Bits))) ⟨m, fun _ => 0, g⟩ (fun r => (∀ c : Dev Cert.InGate.nD,
      r.2.mem ((c.tc : Thread Cert.InGate.nD Cert.InGate.τ).loc Cert.InGate.main_arg0) = m ((c.tc : Thread Cert.InGate.nD Cert.InGate.τ).loc Cert.InGate.main_arg0)
      ∧ r.2.mem ((c.tc : Thread Cert.InGate.nD Cert.InGate.τ).loc Cert.InGate.main_arg1) = m ((c.tc : Thread Cert.InGate.nD Cert.InGate.τ).loc Cert.InGate.main_arg1)
      ∧ r.2.mem ((c.tc : Thread Cert.InGate.nD Cert.InGate.τ).loc Cert.InGate.main_arg2) = m ((c.tc : Thread Cert.InGate.nD Cert.InGate.τ).loc Cert.InGate.main_arg2))
      ∧ r.2.sem = fun _ => 0)

def quiescent_InGateIdeal [hInGateIdeal : Cert.InGateIdeal.Facts] : Prop :=
  ∀ (m : (ℓ : Loc Cert.InGateIdeal.nD Cert.InGateIdeal.τ Cert.InGateIdeal.sig) → Buf (Elt Ideal) ℓ) (g : Dev Cert.InGateIdeal.nD → PrngReg), Pre_InGateIdeal m →
    θ_run (Cert.InGateIdeal.defs (F := Ideal)) (onTc (τ := Cert.InGateIdeal.τ) (Cert.InGateIdeal.main (F := Ideal))) ⟨m, fun _ => 0, g⟩ (fun r => (∀ c : Dev Cert.InGateIdeal.nD,
      r.2.mem ((c.tc : Thread Cert.InGateIdeal.nD Cert.InGateIdeal.τ).loc Cert.InGateIdeal.main_arg0) = m ((c.tc : Thread Cert.InGateIdeal.nD Cert.InGateIdeal.τ).loc Cert.InGateIdeal.main_arg0)
      ∧ r.2.mem ((c.tc : Thread Cert.InGateIdeal.nD Cert.InGateIdeal.τ).loc Cert.InGateIdeal.main_arg1) = m ((c.tc : Thread Cert.InGateIdeal.nD Cert.InGateIdeal.τ).loc Cert.InGateIdeal.main_arg1)
      ∧ r.2.mem ((c.tc : Thread Cert.InGateIdeal.nD Cert.InGateIdeal.τ).loc Cert.InGateIdeal.main_arg2) = m ((c.tc : Thread Cert.InGateIdeal.nD Cert.InGateIdeal.τ).loc Cert.InGateIdeal.main_arg2))
      ∧ r.2.sem = fun _ => 0)

def quiescent_InGateRefIdeal [hInGateRefIdeal : Cert.InGateRefIdeal.Facts] : Prop :=
  ∀ (m : (ℓ : Loc Cert.InGateRefIdeal.nD Cert.InGateRefIdeal.τ Cert.InGateRefIdeal.sig) → Buf (Elt Ideal) ℓ) (g : Dev Cert.InGateRefIdeal.nD → PrngReg), Pre_InGateRefIdeal m →
    θ_run (Cert.InGateRefIdeal.defs (F := Ideal)) (onTc (τ := Cert.InGateRefIdeal.τ) (Cert.InGateRefIdeal.main (F := Ideal))) ⟨m, fun _ => 0, g⟩ (fun r => (∀ c : Dev Cert.InGateRefIdeal.nD,
      r.2.mem ((c.tc : Thread Cert.InGateRefIdeal.nD Cert.InGateRefIdeal.τ).loc Cert.InGateRefIdeal.main_arg0) = m ((c.tc : Thread Cert.InGateRefIdeal.nD Cert.InGateRefIdeal.τ).loc Cert.InGateRefIdeal.main_arg0)
      ∧ r.2.mem ((c.tc : Thread Cert.InGateRefIdeal.nD Cert.InGateRefIdeal.τ).loc Cert.InGateRefIdeal.main_arg1) = m ((c.tc : Thread Cert.InGateRefIdeal.nD Cert.InGateRefIdeal.τ).loc Cert.InGateRefIdeal.main_arg1)
      ∧ r.2.mem ((c.tc : Thread Cert.InGateRefIdeal.nD Cert.InGateRefIdeal.τ).loc Cert.InGateRefIdeal.main_arg2) = m ((c.tc : Thread Cert.InGateRefIdeal.nD Cert.InGateRefIdeal.τ).loc Cert.InGateRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14)
      ∧ r.2.mem ((c.tc : Thread Cert.Mix.nD Cert.Mix.τ).loc Cert.Mix.main_arg15) = m ((c.tc : Thread Cert.Mix.nD Cert.Mix.τ).loc Cert.Mix.main_arg15)
      ∧ r.2.mem ((c.tc : Thread Cert.Mix.nD Cert.Mix.τ).loc Cert.Mix.main_arg16) = m ((c.tc : Thread Cert.Mix.nD Cert.Mix.τ).loc Cert.Mix.main_arg16)
      ∧ r.2.mem ((c.tc : Thread Cert.Mix.nD Cert.Mix.τ).loc Cert.Mix.main_arg17) = m ((c.tc : Thread Cert.Mix.nD Cert.Mix.τ).loc Cert.Mix.main_arg17)
      ∧ r.2.mem ((c.tc : Thread Cert.Mix.nD Cert.Mix.τ).loc Cert.Mix.main_arg18) = m ((c.tc : Thread Cert.Mix.nD Cert.Mix.τ).loc Cert.Mix.main_arg18)
      ∧ r.2.mem ((c.tc : Thread Cert.Mix.nD Cert.Mix.τ).loc Cert.Mix.main_arg19) = m ((c.tc : Thread Cert.Mix.nD Cert.Mix.τ).loc Cert.Mix.main_arg19))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
      ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
      ∧ r.2.mem ((c.tc : Thread Cert.MixIdeal.nD Cert.MixIdeal.τ).loc Cert.MixIdeal.main_arg17) = m ((c.tc : Thread Cert.MixIdeal.nD Cert.MixIdeal.τ).loc Cert.MixIdeal.main_arg17)
      ∧ r.2.mem ((c.tc : Thread Cert.MixIdeal.nD Cert.MixIdeal.τ).loc Cert.MixIdeal.main_arg18) = m ((c.tc : Thread Cert.MixIdeal.nD Cert.MixIdeal.τ).loc Cert.MixIdeal.main_arg18)
      ∧ r.2.mem ((c.tc : Thread Cert.MixIdeal.nD Cert.MixIdeal.τ).loc Cert.MixIdeal.main_arg19) = m ((c.tc : Thread Cert.MixIdeal.nD Cert.MixIdeal.τ).loc Cert.MixIdeal.main_arg19))
      ∧ r.2.sem = fun _ => 0)

def quiescent_MixIdeal_pre_largest_finite [hMixIdeal : Cert.MixIdeal.Facts] [hPre_largest_finite : Cert.Pre_largest_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_largest_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
      ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
      ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
      ∧ r.2.mem ((c.tc : Thread Cert.MixIdeal.nD Cert.MixIdeal.τ).loc Cert.MixIdeal.main_arg17) = m ((c.tc : Thread Cert.MixIdeal.nD Cert.MixIdeal.τ).loc Cert.MixIdeal.main_arg17)
      ∧ r.2.mem ((c.tc : Thread Cert.MixIdeal.nD Cert.MixIdeal.τ).loc Cert.MixIdeal.main_arg18) = m ((c.tc : Thread Cert.MixIdeal.nD Cert.MixIdeal.τ).loc Cert.MixIdeal.main_arg18)
      ∧ r.2.mem ((c.tc : Thread Cert.MixIdeal.nD Cert.MixIdeal.τ).loc Cert.MixIdeal.main_arg19) = m ((c.tc : Thread Cert.MixIdeal.nD Cert.MixIdeal.τ).loc Cert.MixIdeal.main_arg19))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14)
      ∧ r.2.mem ((c.tc : Thread Cert.MixRefIdeal.nD Cert.MixRefIdeal.τ).loc Cert.MixRefIdeal.main_arg15) = m ((c.tc : Thread Cert.MixRefIdeal.nD Cert.MixRefIdeal.τ).loc Cert.MixRefIdeal.main_arg15)
      ∧ r.2.mem ((c.tc : Thread Cert.MixRefIdeal.nD Cert.MixRefIdeal.τ).loc Cert.MixRefIdeal.main_arg16) = m ((c.tc : Thread Cert.MixRefIdeal.nD Cert.MixRefIdeal.τ).loc Cert.MixRefIdeal.main_arg16)
      ∧ r.2.mem ((c.tc : Thread Cert.MixRefIdeal.nD Cert.MixRefIdeal.τ).loc Cert.MixRefIdeal.main_arg17) = m ((c.tc : Thread Cert.MixRefIdeal.nD Cert.MixRefIdeal.τ).loc Cert.MixRefIdeal.main_arg17)
      ∧ r.2.mem ((c.tc : Thread Cert.MixRefIdeal.nD Cert.MixRefIdeal.τ).loc Cert.MixRefIdeal.main_arg18) = m ((c.tc : Thread Cert.MixRefIdeal.nD Cert.MixRefIdeal.τ).loc Cert.MixRefIdeal.main_arg18)
      ∧ r.2.mem ((c.tc : Thread Cert.MixRefIdeal.nD Cert.MixRefIdeal.τ).loc Cert.MixRefIdeal.main_arg19) = m ((c.tc : Thread Cert.MixRefIdeal.nD Cert.MixRefIdeal.τ).loc Cert.MixRefIdeal.main_arg19))
      ∧ r.2.sem = fun _ => 0)

def quiescent_MixRefIdeal_pre_largest_finite [hMixRefIdeal : Cert.MixRefIdeal.Facts] [hPre_largest_finite : Cert.Pre_largest_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_largest_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13)
      ∧ r.2.mem ((c.tc : Thread Cert.MixRefIdeal.nD Cert.MixRefIdeal.τ).loc Cert.MixRefIdeal.main_arg14) = m ((c.tc : Thread Cert.MixRefIdeal.nD Cert.MixRefIdeal.τ).loc Cert.MixRefIdeal.main_arg14)
      ∧ r.2.mem ((c.tc : Thread Cert.MixRefIdeal.nD Cert.MixRefIdeal.τ).loc Cert.MixRefIdeal.main_arg15) = m ((c.tc : Thread Cert.MixRefIdeal.nD Cert.MixRefIdeal.τ).loc Cert.MixRefIdeal.main_arg15)
      ∧ r.2.mem ((c.tc : Thread Cert.MixRefIdeal.nD Cert.MixRefIdeal.τ).loc Cert.MixRefIdeal.main_arg16) = m ((c.tc : Thread Cert.MixRefIdeal.nD Cert.MixRefIdeal.τ).loc Cert.MixRefIdeal.main_arg16)
      ∧ r.2.mem ((c.tc : Thread Cert.MixRefIdeal.nD Cert.MixRefIdeal.τ).loc Cert.MixRefIdeal.main_arg17) = m ((c.tc : Thread Cert.MixRefIdeal.nD Cert.MixRefIdeal.τ).loc Cert.MixRefIdeal.main_arg17)
      ∧ r.2.mem ((c.tc : Thread Cert.MixRefIdeal.nD Cert.MixRefIdeal.τ).loc Cert.MixRefIdeal.main_arg18) = m ((c.tc : Thread Cert.MixRefIdeal.nD Cert.MixRefIdeal.τ).loc Cert.MixRefIdeal.main_arg18)
      ∧ r.2.mem ((c.tc : Thread Cert.MixRefIdeal.nD Cert.MixRefIdeal.τ).loc Cert.MixRefIdeal.main_arg19) = m ((c.tc : Thread Cert.MixRefIdeal.nD Cert.MixRefIdeal.τ).loc Cert.MixRefIdeal.main_arg19))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterIdeal_pre_all_finite [hRouterIdeal : Cert.RouterIdeal.Facts] [hPre_all_finite : Cert.Pre_all_finite.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_all_finite m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2))
      ∧ r.2.sem = fun _ => 0)

def quiescent_RouterRefIdeal_pre_all_finite [hRouterRefIdeal : Cert.RouterRefIdeal.Facts] [hPre_all_finite : Cert.Pre_all_finite.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal_all_finite m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def quiescent_Mls [hMls : Cert.Mls.Facts] : Prop :=
  ∀ (m : (ℓ : Loc Cert.Mls.nD Cert.Mls.τ Cert.Mls.sig) → Buf (Elt Bits) ℓ) (g : Dev Cert.Mls.nD → PrngReg), Pre_Mls m →
    θ_run (Cert.Mls.defs (F := Bits)) (onTc (τ := Cert.Mls.τ) (Cert.Mls.main (F := Bits))) ⟨m, fun _ => 0, g⟩ (fun r => (∀ c : Dev Cert.Mls.nD,
      r.2.mem ((c.tc : Thread Cert.Mls.nD Cert.Mls.τ).loc Cert.Mls.main_arg0) = m ((c.tc : Thread Cert.Mls.nD Cert.Mls.τ).loc Cert.Mls.main_arg0)
      ∧ r.2.mem ((c.tc : Thread Cert.Mls.nD Cert.Mls.τ).loc Cert.Mls.main_arg1) = m ((c.tc : Thread Cert.Mls.nD Cert.Mls.τ).loc Cert.Mls.main_arg1)
      ∧ r.2.mem ((c.tc : Thread Cert.Mls.nD Cert.Mls.τ).loc Cert.Mls.main_arg2) = m ((c.tc : Thread Cert.Mls.nD Cert.Mls.τ).loc Cert.Mls.main_arg2)
      ∧ r.2.mem ((c.tc : Thread Cert.Mls.nD Cert.Mls.τ).loc Cert.Mls.main_arg3) = m ((c.tc : Thread Cert.Mls.nD Cert.Mls.τ).loc Cert.Mls.main_arg3))
      ∧ r.2.sem = fun _ => 0)

def quiescent_MlsIdeal [hMlsIdeal : Cert.MlsIdeal.Facts] : Prop :=
  ∀ (m : (ℓ : Loc Cert.MlsIdeal.nD Cert.MlsIdeal.τ Cert.MlsIdeal.sig) → Buf (Elt Ideal) ℓ) (g : Dev Cert.MlsIdeal.nD → PrngReg), Pre_MlsIdeal m →
    θ_run (Cert.MlsIdeal.defs (F := Ideal)) (onTc (τ := Cert.MlsIdeal.τ) (Cert.MlsIdeal.main (F := Ideal))) ⟨m, fun _ => 0, g⟩ (fun r => (∀ c : Dev Cert.MlsIdeal.nD,
      r.2.mem ((c.tc : Thread Cert.MlsIdeal.nD Cert.MlsIdeal.τ).loc Cert.MlsIdeal.main_arg0) = m ((c.tc : Thread Cert.MlsIdeal.nD Cert.MlsIdeal.τ).loc Cert.MlsIdeal.main_arg0)
      ∧ r.2.mem ((c.tc : Thread Cert.MlsIdeal.nD Cert.MlsIdeal.τ).loc Cert.MlsIdeal.main_arg1) = m ((c.tc : Thread Cert.MlsIdeal.nD Cert.MlsIdeal.τ).loc Cert.MlsIdeal.main_arg1)
      ∧ r.2.mem ((c.tc : Thread Cert.MlsIdeal.nD Cert.MlsIdeal.τ).loc Cert.MlsIdeal.main_arg2) = m ((c.tc : Thread Cert.MlsIdeal.nD Cert.MlsIdeal.τ).loc Cert.MlsIdeal.main_arg2)
      ∧ r.2.mem ((c.tc : Thread Cert.MlsIdeal.nD Cert.MlsIdeal.τ).loc Cert.MlsIdeal.main_arg3) = m ((c.tc : Thread Cert.MlsIdeal.nD Cert.MlsIdeal.τ).loc Cert.MlsIdeal.main_arg3))
      ∧ r.2.sem = fun _ => 0)

def preserves_Moe_MoeIdeal : Prop :=
  True

def algebraic_MoeIdeal_MoeRefIdeal_pre_gates_tame [hMoeIdeal : Cert.MoeIdeal.Facts] [hMoeRefIdeal : Cert.MoeRefIdeal.Facts] [hPre_gates_tame : Cert.Pre_gates_tame.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal_gates_tame m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v13)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v13) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v154) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v13_0)) (v1 : (c : Dev Cert.FfnIdeal.nD) → Buf (Elt Ideal) ((c.tc : Thread Cert.FfnIdeal.nD Cert.FfnIdeal.τ).loc Cert.FfnIdeal.main_v13_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v13_0) = v0 c
          ∧ r.2.mem ((c.tc : Thread Cert.FfnIdeal.nD Cert.FfnIdeal.τ).loc Cert.FfnIdeal.main_v13_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v38) = v0 c
          ∧ r.2.mem ((c.tc : Thread Cert.FfnRefIdeal.nD Cert.FfnRefIdeal.τ).loc Cert.FfnRefIdeal.main_v39) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_InAtt_InAttIdeal : Prop :=
  True

def algebraic_InAttIdeal_InAttRefIdeal [hInAttIdeal : Cert.InAttIdeal.Facts] [hInAttRefIdeal : Cert.InAttRefIdeal.Facts] : Prop :=
  ∀ (m : (ℓ : Loc Cert.InAttIdeal.nD Cert.InAttIdeal.τ Cert.InAttIdeal.sig) → Buf (Elt Ideal) ℓ) (g : Dev Cert.InAttIdeal.nD → PrngReg)
    (m' : (ℓ : Loc Cert.InAttRefIdeal.nD Cert.InAttRefIdeal.τ Cert.InAttRefIdeal.sig) → Buf (Elt Ideal) ℓ) (g' : Dev Cert.InAttRefIdeal.nD → PrngReg), Pre_InAttIdeal m →
    (∀ c : Dev Cert.InAttIdeal.nD,
      m' ((c.tc : Thread Cert.InAttRefIdeal.nD Cert.InAttRefIdeal.τ).loc Cert.InAttRefIdeal.main_arg0) = m ((c.tc : Thread Cert.InAttIdeal.nD Cert.InAttIdeal.τ).loc Cert.InAttIdeal.main_arg0)
      ∧ m' ((c.tc : Thread Cert.InAttRefIdeal.nD Cert.InAttRefIdeal.τ).loc Cert.InAttRefIdeal.main_arg1) = m ((c.tc : Thread Cert.InAttIdeal.nD Cert.InAttIdeal.τ).loc Cert.InAttIdeal.main_arg1)
      ∧ m' ((c.tc : Thread Cert.InAttRefIdeal.nD Cert.InAttRefIdeal.τ).loc Cert.InAttRefIdeal.main_arg2) = m ((c.tc : Thread Cert.InAttIdeal.nD Cert.InAttIdeal.τ).loc Cert.InAttIdeal.main_arg2)) →
    ∃ (v0 : (c : Dev Cert.InAttIdeal.nD) → Buf (Elt Ideal) ((c.tc : Thread Cert.InAttIdeal.nD Cert.InAttIdeal.τ).loc Cert.InAttIdeal.main_v9)),
      θ_run (Cert.InAttIdeal.defs (F := Ideal)) (onTc (τ := Cert.InAttIdeal.τ) (Cert.InAttIdeal.main (F := Ideal))) ⟨m, fun _ => 0, g⟩ (fun r => ∀ c : Dev Cert.InAttIdeal.nD,
          r.2.mem ((c.tc : Thread Cert.InAttIdeal.nD Cert.InAttIdeal.τ).loc Cert.InAttIdeal.main_v9) = v0 c
          ∧ r.2.mem ((c.tc : Thread Cert.InAttIdeal.nD Cert.InAttIdeal.τ).loc Cert.InAttIdeal.main_arg0) = m ((c.tc : Thread Cert.InAttIdeal.nD Cert.InAttIdeal.τ).loc Cert.InAttIdeal.main_arg0)
          ∧ r.2.mem ((c.tc : Thread Cert.InAttIdeal.nD Cert.InAttIdeal.τ).loc Cert.InAttIdeal.main_arg1) = m ((c.tc : Thread Cert.InAttIdeal.nD Cert.InAttIdeal.τ).loc Cert.InAttIdeal.main_arg1)
          ∧ r.2.mem ((c.tc : Thread Cert.InAttIdeal.nD Cert.InAttIdeal.τ).loc Cert.InAttIdeal.main_arg2) = m ((c.tc : Thread Cert.InAttIdeal.nD Cert.InAttIdeal.τ).loc Cert.InAttIdeal.main_arg2))
      ∧ θ_run (Cert.InAttRefIdeal.defs (F := Ideal)) (onTc (τ := Cert.InAttRefIdeal.τ) (Cert.InAttRefIdeal.main (F := Ideal))) ⟨m', fun _ => 0, g'⟩ (fun r => ∀ c : Dev Cert.InAttRefIdeal.nD,
          r.2.mem ((c.tc : Thread Cert.InAttRefIdeal.nD Cert.InAttRefIdeal.τ).loc Cert.InAttRefIdeal.main_v9) = v0 c
          ∧ r.2.mem ((c.tc : Thread Cert.InAttRefIdeal.nD Cert.InAttRefIdeal.τ).loc Cert.InAttRefIdeal.main_arg0) = m' ((c.tc : Thread Cert.InAttRefIdeal.nD Cert.InAttRefIdeal.τ).loc Cert.InAttRefIdeal.main_arg0)
          ∧ r.2.mem ((c.tc : Thread Cert.InAttRefIdeal.nD Cert.InAttRefIdeal.τ).loc Cert.InAttRefIdeal.main_arg1) = m' ((c.tc : Thread Cert.InAttRefIdeal.nD Cert.InAttRefIdeal.τ).loc Cert.InAttRefIdeal.main_arg1)
          ∧ r.2.mem ((c.tc : Thread Cert.InAttRefIdeal.nD Cert.InAttRefIdeal.τ).loc Cert.InAttRefIdeal.main_arg2) = m' ((c.tc : Thread Cert.InAttRefIdeal.nD Cert.InAttRefIdeal.τ).loc Cert.InAttRefIdeal.main_arg2))

def preserves_InSg_InSgIdeal : Prop :=
  True

def algebraic_InSgIdeal_InSgRefIdeal [hInSgIdeal : Cert.InSgIdeal.Facts] [hInSgRefIdeal : Cert.InSgRefIdeal.Facts] : Prop :=
  ∀ (m : (ℓ : Loc Cert.InSgIdeal.nD Cert.InSgIdeal.τ Cert.InSgIdeal.sig) → Buf (Elt Ideal) ℓ) (g : Dev Cert.InSgIdeal.nD → PrngReg)
    (m' : (ℓ : Loc Cert.InSgRefIdeal.nD Cert.InSgRefIdeal.τ Cert.InSgRefIdeal.sig) → Buf (Elt Ideal) ℓ) (g' : Dev Cert.InSgRefIdeal.nD → PrngReg), Pre_InSgIdeal m →
    (∀ c : Dev Cert.InSgIdeal.nD,
      m' ((c.tc : Thread Cert.InSgRefIdeal.nD Cert.InSgRefIdeal.τ).loc Cert.InSgRefIdeal.main_arg0) = m ((c.tc : Thread Cert.InSgIdeal.nD Cert.InSgIdeal.τ).loc Cert.InSgIdeal.main_arg0)
      ∧ m' ((c.tc : Thread Cert.InSgRefIdeal.nD Cert.InSgRefIdeal.τ).loc Cert.InSgRefIdeal.main_arg1) = m ((c.tc : Thread Cert.InSgIdeal.nD Cert.InSgIdeal.τ).loc Cert.InSgIdeal.main_arg1)
      ∧ m' ((c.tc : Thread Cert.InSgRefIdeal.nD Cert.InSgRefIdeal.τ).loc Cert.InSgRefIdeal.main_arg2) = m ((c.tc : Thread Cert.InSgIdeal.nD Cert.InSgIdeal.τ).loc Cert.InSgIdeal.main_arg2)) →
    ∃ (v0 : (c : Dev Cert.InSgIdeal.nD) → Buf (Elt Ideal) ((c.tc : Thread Cert.InSgIdeal.nD Cert.InSgIdeal.τ).loc Cert.InSgIdeal.main_v9)),
      θ_run (Cert.InSgIdeal.defs (F := Ideal)) (onTc (τ := Cert.InSgIdeal.τ) (Cert.InSgIdeal.main (F := Ideal))) ⟨m, fun _ => 0, g⟩ (fun r => ∀ c : Dev Cert.InSgIdeal.nD,
          r.2.mem ((c.tc : Thread Cert.InSgIdeal.nD Cert.InSgIdeal.τ).loc Cert.InSgIdeal.main_v9) = v0 c
          ∧ r.2.mem ((c.tc : Thread Cert.InSgIdeal.nD Cert.InSgIdeal.τ).loc Cert.InSgIdeal.main_arg0) = m ((c.tc : Thread Cert.InSgIdeal.nD Cert.InSgIdeal.τ).loc Cert.InSgIdeal.main_arg0)
          ∧ r.2.mem ((c.tc : Thread Cert.InSgIdeal.nD Cert.InSgIdeal.τ).loc Cert.InSgIdeal.main_arg1) = m ((c.tc : Thread Cert.InSgIdeal.nD Cert.InSgIdeal.τ).loc Cert.InSgIdeal.main_arg1)
          ∧ r.2.mem ((c.tc : Thread Cert.InSgIdeal.nD Cert.InSgIdeal.τ).loc Cert.InSgIdeal.main_arg2) = m ((c.tc : Thread Cert.InSgIdeal.nD Cert.InSgIdeal.τ).loc Cert.InSgIdeal.main_arg2))
      ∧ θ_run (Cert.InSgRefIdeal.defs (F := Ideal)) (onTc (τ := Cert.InSgRefIdeal.τ) (Cert.InSgRefIdeal.main (F := Ideal))) ⟨m', fun _ => 0, g'⟩ (fun r => ∀ c : Dev Cert.InSgRefIdeal.nD,
          r.2.mem ((c.tc : Thread Cert.InSgRefIdeal.nD Cert.InSgRefIdeal.τ).loc Cert.InSgRefIdeal.main_v9) = v0 c
          ∧ r.2.mem ((c.tc : Thread Cert.InSgRefIdeal.nD Cert.InSgRefIdeal.τ).loc Cert.InSgRefIdeal.main_arg0) = m' ((c.tc : Thread Cert.InSgRefIdeal.nD Cert.InSgRefIdeal.τ).loc Cert.InSgRefIdeal.main_arg0)
          ∧ r.2.mem ((c.tc : Thread Cert.InSgRefIdeal.nD Cert.InSgRefIdeal.τ).loc Cert.InSgRefIdeal.main_arg1) = m' ((c.tc : Thread Cert.InSgRefIdeal.nD Cert.InSgRefIdeal.τ).loc Cert.InSgRefIdeal.main_arg1)
          ∧ r.2.mem ((c.tc : Thread Cert.InSgRefIdeal.nD Cert.InSgRefIdeal.τ).loc Cert.InSgRefIdeal.main_arg2) = m' ((c.tc : Thread Cert.InSgRefIdeal.nD Cert.InSgRefIdeal.τ).loc Cert.InSgRefIdeal.main_arg2))

def preserves_InMl_InMlIdeal : Prop :=
  True

def algebraic_InMlIdeal_InMlRefIdeal [hInMlIdeal : Cert.InMlIdeal.Facts] [hInMlRefIdeal : Cert.InMlRefIdeal.Facts] : Prop :=
  ∀ (m : (ℓ : Loc Cert.InMlIdeal.nD Cert.InMlIdeal.τ Cert.InMlIdeal.sig) → Buf (Elt Ideal) ℓ) (g : Dev Cert.InMlIdeal.nD → PrngReg)
    (m' : (ℓ : Loc Cert.InMlRefIdeal.nD Cert.InMlRefIdeal.τ Cert.InMlRefIdeal.sig) → Buf (Elt Ideal) ℓ) (g' : Dev Cert.InMlRefIdeal.nD → PrngReg), Pre_InMlIdeal m →
    (∀ c : Dev Cert.InMlIdeal.nD,
      m' ((c.tc : Thread Cert.InMlRefIdeal.nD Cert.InMlRefIdeal.τ).loc Cert.InMlRefIdeal.main_arg0) = m ((c.tc : Thread Cert.InMlIdeal.nD Cert.InMlIdeal.τ).loc Cert.InMlIdeal.main_arg0)
      ∧ m' ((c.tc : Thread Cert.InMlRefIdeal.nD Cert.InMlRefIdeal.τ).loc Cert.InMlRefIdeal.main_arg1) = m ((c.tc : Thread Cert.InMlIdeal.nD Cert.InMlIdeal.τ).loc Cert.InMlIdeal.main_arg1)
      ∧ m' ((c.tc : Thread Cert.InMlRefIdeal.nD Cert.InMlRefIdeal.τ).loc Cert.InMlRefIdeal.main_arg2) = m ((c.tc : Thread Cert.InMlIdeal.nD Cert.InMlIdeal.τ).loc Cert.InMlIdeal.main_arg2)) →
    ∃ (v0 : (c : Dev Cert.InMlIdeal.nD) → Buf (Elt Ideal) ((c.tc : Thread Cert.InMlIdeal.nD Cert.InMlIdeal.τ).loc Cert.InMlIdeal.main_v47)),
      θ_run (Cert.InMlIdeal.defs (F := Ideal)) (onTc (τ := Cert.InMlIdeal.τ) (Cert.InMlIdeal.main (F := Ideal))) ⟨m, fun _ => 0, g⟩ (fun r => ∀ c : Dev Cert.InMlIdeal.nD,
          r.2.mem ((c.tc : Thread Cert.InMlIdeal.nD Cert.InMlIdeal.τ).loc Cert.InMlIdeal.main_v47) = v0 c
          ∧ r.2.mem ((c.tc : Thread Cert.InMlIdeal.nD Cert.InMlIdeal.τ).loc Cert.InMlIdeal.main_arg0) = m ((c.tc : Thread Cert.InMlIdeal.nD Cert.InMlIdeal.τ).loc Cert.InMlIdeal.main_arg0)
          ∧ r.2.mem ((c.tc : Thread Cert.InMlIdeal.nD Cert.InMlIdeal.τ).loc Cert.InMlIdeal.main_arg1) = m ((c.tc : Thread Cert.InMlIdeal.nD Cert.InMlIdeal.τ).loc Cert.InMlIdeal.main_arg1)
          ∧ r.2.mem ((c.tc : Thread Cert.InMlIdeal.nD Cert.InMlIdeal.τ).loc Cert.InMlIdeal.main_arg2) = m ((c.tc : Thread Cert.InMlIdeal.nD Cert.InMlIdeal.τ).loc Cert.InMlIdeal.main_arg2))
      ∧ θ_run (Cert.InMlRefIdeal.defs (F := Ideal)) (onTc (τ := Cert.InMlRefIdeal.τ) (Cert.InMlRefIdeal.main (F := Ideal))) ⟨m', fun _ => 0, g'⟩ (fun r => ∀ c : Dev Cert.InMlRefIdeal.nD,
          r.2.mem ((c.tc : Thread Cert.InMlRefIdeal.nD Cert.InMlRefIdeal.τ).loc Cert.InMlRefIdeal.main_v18) = v0 c
          ∧ r.2.mem ((c.tc : Thread Cert.InMlRefIdeal.nD Cert.InMlRefIdeal.τ).loc Cert.InMlRefIdeal.main_arg0) = m' ((c.tc : Thread Cert.InMlRefIdeal.nD Cert.InMlRefIdeal.τ).loc Cert.InMlRefIdeal.main_arg0)
          ∧ r.2.mem ((c.tc : Thread Cert.InMlRefIdeal.nD Cert.InMlRefIdeal.τ).loc Cert.InMlRefIdeal.main_arg1) = m' ((c.tc : Thread Cert.InMlRefIdeal.nD Cert.InMlRefIdeal.τ).loc Cert.InMlRefIdeal.main_arg1)
          ∧ r.2.mem ((c.tc : Thread Cert.InMlRefIdeal.nD Cert.InMlRefIdeal.τ).loc Cert.InMlRefIdeal.main_arg2) = m' ((c.tc : Thread Cert.InMlRefIdeal.nD Cert.InMlRefIdeal.τ).loc Cert.InMlRefIdeal.main_arg2))

def preserves_InIf_InIfIdeal : Prop :=
  True

def algebraic_InIfIdeal_InIfRefIdeal [hInIfIdeal : Cert.InIfIdeal.Facts] [hInIfRefIdeal : Cert.InIfRefIdeal.Facts] : Prop :=
  ∀ (m : (ℓ : Loc Cert.InIfIdeal.nD Cert.InIfIdeal.τ Cert.InIfIdeal.sig) → Buf (Elt Ideal) ℓ) (g : Dev Cert.InIfIdeal.nD → PrngReg)
    (m' : (ℓ : Loc Cert.InIfRefIdeal.nD Cert.InIfRefIdeal.τ Cert.InIfRefIdeal.sig) → Buf (Elt Ideal) ℓ) (g' : Dev Cert.InIfRefIdeal.nD → PrngReg), Pre_InIfIdeal m →
    (∀ c : Dev Cert.InIfIdeal.nD,
      m' ((c.tc : Thread Cert.InIfRefIdeal.nD Cert.InIfRefIdeal.τ).loc Cert.InIfRefIdeal.main_arg0) = m ((c.tc : Thread Cert.InIfIdeal.nD Cert.InIfIdeal.τ).loc Cert.InIfIdeal.main_arg0)
      ∧ m' ((c.tc : Thread Cert.InIfRefIdeal.nD Cert.InIfRefIdeal.τ).loc Cert.InIfRefIdeal.main_arg1) = m ((c.tc : Thread Cert.InIfIdeal.nD Cert.InIfIdeal.τ).loc Cert.InIfIdeal.main_arg1)
      ∧ m' ((c.tc : Thread Cert.InIfRefIdeal.nD Cert.InIfRefIdeal.τ).loc Cert.InIfRefIdeal.main_arg2) = m ((c.tc : Thread Cert.InIfIdeal.nD Cert.InIfIdeal.τ).loc Cert.InIfIdeal.main_arg2)) →
    ∃ (v0 : (c : Dev Cert.InIfIdeal.nD) → Buf (Elt Ideal) ((c.tc : Thread Cert.InIfIdeal.nD Cert.InIfIdeal.τ).loc Cert.InIfIdeal.main_v11)),
      θ_run (Cert.InIfIdeal.defs (F := Ideal)) (onTc (τ := Cert.InIfIdeal.τ) (Cert.InIfIdeal.main (F := Ideal))) ⟨m, fun _ => 0, g⟩ (fun r => ∀ c : Dev Cert.InIfIdeal.nD,
          r.2.mem ((c.tc : Thread Cert.InIfIdeal.nD Cert.InIfIdeal.τ).loc Cert.InIfIdeal.main_v11) = v0 c
          ∧ r.2.mem ((c.tc : Thread Cert.InIfIdeal.nD Cert.InIfIdeal.τ).loc Cert.InIfIdeal.main_arg0) = m ((c.tc : Thread Cert.InIfIdeal.nD Cert.InIfIdeal.τ).loc Cert.InIfIdeal.main_arg0)
          ∧ r.2.mem ((c.tc : Thread Cert.InIfIdeal.nD Cert.InIfIdeal.τ).loc Cert.InIfIdeal.main_arg1) = m ((c.tc : Thread Cert.InIfIdeal.nD Cert.InIfIdeal.τ).loc Cert.InIfIdeal.main_arg1)
          ∧ r.2.mem ((c.tc : Thread Cert.InIfIdeal.nD Cert.InIfIdeal.τ).loc Cert.InIfIdeal.main_arg2) = m ((c.tc : Thread Cert.InIfIdeal.nD Cert.InIfIdeal.τ).loc Cert.InIfIdeal.main_arg2))
      ∧ θ_run (Cert.InIfRefIdeal.defs (F := Ideal)) (onTc (τ := Cert.InIfRefIdeal.τ) (Cert.InIfRefIdeal.main (F := Ideal))) ⟨m', fun _ => 0, g'⟩ (fun r => ∀ c : Dev Cert.InIfRefIdeal.nD,
          r.2.mem ((c.tc : Thread Cert.InIfRefIdeal.nD Cert.InIfRefIdeal.τ).loc Cert.InIfRefIdeal.main_v9) = v0 c
          ∧ r.2.mem ((c.tc : Thread Cert.InIfRefIdeal.nD Cert.InIfRefIdeal.τ).loc Cert.InIfRefIdeal.main_arg0) = m' ((c.tc : Thread Cert.InIfRefIdeal.nD Cert.InIfRefIdeal.τ).loc Cert.InIfRefIdeal.main_arg0)
          ∧ r.2.mem ((c.tc : Thread Cert.InIfRefIdeal.nD Cert.InIfRefIdeal.τ).loc Cert.InIfRefIdeal.main_arg1) = m' ((c.tc : Thread Cert.InIfRefIdeal.nD Cert.InIfRefIdeal.τ).loc Cert.InIfRefIdeal.main_arg1)
          ∧ r.2.mem ((c.tc : Thread Cert.InIfRefIdeal.nD Cert.InIfRefIdeal.τ).loc Cert.InIfRefIdeal.main_arg2) = m' ((c.tc : Thread Cert.InIfRefIdeal.nD Cert.InIfRefIdeal.τ).loc Cert.InIfRefIdeal.main_arg2))

def preserves_InGate_InGateIdeal : Prop :=
  True

def algebraic_InGateIdeal_InGateRefIdeal [hInGateIdeal : Cert.InGateIdeal.Facts] [hInGateRefIdeal : Cert.InGateRefIdeal.Facts] : Prop :=
  ∀ (m : (ℓ : Loc Cert.InGateIdeal.nD Cert.InGateIdeal.τ Cert.InGateIdeal.sig) → Buf (Elt Ideal) ℓ) (g : Dev Cert.InGateIdeal.nD → PrngReg)
    (m' : (ℓ : Loc Cert.InGateRefIdeal.nD Cert.InGateRefIdeal.τ Cert.InGateRefIdeal.sig) → Buf (Elt Ideal) ℓ) (g' : Dev Cert.InGateRefIdeal.nD → PrngReg), Pre_InGateIdeal m →
    (∀ c : Dev Cert.InGateIdeal.nD,
      m' ((c.tc : Thread Cert.InGateRefIdeal.nD Cert.InGateRefIdeal.τ).loc Cert.InGateRefIdeal.main_arg0) = m ((c.tc : Thread Cert.InGateIdeal.nD Cert.InGateIdeal.τ).loc Cert.InGateIdeal.main_arg0)
      ∧ m' ((c.tc : Thread Cert.InGateRefIdeal.nD Cert.InGateRefIdeal.τ).loc Cert.InGateRefIdeal.main_arg1) = m ((c.tc : Thread Cert.InGateIdeal.nD Cert.InGateIdeal.τ).loc Cert.InGateIdeal.main_arg1)
      ∧ m' ((c.tc : Thread Cert.InGateRefIdeal.nD Cert.InGateRefIdeal.τ).loc Cert.InGateRefIdeal.main_arg2) = m ((c.tc : Thread Cert.InGateIdeal.nD Cert.InGateIdeal.τ).loc Cert.InGateIdeal.main_arg2)) →
    ∃ (v0 : (c : Dev Cert.InGateIdeal.nD) → Buf (Elt Ideal) ((c.tc : Thread Cert.InGateIdeal.nD Cert.InGateIdeal.τ).loc Cert.InGateIdeal.main_v9)),
      θ_run (Cert.InGateIdeal.defs (F := Ideal)) (onTc (τ := Cert.InGateIdeal.τ) (Cert.InGateIdeal.main (F := Ideal))) ⟨m, fun _ => 0, g⟩ (fun r => ∀ c : Dev Cert.InGateIdeal.nD,
          r.2.mem ((c.tc : Thread Cert.InGateIdeal.nD Cert.InGateIdeal.τ).loc Cert.InGateIdeal.main_v9) = v0 c
          ∧ r.2.mem ((c.tc : Thread Cert.InGateIdeal.nD Cert.InGateIdeal.τ).loc Cert.InGateIdeal.main_arg0) = m ((c.tc : Thread Cert.InGateIdeal.nD Cert.InGateIdeal.τ).loc Cert.InGateIdeal.main_arg0)
          ∧ r.2.mem ((c.tc : Thread Cert.InGateIdeal.nD Cert.InGateIdeal.τ).loc Cert.InGateIdeal.main_arg1) = m ((c.tc : Thread Cert.InGateIdeal.nD Cert.InGateIdeal.τ).loc Cert.InGateIdeal.main_arg1)
          ∧ r.2.mem ((c.tc : Thread Cert.InGateIdeal.nD Cert.InGateIdeal.τ).loc Cert.InGateIdeal.main_arg2) = m ((c.tc : Thread Cert.InGateIdeal.nD Cert.InGateIdeal.τ).loc Cert.InGateIdeal.main_arg2))
      ∧ θ_run (Cert.InGateRefIdeal.defs (F := Ideal)) (onTc (τ := Cert.InGateRefIdeal.τ) (Cert.InGateRefIdeal.main (F := Ideal))) ⟨m', fun _ => 0, g'⟩ (fun r => ∀ c : Dev Cert.InGateRefIdeal.nD,
          r.2.mem ((c.tc : Thread Cert.InGateRefIdeal.nD Cert.InGateRefIdeal.τ).loc Cert.InGateRefIdeal.main_v9) = v0 c
          ∧ r.2.mem ((c.tc : Thread Cert.InGateRefIdeal.nD Cert.InGateRefIdeal.τ).loc Cert.InGateRefIdeal.main_arg0) = m' ((c.tc : Thread Cert.InGateRefIdeal.nD Cert.InGateRefIdeal.τ).loc Cert.InGateRefIdeal.main_arg0)
          ∧ r.2.mem ((c.tc : Thread Cert.InGateRefIdeal.nD Cert.InGateRefIdeal.τ).loc Cert.InGateRefIdeal.main_arg1) = m' ((c.tc : Thread Cert.InGateRefIdeal.nD Cert.InGateRefIdeal.τ).loc Cert.InGateRefIdeal.main_arg1)
          ∧ r.2.mem ((c.tc : Thread Cert.InGateRefIdeal.nD Cert.InGateRefIdeal.τ).loc Cert.InGateRefIdeal.main_arg2) = m' ((c.tc : Thread Cert.InGateRefIdeal.nD Cert.InGateRefIdeal.τ).loc Cert.InGateRefIdeal.main_arg2))

def preserves_Mix_MixIdeal : Prop :=
  True

def algebraic_MixIdeal_MixRefIdeal_pre_largest_finite [hMixIdeal : Cert.MixIdeal.Facts] [hMixRefIdeal : Cert.MixRefIdeal.Facts] [hPre_largest_finite : Cert.Pre_largest_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_largest_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)
      ∧ m' ((c.tc : Thread Cert.MixRefIdeal.nD Cert.MixRefIdeal.τ).loc Cert.MixRefIdeal.main_arg14) = m ((c.tc : Thread Cert.MixIdeal.nD Cert.MixIdeal.τ).loc Cert.MixIdeal.main_arg14)
      ∧ m' ((c.tc : Thread Cert.MixRefIdeal.nD Cert.MixRefIdeal.τ).loc Cert.MixRefIdeal.main_arg15) = m ((c.tc : Thread Cert.MixIdeal.nD Cert.MixIdeal.τ).loc Cert.MixIdeal.main_arg15)
      ∧ m' ((c.tc : Thread Cert.MixRefIdeal.nD Cert.MixRefIdeal.τ).loc Cert.MixRefIdeal.main_arg16) = m ((c.tc : Thread Cert.MixIdeal.nD Cert.MixIdeal.τ).loc Cert.MixIdeal.main_arg16)
      ∧ m' ((c.tc : Thread Cert.MixRefIdeal.nD Cert.MixRefIdeal.τ).loc Cert.MixRefIdeal.main_arg17) = m ((c.tc : Thread Cert.MixIdeal.nD Cert.MixIdeal.τ).loc Cert.MixIdeal.main_arg17)
      ∧ m' ((c.tc : Thread Cert.MixRefIdeal.nD Cert.MixRefIdeal.τ).loc Cert.MixRefIdeal.main_arg18) = m ((c.tc : Thread Cert.MixIdeal.nD Cert.MixIdeal.τ).loc Cert.MixIdeal.main_arg18)
      ∧ m' ((c.tc : Thread Cert.MixRefIdeal.nD Cert.MixRefIdeal.τ).loc Cert.MixRefIdeal.main_arg19) = m ((c.tc : Thread Cert.MixIdeal.nD Cert.MixIdeal.τ).loc Cert.MixIdeal.main_arg19)) →
    ∃ (v0 : (c : Dev Cert.MixIdeal.nD) → Buf (Elt Ideal) ((c.tc : Thread Cert.MixIdeal.nD Cert.MixIdeal.τ).loc Cert.MixIdeal.main_v34_0)) (v1 : (c : Dev Cert.MixIdeal.nD) → Buf (Elt Ideal) ((c.tc : Thread Cert.MixIdeal.nD Cert.MixIdeal.τ).loc Cert.MixIdeal.main_v34_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v34_0) = v0 c
          ∧ r.2.mem ((c.tc : Thread Cert.MixIdeal.nD Cert.MixIdeal.τ).loc Cert.MixIdeal.main_v34_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14)
          ∧ r.2.mem ((c.tc : Thread Cert.MixIdeal.nD Cert.MixIdeal.τ).loc Cert.MixIdeal.main_arg15) = m ((c.tc : Thread Cert.MixIdeal.nD Cert.MixIdeal.τ).loc Cert.MixIdeal.main_arg15)
          ∧ r.2.mem ((c.tc : Thread Cert.MixIdeal.nD Cert.MixIdeal.τ).loc Cert.MixIdeal.main_arg16) = m ((c.tc : Thread Cert.MixIdeal.nD Cert.MixIdeal.τ).loc Cert.MixIdeal.main_arg16)
          ∧ r.2.mem ((c.tc : Thread Cert.MixIdeal.nD Cert.MixIdeal.τ).loc Cert.MixIdeal.main_arg17) = m ((c.tc : Thread Cert.MixIdeal.nD Cert.MixIdeal.τ).loc Cert.MixIdeal.main_arg17)
          ∧ r.2.mem ((c.tc : Thread Cert.MixIdeal.nD Cert.MixIdeal.τ).loc Cert.MixIdeal.main_arg18) = m ((c.tc : Thread Cert.MixIdeal.nD Cert.MixIdeal.τ).loc Cert.MixIdeal.main_arg18)
          ∧ r.2.mem ((c.tc : Thread Cert.MixIdeal.nD Cert.MixIdeal.τ).loc Cert.MixIdeal.main_arg19) = m ((c.tc : Thread Cert.MixIdeal.nD Cert.MixIdeal.τ).loc Cert.MixIdeal.main_arg19))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v164) = v0 c
          ∧ r.2.mem ((c.tc : Thread Cert.MixRefIdeal.nD Cert.MixRefIdeal.τ).loc Cert.MixRefIdeal.main_v165) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13)
          ∧ r.2.mem ((c.tc : Thread Cert.MixRefIdeal.nD Cert.MixRefIdeal.τ).loc Cert.MixRefIdeal.main_arg14) = m' ((c.tc : Thread Cert.MixRefIdeal.nD Cert.MixRefIdeal.τ).loc Cert.MixRefIdeal.main_arg14)
          ∧ r.2.mem ((c.tc : Thread Cert.MixRefIdeal.nD Cert.MixRefIdeal.τ).loc Cert.MixRefIdeal.main_arg15) = m' ((c.tc : Thread Cert.MixRefIdeal.nD Cert.MixRefIdeal.τ).loc Cert.MixRefIdeal.main_arg15)
          ∧ r.2.mem ((c.tc : Thread Cert.MixRefIdeal.nD Cert.MixRefIdeal.τ).loc Cert.MixRefIdeal.main_arg16) = m' ((c.tc : Thread Cert.MixRefIdeal.nD Cert.MixRefIdeal.τ).loc Cert.MixRefIdeal.main_arg16)
          ∧ r.2.mem ((c.tc : Thread Cert.MixRefIdeal.nD Cert.MixRefIdeal.τ).loc Cert.MixRefIdeal.main_arg17) = m' ((c.tc : Thread Cert.MixRefIdeal.nD Cert.MixRefIdeal.τ).loc Cert.MixRefIdeal.main_arg17)
          ∧ r.2.mem ((c.tc : Thread Cert.MixRefIdeal.nD Cert.MixRefIdeal.τ).loc Cert.MixRefIdeal.main_arg18) = m' ((c.tc : Thread Cert.MixRefIdeal.nD Cert.MixRefIdeal.τ).loc Cert.MixRefIdeal.main_arg18)
          ∧ r.2.mem ((c.tc : Thread Cert.MixRefIdeal.nD Cert.MixRefIdeal.τ).loc Cert.MixRefIdeal.main_arg19) = m' ((c.tc : Thread Cert.MixRefIdeal.nD Cert.MixRefIdeal.τ).loc Cert.MixRefIdeal.main_arg19))

def preserves_Router_RouterIdeal : Prop :=
  True

def algebraic_RouterIdeal_RouterRefIdeal_pre_all_finite [hRouterIdeal : Cert.RouterIdeal.Facts] [hRouterRefIdeal : Cert.RouterRefIdeal.Facts] [hPre_all_finite : Cert.Pre_all_finite.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal_all_finite m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)) →
    ∃ (v0 : (c : Dev Cert.RouterIdeal.nD) → Buf (Elt Ideal) ((c.tc : Thread Cert.RouterIdeal.nD Cert.RouterIdeal.τ).loc Cert.RouterIdeal.main_v5)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v5) = v0 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v19) = v0 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v15_0)) (v1 : (c : Dev Cert.RopeIdeal.nD) → Buf (Elt Ideal) ((c.tc : Thread Cert.RopeIdeal.nD Cert.RopeIdeal.τ).loc Cert.RopeIdeal.main_v15_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v15_0) = v0 c
          ∧ r.2.mem ((c.tc : Thread Cert.RopeIdeal.nD Cert.RopeIdeal.τ).loc Cert.RopeIdeal.main_v15_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v18) = v0 c
          ∧ r.2.mem ((c.tc : Thread Cert.RopeRefIdeal.nD Cert.RopeRefIdeal.τ).loc Cert.RopeRefIdeal.main_v19) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def preserves_Mls_MlsIdeal : Prop :=
  True

def Claim : Prop :=
  ∃ (hMoe : Cert.Moe.Facts) (hMoeIdeal : Cert.MoeIdeal.Facts) (hMoeRefIdeal : Cert.MoeRefIdeal.Facts) (hFfn : Cert.Ffn.Facts) (hFfnIdeal : Cert.FfnIdeal.Facts) (hFfnRefIdeal : Cert.FfnRefIdeal.Facts) (hInAtt : Cert.InAtt.Facts) (hInAttIdeal : Cert.InAttIdeal.Facts) (hInAttRefIdeal : Cert.InAttRefIdeal.Facts) (hInSg : Cert.InSg.Facts) (hInSgIdeal : Cert.InSgIdeal.Facts) (hInSgRefIdeal : Cert.InSgRefIdeal.Facts) (hInMl : Cert.InMl.Facts) (hInMlIdeal : Cert.InMlIdeal.Facts) (hInMlRefIdeal : Cert.InMlRefIdeal.Facts) (hInIf : Cert.InIf.Facts) (hInIfIdeal : Cert.InIfIdeal.Facts) (hInIfRefIdeal : Cert.InIfRefIdeal.Facts) (hInGate : Cert.InGate.Facts) (hInGateIdeal : Cert.InGateIdeal.Facts) (hInGateRefIdeal : Cert.InGateRefIdeal.Facts) (hMix : Cert.Mix.Facts) (hMixIdeal : Cert.MixIdeal.Facts) (hMixRefIdeal : Cert.MixRefIdeal.Facts) (hRouter : Cert.Router.Facts) (hRouterIdeal : Cert.RouterIdeal.Facts) (hRouterRefIdeal : Cert.RouterRefIdeal.Facts) (hRope : Cert.Rope.Facts) (hRopeIdeal : Cert.RopeIdeal.Facts) (hRopeRefIdeal : Cert.RopeRefIdeal.Facts) (hMls : Cert.Mls.Facts) (hMlsIdeal : Cert.MlsIdeal.Facts) (hPre_gates_tame : Cert.Pre_gates_tame.Facts) (hPre_largest_finite : Cert.Pre_largest_finite.Facts) (hPre_all_finite : Cert.Pre_all_finite.Facts),
    quiescent_Moe (hMoe := hMoe)
    ∧ quiescent_MoeIdeal (hMoeIdeal := hMoeIdeal)
    ∧ quiescent_MoeIdeal_pre_gates_tame (hMoeIdeal := hMoeIdeal) (hPre_gates_tame := hPre_gates_tame)
    ∧ quiescent_MoeRefIdeal (hMoeRefIdeal := hMoeRefIdeal)
    ∧ quiescent_MoeRefIdeal_pre_gates_tame (hMoeRefIdeal := hMoeRefIdeal) (hPre_gates_tame := hPre_gates_tame)
    ∧ quiescent_Ffn (hFfn := hFfn)
    ∧ quiescent_FfnIdeal (hFfnIdeal := hFfnIdeal)
    ∧ quiescent_FfnRefIdeal (hFfnRefIdeal := hFfnRefIdeal)
    ∧ quiescent_InAtt (hInAtt := hInAtt)
    ∧ quiescent_InAttIdeal (hInAttIdeal := hInAttIdeal)
    ∧ quiescent_InAttRefIdeal (hInAttRefIdeal := hInAttRefIdeal)
    ∧ quiescent_InSg (hInSg := hInSg)
    ∧ quiescent_InSgIdeal (hInSgIdeal := hInSgIdeal)
    ∧ quiescent_InSgRefIdeal (hInSgRefIdeal := hInSgRefIdeal)
    ∧ quiescent_InMl (hInMl := hInMl)
    ∧ quiescent_InMlIdeal (hInMlIdeal := hInMlIdeal)
    ∧ quiescent_InMlRefIdeal (hInMlRefIdeal := hInMlRefIdeal)
    ∧ quiescent_InIf (hInIf := hInIf)
    ∧ quiescent_InIfIdeal (hInIfIdeal := hInIfIdeal)
    ∧ quiescent_InIfRefIdeal (hInIfRefIdeal := hInIfRefIdeal)
    ∧ quiescent_InGate (hInGate := hInGate)
    ∧ quiescent_InGateIdeal (hInGateIdeal := hInGateIdeal)
    ∧ quiescent_InGateRefIdeal (hInGateRefIdeal := hInGateRefIdeal)
    ∧ quiescent_Mix (hMix := hMix)
    ∧ quiescent_MixIdeal (hMixIdeal := hMixIdeal)
    ∧ quiescent_MixIdeal_pre_largest_finite (hMixIdeal := hMixIdeal) (hPre_largest_finite := hPre_largest_finite)
    ∧ quiescent_MixRefIdeal (hMixRefIdeal := hMixRefIdeal)
    ∧ quiescent_MixRefIdeal_pre_largest_finite (hMixRefIdeal := hMixRefIdeal) (hPre_largest_finite := hPre_largest_finite)
    ∧ quiescent_Router (hRouter := hRouter)
    ∧ quiescent_RouterIdeal (hRouterIdeal := hRouterIdeal)
    ∧ quiescent_RouterIdeal_pre_all_finite (hRouterIdeal := hRouterIdeal) (hPre_all_finite := hPre_all_finite)
    ∧ quiescent_RouterRefIdeal (hRouterRefIdeal := hRouterRefIdeal)
    ∧ quiescent_RouterRefIdeal_pre_all_finite (hRouterRefIdeal := hRouterRefIdeal) (hPre_all_finite := hPre_all_finite)
    ∧ quiescent_Rope (hRope := hRope)
    ∧ quiescent_RopeIdeal (hRopeIdeal := hRopeIdeal)
    ∧ quiescent_RopeRefIdeal (hRopeRefIdeal := hRopeRefIdeal)
    ∧ quiescent_Mls (hMls := hMls)
    ∧ quiescent_MlsIdeal (hMlsIdeal := hMlsIdeal)
    ∧ preserves_Moe_MoeIdeal
    ∧ algebraic_MoeIdeal_MoeRefIdeal_pre_gates_tame (hMoeIdeal := hMoeIdeal) (hMoeRefIdeal := hMoeRefIdeal) (hPre_gates_tame := hPre_gates_tame)
    ∧ preserves_Ffn_FfnIdeal
    ∧ algebraic_FfnIdeal_FfnRefIdeal (hFfnIdeal := hFfnIdeal) (hFfnRefIdeal := hFfnRefIdeal)
    ∧ preserves_InAtt_InAttIdeal
    ∧ algebraic_InAttIdeal_InAttRefIdeal (hInAttIdeal := hInAttIdeal) (hInAttRefIdeal := hInAttRefIdeal)
    ∧ preserves_InSg_InSgIdeal
    ∧ algebraic_InSgIdeal_InSgRefIdeal (hInSgIdeal := hInSgIdeal) (hInSgRefIdeal := hInSgRefIdeal)
    ∧ preserves_InMl_InMlIdeal
    ∧ algebraic_InMlIdeal_InMlRefIdeal (hInMlIdeal := hInMlIdeal) (hInMlRefIdeal := hInMlRefIdeal)
    ∧ preserves_InIf_InIfIdeal
    ∧ algebraic_InIfIdeal_InIfRefIdeal (hInIfIdeal := hInIfIdeal) (hInIfRefIdeal := hInIfRefIdeal)
    ∧ preserves_InGate_InGateIdeal
    ∧ algebraic_InGateIdeal_InGateRefIdeal (hInGateIdeal := hInGateIdeal) (hInGateRefIdeal := hInGateRefIdeal)
    ∧ preserves_Mix_MixIdeal
    ∧ algebraic_MixIdeal_MixRefIdeal_pre_largest_finite (hMixIdeal := hMixIdeal) (hMixRefIdeal := hMixRefIdeal) (hPre_largest_finite := hPre_largest_finite)
    ∧ preserves_Router_RouterIdeal
    ∧ algebraic_RouterIdeal_RouterRefIdeal_pre_all_finite (hRouterIdeal := hRouterIdeal) (hRouterRefIdeal := hRouterRefIdeal) (hPre_all_finite := hPre_all_finite)
    ∧ preserves_Rope_RopeIdeal
    ∧ algebraic_RopeIdeal_RopeRefIdeal (hRopeIdeal := hRopeIdeal) (hRopeRefIdeal := hRopeRefIdeal)
    ∧ preserves_Mls_MlsIdeal
-- ==== Pre_all_finite.lean ====
abbrev S16384x1024 : Shape := ⟨2, ![16384, 1024]⟩
abbrev S1x1024x8 : Shape := ⟨3, ![1, 1024, 8]⟩
abbrev S1x8 : Shape := ⟨2, ![1, 8]⟩
abbrev S_ : Shape := ⟨0, ![]⟩

class Facts : Prop where
  bcast_S_S16384x1024 : S_.BroadcastsInDim S16384x1024 (![] : Fin 0 → Fin S16384x1024.rank)
  bcast_S_S1x1024x8 : S_.BroadcastsInDim S1x1024x8 (![] : Fin 0 → Fin S1x1024x8.rank)
  bcast_S_S1x8 : S_.BroadcastsInDim S1x8 (![] : Fin 0 → Fin S1x8.rank)

variable [Facts]

def fn {F : FTy → Type} [FloatOps F] (main_arg0 : FVec F S16384x1024 .f32) (main_arg1 : FVec F S1x1024x8 .f32) (main_arg2 : FVec F S1x8 .f32) : IVec S16384x1024 1 × IVec S1x1024x8 1 × IVec S1x8 1 :=
  let main_cst : FVec F S_ .f32 := constant S_ .f32 0xFF800000#32
  let main_v0 : FVec F S16384x1024 .f32 := broadcastInDim S16384x1024 ![] bcast_S_S16384x1024 main_cst
  let main_v1 : IVec S16384x1024 1 := cmpf .ogt main_arg0 main_v0
  let main_cst_0 : FVec F S_ .f32 := constant S_ .f32 0x7F800000#32
  let main_v2 : FVec F S16384x1024 .f32 := broadcastInDim S16384x1024 ![] bcast_S_S16384x1024 main_cst_0
  let main_v3 : IVec S16384x1024 1 := cmpf .olt main_arg0 main_v2
  let main_v4 : IVec S16384x1024 1 := andi main_v1 main_v3
  let main_cst_1 : FVec F S_ .f32 := constant S_ .f32 0xFF800000#32
  let main_v5 : FVec F S1x1024x8 .f32 := broadcastInDim S1x1024x8 ![] bcast_S_S1x1024x8 main_cst_1
  let main_v6 : IVec S1x1024x8 1 := cmpf .ogt main_arg1 main_v5
  let main_cst_2 : FVec F S_ .f32 := constant S_ .f32 0x7F800000#32
  let main_v7 : FVec F S1x1024x8 .f32 := broadcastInDim S1x1024x8 ![] bcast_S_S1x1024x8 main_cst_2
  let main_v8 : IVec S1x1024x8 1 := cmpf .olt main_arg1 main_v7
  let main_v9 : IVec S1x1024x8 1 := andi main_v6 main_v8
  let main_cst_3 : FVec F S_ .f32 := constant S_ .f32 0xFF800000#32
  let main_v10 : FVec F S1x8 .f32 := broadcastInDim S1x8 ![] bcast_S_S1x8 main_cst_3
  let main_v11 : IVec S1x8 1 := cmpf .ogt main_arg2 main_v10
  let main_cst_4 : FVec F S_ .f32 := constant S_ .f32 0x7F800000#32
  let main_v12 : FVec F S1x8 .f32 := broadcastInDim S1x8 ![] bcast_S_S1x8 main_cst_4
  let main_v13 : IVec S1x8 1 := cmpf .olt main_arg2 main_v12
  let main_v14 : IVec S1x8 1 := andi main_v11 main_v13
  (main_v4, main_v9, main_v14)
-- ==== Pre_gates_tame.lean ====
abbrev S16384x1024 : Shape := ⟨2, ![16384, 1024]⟩
abbrev S16384x128 : Shape := ⟨2, ![16384, 128]⟩
abbrev S1x8x1024x2816 : Shape := ⟨4, ![1, 8, 1024, 2816]⟩
abbrev S1x8x2816x1024 : Shape := ⟨4, ![1, 8, 2816, 1024]⟩
abbrev S2x2x1024 : Shape := ⟨3, ![2, 2, 1024]⟩
abbrev S_ : Shape := ⟨0, ![]⟩

class Facts : Prop where
  bcast_S_S16384x128 : S_.BroadcastsInDim S16384x128 (![] : Fin 0 → Fin S16384x128.rank)

variable [Facts]

def fn {F : FTy → Type} [FloatOps F] (main_arg0 : FVec F S16384x1024 .f32) (main_arg1 : FVec F S16384x128 .f32) (main_arg2 : FVec F S1x8x1024x2816 .f32) (main_arg3 : FVec F S1x8x1024x2816 .f32) (main_arg4 : FVec F S1x8x2816x1024 .f32) (main_arg5 : FVec F S2x2x1024 .f32) (main_arg6 : FVec F S2x2x1024 .f32) : IVec S16384x128 1 :=
  let main_cst : FVec F S_ .f32 := constant S_ .f32 0x00000000#32
  let main_v0 : FVec F S16384x128 .f32 := broadcastInDim S16384x128 ![] bcast_S_S16384x128 main_cst
  let main_v1 : IVec S16384x128 1 := cmpf .oge main_arg1 main_v0
  let main_cst_0 : FVec F S_ .f32 := constant S_ .f32 0x7F800000#32
  let main_v2 : FVec F S16384x128 .f32 := broadcastInDim S16384x128 ![] bcast_S_S16384x128 main_cst_0
  let main_v3 : IVec S16384x128 1 := cmpf .olt main_arg1 main_v2
  let main_v4 : IVec S16384x128 1 := andi main_v1 main_v3
  main_v4
-- ==== Pre_largest_finite.lean ====
abbrev S16384x1024 : Shape := ⟨2, ![16384, 1024]⟩
abbrev S16384x256 : Shape := ⟨2, ![16384, 256]⟩
abbrev S16384x1536 : Shape := ⟨2, ![16384, 1536]⟩
abbrev S16384x3072 : Shape := ⟨2, ![16384, 3072]⟩
abbrev S2x768 : Shape := ⟨2, ![2, 768]⟩
abbrev S2x6x128x128 : Shape := ⟨4, ![2, 6, 128, 128]⟩
abbrev S2x6x128 : Shape := ⟨3, ![2, 6, 128]⟩
abbrev S2x256x1024 : Shape := ⟨3, ![2, 256, 1024]⟩
abbrev S2x768x1024 : Shape := ⟨3, ![2, 768, 1024]⟩
abbrev S2x1024x1024 : Shape := ⟨3, ![2, 1024, 1024]⟩
abbrev S2x2x1024 : Shape := ⟨3, ![2, 2, 1024]⟩
abbrev S_ : Shape := ⟨0, ![]⟩

class Facts : Prop where
  bcast_S_S16384x256 : S_.BroadcastsInDim S16384x256 (![] : Fin 0 → Fin S16384x256.rank)

variable [Facts]

def fn {F : FTy → Type} [FloatOps F] (main_arg0 : FVec F S16384x1024 .f32) (main_arg1 : FVec F S16384x256 .bf16) (main_arg2 : FVec F S16384x256 .bf16) (main_arg3 : FVec F S16384x256 .bf16) (main_arg4 : FVec F S16384x256 .f32) (main_arg5 : FVec F S16384x256 .f32) (main_arg6 : FVec F S16384x256 .f32) (main_arg7 : FVec F S16384x1536 .bf16) (main_arg8 : FVec F S16384x1024 .bf16) (main_arg9 : FVec F S16384x3072 .bf16) (main_arg10 : FVec F S2x768 .f32) (main_arg11 : FVec F S2x768 .f32) (main_arg12 : FVec F S2x6x128x128 .f32) (main_arg13 : FVec F S2x6x128 .f32) (main_arg14 : FVec F S2x256x1024 .f32) (main_arg15 : FVec F S2x768x1024 .f32) (main_arg16 : FVec F S2x768x1024 .f32) (main_arg17 : FVec F S2x1024x1024 .f32) (main_arg18 : FVec F S2x2x1024 .f32) (main_arg19 : FVec F S2x2x1024 .f32) : IVec S16384x256 1 :=
  let main_v0 : FVec F S16384x256 .f32 := maximumf main_arg4 main_arg5
  let main_v1 : FVec F S16384x256 .f32 := maximumf main_v0 main_arg6
  let main_cst : FVec F S_ .f32 := constant S_ .f32 0xFF800000#32
  let main_v2 : FVec F S16384x256 .f32 := broadcastInDim S16384x256 ![] bcast_S_S16384x256 main_cst
  let main_v3 : IVec S16384x256 1 := cmpf .ogt main_v1 main_v2
  let main_cst_0 : FVec F S_ .f32 := constant S_ .f32 0x7F800000#32
  let main_v4 : FVec F S16384x256 .f32 := broadcastInDim S16384x256 ![] bcast_S_S16384x256 main_cst_0
  let main_v5 : IVec S16384x256 1 := cmpf .olt main_v1 main_v4
  let main_v6 : IVec S16384x256 1 := andi main_v3 main_v5
  main_v6
-- ==== Moe.lean ====
abbrev S16384x1024 : Shape := ⟨2, ![16384, 1024]⟩
abbrev S16384x128 : Shape := ⟨2, ![16384, 128]⟩
abbrev S1x8x1024x2816 : Shape := ⟨4, ![1, 8, 1024, 2816]⟩
abbrev S1x8x2816x1024 : Shape := ⟨4, ![1, 8, 2816, 1024]⟩
abbrev S2x2x1024 : Shape := ⟨3, ![2, 2, 1024]⟩
abbrev S8x1024x2816 : Shape := ⟨3, ![8, 1024, 2816]⟩
abbrev S8x2816x1024 : Shape := ⟨3, ![8, 2816, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S512x128 : Shape := ⟨2, ![512, 128]⟩
abbrev S1x1024x1408 : Shape := ⟨3, ![1, 1024, 1408]⟩
abbrev S1x1408x1024 : Shape := ⟨3, ![1, 1408, 1024]⟩
abbrev S1024x1408 : Shape := ⟨2, ![1024, 1408]⟩
abbrev S512x1408 : Shape := ⟨2, ![512, 1408]⟩
abbrev S512 : Shape := ⟨1, ![512]⟩
abbrev S512x1 : Shape := ⟨2, ![512, 1]⟩
abbrev S1408x1024 : Shape := ⟨2, ![1408, 1024]⟩

abbrev nBuf : Space → Nat
  | .hbm => 21
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x128, .f32⟩
  | .hbm, ⟨2, _⟩ => ⟨S1x8x1024x2816, .f32⟩
  | .hbm, ⟨3, _⟩ => ⟨S1x8x1024x2816, .f32⟩
  | .hbm, ⟨4, _⟩ => ⟨S1x8x2816x1024, .f32⟩
  | .hbm, ⟨5, _⟩ => ⟨S2x2x1024, .f32⟩
  | .hbm, ⟨6, _⟩ => ⟨S2x2x1024, .f32⟩
  | .hbm, ⟨7, _⟩ => ⟨S16384x1024, .bf16⟩
  | .hbm, ⟨8, _⟩ => ⟨S8x1024x2816, .f32⟩
  | .hbm, ⟨9, _⟩ => ⟨S8x1024x2816, .bf16⟩
  | .hbm, ⟨10, _⟩ => ⟨S8x1024x2816, .f32⟩
  | .hbm, ⟨11, _⟩ => ⟨S8x1024x2816, .bf16⟩
  | .hbm, ⟨12, _⟩ => ⟨S8x2816x1024, .f32⟩
  | .hbm, ⟨13, _⟩ => ⟨S8x2816x1024, .bf16⟩
  | .hbm, ⟨14, _⟩ => ⟨S1x1x1024, .f32⟩
  | .hbm, ⟨15, _⟩ => ⟨S1024, .f32⟩
  | .hbm, ⟨16, _⟩ => ⟨S1x1024, .f32⟩
  | .hbm, ⟨17, _⟩ => ⟨S1x1x1024, .f32⟩
  | .hbm, ⟨18, _⟩ => ⟨S1024, .f32⟩
  | .hbm, ⟨19, _⟩ => ⟨S1x1024, .f32⟩
  | .hbm, ⟨20, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x128, .f32⟩
  | .local _ .vmem, ⟨5, _⟩ => ⟨S512x128, .f32⟩
  | .local _ .vmem, ⟨6, _⟩ => ⟨S1x1024x1408, .bf16⟩
  | .local _ .vmem, ⟨7, _⟩ => ⟨S1x1024x1408, .bf16⟩
  | .local _ .vmem, ⟨8, _⟩ => ⟨S1x1024x1408, .bf16⟩
  | .local _ .vmem, ⟨9, _⟩ => ⟨S1x1024x1408, .bf16⟩
  | .local _ .vmem, ⟨10, _⟩ => ⟨S1x1408x1024, .bf16⟩
  | .local _ .vmem, ⟨11, _⟩ => ⟨S1x1408x1024, .bf16⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![32, 8, 2], ![false, false, false]⟩

def k0_cond3 (i : grid0.Coords) : BitVec 1 :=
  let arg1 : BitVec 32 := BitVec.ofNat 32 (i 1).val
  let c7_i32 : BitVec 32 := 7#32
  let v33 : BitVec 1 := Scalar.cmpi .eq arg1 c7_i32
  let arg2 : BitVec 32 := BitVec.ofNat 32 (i 2).val
  let c1_i32 : BitVec 32 := 1#32
  let v34 : BitVec 1 := Scalar.cmpi .eq arg2 c1_i32
  let v35 : BitVec 1 := Scalar.andi v33 v34
  let v36 : BitVec 32 := Scalar.extui v35
  let c0_i32_19 : BitVec 32 := 0#32
  let v37 : BitVec 1 := Scalar.cmpi .ne v36 c0_i32_19
  v37

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== MoeRefIdeal.lean ====
abbrev S16384x1024 : Shape := ⟨2, ![16384, 1024]⟩
abbrev S16384x128 : Shape := ⟨2, ![16384, 128]⟩
abbrev S1x8x1024x2816 : Shape := ⟨4, ![1, 8, 1024, 2816]⟩
abbrev S1x8x2816x1024 : Shape := ⟨4, ![1, 8, 2816, 1024]⟩
abbrev S2x2x1024 : Shape := ⟨3, ![2, 2, 1024]⟩
abbrev S8x1024x2816 : Shape := ⟨3, ![8, 1024, 2816]⟩
abbrev S8x2816x1024 : Shape := ⟨3, ![8, 2816, 1024]⟩
abbrev S_ : Shape := ⟨0, ![]⟩
abbrev S16384x1 : Shape := ⟨2, ![16384, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16384x2816 : Shape := ⟨2, ![16384, 2816]⟩
abbrev S1x1x1024 : Shape := ⟨3, ![1, 1, 1024]⟩
abbrev S1024 : Shape := ⟨1, ![1024]⟩
abbrev S16384 : Shape := ⟨1, ![16384]⟩
abbrev S1x1024 : Shape := ⟨2, ![1, 1024]⟩

abbrev nBuf : Space → Nat
  | .hbm => 233
  | .vmem => 0
  | .smem => 0
  | _ => 0

abbrev hbmTy0_0 (i : Nat) : BufTy := match i % 128 with
  | 0 => ⟨S16384x1024, .f32⟩
  | 1 => ⟨S16384x128, .f32⟩
  | 2 => ⟨S1x8x1024x2816, .f32⟩
  | 3 => ⟨S1x8x1024x2816, .f32⟩
  | 4 => ⟨S1x8x2816x1024, .f32⟩
  | 5 => ⟨S2x2x1024, .f32⟩
  | 6 => ⟨S2x2x1024, .f32⟩
  | 7 => ⟨S8x1024x2816, .f32⟩
  | 8 => ⟨S8x1024x2816, .f32⟩
  | 9 => ⟨S8x2816x1024, .f32⟩
  | 10 => ⟨S_, .f32⟩
  | 11 => ⟨S16384x1024, .f32⟩
  | 12 => ⟨S16384x1, .f32⟩
  | 13 => ⟨S1x1024x2816, .f32⟩
  | 14 => ⟨S1024x2816, .f32⟩
  | 15 => ⟨S1x1024x2816, .f32⟩
  | 16 => ⟨S1024x2816, .f32⟩
  | 17 => ⟨S1x2816x1024, .f32⟩
  | 18 => ⟨S2816x1024, .f32⟩
  | 19 => ⟨S16384x2816, .f32⟩
  | 20 => ⟨S16384x2816, .f32⟩
  | 21 => ⟨S16384x2816, .f32⟩
  | 22 => ⟨S_, .f32⟩
  | 23 => ⟨S16384x2816, .f32⟩
  | 24 => ⟨S16384x2816, .f32⟩
  | 25 => ⟨S_, .f32⟩
  | 26 => ⟨S16384x2816, .f32⟩
  | 27 => ⟨S16384x2816, .f32⟩
  | 28 => ⟨S16384x2816, .f32⟩
  | 29 => ⟨S16384x2816, .f32⟩
  | 30 => ⟨S16384x2816, .f32⟩
  | 31 => ⟨S16384x1024, .f32⟩
  | 32 => ⟨S16384x1024, .f32⟩
  | 33 => ⟨S16384x1024, .f32⟩
  | 34 => ⟨S16384x1024, .f32⟩
  | 35 => ⟨S16384x1, .f32⟩
  | 36 => ⟨S1x1024x2816, .f32⟩
  | 37 => ⟨S1024x2816, .f32⟩
  | 38 => ⟨S1x1024x2816, .f32⟩
  | 39 => ⟨S1024x2816, .f32⟩
  | 40 => ⟨S1x2816x1024, .f32⟩
  | 41 => ⟨S2816x1024, .f32⟩
  | 42 => ⟨S16384x2816, .f32⟩
  | 43 => ⟨S16384x2816, .f32⟩
  | 44 => ⟨S16384x2816, .f32⟩
  | 45 => ⟨S_, .f32⟩
  | 46 => ⟨S16384x2816, .f32⟩
  | 47 => ⟨S16384x2816, .f32⟩
  | 48 => ⟨S_, .f32⟩
  | 49 => ⟨S16384x2816, .f32⟩
  | 50 => ⟨S16384x2816, .f32⟩
  | 51 => ⟨S16384x2816, .f32⟩
  | 52 => ⟨S16384x2816, .f32⟩
  | 53 => ⟨S16384x2816, .f32⟩
  | 54 => ⟨S16384x1024, .f32⟩
  | 55 => ⟨S16384x1024, .f32⟩
  | 56 => ⟨S16384x1024, .f32⟩
  | 57 => ⟨S16384x1024, .f32⟩
  | 58 => ⟨S16384x1, .f32⟩
  | 59 => ⟨S1x1024x2816, .f32⟩
  | 60 => ⟨S1024x2816, .f32⟩
  | 61 => ⟨S1x1024x2816, .f32⟩
  | 62 => ⟨S1024x2816, .f32⟩
  | 63 => ⟨S1x2816x1024, .f32⟩
  | 64 => ⟨S2816x1024, .f32⟩
  | 65 => ⟨S16384x2816, .f32⟩
  | 66 => ⟨S16384x2816, .f32⟩
  | 67 => ⟨S16384x2816, .f32⟩
  | 68 => ⟨S_, .f32⟩
  | 69 => ⟨S16384x2816, .f32⟩
  | 70 => ⟨S16384x2816, .f32⟩
  | 71 => ⟨S_, .f32⟩
  | 72 => ⟨S16384x2816, .f32⟩
  | 73 => ⟨S16384x2816, .f32⟩
  | 74 => ⟨S16384x2816, .f32⟩
  | 75 => ⟨S16384x2816, .f32⟩
  | 76 => ⟨S16384x2816, .f32⟩
  | 77 => ⟨S16384x1024, .f32⟩
  | 78 => ⟨S16384x1024, .f32⟩
  | 79 => ⟨S16384x1024, .f32⟩
  | 80 => ⟨S16384x1024, .f32⟩
  | 81 => ⟨S16384x1, .f32⟩
  | 82 => ⟨S1x1024x2816, .f32⟩
  | 83 => ⟨S1024x2816, .f32⟩
  | 84 => ⟨S1x1024x2816, .f32⟩
  | 85 => ⟨S1024x2816, .f32⟩
  | 86 => ⟨S1x2816x1024, .f32⟩
  | 87 => ⟨S2816x1024, .f32⟩
  | 88 => ⟨S16384x2816, .f32⟩
  | 89 => ⟨S16384x2816, .f32⟩
  | 90 => ⟨S16384x2816, .f32⟩
  | 91 => ⟨S_, .f32⟩
  | 92 => ⟨S16384x2816, .f32⟩
  | 93 => ⟨S16384x2816, .f32⟩
  | 94 => ⟨S_, .f32⟩
  | 95 => ⟨S16384x2816, .f32⟩
  | 96 => ⟨S16384x2816, .f32⟩
  | 97 => ⟨S16384x2816, .f32⟩
  | 98 => ⟨S16384x2816, .f32⟩
  | 99 => ⟨S16384x2816, .f32⟩
  | 100 => ⟨S16384x1024, .f32⟩
  | 101 => ⟨S16384x1024, .f32⟩
  | 102 => ⟨S16384x1024, .f32⟩
  | 103 => ⟨S16384x1024, .f32⟩
  | 104 => ⟨S16384x1, .f32⟩
  | 105 => ⟨S1x1024x2816, .f32⟩
  | 106 => ⟨S1024x2816, .f32⟩
  | 107 => ⟨S1x1024x2816, .f32⟩
  | 108 => ⟨S1024x2816, .f32⟩
  | 109 => ⟨S1x2816x1024, .f32⟩
  | 110 => ⟨S2816x1024, .f32⟩
  | 111 => ⟨S16384x2816, .f32⟩
  | 112 => ⟨S16384x2816, .f32⟩
  | 113 => ⟨S16384x2816, .f32⟩
  | 114 => ⟨S_, .f32⟩
  | 115 => ⟨S16384x2816, .f32⟩
  | 116 => ⟨S16384x2816, .f32⟩
  | 117 => ⟨S_, .f32⟩
  | 118 => ⟨S16384x2816, .f32⟩
  | 119 => ⟨S16384x2816, .f32⟩
  | 120 => ⟨S16384x2816, .f32⟩
  | 121 => ⟨S16384x2816, .f32⟩
  | 122 => ⟨S16384x2816, .f32⟩
  | 123 => ⟨S16384x1024, .f32⟩
  | 124 => ⟨S16384x1024, .f32⟩
  | 125 => ⟨S16384x1024, .f32⟩
  | 126 => ⟨S16384x1024, .f32⟩
  | 127 => ⟨S16384x1, .f32⟩
  | _ => ⟨S16384x1024, .f32⟩

abbrev hbmTy0_1 (i : Nat) : BufTy := match i % 128 with
  | 0 => ⟨S1x1024x2816, .f32⟩
  | 1 => ⟨S1024x2816, .f32⟩
  | 2 => ⟨S1x1024x2816, .f32⟩
  | 3 => ⟨S1024x2816, .f32⟩
  | 4 => ⟨S1x2816x1024, .f32⟩
  | 5 => ⟨S2816x1024, .f32⟩
  | 6 => ⟨S16384x2816, .f32⟩
  | 7 => ⟨S16384x2816, .f32⟩
  | 8 => ⟨S16384x2816, .f32⟩
  | 9 => ⟨S_, .f32⟩
  | 10 => ⟨S16384x2816, .f32⟩
  | 11 => ⟨S16384x2816, .f32⟩
  | 12 => ⟨S_, .f32⟩
  | 13 => ⟨S16384x2816, .f32⟩
  | 14 => ⟨S16384x2816, .f32⟩
  | 15 => ⟨S16384x2816, .f32⟩
  | 16 => ⟨S16384x2816, .f32⟩
  | 17 => ⟨S16384x2816, .f32⟩
  | 18 => ⟨S16384x1024, .f32⟩
  | 19 => ⟨S16384x1024, .f32⟩
  | 20 => ⟨S16384x1024, .f32⟩
  | 21 => ⟨S16384x1024, .f32⟩
  | 22 => ⟨S16384x1, .f32⟩
  | 23 => ⟨S1x1024x2816, .f32⟩
  | 24 => ⟨S1024x2816, .f32⟩
  | 25 => ⟨S1x1024x2816, .f32⟩
  | 26 => ⟨S1024x2816, .f32⟩
  | 27 => ⟨S1x2816x1024, .f32⟩
  | 28 => ⟨S2816x1024, .f32⟩
  | 29 => ⟨S16384x2816, .f32⟩
  | 30 => ⟨S16384x2816, .f32⟩
  | 31 => ⟨S16384x2816, .f32⟩
  | 32 => ⟨S_, .f32⟩
  | 33 => ⟨S16384x2816, .f32⟩
  | 34 => ⟨S16384x2816, .f32⟩
  | 35 => ⟨S_, .f32⟩
  | 36 => ⟨S16384x2816, .f32⟩
  | 37 => ⟨S16384x2816, .f32⟩
  | 38 => ⟨S16384x2816, .f32⟩
  | 39 => ⟨S16384x2816, .f32⟩
  | 40 => ⟨S16384x2816, .f32⟩
  | 41 => ⟨S16384x1024, .f32⟩
  | 42 => ⟨S16384x1024, .f32⟩
  | 43 => ⟨S16384x1024, .f32⟩
  | 44 => ⟨S16384x1024, .f32⟩
  | 45 => ⟨S16384x1, .f32⟩
  | 46 => ⟨S1x1024x2816, .f32⟩
  | 47 => ⟨S1024x2816, .f32⟩
  | 48 => ⟨S1x1024x2816, .f32⟩
  | 49 => ⟨S1024x2816, .f32⟩
  | 50 => ⟨S1x2816x1024, .f32⟩
  | 51 => ⟨S2816x1024, .f32⟩
  | 52 => ⟨S16384x2816, .f32⟩
  | 53 => ⟨S16384x2816, .f32⟩
  | 54 => ⟨S16384x2816, .f32⟩
  | 55 => ⟨S_, .f32⟩
  | 56 => ⟨S16384x2816, .f32⟩
  | 57 => ⟨S16384x2816, .f32⟩
  | 58 => ⟨S_, .f32⟩
  | 59 => ⟨S16384x2816, .f32⟩
  | 60 => ⟨S16384x2816, .f32⟩
  | 61 => ⟨S16384x2816, .f32⟩
  | 62 => ⟨S16384x2816, .f32⟩
  | 63 => ⟨S16384x2816, .f32⟩
  | 64 => ⟨S16384x1024, .f32⟩
  | 65 => ⟨S16384x1024, .f32⟩
  | 66 => ⟨S16384x1024, .f32⟩
  | 67 => ⟨S16384x1024, .f32⟩
  | 68 => ⟨S_, .f32⟩
  | 69 => ⟨S16384x1024, .f32⟩
  | 70 => ⟨S16384x1024, .f32⟩
  | 71 => ⟨S16384x1024, .f32⟩
  | 72 => ⟨S1x1x1024, .f32⟩
  | 73 => ⟨S1024, .f32⟩
  | 74 => ⟨S1x1x1024, .f32⟩
  | 75 => ⟨S1024, .f32⟩
  | 76 => ⟨S_, .f32⟩
  | 77 => ⟨S16384, .f32⟩
  | 78 => ⟨S16384x1, .f32⟩
  | 79 => ⟨S_, .f32⟩
  | 80 => ⟨S16384x1, .f32⟩
  | 81 => ⟨S16384x1, .f32⟩
  | 82 => ⟨S16384x1024, .f32⟩
  | 83 => ⟨S16384x1024, .f32⟩
  | 84 => ⟨S16384x1024, .f32⟩
  | 85 => ⟨S_, .f32⟩
  | 86 => ⟨S16384, .f32⟩
  | 87 => ⟨S16384x1, .f32⟩
  | 88 => ⟨S_, .f32⟩
  | 89 => ⟨S16384x1, .f32⟩
  | 90 => ⟨S16384x1, .f32⟩
  | 91 => ⟨S16384x1024, .f32⟩
  | 92 => ⟨S16384x1024, .f32⟩
  | 93 => ⟨S_, .f32⟩
  | 94 => ⟨S16384x1, .f32⟩
  | 95 => ⟨S16384x1, .f32⟩
  | 96 => ⟨S16384x1, .f32⟩
  | 97 => ⟨S16384x1024, .f32⟩
  | 98 => ⟨S16384x1024, .f32⟩
  | 99 => ⟨S1x1024, .f32⟩
  | 100 => ⟨S16384x1024, .f32⟩
  | 101 => ⟨S16384x1024, .f32⟩
  | 102 => ⟨S1x1024, .f32⟩
  | 103 => ⟨S16384x1024, .f32⟩
  | 104 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_call2_v0 : Ref sig .tc := ⟨.hbm, 66, rfl⟩
abbrev main_call2_v1 : Ref sig .tc := ⟨.hbm, 67, rfl⟩
abbrev main_call2_cst : Ref sig .tc := ⟨.hbm, 68, rfl⟩
abbrev main_call2_v2 : Ref sig .tc := ⟨.hbm, 69, rfl⟩
abbrev main_call2_v3 : Ref sig .tc := ⟨.hbm, 70, rfl⟩
abbrev main_call2_cst_0 : Ref sig .tc := ⟨.hbm, 71, rfl⟩
abbrev main_call2_v4 : Ref sig .tc := ⟨.hbm, 72, rfl⟩
abbrev main_call2_v5 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_call3_v0 : Ref sig .tc := ⟨.hbm, 89, rfl⟩
abbrev main_call3_v1 : Ref sig .tc := ⟨.hbm, 90, rfl⟩
abbrev main_call3_cst : Ref sig .tc := ⟨.hbm, 91, rfl⟩
abbrev main_call3_v2 : Ref sig .tc := ⟨.hbm, 92, rfl⟩
abbrev main_call3_v3 : Ref sig .tc := ⟨.hbm, 93, rfl⟩
abbrev main_call3_cst_0 : Ref sig .tc := ⟨.hbm, 94, rfl⟩
abbrev main_call3_v4 : Ref sig .tc := ⟨.hbm, 95, rfl⟩
abbrev main_call3_v5 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_call4_v0 : Ref sig .tc := ⟨.hbm, 112, rfl⟩
abbrev main_call4_v1 : Ref sig .tc := ⟨.hbm, 113, rfl⟩
abbrev main_call4_cst : Ref sig .tc := ⟨.hbm, 114, rfl⟩
abbrev main_call4_v2 : Ref sig .tc := ⟨.hbm, 115, rfl⟩
abbrev main_call4_v3 : Ref sig .tc := ⟨.hbm, 116, rfl⟩
abbrev main_call4_cst_0 : Ref sig .tc := ⟨.hbm, 117, rfl⟩
abbrev main_call4_v4 : Ref sig .tc := ⟨.hbm, 118, rfl⟩
abbrev main_call4_v5 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_call5_v0 : Ref sig .tc := ⟨.hbm, 135, rfl⟩
abbrev main_call5_v1 : Ref sig .tc := ⟨.hbm, 136, rfl⟩
abbrev main_call5_cst : Ref sig .tc := ⟨.hbm, 137, rfl⟩
abbrev main_call5_v2 : Ref sig .tc := ⟨.hbm, 138, rfl⟩
abbrev main_call5_v3 : Ref sig .tc := ⟨.hbm, 139, rfl⟩
abbrev main_call5_cst_0 : Ref sig .tc := ⟨.hbm, 140, rfl⟩
abbrev main_call5_v4 : Ref sig .tc := ⟨.hbm, 141, rfl⟩
abbrev main_call5_v5 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_call6_v0 : Ref sig .tc := ⟨.hbm, 158, rfl⟩
abbrev main_call6_v1 : Ref sig .tc := ⟨.hbm, 159, rfl⟩
abbrev main_call6_cst : Ref sig .tc := ⟨.hbm, 160, rfl⟩
abbrev main_call6_v2 : Ref sig .tc := ⟨.hbm, 161, rfl⟩
abbrev main_call6_v3 : Ref sig .tc := ⟨.hbm, 162, rfl⟩
abbrev main_call6_cst_0 : Ref sig .tc := ⟨.hbm, 163, rfl⟩
abbrev main_call6_v4 : Ref sig .tc := ⟨.hbm, 164, rfl⟩
abbrev main_call6_v5 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_call7_v0 : Ref sig .tc := ⟨.hbm, 181, rfl⟩
abbrev main_call7_v1 : Ref sig .tc := ⟨.hbm, 182, rfl⟩
abbrev main_call7_cst : Ref sig .tc := ⟨.hbm, 183, rfl⟩
abbrev main_call7_v2 : Ref sig .tc := ⟨.hbm, 184, rfl⟩
abbrev main_call7_v3 : Ref sig .tc := ⟨.hbm, 185, rfl⟩
abbrev main_call7_cst_0 : Ref sig .tc := ⟨.hbm, 186, rfl⟩
abbrev main_call7_v4 : Ref sig .tc := ⟨.hbm, 187, rfl⟩
abbrev main_call7_v5 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_cst_0 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_cst_1 : Ref sig .tc := ⟨.hbm, 204, rfl⟩
abbrev main_v131 : Ref sig .tc := ⟨.hbm, 205, rfl⟩
abbrev main_v132 : Ref sig .tc := ⟨.hbm, 206, rfl⟩
abbrev main_cst_2 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_cst_3 : Ref sig .tc := ⟨.hbm, 213, rfl⟩
abbrev main_v138 : Ref sig .tc := ⟨.hbm, 214, rfl⟩
abbrev main_v139 : Ref sig .tc := ⟨.hbm, 215, rfl⟩
abbrev main_cst_4 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_cst_5 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩

abbrev nD : Nat := 1
abbrev τ : Topo := Topo.v7x

variable {F : FTy → Type} [FloatOps F]
-- ==== Ffn.lean ====
abbrev S16384x1024 : Shape := ⟨2, ![16384, 1024]⟩
abbrev S1x1024x2816 : Shape := ⟨3, ![1, 1024, 2816]⟩
abbrev S1x2816x1024 : Shape := ⟨3, ![1, 2816, 1024]⟩
abbrev S2x2x1024 : Shape := ⟨3, ![2, 2, 1024]⟩
abbrev S1024x2816 : Shape := ⟨2, ![1024, 2816]⟩
abbrev S2816x1024 : Shape := ⟨2, ![2816, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩

abbrev nBuf : Space → Nat
  | .hbm => 21
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S2x2x1024, .f32⟩
  | .hbm, ⟨5, _⟩ => ⟨S2x2x1024, .f32⟩
  | .hbm, ⟨6, _⟩ => ⟨S16384x1024, .bf16⟩
  | .hbm, ⟨7, _⟩ => ⟨S1024x2816, .f32⟩
  | .hbm, ⟨8, _⟩ => ⟨S1024x2816, .bf16⟩
  | .hbm, ⟨9, _⟩ => ⟨S1024x2816, .f32⟩
  | .hbm, ⟨10, _⟩ => ⟨S1024x2816, .bf16⟩
  | .hbm, ⟨11, _⟩ => ⟨S2816x1024, .f32⟩
  | .hbm, ⟨12, _⟩ => ⟨S2816x1024, .bf16⟩
  | .hbm, ⟨13, _⟩ => ⟨S1x1x1024, .f32⟩
  | .hbm, ⟨14, _⟩ => ⟨S1024, .f32⟩
  | .hbm, ⟨15, _⟩ => ⟨S1x1024, .f32⟩
  | .hbm, ⟨16, _⟩ => ⟨S1x1x1024, .f32⟩
  | .hbm, ⟨17, _⟩ => ⟨S1024, .f32⟩
  | .hbm, ⟨18, _⟩ => ⟨S1x1024, .f32⟩
  | .hbm, ⟨19, _⟩ => ⟨S16384x1024, .f32⟩
  | .hbm, ⟨20, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1408x1024, .bf16⟩
  | .local _ .vmem, ⟨9, _⟩ => ⟨S1408x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 2], ![false, false]⟩

def k0_cond3 (i : grid0.Coords) : BitVec 1 :=
  let arg1 : BitVec 32 := BitVec.ofNat 32 (i 1).val
  let c1_i32 : BitVec 32 := 1#32
  let v21 : BitVec 1 := Scalar.cmpi .eq arg1 c1_i32
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnRefIdeal.lean ====
abbrev S16384x1024 : Shape := ⟨2, ![16384, 1024]⟩
abbrev S1x1024x2816 : Shape := ⟨3, ![1, 1024, 2816]⟩
abbrev S1x2816x1024 : Shape := ⟨3, ![1, 2816, 1024]⟩
abbrev S2x2x1024 : Shape := ⟨3, ![2, 2, 1024]⟩
abbrev S1024x2816 : Shape := ⟨2, ![1024, 2816]⟩
abbrev S2816x1024 : Shape := ⟨2, ![2816, 1024]⟩
abbrev S16384x2816 : Shape := ⟨2, ![16384, 2816]⟩
abbrev S_ : Shape := ⟨0, ![]⟩
abbrev S1x1x1024 : Shape := ⟨3, ![1, 1, 1024]⟩
abbrev S1024 : Shape := ⟨1, ![1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024x2816, .f32⟩
  | .hbm, ⟨2, _⟩ => ⟨S1x1024x2816, .f32⟩
  | .hbm, ⟨3, _⟩ => ⟨S1x2816x1024, .f32⟩
  | .hbm, ⟨4, _⟩ => ⟨S2x2x1024, .f32⟩
  | .hbm, ⟨5, _⟩ => ⟨S2x2x1024, .f32⟩
  | .hbm, ⟨6, _⟩ => ⟨S1024x2816, .f32⟩
  | .hbm, ⟨7, _⟩ => ⟨S1024x2816, .f32⟩
  | .hbm, ⟨8, _⟩ => ⟨S2816x1024, .f32⟩
  | .hbm, ⟨9, _⟩ => ⟨S16384x2816, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S1x1x1024, .f32⟩
  | .hbm, ⟨27, _⟩ => ⟨S1024, .f32⟩
  | .hbm, ⟨28, _⟩ => ⟨S1x1x1024, .f32⟩
  | .hbm, ⟨29, _⟩ => ⟨S1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S1x1024, .f32⟩
  | .hbm, ⟨57, _⟩ => ⟨S16384x1024, .f32⟩
  | .hbm, ⟨58, _⟩ => ⟨S16384x1024, .f32⟩
  | .hbm, ⟨59, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]
-- ==== InAtt.lean ====
abbrev S16384x1024 : Shape := ⟨2, ![16384, 1024]⟩
abbrev S2x1024x9992 : Shape := ⟨3, ![2, 1024, 9992]⟩
abbrev S2x9992 : Shape := ⟨2, ![2, 9992]⟩
abbrev S1x1024x9992 : Shape := ⟨3, ![1, 1024, 9992]⟩
abbrev S1024x9992 : Shape := ⟨2, ![1024, 9992]⟩
abbrev S1x9992 : Shape := ⟨2, ![1, 9992]⟩
abbrev S9992 : Shape := ⟨1, ![9992]⟩
abbrev S1024x2304 : Shape := ⟨2, ![1024, 2304]⟩
abbrev S2304 : Shape := ⟨1, ![2304]⟩
abbrev S1x2304 : Shape := ⟨2, ![1, 2304]⟩
abbrev S16384x2304 : Shape := ⟨2, ![16384, 2304]⟩
abbrev S1024x1024 : Shape := ⟨2, ![1024, 1024]⟩
abbrev S1024x768 : Shape := ⟨2, ![1024, 768]⟩
abbrev S1x768 : Shape := ⟨2, ![1, 768]⟩

abbrev nBuf : Space → Nat
  | .hbm => 13
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S2x1024x9992, .f32⟩
  | .hbm, ⟨2, _⟩ => ⟨S2x9992, .f32⟩
  | .hbm, ⟨3, _⟩ => ⟨S1x1024x9992, .f32⟩
  | .hbm, ⟨4, _⟩ => ⟨S1024x9992, .f32⟩
  | .hbm, ⟨5, _⟩ => ⟨S1x9992, .f32⟩
  | .hbm, ⟨6, _⟩ => ⟨S9992, .f32⟩
  | .hbm, ⟨7, _⟩ => ⟨S16384x1024, .bf16⟩
  | .hbm, ⟨8, _⟩ => ⟨S1024x2304, .f32⟩
  | .hbm, ⟨9, _⟩ => ⟨S1024x2304, .bf16⟩
  | .hbm, ⟨10, _⟩ => ⟨S2304, .f32⟩
  | .hbm, ⟨11, _⟩ => ⟨S1x2304, .f32⟩
  | .hbm, ⟨12, _⟩ => ⟨S16384x2304, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1x768, .f32⟩
  | .local _ .vmem, ⟨5, _⟩ => ⟨S1x768, .f32⟩
  | .local _ .vmem, ⟨6, _⟩ => ⟨S1024x768, .bf16⟩
  | .local _ .vmem, ⟨7, _⟩ => ⟨S1024x768, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InAttRefIdeal.lean ====
abbrev S16384x1024 : Shape := ⟨2, ![16384, 1024]⟩
abbrev S2x1024x9992 : Shape := ⟨3, ![2, 1024, 9992]⟩
abbrev S2x9992 : Shape := ⟨2, ![2, 9992]⟩
abbrev S1x1024x9992 : Shape := ⟨3, ![1, 1024, 9992]⟩
abbrev S1024x9992 : Shape := ⟨2, ![1024, 9992]⟩
abbrev S16384x9992 : Shape := ⟨2, ![16384, 9992]⟩
abbrev S1x9992 : Shape := ⟨2, ![1, 9992]⟩
abbrev S9992 : Shape := ⟨1, ![9992]⟩
abbrev S16384x2304 : Shape := ⟨2, ![16384, 2304]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024x9992, .f32⟩
  | .hbm, ⟨2, _⟩ => ⟨S2x9992, .f32⟩
  | .hbm, ⟨3, _⟩ => ⟨S1x1024x9992, .f32⟩
  | .hbm, ⟨4, _⟩ => ⟨S1024x9992, .f32⟩
  | .hbm, ⟨5, _⟩ => ⟨S16384x9992, .f32⟩
  | .hbm, ⟨6, _⟩ => ⟨S1x9992, .f32⟩
  | .hbm, ⟨7, _⟩ => ⟨S9992, .f32⟩
  | .hbm, ⟨8, _⟩ => ⟨S1x9992, .f32⟩
  | .hbm, ⟨9, _⟩ => ⟨S16384x9992, .f32⟩
  | .hbm, ⟨10, _⟩ => ⟨S16384x9992, .f32⟩
  | .hbm, ⟨11, _⟩ => ⟨S16384x2304, .f32⟩
  | .hbm, ⟨12, _⟩ => ⟨S16384x2304, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== InSg.lean ====
abbrev S16384x1024 : Shape := ⟨2, ![16384, 1024]⟩
abbrev S2x1024x9992 : Shape := ⟨3, ![2, 1024, 9992]⟩
abbrev S2x9992 : Shape := ⟨2, ![2, 9992]⟩
abbrev S1x1024x9992 : Shape := ⟨3, ![1, 1024, 9992]⟩
abbrev S1024x9992 : Shape := ⟨2, ![1024, 9992]⟩
abbrev S1x9992 : Shape := ⟨2, ![1, 9992]⟩
abbrev S9992 : Shape := ⟨1, ![9992]⟩
abbrev S1024x1536 : Shape := ⟨2, ![1024, 1536]⟩
abbrev S1536 : Shape := ⟨1, ![1536]⟩
abbrev S1x1536 : Shape := ⟨2, ![1, 1536]⟩
abbrev S16384x1536 : Shape := ⟨2, ![16384, 1536]⟩
abbrev S1024x1024 : Shape := ⟨2, ![1024, 1024]⟩
abbrev S1024x768 : Shape := ⟨2, ![1024, 768]⟩
abbrev S1x768 : Shape := ⟨2, ![1, 768]⟩

abbrev nBuf : Space → Nat
  | .hbm => 13
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S2x1024x9992, .f32⟩
  | .hbm, ⟨2, _⟩ => ⟨S2x9992, .f32⟩
  | .hbm, ⟨3, _⟩ => ⟨S1x1024x9992, .f32⟩
  | .hbm, ⟨4, _⟩ => ⟨S1024x9992, .f32⟩
  | .hbm, ⟨5, _⟩ => ⟨S1x9992, .f32⟩
  | .hbm, ⟨6, _⟩ => ⟨S9992, .f32⟩
  | .hbm, ⟨7, _⟩ => ⟨S16384x1024, .bf16⟩
  | .hbm, ⟨8, _⟩ => ⟨S1024x1536, .f32⟩
  | .hbm, ⟨9, _⟩ => ⟨S1024x1536, .bf16⟩
  | .hbm, ⟨10, _⟩ => ⟨S1536, .f32⟩
  | .hbm, ⟨11, _⟩ => ⟨S1x1536, .f32⟩
  | .hbm, ⟨12, _⟩ => ⟨S16384x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1x768, .f32⟩
  | .local _ .vmem, ⟨5, _⟩ => ⟨S1x768, .f32⟩
  | .local _ .vmem, ⟨6, _⟩ => ⟨S1024x768, .bf16⟩
  | .local _ .vmem, ⟨7, _⟩ => ⟨S1024x768, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InSgRefIdeal.lean ====
abbrev S16384x1024 : Shape := ⟨2, ![16384, 1024]⟩
abbrev S2x1024x9992 : Shape := ⟨3, ![2, 1024, 9992]⟩
abbrev S2x9992 : Shape := ⟨2, ![2, 9992]⟩
abbrev S1x1024x9992 : Shape := ⟨3, ![1, 1024, 9992]⟩
abbrev S1024x9992 : Shape := ⟨2, ![1024, 9992]⟩
abbrev S16384x9992 : Shape := ⟨2, ![16384, 9992]⟩
abbrev S1x9992 : Shape := ⟨2, ![1, 9992]⟩
abbrev S9992 : Shape := ⟨1, ![9992]⟩
abbrev S16384x1536 : Shape := ⟨2, ![16384, 1536]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024x9992, .f32⟩
  | .hbm, ⟨2, _⟩ => ⟨S2x9992, .f32⟩
  | .hbm, ⟨3, _⟩ => ⟨S1x1024x9992, .f32⟩
  | .hbm, ⟨4, _⟩ => ⟨S1024x9992, .f32⟩
  | .hbm, ⟨5, _⟩ => ⟨S16384x9992, .f32⟩
  | .hbm, ⟨6, _⟩ => ⟨S1x9992, .f32⟩
  | .hbm, ⟨7, _⟩ => ⟨S9992, .f32⟩
  | .hbm, ⟨8, _⟩ => ⟨S1x9992, .f32⟩
  | .hbm, ⟨9, _⟩ => ⟨S16384x9992, .f32⟩
  | .hbm, ⟨10, _⟩ => ⟨S16384x9992, .f32⟩
  | .hbm, ⟨11, _⟩ => ⟨S16384x1536, .f32⟩
  | .hbm, ⟨12, _⟩ => ⟨S16384x1536, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== InMl.lean ====
abbrev S16384x1024 : Shape := ⟨2, ![16384, 1024]⟩
abbrev S2x1024x9992 : Shape := ⟨3, ![2, 1024, 9992]⟩
abbrev S2x9992 : Shape := ⟨2, ![2, 9992]⟩
abbrev S1x1024x9992 : Shape := ⟨3, ![1, 1024, 9992]⟩
abbrev S1024x9992 : Shape := ⟨2, ![1024, 9992]⟩
abbrev S1x9992 : Shape := ⟨2, ![1, 9992]⟩
abbrev S9992 : Shape := ⟨1, ![9992]⟩
abbrev S_ : Shape := ⟨0, ![]⟩
abbrev S4x256 : Shape := ⟨2, ![4, 256]⟩
abbrev S1 : Shape := ⟨1, ![1]⟩
abbrev S4 : Shape := ⟨1, ![4]⟩
abbrev S1024 : Shape := ⟨1, ![1024]⟩
abbrev S1024x768 : Shape := ⟨2, ![1024, 768]⟩
abbrev S1024x4x192 : Shape := ⟨3, ![1024, 4, 192]⟩
abbrev S1024x4x256 : Shape := ⟨3, ![1024, 4, 256]⟩
abbrev S1024x1024 : Shape := ⟨2, ![1024, 1024]⟩
abbrev S1024x4096 : Shape := ⟨2, ![1024, 4096]⟩
abbrev S768 : Shape := ⟨1, ![768]⟩
abbrev S4x192 : Shape := ⟨2, ![4, 192]⟩
abbrev S4096 : Shape := ⟨1, ![4096]⟩
abbrev S1x4096 : Shape := ⟨2, ![1, 4096]⟩
abbrev S16384x4096 : Shape := ⟨2, ![16384, 4096]⟩
abbrev S1x1024 : Shape := ⟨2, ![1, 1024]⟩

abbrev nBuf : Space → Nat
  | .hbm => 70
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S2x1024x9992, .f32⟩
  | .hbm, ⟨2, _⟩ => ⟨S2x9992, .f32⟩
  | .hbm, ⟨3, _⟩ => ⟨S1x1024x9992, .f32⟩
  | .hbm, ⟨4, _⟩ => ⟨S1024x9992, .f32⟩
  | .hbm, ⟨5, _⟩ => ⟨S1x9992, .f32⟩
  | .hbm, ⟨6, _⟩ => ⟨S9992, .f32⟩
  | .hbm, ⟨7, _⟩ => ⟨S_, .f32⟩
  | .hbm, ⟨8, _⟩ => ⟨S4x256, .f32⟩
  | .hbm, ⟨9, _⟩ => ⟨S_, .i32⟩
  | .hbm, ⟨10, _⟩ => ⟨S1, .i32⟩
  | .hbm, ⟨11, _⟩ => ⟨S_, .f32⟩
  | .hbm, ⟨12, _⟩ => ⟨S4, .f32⟩
  | .hbm, ⟨13, _⟩ => ⟨S4x256, .f32⟩
  | .hbm, ⟨14, _⟩ => ⟨S1024, .f32⟩
  | .hbm, ⟨15, _⟩ => ⟨S1024x768, .f32⟩
  | .hbm, ⟨16, _⟩ => ⟨S1024x4x192, .f32⟩
  | .hbm, ⟨17, _⟩ => ⟨S_, .i32⟩
  | .hbm, ⟨18, _⟩ => ⟨S_, .f32⟩
  | .hbm, ⟨19, _⟩ => ⟨S1024x4x256, .f32⟩
  | .hbm, ⟨20, _⟩ => ⟨S1024x1024, .f32⟩
  | .hbm, ⟨21, _⟩ => ⟨S1024x768, .f32⟩
  | .hbm, ⟨22, _⟩ => ⟨S1024x4x192, .f32⟩
  | .hbm, ⟨23, _⟩ => ⟨S_, .i32⟩
  | .hbm, ⟨24, _⟩ => ⟨S_, .f32⟩
  | .hbm, ⟨25, _⟩ => ⟨S1024x4x256, .f32⟩
  | .hbm, ⟨26, _⟩ => ⟨S1024x1024, .f32⟩
  | .hbm, ⟨27, _⟩ => ⟨S1024x768, .f32⟩
  | .hbm, ⟨28, _⟩ => ⟨S1024x4x192, .f32⟩
  | .hbm, ⟨29, _⟩ => ⟨S_, .i32⟩
  | .hbm, ⟨30, _⟩ => ⟨S_, .f32⟩
  | .hbm, ⟨31, _⟩ => ⟨S1024x4x256, .f32⟩
  | .hbm, ⟨32, _⟩ => ⟨S1024x1024, .f32⟩
  | .hbm, ⟨33, _⟩ => ⟨S1024x768, .f32⟩
  | .hbm, ⟨34, _⟩ => ⟨S1024x4x192, .f32⟩
  | .hbm, ⟨35, _⟩ => ⟨S_, .i32⟩
  | .hbm, ⟨36, _⟩ => ⟨S_, .f32⟩
  | .hbm, ⟨37, _⟩ => ⟨S1024x4x256, .f32⟩
  | .hbm, ⟨38, _⟩ => ⟨S1024x1024, .f32⟩
  | .hbm, ⟨39, _⟩ => ⟨S1024x4096, .f32⟩
  | .hbm, ⟨40, _⟩ => ⟨S768, .f32⟩
  | .hbm, ⟨41, _⟩ => ⟨S4x192, .f32⟩
  | .hbm, ⟨42, _⟩ => ⟨S_, .i32⟩
  | .hbm, ⟨43, _⟩ => ⟨S_, .f32⟩
  | .hbm, ⟨44, _⟩ => ⟨S4x256, .f32⟩
  | .hbm, ⟨45, _⟩ => ⟨S1024, .f32⟩
  | .hbm, ⟨46, _⟩ => ⟨S768, .f32⟩
  | .hbm, ⟨47, _⟩ => ⟨S4x192, .f32⟩
  | .hbm, ⟨48, _⟩ => ⟨S_, .i32⟩
  | .hbm, ⟨49, _⟩ => ⟨S_, .f32⟩
  | .hbm, ⟨50, _⟩ => ⟨S4x256, .f32⟩
  | .hbm, ⟨51, _⟩ => ⟨S1024, .f32⟩
  | .hbm, ⟨52, _⟩ => ⟨S768, .f32⟩
  | .hbm, ⟨53, _⟩ => ⟨S4x192, .f32⟩
  | .hbm, ⟨54, _⟩ => ⟨S_, .i32⟩
  | .hbm, ⟨55, _⟩ => ⟨S_, .f32⟩
  | .hbm, ⟨56, _⟩ => ⟨S4x256, .f32⟩
  | .hbm, ⟨57, _⟩ => ⟨S1024, .f32⟩
  | .hbm, ⟨58, _⟩ => ⟨S1024, .f32⟩
  | .hbm, ⟨59, _⟩ => ⟨S768, .f32⟩
  | .hbm, ⟨60, _⟩ => ⟨S4x192, .f32⟩
  | .hbm, ⟨61, _⟩ => ⟨S_, .i32⟩
  | .hbm, ⟨62, _⟩ => ⟨S_, .f32⟩
  | .hbm, ⟨63, _⟩ => ⟨S4x256, .f32⟩
  | .hbm, ⟨64, _⟩ => ⟨S1024, .f32⟩
  | .hbm, ⟨65, _⟩ => ⟨S4096, .f32⟩
  | .hbm, ⟨66, _⟩ => ⟨S16384x1024, .bf16⟩
  | .hbm, ⟨67, _⟩ => ⟨S1024x4096, .bf16⟩
  | .hbm, ⟨68, _⟩ => ⟨S1x4096, .f32⟩
  | .hbm, ⟨69, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_call1_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_call2_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_call3_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_call4_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_call5_v0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_call6_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_call7_v0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InMlIdeal.lean ====
abbrev S16384x1024 : Shape := ⟨2, ![16384, 1024]⟩
abbrev S2x1024x9992 : Shape := ⟨3, ![2, 1024, 9992]⟩
abbrev S2x9992 : Shape := ⟨2, ![2, 9992]⟩
abbrev S1x1024x9992 : Shape := ⟨3, ![1, 1024, 9992]⟩
abbrev S1024x9992 : Shape := ⟨2, ![1024, 9992]⟩
abbrev S1x9992 : Shape := ⟨2, ![1, 9992]⟩
abbrev S9992 : Shape := ⟨1, ![9992]⟩
abbrev S_ : Shape := ⟨0, ![]⟩
abbrev S4x256 : Shape := ⟨2, ![4, 256]⟩
abbrev S1 : Shape := ⟨1, ![1]⟩
abbrev S4 : Shape := ⟨1, ![4]⟩
abbrev S1024 : Shape := ⟨1, ![1024]⟩
abbrev S1024x768 : Shape := ⟨2, ![1024, 768]⟩
abbrev S1024x4x192 : Shape := ⟨3, ![1024, 4, 192]⟩
abbrev S1024x4x256 : Shape := ⟨3, ![1024, 4, 256]⟩
abbrev S1024x1024 : Shape := ⟨2, ![1024, 1024]⟩
abbrev S1024x4096 : Shape := ⟨2, ![1024, 4096]⟩
abbrev S768 : Shape := ⟨1, ![768]⟩
abbrev S4x192 : Shape := ⟨2, ![4, 192]⟩
abbrev S4096 : Shape := ⟨1, ![4096]⟩
abbrev S1x4096 : Shape := ⟨2, ![1, 4096]⟩
abbrev S16384x4096 : Shape := ⟨2, ![16384, 4096]⟩
abbrev S1x1024 : Shape := ⟨2, ![1, 1024]⟩

abbrev nBuf : Space → Nat
  | .hbm => 70
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S2x1024x9992, .f32⟩
  | .hbm, ⟨2, _⟩ => ⟨S2x9992, .f32⟩
  | .hbm, ⟨3, _⟩ => ⟨S1x1024x9992, .f32⟩
  | .hbm, ⟨4, _⟩ => ⟨S1024x9992, .f32⟩
  | .hbm, ⟨5, _⟩ => ⟨S1x9992, .f32⟩
  | .hbm, ⟨6, _⟩ => ⟨S9992, .f32⟩
  | .hbm, ⟨7, _⟩ => ⟨S_, .f32⟩
  | .hbm, ⟨8, _⟩ => ⟨S4x256, .f32⟩
  | .hbm, ⟨9, _⟩ => ⟨S_, .i32⟩
  | .hbm, ⟨10, _⟩ => ⟨S1, .i32⟩
  | .hbm, ⟨11, _⟩ => ⟨S_, .f32⟩
  | .hbm, ⟨12, _⟩ => ⟨S4, .f32⟩
  | .hbm, ⟨13, _⟩ => ⟨S4x256, .f32⟩
  | .hbm, ⟨14, _⟩ => ⟨S1024, .f32⟩
  | .hbm, ⟨15, _⟩ => ⟨S1024x768, .f32⟩
  | .hbm, ⟨16, _⟩ => ⟨S1024x4x192, .f32⟩
  | .hbm, ⟨17, _⟩ => ⟨S_, .i32⟩
  | .hbm, ⟨18, _⟩ => ⟨S_, .f32⟩
  | .hbm, ⟨19, _⟩ => ⟨S1024x4x256, .f32⟩
  | .hbm, ⟨20, _⟩ => ⟨S1024x1024, .f32⟩
  | .hbm, ⟨21, _⟩ => ⟨S1024x768, .f32⟩
  | .hbm, ⟨22, _⟩ => ⟨S1024x4x192, .f32⟩
  | .hbm, ⟨23, _⟩ => ⟨S_, .i32⟩
  | .hbm, ⟨24, _⟩ => ⟨S_, .f32⟩
  | .hbm, ⟨25, _⟩ => ⟨S1024x4x256, .f32⟩
  | .hbm, ⟨26, _⟩ => ⟨S1024x1024, .f32⟩
  | .hbm, ⟨27, _⟩ => ⟨S1024x768, .f32⟩
  | .hbm, ⟨28, _⟩ => ⟨S1024x4x192, .f32⟩
  | .hbm, ⟨29, _⟩ => ⟨S_, .i32⟩
  | .hbm, ⟨30, _⟩ => ⟨S_, .f32⟩
  | .hbm, ⟨31, _⟩ => ⟨S1024x4x256, .f32⟩
  | .hbm, ⟨32, _⟩ => ⟨S1024x1024, .f32⟩
  | .hbm, ⟨33, _⟩ => ⟨S1024x768, .f32⟩
  | .hbm, ⟨34, _⟩ => ⟨S1024x4x192, .f32⟩
  | .hbm, ⟨35, _⟩ => ⟨S_, .i32⟩
  | .hbm, ⟨36, _⟩ => ⟨S_, .f32⟩
  | .hbm, ⟨37, _⟩ => ⟨S1024x4x256, .f32⟩
  | .hbm, ⟨38, _⟩ => ⟨S1024x1024, .f32⟩
  | .hbm, ⟨39, _⟩ => ⟨S1024x4096, .f32⟩
  | .hbm, ⟨40, _⟩ => ⟨S768, .f32⟩
  | .hbm, ⟨41, _⟩ => ⟨S4x192, .f32⟩
  | .hbm, ⟨42, _⟩ => ⟨S_, .i32⟩
  | .hbm, ⟨43, _⟩ => ⟨S_, .f32⟩
  | .hbm, ⟨44, _⟩ => ⟨S4x256, .f32⟩
  | .hbm, ⟨45, _⟩ => ⟨S1024, .f32⟩
  | .hbm, ⟨46, _⟩ => ⟨S768, .f32⟩
  | .hbm, ⟨47, _⟩ => ⟨S4x192, .f32⟩
  | .hbm, ⟨48, _⟩ => ⟨S_, .i32⟩
  | .hbm, ⟨49, _⟩ => ⟨S_, .f32⟩
  | .hbm, ⟨50, _⟩ => ⟨S4x256, .f32⟩
  | .hbm, ⟨51, _⟩ => ⟨S1024, .f32⟩
  | .hbm, ⟨52, _⟩ => ⟨S768, .f32⟩
  | .hbm, ⟨53, _⟩ => ⟨S4x192, .f32⟩
  | .hbm, ⟨54, _⟩ => ⟨S_, .i32⟩
  | .hbm, ⟨55, _⟩ => ⟨S_, .f32⟩
  | .hbm, ⟨56, _⟩ => ⟨S4x256, .f32⟩
  | .hbm, ⟨57, _⟩ => ⟨S1024, .f32⟩
  | .hbm, ⟨58, _⟩ => ⟨S1024, .f32⟩
  | .hbm, ⟨59, _⟩ => ⟨S768, .f32⟩
  | .hbm, ⟨60, _⟩ => ⟨S4x192, .f32⟩
  | .hbm, ⟨61, _⟩ => ⟨S_, .i32⟩
  | .hbm, ⟨62, _⟩ => ⟨S_, .f32⟩
  | .hbm, ⟨63, _⟩ => ⟨S4x256, .f32⟩
  | .hbm, ⟨64, _⟩ => ⟨S1024, .f32⟩
  | .hbm, ⟨65, _⟩ => ⟨S4096, .f32⟩
  | .hbm, ⟨66, _⟩ => ⟨S16384x1024, .bf16⟩
  | .hbm, ⟨67, _⟩ => ⟨S1024x4096, .bf16⟩
  | .hbm, ⟨68, _⟩ => ⟨S1x4096, .f32⟩
  | .hbm, ⟨69, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_call1_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_call2_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_call3_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_call4_v0 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_call5_v0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_call6_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_call7_v0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InMlRefIdeal.lean ====
abbrev S16384x1024 : Shape := ⟨2, ![16384, 1024]⟩
abbrev S2x1024x9992 : Shape := ⟨3, ![2, 1024, 9992]⟩
abbrev S2x9992 : Shape := ⟨2, ![2, 9992]⟩
abbrev S1x1024x9992 : Shape := ⟨3, ![1, 1024, 9992]⟩
abbrev S1024x9992 : Shape := ⟨2, ![1024, 9992]⟩
abbrev S16384x9992 : Shape := ⟨2, ![16384, 9992]⟩
abbrev S1x9992 : Shape := ⟨2, ![1, 9992]⟩
abbrev S9992 : Shape := ⟨1, ![9992]⟩
abbrev S16384x3072 : Shape := ⟨2, ![16384, 3072]⟩
abbrev S16384x16x192 : Shape := ⟨3, ![16384, 16, 192]⟩
abbrev S_ : Shape := ⟨0, ![]⟩
abbrev S16384x4x1 : Shape := ⟨3, ![16384, 4, 1]⟩
abbrev S16384x4x63 : Shape := ⟨3, ![16384, 4, 63]⟩
abbrev S16384x4x64 : Shape := ⟨3, ![16384, 4, 64]⟩
abbrev S16384x8x64 : Shape := ⟨3, ![16384, 8, 64]⟩
abbrev S16384x16x64 : Shape := ⟨3, ![16384, 16, 64]⟩
abbrev S16384x16x256 : Shape := ⟨3, ![16384, 16, 256]⟩
abbrev S16384x4096 : Shape := ⟨2, ![16384, 4096]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024x9992, .f32⟩
  | .hbm, ⟨2, _⟩ => ⟨S2x9992, .f32⟩
  | .hbm, ⟨3, _⟩ => ⟨S1x1024x9992, .f32⟩
  | .hbm, ⟨4, _⟩ => ⟨S1024x9992, .f32⟩
  | .hbm, ⟨5, _⟩ => ⟨S16384x9992, .f32⟩
  | .hbm, ⟨6, _⟩ => ⟨S1x9992, .f32⟩
  | .hbm, ⟨7, _⟩ => ⟨S9992, .f32⟩
  | .hbm, ⟨8, _⟩ => ⟨S1x9992, .f32⟩
  | .hbm, ⟨9, _⟩ => ⟨S16384x9992, .f32⟩
  | .hbm, ⟨10, _⟩ => ⟨S16384x9992, .f32⟩
  | .hbm, ⟨11, _⟩ => ⟨S16384x3072, .f32⟩
  | .hbm, ⟨12, _⟩ => ⟨S16384x16x192, .f32⟩
  | .hbm, ⟨13, _⟩ => ⟨S_, .f32⟩
  | .hbm, ⟨14, _⟩ => ⟨S16384x4x1, .f32⟩
  | .hbm, ⟨15, _⟩ => ⟨S_, .f32⟩
  | .hbm, ⟨16, _⟩ => ⟨S16384x4x63, .f32⟩
  | .hbm, ⟨17, _⟩ => ⟨S16384x4x64, .f32⟩
  | .hbm, ⟨18, _⟩ => ⟨S_, .f32⟩
  | .hbm, ⟨19, _⟩ => ⟨S16384x8x64, .f32⟩
  | .hbm, ⟨20, _⟩ => ⟨S_, .f32⟩
  | .hbm, ⟨21, _⟩ => ⟨S16384x4x64, .f32⟩
  | .hbm, ⟨22, _⟩ => ⟨S16384x16x64, .f32⟩
  | .hbm, ⟨23, _⟩ => ⟨S16384x16x256, .f32⟩
  | .hbm, ⟨24, _⟩ => ⟨S16384x4096, .f32⟩
  | .hbm, ⟨25, _⟩ => ⟨S16384x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== InIf.lean ====
abbrev S16384x1024 : Shape := ⟨2, ![16384, 1024]⟩
abbrev S2x1024x9992 : Shape := ⟨3, ![2, 1024, 9992]⟩
abbrev S2x9992 : Shape := ⟨2, ![2, 9992]⟩
abbrev S1x1024x9992 : Shape := ⟨3, ![1, 1024, 9992]⟩
abbrev S1024x9992 : Shape := ⟨2, ![1024, 9992]⟩
abbrev S1x9992 : Shape := ⟨2, ![1, 9992]⟩
abbrev S9992 : Shape := ⟨1, ![9992]⟩
abbrev S1024x8 : Shape := ⟨2, ![1024, 8]⟩
abbrev S_ : Shape := ⟨0, ![]⟩
abbrev S1024x128 : Shape := ⟨2, ![1024, 128]⟩
abbrev S8 : Shape := ⟨1, ![8]⟩
abbrev S128 : Shape := ⟨1, ![128]⟩
abbrev S1x128 : Shape := ⟨2, ![1, 128]⟩
abbrev S16384x128 : Shape := ⟨2, ![16384, 128]⟩
abbrev S1024x1024 : Shape := ⟨2, ![1024, 1024]⟩

abbrev nBuf : Space → Nat
  | .hbm => 19
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S2x1024x9992, .f32⟩
  | .hbm, ⟨2, _⟩ => ⟨S2x9992, .f32⟩
  | .hbm, ⟨3, _⟩ => ⟨S1x1024x9992, .f32⟩
  | .hbm, ⟨4, _⟩ => ⟨S1024x9992, .f32⟩
  | .hbm, ⟨5, _⟩ => ⟨S1x9992, .f32⟩
  | .hbm, ⟨6, _⟩ => ⟨S9992, .f32⟩
  | .hbm, ⟨7, _⟩ => ⟨S1024x8, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S8, .f32⟩
  | .hbm, ⟨13, _⟩ => ⟨S_, .i32⟩
  | .hbm, ⟨14, _⟩ => ⟨S_, .f32⟩
  | .hbm, ⟨15, _⟩ => ⟨S128, .f32⟩
  | .hbm, ⟨16, _⟩ => ⟨S1x128, .f32⟩
  | .hbm, ⟨17, _⟩ => ⟨S16384x1024, .bf16⟩
  | .hbm, ⟨18, _⟩ => ⟨S16384x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InIfRefIdeal.lean ====
abbrev S16384x1024 : Shape := ⟨2, ![16384, 1024]⟩
abbrev S2x1024x9992 : Shape := ⟨3, ![2, 1024, 9992]⟩
abbrev S2x9992 : Shape := ⟨2, ![2, 9992]⟩
abbrev S1x1024x9992 : Shape := ⟨3, ![1, 1024, 9992]⟩
abbrev S1024x9992 : Shape := ⟨2, ![1024, 9992]⟩
abbrev S16384x9992 : Shape := ⟨2, ![16384, 9992]⟩
abbrev S1x9992 : Shape := ⟨2, ![1, 9992]⟩
abbrev S9992 : Shape := ⟨1, ![9992]⟩
abbrev S16384x8 : Shape := ⟨2, ![16384, 8]⟩
abbrev S_ : Shape := ⟨0, ![]⟩
abbrev S16384x128 : Shape := ⟨2, ![16384, 128]⟩

abbrev nBuf : Space → Nat
  | .hbm => 15
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024x9992, .f32⟩
  | .hbm, ⟨2, _⟩ => ⟨S2x9992, .f32⟩
  | .hbm, ⟨3, _⟩ => ⟨S1x1024x9992, .f32⟩
  | .hbm, ⟨4, _⟩ => ⟨S1024x9992, .f32⟩
  | .hbm, ⟨5, _⟩ => ⟨S16384x9992, .f32⟩
  | .hbm, ⟨6, _⟩ => ⟨S1x9992, .f32⟩
  | .hbm, ⟨7, _⟩ => ⟨S9992, .f32⟩
  | .hbm, ⟨8, _⟩ => ⟨S1x9992, .f32⟩
  | .hbm, ⟨9, _⟩ => ⟨S16384x9992, .f32⟩
  | .hbm, ⟨10, _⟩ => ⟨S16384x9992, .f32⟩
  | .hbm, ⟨11, _⟩ => ⟨S16384x8, .f32⟩
  | .hbm, ⟨12, _⟩ => ⟨S_, .i32⟩
  | .hbm, ⟨13, _⟩ => ⟨S_, .f32⟩
  | .hbm, ⟨14, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== InGate.lean ====
abbrev S16384x1024 : Shape := ⟨2, ![16384, 1024]⟩
abbrev S2x1024x9992 : Shape := ⟨3, ![2, 1024, 9992]⟩
abbrev S2x9992 : Shape := ⟨2, ![2, 9992]⟩
abbrev S1x1024x9992 : Shape := ⟨3, ![1, 1024, 9992]⟩
abbrev S1024x9992 : Shape := ⟨2, ![1024, 9992]⟩
abbrev S1x9992 : Shape := ⟨2, ![1, 9992]⟩
abbrev S9992 : Shape := ⟨1, ![9992]⟩
abbrev S1024x3072 : Shape := ⟨2, ![1024, 3072]⟩
abbrev S3072 : Shape := ⟨1, ![3072]⟩
abbrev S1x3072 : Shape := ⟨2, ![1, 3072]⟩
abbrev S16384x3072 : Shape := ⟨2, ![16384, 3072]⟩
abbrev S1024x1024 : Shape := ⟨2, ![1024, 1024]⟩
abbrev S1x1024 : Shape := ⟨2, ![1, 1024]⟩

abbrev nBuf : Space → Nat
  | .hbm => 13
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S2x1024x9992, .f32⟩
  | .hbm, ⟨2, _⟩ => ⟨S2x9992, .f32⟩
  | .hbm, ⟨3, _⟩ => ⟨S1x1024x9992, .f32⟩
  | .hbm, ⟨4, _⟩ => ⟨S1024x9992, .f32⟩
  | .hbm, ⟨5, _⟩ => ⟨S1x9992, .f32⟩
  | .hbm, ⟨6, _⟩ => ⟨S9992, .f32⟩
  | .hbm, ⟨7, _⟩ => ⟨S16384x1024, .bf16⟩
  | .hbm, ⟨8, _⟩ => ⟨S1024x3072, .f32⟩
  | .hbm, ⟨9, _⟩ => ⟨S1024x3072, .bf16⟩
  | .hbm, ⟨10, _⟩ => ⟨S3072, .f32⟩
  | .hbm, ⟨11, _⟩ => ⟨S1x3072, .f32⟩
  | .hbm, ⟨12, _⟩ => ⟨S16384x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InGateRefIdeal.lean ====
abbrev S16384x1024 : Shape := ⟨2, ![16384, 1024]⟩
abbrev S2x1024x9992 : Shape := ⟨3, ![2, 1024, 9992]⟩
abbrev S2x9992 : Shape := ⟨2, ![2, 9992]⟩
abbrev S1x1024x9992 : Shape := ⟨3, ![1, 1024, 9992]⟩
abbrev S1024x9992 : Shape := ⟨2, ![1024, 9992]⟩
abbrev S16384x9992 : Shape := ⟨2, ![16384, 9992]⟩
abbrev S1x9992 : Shape := ⟨2, ![1, 9992]⟩
abbrev S9992 : Shape := ⟨1, ![9992]⟩
abbrev S16384x3072 : Shape := ⟨2, ![16384, 3072]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x1024x9992, .f32⟩
  | .hbm, ⟨2, _⟩ => ⟨S2x9992, .f32⟩
  | .hbm, ⟨3, _⟩ => ⟨S1x1024x9992, .f32⟩
  | .hbm, ⟨4, _⟩ => ⟨S1024x9992, .f32⟩
  | .hbm, ⟨5, _⟩ => ⟨S16384x9992, .f32⟩
  | .hbm, ⟨6, _⟩ => ⟨S1x9992, .f32⟩
  | .hbm, ⟨7, _⟩ => ⟨S9992, .f32⟩
  | .hbm, ⟨8, _⟩ => ⟨S1x9992, .f32⟩
  | .hbm, ⟨9, _⟩ => ⟨S16384x9992, .f32⟩
  | .hbm, ⟨10, _⟩ => ⟨S16384x9992, .f32⟩
  | .hbm, ⟨11, _⟩ => ⟨S16384x3072, .f32⟩
  | .hbm, ⟨12, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Mix.lean ====
abbrev S16384x1024 : Shape := ⟨2, ![16384, 1024]⟩
abbrev S16384x256 : Shape := ⟨2, ![16384, 256]⟩
abbrev S16384x1536 : Shape := ⟨2, ![16384, 1536]⟩
abbrev S16384x3072 : Shape := ⟨2, ![16384, 3072]⟩
abbrev S2x768 : Shape := ⟨2, ![2, 768]⟩
abbrev S2x6x128x128 : Shape := ⟨4, ![2, 6, 128, 128]⟩
abbrev S2x6x128 : Shape := ⟨3, ![2, 6, 128]⟩
abbrev S2x256x1024 : Shape := ⟨3, ![2, 256, 1024]⟩
abbrev S2x768x1024 : Shape := ⟨3, ![2, 768, 1024]⟩
abbrev S2x1024x1024 : Shape := ⟨3, ![2, 1024, 1024]⟩
abbrev S2x2x1024 : Shape := ⟨3, ![2, 2, 1024]⟩
abbrev S1x768 : Shape := ⟨2, ![1, 768]⟩
abbrev S768 : Shape := ⟨1, ![768]⟩
abbrev S1x6x128x128 : Shape := ⟨4, ![1, 6, 128, 128]⟩
abbrev S6x128x128 : Shape := ⟨3, ![6, 128, 128]⟩
abbrev S1x6x128 : Shape := ⟨3, ![1, 6, 128]⟩
abbrev S6x128 : Shape := ⟨2, ![6, 128]⟩
abbrev S128x6 : Shape := ⟨2, ![128, 6]⟩
abbrev S1x256x1024 : Shape := ⟨3, ![1, 256, 1024]⟩
abbrev S256x1024 : Shape := ⟨2, ![256, 1024]⟩
abbrev S1x768x1024 : Shape := ⟨3, ![1, 768, 1024]⟩
abbrev S768x1024 : Shape := ⟨2, ![768, 1024]⟩
abbrev S1024x768 : Shape := ⟨2, ![1024, 768]⟩
abbrev S1024x4x192 : Shape := ⟨3, ![1024, 4, 192]⟩
abbrev S_ : Shape := ⟨0, ![]⟩
abbrev S1024x4x256 : Shape := ⟨3, ![1024, 4, 256]⟩
abbrev S1024x1024 : Shape := ⟨2, ![1024, 1024]⟩
abbrev S1x1024x1024 : Shape := ⟨3, ![1, 1024, 1024]⟩
abbrev S1x1x1024 : Shape := ⟨3, ![1, 1, 1024]⟩
abbrev S1024 : Shape := ⟨1, ![1024]⟩
abbrev S1x1024 : Shape := ⟨2, ![1, 1024]⟩
abbrev S256x256 : Shape := ⟨2, ![256, 256]⟩
abbrev S256x1536 : Shape := ⟨2, ![256, 1536]⟩
abbrev S256x3072 : Shape := ⟨2, ![256, 3072]⟩
abbrev S256x768 : Shape := ⟨2, ![256, 768]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x1 : Shape := ⟨2, ![128, 1]⟩
abbrev S128x768 : Shape := ⟨2, ![128, 768]⟩

abbrev nBuf : Space → Nat
  | .hbm => 58
  | .vmem => 34
  | .smem => 0
  | _ => 0

abbrev bufTy : (tb : Table) → Fin (tcTables nBuf tb) → BufTy
  | .hbm, ⟨0, _⟩ => ⟨S16384x1024, .f32⟩
  | .hbm, ⟨1, _⟩ => ⟨S16384x256, .bf16⟩
  | .hbm, ⟨2, _⟩ => ⟨S16384x256, .bf16⟩
  | .hbm, ⟨3, _⟩ => ⟨S16384x256, .bf16⟩
  | .hbm, ⟨4, _⟩ => ⟨S16384x256, .f32⟩
  | .hbm, ⟨5, _⟩ => ⟨S16384x256, .f32⟩
  | .hbm, ⟨6, _⟩ => ⟨S16384x256, .f32⟩
  | .hbm, ⟨7, _⟩ => ⟨S16384x1536, .bf16⟩
  | .hbm, ⟨8, _⟩ => ⟨S16384x1024, .bf16⟩
  | .hbm, ⟨9, _⟩ => ⟨S16384x3072, .bf16⟩
  | .hbm, ⟨10, _⟩ => ⟨S2x768, .f32⟩
  | .hbm, ⟨11, _⟩ => ⟨S2x768, .f32⟩
  | .hbm, ⟨12, _⟩ => ⟨S2x6x128x128, .f32⟩
  | .hbm, ⟨13, _⟩ => ⟨S2x6x128, .f32⟩
  | .hbm, ⟨14, _⟩ => ⟨S2x256x1024, .f32⟩
  | .hbm, ⟨15, _⟩ => ⟨S2x768x1024, .f32⟩
  | .hbm, ⟨16, _⟩ => ⟨S2x768x1024, .f32⟩
  | .hbm, ⟨17, _⟩ => ⟨S2x1024x1024, .f32⟩
  | .hbm, ⟨18, _⟩ => ⟨S2x2x1024, .f32⟩
  | .hbm, ⟨19, _⟩ => ⟨S2x2x1024, .f32⟩
  | .hbm, ⟨20, _⟩ => ⟨S1x768, .f32⟩
  | .hbm, ⟨21, _⟩ => ⟨S768, .f32⟩
  | .hbm, ⟨22, _⟩ => ⟨S1x768, .f32⟩
  | .hbm, ⟨23, _⟩ => ⟨S1x768, .f32⟩
  | .hbm, ⟨24, _⟩ => ⟨S768, .f32⟩
  | .hbm, ⟨25, _⟩ => ⟨S1x768, .f32⟩
  | .hbm, ⟨26, _⟩ => ⟨S1x6x128x128, .f32⟩
  | .hbm, ⟨27, _⟩ => ⟨S6x128x128, .f32⟩
  | .hbm, ⟨28, _⟩ => ⟨S1x6x128, .f32⟩
  | .hbm, ⟨29, _⟩ => ⟨S6x128, .f32⟩
  | .hbm, ⟨30, _⟩ => ⟨S128x6, .f32⟩
  | .hbm, ⟨31, _⟩ => ⟨S1x256x1024, .f32⟩
  | .hbm, ⟨32, _⟩ => ⟨S256x1024, .f32⟩
  | .hbm, ⟨33, _⟩ => ⟨S256x1024, .bf16⟩
  | .hbm, ⟨34, _⟩ => ⟨S1x768x1024, .f32⟩
  | .hbm, ⟨35, _⟩ => ⟨S768x1024, .f32⟩
  | .hbm, ⟨36, _⟩ => ⟨S768x1024, .bf16⟩
  | .hbm, ⟨37, _⟩ => ⟨S1x768x1024, .f32⟩
  | .hbm, ⟨38, _⟩ => ⟨S768x1024, .f32⟩
  | .hbm, ⟨39, _⟩ => ⟨S1024x768, .f32⟩
  | .hbm, ⟨40, _⟩ => ⟨S1024x4x192, .f32⟩
  | .hbm, ⟨41, _⟩ => ⟨S_, .i32⟩
  | .hbm, ⟨42, _⟩ => ⟨S_, .f32⟩
  | .hbm, ⟨43, _⟩ => ⟨S1024x4x256, .f32⟩
  | .hbm, ⟨44, _⟩ => ⟨S1024x1024, .f32⟩
  | .hbm, ⟨45, _⟩ => ⟨S1024x1024, .f32⟩
  | .hbm, ⟨46, _⟩ => ⟨S1024x1024, .bf16⟩
  | .hbm, ⟨47, _⟩ => ⟨S1x1024x1024, .f32⟩
  | .hbm, ⟨48, _⟩ => ⟨S1024x1024, .f32⟩
  | .hbm, ⟨49, _⟩ => ⟨S1024x1024, .bf16⟩
  | .hbm, ⟨50, _⟩ => ⟨S1x1x1024, .f32⟩
  | .hbm, ⟨51, _⟩ => ⟨S1024, .f32⟩
  | .hbm, ⟨52, _⟩ => ⟨S1x1024, .f32⟩
  | .hbm, ⟨53, _⟩ => ⟨S1x1x1024, .f32⟩
  | .hbm, ⟨54, _⟩ => ⟨S1024, .f32⟩
  | .hbm, ⟨55, _⟩ => ⟨S1x1024, .f32⟩
  | .hbm, ⟨56, _⟩ => ⟨S16384x1024, .f32⟩
  | .hbm, ⟨57, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x1536, .bf16⟩
  | .local _ .vmem, ⟨15, _⟩ => ⟨S256x1536, .bf16⟩
  | .local _ .vmem, ⟨16, _⟩ => ⟨S256x1024, .bf16⟩
  | .local _ .vmem, ⟨17, _⟩ => ⟨S256x1024, .bf16⟩
  | .local _ .vmem, ⟨18, _⟩ => ⟨S256x3072, .bf16⟩
  | .local _ .vmem, ⟨19, _⟩ => ⟨S256x3072, .bf16⟩
  | .local _ .vmem, ⟨20, _⟩ => ⟨S1x768, .f32⟩
  | .local _ .vmem, ⟨21, _⟩ => ⟨S1x768, .f32⟩
  | .local _ .vmem, ⟨22, _⟩ => ⟨S6x128x128, .f32⟩
  | .local _ .vmem, ⟨23, _⟩ => ⟨S128x6, .f32⟩
  | .local _ .vmem, ⟨24, _⟩ => ⟨S256x1024, .bf16⟩
  | .local _ .vmem, ⟨25, _⟩ => ⟨S768x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1x1024, .f32⟩
  | .local _ .vmem, ⟨29, _⟩ => ⟨S1x1024, .f32⟩
  | .local _ .vmem, ⟨30, _⟩ => ⟨S256x1024, .f32⟩
  | .local _ .vmem, ⟨31, _⟩ => ⟨S256x1024, .f32⟩
  | .local _ .vmem, ⟨32, _⟩ => ⟨S256x1024, .bf16⟩
  | .local _ .vmem, ⟨33, _⟩ => ⟨S256x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c : Ref sig .tc := ⟨.hbm, 41, rfl⟩
abbrev main_call0_v0 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34_0 : Ref sig .tc := ⟨.hbm, 56, rfl⟩
abbrev main_v34_1 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem20_1 : DmaSem sig := 31
abbrev cc0_sem21_0 : DmaSem sig := 32
abbrev cc0_sem21_1 : DmaSem sig := 33

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S6x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x6 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S768x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== MixRefIdeal.lean ====
abbrev S16384x1024 : Shape := ⟨2, ![16384, 1024]⟩
abbrev S16384x256 : Shape := ⟨2, ![16384, 256]⟩
abbrev S16384x1536 : Shape := ⟨2, ![16384, 1536]⟩
abbrev S16384x3072 : Shape := ⟨2, ![16384, 3072]⟩
abbrev S2x768 : Shape := ⟨2, ![2, 768]⟩
abbrev S2x6x128x128 : Shape := ⟨4, ![2, 6, 128, 128]⟩
abbrev S2x6x128 : Shape := ⟨3, ![2, 6, 128]⟩
abbrev S2x256x1024 : Shape := ⟨3, ![2, 256, 1024]⟩
abbrev S2x768x1024 : Shape := ⟨3, ![2, 768, 1024]⟩
abbrev S2x1024x1024 : Shape := ⟨3, ![2, 1024, 1024]⟩
abbrev S2x2x1024 : Shape := ⟨3, ![2, 2, 1024]⟩
abbrev S1x16384x256 : Shape := ⟨3, ![1, 16384, 256]⟩
abbrev S3x16384x256 : Shape := ⟨3, ![3, 16384, 256]⟩
abbrev S_ : Shape := ⟨0, ![]⟩
abbrev S16384x768 : Shape := ⟨2, ![16384, 768]⟩
abbrev S1x16384x768 : Shape := ⟨3, ![1, 16384, 768]⟩
abbrev S1x768 : Shape := ⟨2, ![1, 768]⟩
abbrev S768 : Shape := ⟨1, ![768]⟩
abbrev S1x6x128x128 : Shape := ⟨4, ![1, 6, 128, 128]⟩
abbrev S6x128x128 : Shape := ⟨3, ![6, 128, 128]⟩
abbrev S1x6x128 : Shape := ⟨3, ![1, 6, 128]⟩
abbrev S6x128 : Shape := ⟨2, ![6, 128]⟩
abbrev S1x16384 : Shape := ⟨2, ![1, 16384]⟩
abbrev S1x16384x1 : Shape := ⟨3, ![1, 16384, 1]⟩
abbrev S1x1x768 : Shape := ⟨3, ![1, 1, 768]⟩
abbrev S1x128x128x6x128 : Shape := ⟨5, ![1, 128, 128, 6, 128]⟩
abbrev S128x128 : Shape := ⟨2, ![128, 128]⟩
abbrev S6x1x128x128x128 : Shape := ⟨5, ![6, 1, 128, 128, 128]⟩
abbrev S128x6 : Shape := ⟨2, ![128, 6]⟩
abbrev S128x6x1 : Shape := ⟨3, ![128, 6, 1]⟩
abbrev S1x1x128x6x1 : Shape := ⟨5, ![1, 1, 128, 6, 1]⟩
abbrev S16384x4x256 : Shape := ⟨3, ![16384, 4, 256]⟩
abbrev S16384x4x192 : Shape := ⟨3, ![16384, 4, 192]⟩
abbrev S16384x3x1024 : Shape := ⟨3, ![16384, 3, 1024]⟩
abbrev S16384x1x1024 : Shape := ⟨3, ![16384, 1, 1024]⟩
abbrev S1x256x1024 : Shape := ⟨3, ![1, 256, 1024]⟩
abbrev S256x1024 : Shape := ⟨2, ![256, 1024]⟩
abbrev S1x768x1024 : Shape := ⟨3, ![1, 768, 1024]⟩
abbrev S768x1024 : Shape := ⟨2, ![768, 1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 220
  | .vmem => 0
  | .smem => 0
  | _ => 0

abbrev hbmTy0_0 (i : Nat) : BufTy := match i % 128 with
  | 0 => ⟨S16384x1024, .f32⟩
  | 1 => ⟨S16384x256, .bf16⟩
  | 2 => ⟨S16384x256, .bf16⟩
  | 3 => ⟨S16384x256, .bf16⟩
  | 4 => ⟨S16384x256, .f32⟩
  | 5 => ⟨S16384x256, .f32⟩
  | 6 => ⟨S16384x256, .f32⟩
  | 7 => ⟨S16384x1536, .bf16⟩
  | 8 => ⟨S16384x1024, .bf16⟩
  | 9 => ⟨S16384x3072, .bf16⟩
  | 10 => ⟨S2x768, .f32⟩
  | 11 => ⟨S2x768, .f32⟩
  | 12 => ⟨S2x6x128x128, .f32⟩
  | 13 => ⟨S2x6x128, .f32⟩
  | 14 => ⟨S2x256x1024, .f32⟩
  | 15 => ⟨S2x768x1024, .f32⟩
  | 16 => ⟨S2x768x1024, .f32⟩
  | 17 => ⟨S2x1024x1024, .f32⟩
  | 18 => ⟨S2x2x1024, .f32⟩
  | 19 => ⟨S2x2x1024, .f32⟩
  | 20 => ⟨S1x16384x256, .f32⟩
  | 21 => ⟨S1x16384x256, .f32⟩
  | 22 => ⟨S1x16384x256, .f32⟩
  | 23 => ⟨S3x16384x256, .f32⟩
  | 24 => ⟨S_, .f32⟩
  | 25 => ⟨S16384x256, .f32⟩
  | 26 => ⟨S_, .f32⟩
  | 27 => ⟨S16384x256, .f32⟩
  | 28 => ⟨S16384x256, .f32⟩
  | 29 => ⟨S1x16384x256, .f32⟩
  | 30 => ⟨S3x16384x256, .f32⟩
  | 31 => ⟨S3x16384x256, .f32⟩
  | 32 => ⟨S3x16384x256, .f32⟩
  | 33 => ⟨S_, .f32⟩
  | 34 => ⟨S16384x256, .f32⟩
  | 35 => ⟨S1x16384x256, .f32⟩
  | 36 => ⟨S3x16384x256, .f32⟩
  | 37 => ⟨S3x16384x256, .f32⟩
  | 38 => ⟨S16384x256, .f32⟩
  | 39 => ⟨S16384x256, .f32⟩
  | 40 => ⟨S16384x256, .f32⟩
  | 41 => ⟨S1x16384x256, .f32⟩
  | 42 => ⟨S1x16384x256, .f32⟩
  | 43 => ⟨S1x16384x256, .f32⟩
  | 44 => ⟨S3x16384x256, .f32⟩
  | 45 => ⟨S3x16384x256, .f32⟩
  | 46 => ⟨S_, .f32⟩
  | 47 => ⟨S16384x256, .f32⟩
  | 48 => ⟨S16384x1536, .f32⟩
  | 49 => ⟨S16384x768, .f32⟩
  | 50 => ⟨S1x16384x768, .f32⟩
  | 51 => ⟨S1x16384x768, .f32⟩
  | 52 => ⟨S1x16384x768, .f32⟩
  | 53 => ⟨S_, .f32⟩
  | 54 => ⟨S1x16384x768, .f32⟩
  | 55 => ⟨S1x16384x768, .f32⟩
  | 56 => ⟨S1x16384x768, .f32⟩
  | 57 => ⟨S_, .f32⟩
  | 58 => ⟨S1x16384x768, .f32⟩
  | 59 => ⟨S1x16384x768, .f32⟩
  | 60 => ⟨S1x16384x768, .f32⟩
  | 61 => ⟨S_, .f32⟩
  | 62 => ⟨S1x16384x768, .f32⟩
  | 63 => ⟨S1x16384x768, .f32⟩
  | 64 => ⟨S_, .f32⟩
  | 65 => ⟨S1x16384x768, .f32⟩
  | 66 => ⟨S1x16384x768, .f32⟩
  | 67 => ⟨S1x16384x768, .f32⟩
  | 68 => ⟨S16384x768, .f32⟩
  | 69 => ⟨S1x16384x768, .f32⟩
  | 70 => ⟨S1x16384x768, .f32⟩
  | 71 => ⟨S1x16384x768, .f32⟩
  | 72 => ⟨S_, .f32⟩
  | 73 => ⟨S1x16384x768, .f32⟩
  | 74 => ⟨S1x16384x768, .f32⟩
  | 75 => ⟨S1x16384x768, .f32⟩
  | 76 => ⟨S_, .f32⟩
  | 77 => ⟨S1x16384x768, .f32⟩
  | 78 => ⟨S1x16384x768, .f32⟩
  | 79 => ⟨S1x16384x768, .f32⟩
  | 80 => ⟨S_, .f32⟩
  | 81 => ⟨S1x16384x768, .f32⟩
  | 82 => ⟨S1x16384x768, .f32⟩
  | 83 => ⟨S_, .f32⟩
  | 84 => ⟨S1x16384x768, .f32⟩
  | 85 => ⟨S1x16384x768, .f32⟩
  | 86 => ⟨S1x16384x768, .f32⟩
  | 87 => ⟨S1x768, .f32⟩
  | 88 => ⟨S768, .f32⟩
  | 89 => ⟨S1x768, .f32⟩
  | 90 => ⟨S768, .f32⟩
  | 91 => ⟨S1x6x128x128, .f32⟩
  | 92 => ⟨S6x128x128, .f32⟩
  | 93 => ⟨S1x6x128, .f32⟩
  | 94 => ⟨S6x128, .f32⟩
  | 95 => ⟨S_, .f32⟩
  | 96 => ⟨S1x16384, .f32⟩
  | 97 => ⟨S1x16384x1, .f32⟩
  | 98 => ⟨S_, .f32⟩
  | 99 => ⟨S1x16384x1, .f32⟩
  | 100 => ⟨S1x16384x1, .f32⟩
  | 101 => ⟨S1x16384x768, .f32⟩
  | 102 => ⟨S1x16384x768, .f32⟩
  | 103 => ⟨S1x16384x768, .f32⟩
  | 104 => ⟨S_, .f32⟩
  | 105 => ⟨S1x16384, .f32⟩
  | 106 => ⟨S1x16384x1, .f32⟩
  | 107 => ⟨S_, .f32⟩
  | 108 => ⟨S1x16384x1, .f32⟩
  | 109 => ⟨S1x16384x1, .f32⟩
  | 110 => ⟨S1x16384x768, .f32⟩
  | 111 => ⟨S1x16384x768, .f32⟩
  | 112 => ⟨S_, .f32⟩
  | 113 => ⟨S1x16384x1, .f32⟩
  | 114 => ⟨S1x16384x1, .f32⟩
  | 115 => ⟨S1x16384x1, .f32⟩
  | 116 => ⟨S1x16384x768, .f32⟩
  | 117 => ⟨S1x16384x768, .f32⟩
  | 118 => ⟨S1x1x768, .f32⟩
  | 119 => ⟨S1x16384x768, .f32⟩
  | 120 => ⟨S1x16384x768, .f32⟩
  | 121 => ⟨S1x1x768, .f32⟩
  | 122 => ⟨S1x16384x768, .f32⟩
  | 123 => ⟨S1x16384x768, .f32⟩
  | 124 => ⟨S1x128x128x6x128, .f32⟩
  | 125 => ⟨S128x128, .i32⟩
  | 126 => ⟨S_, .i32⟩
  | 127 => ⟨S128x128, .i32⟩
  | _ => ⟨S16384x1024, .f32⟩

abbrev hbmTy0_1 (i : Nat) : BufTy := match i % 128 with
  | 0 => ⟨S128x128, .i32⟩
  | 1 => ⟨S128x128, .i32⟩
  | 2 => ⟨S128x128, .i1⟩
  | 3 => ⟨S6x128x128, .i1⟩
  | 4 => ⟨S_, .f32⟩
  | 5 => ⟨S6x128x128, .f32⟩
  | 6 => ⟨S6x128x128, .f32⟩
  | 7 => ⟨S6x1x128x128x128, .f32⟩
  | 8 => ⟨S1x128x128x6x128, .f32⟩
  | 9 => ⟨S128x6, .f32⟩
  | 10 => ⟨S128x6x1, .f32⟩
  | 11 => ⟨S1x1x128x6x1, .f32⟩
  | 12 => ⟨S1x128x128x6x128, .f32⟩
  | 13 => ⟨S1x128x128x6x128, .f32⟩
  | 14 => ⟨S1x16384x768, .f32⟩
  | 15 => ⟨S1x16384x768, .f32⟩
  | 16 => ⟨S16384x768, .f32⟩
  | 17 => ⟨S16384x1024, .f32⟩
  | 18 => ⟨S16384x4x256, .f32⟩
  | 19 => ⟨S16384x4x192, .f32⟩
  | 20 => ⟨S16384x768, .f32⟩
  | 21 => ⟨S16384x3072, .f32⟩
  | 22 => ⟨S16384x3x1024, .f32⟩
  | 23 => ⟨S16384x3x1024, .f32⟩
  | 24 => ⟨S16384x3x1024, .f32⟩
  | 25 => ⟨S_, .f32⟩
  | 26 => ⟨S16384x3x1024, .f32⟩
  | 27 => ⟨S16384x3x1024, .f32⟩
  | 28 => ⟨S_, .f32⟩
  | 29 => ⟨S16384x3x1024, .f32⟩
  | 30 => ⟨S16384x3x1024, .f32⟩
  | 31 => ⟨S16384x1x1024, .f32⟩
  | 32 => ⟨S16384x1024, .f32⟩
  | 33 => ⟨S1x256x1024, .f32⟩
  | 34 => ⟨S256x1024, .f32⟩
  | 35 => ⟨S16384x1024, .f32⟩
  | 36 => ⟨S16384x1024, .f32⟩
  | 37 => ⟨S16384x1x1024, .f32⟩
  | 38 => ⟨S16384x1024, .f32⟩
  | 39 => ⟨S1x768x1024, .f32⟩
  | 40 => ⟨S768x1024, .f32⟩
  | 41 => ⟨S16384x1024, .f32⟩
  | 42 => ⟨S16384x1024, .f32⟩
  | 43 => ⟨S16384x1024, .f32⟩
  | 44 => ⟨S16384x1x1024, .f32⟩
  | 45 => ⟨S16384x1024, .f32⟩
  | 46 => ⟨S1x768x1024, .f32⟩
  | 47 => ⟨S768x1024, .f32⟩
  | 48 => ⟨S16384x1024, .f32⟩
  | 49 => ⟨S16384x1024, .f32⟩
  | 50 => ⟨S16384x1024, .f32⟩
  | 51 => ⟨S_, .f32⟩
  | 52 => ⟨S16384x1024, .f32⟩
  | 53 => ⟨S16384x1024, .f32⟩
  | 54 => ⟨S1x1024x1024, .f32⟩
  | 55 => ⟨S1024x1024, .f32⟩
  | 56 => ⟨S16384x1024, .f32⟩
  | 57 => ⟨S16384x1024, .f32⟩
  | 58 => ⟨S1x1x1024, .f32⟩
  | 59 => ⟨S1024, .f32⟩
  | 60 => ⟨S1x1x1024, .f32⟩
  | 61 => ⟨S1024, .f32⟩
  | 62 => ⟨S_, .f32⟩
  | 63 => ⟨S16384, .f32⟩
  | 64 => ⟨S16384x1, .f32⟩
  | 65 => ⟨S_, .f32⟩
  | 66 => ⟨S16384x1, .f32⟩
  | 67 => ⟨S16384x1, .f32⟩
  | 68 => ⟨S16384x1024, .f32⟩
  | 69 => ⟨S16384x1024, .f32⟩
  | 70 => ⟨S16384x1024, .f32⟩
  | 71 => ⟨S_, .f32⟩
  | 72 => ⟨S16384, .f32⟩
  | 73 => ⟨S16384x1, .f32⟩
  | 74 => ⟨S_, .f32⟩
  | 75 => ⟨S16384x1, .f32⟩
  | 76 => ⟨S16384x1, .f32⟩
  | 77 => ⟨S16384x1024, .f32⟩
  | 78 => ⟨S16384x1024, .f32⟩
  | 79 => ⟨S_, .f32⟩
  | 80 => ⟨S16384x1, .f32⟩
  | 81 => ⟨S16384x1, .f32⟩
  | 82 => ⟨S16384x1, .f32⟩
  | 83 => ⟨S16384x1024, .f32⟩
  | 84 => ⟨S16384x1024, .f32⟩
  | 85 => ⟨S1x1024, .f32⟩
  | 86 => ⟨S16384x1024, .f32⟩
  | 87 => ⟨S16384x1024, .f32⟩
  | 88 => ⟨S1x1024, .f32⟩
  | 89 => ⟨S16384x1024, .f32⟩
  | 90 => ⟨S16384x1024, .f32⟩
  | 91 => ⟨S16384x1024, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_2 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_9 : Ref sig .tc := ⟨.hbm, 80, rfl⟩
abbrev main_v50 : Ref sig .tc := ⟨.hbm, 81, rfl⟩
abbrev main_v51 : Ref sig .tc := ⟨.hbm, 82, rfl⟩
abbrev main_cst_10 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_11 : Ref sig .tc := ⟨.hbm, 95, rfl⟩
abbrev main_v63 : Ref sig .tc := ⟨.hbm, 96, rfl⟩
abbrev main_v64 : Ref sig .tc := ⟨.hbm, 97, rfl⟩
abbrev main_cst_12 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_cst_13 : Ref sig .tc := ⟨.hbm, 104, rfl⟩
abbrev main_v70 : Ref sig .tc := ⟨.hbm, 105, rfl⟩
abbrev main_v71 : Ref sig .tc := ⟨.hbm, 106, rfl⟩
abbrev main_cst_14 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_15 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_call0_v0 : Ref sig .tc := ⟨.hbm, 125, rfl⟩
abbrev main_call0_c : Ref sig .tc := ⟨.hbm, 126, rfl⟩
abbrev main_call0_v1 : Ref sig .tc := ⟨.hbm, 127, rfl⟩
abbrev main_call0_v2 : Ref sig .tc := ⟨.hbm, 128, rfl⟩
abbrev main_call0_v3 : Ref sig .tc := ⟨.hbm, 129, rfl⟩
abbrev main_call0_v4 : Ref sig .tc := ⟨.hbm, 130, rfl⟩
abbrev main_call0_v5 : Ref sig .tc := ⟨.hbm, 131, rfl⟩
abbrev main_call0_cst : Ref sig .tc := ⟨.hbm, 132, rfl⟩
abbrev main_call0_v6 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_16 : Ref sig .tc := ⟨.hbm, 153, rfl⟩
abbrev main_v107 : Ref sig .tc := ⟨.hbm, 154, rfl⟩
abbrev main_v108 : Ref sig .tc := ⟨.hbm, 155, rfl⟩
abbrev main_cst_17 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_cst_18 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_cst_19 : Ref sig .tc := ⟨.hbm, 190, rfl⟩
abbrev main_v141 : Ref sig .tc := ⟨.hbm, 191, rfl⟩
abbrev main_v142 : Ref sig .tc := ⟨.hbm, 192, rfl⟩
abbrev main_cst_20 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_cst_21 : Ref sig .tc := ⟨.hbm, 199, rfl⟩
abbrev main_v148 : Ref sig .tc := ⟨.hbm, 200, rfl⟩
abbrev main_v149 : Ref sig .tc := ⟨.hbm, 201, rfl⟩
abbrev main_cst_22 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_cst_23 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩

abbrev nD : Nat := 1
abbrev τ : Topo := Topo.v7x

variable {F : FTy → Type} [FloatOps F]
-- ==== Router.lean ====
abbrev S16384x1024 : Shape := ⟨2, ![16384, 1024]⟩
abbrev S1x1024x8 : Shape := ⟨3, ![1, 1024, 8]⟩
abbrev S1x8 : Shape := ⟨2, ![1, 8]⟩
abbrev S1024x8 : Shape := ⟨2, ![1024, 8]⟩
abbrev S8 : Shape := ⟨1, ![8]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S16384x128 : Shape := ⟨2, ![16384, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 13
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1x1024x8, .f32⟩
  | .hbm, ⟨2, _⟩ => ⟨S1x8, .f32⟩
  | .hbm, ⟨3, _⟩ => ⟨S1024x8, .f32⟩
  | .hbm, ⟨4, _⟩ => ⟨S8, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S_, .i32⟩
  | .hbm, ⟨9, _⟩ => ⟨S_, .f32⟩
  | .hbm, ⟨10, _⟩ => ⟨S128, .f32⟩
  | .hbm, ⟨11, _⟩ => ⟨S1x128, .f32⟩
  | .hbm, ⟨12, _⟩ => ⟨S16384x128, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RouterRefIdeal.lean ====
abbrev S16384x1024 : Shape := ⟨2, ![16384, 1024]⟩
abbrev S1x1024x8 : Shape := ⟨3, ![1, 1024, 8]⟩
abbrev S1x8 : Shape := ⟨2, ![1, 8]⟩
abbrev S1024x8 : Shape := ⟨2, ![1024, 8]⟩
abbrev S16384x8 : Shape := ⟨2, ![16384, 8]⟩
abbrev S8 : Shape := ⟨1, ![8]⟩
abbrev S16384x2 : Shape := ⟨2, ![16384, 2]⟩
abbrev S_ : Shape := ⟨0, ![]⟩
abbrev S16384 : Shape := ⟨1, ![16384]⟩
abbrev S16384x1 : Shape := ⟨2, ![16384, 1]⟩
abbrev S16384x2x1 : Shape := ⟨3, ![16384, 2, 1]⟩
abbrev S1x1x8 : Shape := ⟨3, ![1, 1, 8]⟩
abbrev S16384x2x8 : Shape := ⟨3, ![16384, 2, 8]⟩
abbrev S16384x128 : Shape := ⟨2, ![16384, 128]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024x8, .f32⟩
  | .hbm, ⟨2, _⟩ => ⟨S1x8, .f32⟩
  | .hbm, ⟨3, _⟩ => ⟨S1024x8, .f32⟩
  | .hbm, ⟨4, _⟩ => ⟨S16384x8, .f32⟩
  | .hbm, ⟨5, _⟩ => ⟨S8, .f32⟩
  | .hbm, ⟨6, _⟩ => ⟨S1x8, .f32⟩
  | .hbm, ⟨7, _⟩ => ⟨S16384x8, .f32⟩
  | .hbm, ⟨8, _⟩ => ⟨S16384x8, .f32⟩
  | .hbm, ⟨9, _⟩ => ⟨S16384x2, .f32⟩
  | .hbm, ⟨10, _⟩ => ⟨S16384x2, .i32⟩
  | .hbm, ⟨11, _⟩ => ⟨S_, .f32⟩
  | .hbm, ⟨12, _⟩ => ⟨S16384, .f32⟩
  | .hbm, ⟨13, _⟩ => ⟨S_, .f32⟩
  | .hbm, ⟨14, _⟩ => ⟨S16384, .f32⟩
  | .hbm, ⟨15, _⟩ => ⟨S16384, .f32⟩
  | .hbm, ⟨16, _⟩ => ⟨S16384x1, .f32⟩
  | .hbm, ⟨17, _⟩ => ⟨S16384x2, .f32⟩
  | .hbm, ⟨18, _⟩ => ⟨S16384x2, .f32⟩
  | .hbm, ⟨19, _⟩ => ⟨S16384x2, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S16384x2, .f32⟩
  | .hbm, ⟨24, _⟩ => ⟨S16384x2, .f32⟩
  | .hbm, ⟨25, _⟩ => ⟨S16384x2x1, .i32⟩
  | .hbm, ⟨26, _⟩ => ⟨S1x1x8, .i32⟩
  | .hbm, ⟨27, _⟩ => ⟨S16384x2x8, .i32⟩
  | .hbm, ⟨28, _⟩ => ⟨S16384x2x8, .i32⟩
  | .hbm, ⟨29, _⟩ => ⟨S16384x2x8, .i1⟩
  | .hbm, ⟨30, _⟩ => ⟨S16384x2x8, .f32⟩
  | .hbm, ⟨31, _⟩ => ⟨S16384x8, .f32⟩
  | .hbm, ⟨32, _⟩ => ⟨S_, .i32⟩
  | .hbm, ⟨33, _⟩ => ⟨S_, .f32⟩
  | .hbm, ⟨34, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_values : Ref sig .tc := ⟨.hbm, 9, rfl⟩
abbrev main_indices : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_call1_v0 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Rope.lean ====
abbrev S4x4096 : Shape := ⟨2, ![4, 4096]⟩
abbrev S128 : Shape := ⟨1, ![128]⟩
abbrev S32 : Shape := ⟨1, ![32]⟩
abbrev S_ : Shape := ⟨0, ![]⟩
abbrev S128x1 : Shape := ⟨2, ![128, 1]⟩
abbrev S1x128 : Shape := ⟨2, ![1, 128]⟩
abbrev S16384x1 : Shape := ⟨2, ![16384, 1]⟩
abbrev S16384x128 : Shape := ⟨2, ![16384, 128]⟩
abbrev S2048x1 : Shape := ⟨2, ![2048, 1]⟩
abbrev S2048x128 : Shape := ⟨2, ![2048, 128]⟩

abbrev nBuf : Space → Nat
  | .hbm => 24
  | .vmem => 8
  | .smem => 0
  | _ => 0

abbrev bufTy : (tb : Table) → Fin (tcTables nBuf tb) → BufTy
  | .hbm, ⟨0, _⟩ => ⟨S4x4096, .i32⟩
  | .hbm, ⟨1, _⟩ => ⟨S128, .i32⟩
  | .hbm, ⟨2, _⟩ => ⟨S128, .i1⟩
  | .hbm, ⟨3, _⟩ => ⟨S128, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .i32⟩
  | .hbm, ⟨13, _⟩ => ⟨S128, .i32⟩
  | .hbm, ⟨14, _⟩ => ⟨S128, .i32⟩
  | .hbm, ⟨15, _⟩ => ⟨S128, .i32⟩
  | .hbm, ⟨16, _⟩ => ⟨S128x1, .i32⟩
  | .hbm, ⟨17, _⟩ => ⟨S128, .f32⟩
  | .hbm, ⟨18, _⟩ => ⟨S1x128, .f32⟩
  | .hbm, ⟨19, _⟩ => ⟨S1x128, .f32⟩
  | .hbm, ⟨20, _⟩ => ⟨S4x4096, .f32⟩
  | .hbm, ⟨21, _⟩ => ⟨S16384x1, .f32⟩
  | .hbm, ⟨22, _⟩ => ⟨S16384x128, .f32⟩
  | .hbm, ⟨23, _⟩ => ⟨S16384x128, .f32⟩
  | .local _ .vmem, ⟨0, _⟩ => ⟨S2048x1, .f32⟩
  | .local _ .vmem, ⟨1, _⟩ => ⟨S2048x1, .f32⟩
  | .local _ .vmem, ⟨2, _⟩ => ⟨S1x128, .f32⟩
  | .local _ .vmem, ⟨3, _⟩ => ⟨S1x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | _, _ => ⟨S4x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_c_3 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RopeRefIdeal.lean ====
abbrev S4x4096 : Shape := ⟨2, ![4, 4096]⟩
abbrev S32 : Shape := ⟨1, ![32]⟩
abbrev S_ : Shape := ⟨0, ![]⟩
abbrev S4x4096x1 : Shape := ⟨3, ![4, 4096, 1]⟩
abbrev S1x1x32 : Shape := ⟨3, ![1, 1, 32]⟩
abbrev S4x4096x32 : Shape := ⟨3, ![4, 4096, 32]⟩
abbrev S4x4096x128 : Shape := ⟨3, ![4, 4096, 128]⟩
abbrev S16384x128 : Shape := ⟨2, ![16384, 128]⟩

abbrev nBuf : Space → Nat
  | .hbm => 23
  | .vmem => 0
  | .smem => 0
  | _ => 0

abbrev bufTy : (tb : Table) → Fin (tcTables nBuf tb) → BufTy
  | .hbm, ⟨0, _⟩ => ⟨S4x4096, .i32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S4x4096, .f32⟩
  | .hbm, ⟨10, _⟩ => ⟨S4x4096x1, .f32⟩
  | .hbm, ⟨11, _⟩ => ⟨S1x1x32, .f32⟩
  | .hbm, ⟨12, _⟩ => ⟨S4x4096x32, .f32⟩
  | .hbm, ⟨13, _⟩ => ⟨S4x4096x32, .f32⟩
  | .hbm, ⟨14, _⟩ => ⟨S4x4096x32, .f32⟩
  | .hbm, ⟨15, _⟩ => ⟨S4x4096x32, .f32⟩
  | .hbm, ⟨16, _⟩ => ⟨S4x4096x32, .f32⟩
  | .hbm, ⟨17, _⟩ => ⟨S4x4096x128, .f32⟩
  | .hbm, ⟨18, _⟩ => ⟨S4x4096x32, .f32⟩
  | .hbm, ⟨19, _⟩ => ⟨S4x4096x32, .f32⟩
  | .hbm, ⟨20, _⟩ => ⟨S4x4096x128, .f32⟩
  | .hbm, ⟨21, _⟩ => ⟨S16384x128, .f32⟩
  | .hbm, ⟨22, _⟩ => ⟨S16384x128, .f32⟩
  | _, _ => ⟨S4x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== Mls.lean ====
abbrev S16384x4096 : Shape := ⟨2, ![16384, 4096]⟩
abbrev S16384x128 : Shape := ⟨2, ![16384, 128]⟩
abbrev S4x2048 : Shape := ⟨2, ![4, 2048]⟩
abbrev S1x2048 : Shape := ⟨2, ![1, 2048]⟩
abbrev S16384x1024 : Shape := ⟨2, ![16384, 1024]⟩
abbrev S128x1024 : Shape := ⟨2, ![128, 1024]⟩
abbrev S128x128 : Shape := ⟨2, ![128, 128]⟩
abbrev S136x1024 : Shape := ⟨2, ![136, 1024]⟩
abbrev S4x256x256 : Shape := ⟨3, ![4, 256, 256]⟩
abbrev S4x8x128 : Shape := ⟨3, ![4, 8, 128]⟩
abbrev S8x1024 : Shape := ⟨2, ![8, 1024]⟩
abbrev S1x1024 : Shape := ⟨2, ![1, 1024]⟩
abbrev S128x1 : Shape := ⟨2, ![128, 1]⟩
abbrev S1x128 : Shape := ⟨2, ![1, 128]⟩
abbrev S1x1x1 : Shape := ⟨3, ![1, 1, 1]⟩
abbrev S1x1 : Shape := ⟨2, ![1, 1]⟩
abbrev S128 : Shape := ⟨1, ![128]⟩
abbrev S128x256 : Shape := ⟨2, ![128, 256]⟩
abbrev S1x256x256 : Shape := ⟨3, ![1, 256, 256]⟩
abbrev S256x256 : Shape := ⟨2, ![256, 256]⟩
abbrev S8x128 : Shape := ⟨2, ![8, 128]⟩
abbrev S1x8x128 : Shape := ⟨3, ![1, 8, 128]⟩

abbrev nBuf : Space → Nat
  | .hbm => 5
  | .vmem => 18
  | .smem => 0
  | _ => 0

abbrev bufTy : (tb : Table) → Fin (tcTables nBuf tb) → BufTy
  | .hbm, ⟨0, _⟩ => ⟨S16384x4096, .bf16⟩
  | .hbm, ⟨1, _⟩ => ⟨S16384x128, .f32⟩
  | .hbm, ⟨2, _⟩ => ⟨S4x2048, .f32⟩
  | .hbm, ⟨3, _⟩ => ⟨S1x2048, .f32⟩
  | .hbm, ⟨4, _⟩ => ⟨S16384x1024, .bf16⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x128, .f32⟩
  | .local _ .vmem, ⟨9, _⟩ => ⟨S128x128, .f32⟩
  | .local _ .vmem, ⟨10, _⟩ => ⟨S4x2048, .f32⟩
  | .local _ .vmem, ⟨11, _⟩ => ⟨S1x2048, .f32⟩
  | .local _ .vmem, ⟨12, _⟩ => ⟨S128x1024, .bf16⟩
  | .local _ .vmem, ⟨13, _⟩ => ⟨S128x1024, .bf16⟩
  | .local _ .vmem, ⟨14, _⟩ => ⟨S136x1024, .f32⟩
  | .local _ .vmem, ⟨15, _⟩ => ⟨S136x1024, .f32⟩
  | .local _ .vmem, ⟨16, _⟩ => ⟨S4x256x256, .f32⟩
  | .local _ .vmem, ⟨17, _⟩ => ⟨S4x8x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Proof.Alg.lean ====
/-
  The arithmetic over the extended reals that the kernels and their references share: the gated unit of a feed-forward
  layer, and a layer norm of one row.
-/
module

public import Idealize.ShloMosaic.PureOps.Ideal
public import Idealize.ShloMosaic.Lib.Pointwise

@[expose] public section

noncomputable section

namespace Cert.Alg

open Idealize.ShloMosaic

/-- The gated unit `silu u · v`, `silu u = u / (1 + exp (-u))`. -/
def gated (u v : EReal) : EReal := u * Ideal.logistic u * v

/-- The mean of a row, its sum over the word that holds its length. -/
def mean {n : ℕ} (len : EReal) (z : Fin n → EReal) : EReal := Ideal.div (∑ k, z k) len

/-- The layer norm of a row `z` at column `c`: centred, over the root of the variance plus `eps`, scaled and shifted. -/
def lnorm {n : ℕ} (len eps : EReal) (z : Fin n → EReal) (g b : EReal) (c : Fin n) : EReal :=
  (z c - mean len z) * Ideal.rsqrt (mean len (fun k => (z k - mean len z) * (z k - mean len z)) + eps) * g + b

end Cert.Alg

end
-- ==== Proof.MoeRead.lean ====
/-
  The body's payloads of the mixture-of-experts call, read at an index over the extended reals.
-/
module

public import proofs.«01_k».proof.Proof.Alg
public import proofs.«01_k».proof.Proof.Gen.MoeIdeal.Skeleton
public import Idealize.ShloMosaic.Lib.Pointwise

@[expose] public section

set_option maxRecDepth 16384

noncomputable section

namespace Cert.MoeIdeal.Block

open Idealize.ShloMosaic Idealize.SL.Sem
open Cert.MoeIdeal Cert.MoeIdeal.Gen Cert.Alg

/-- The layer norm's payload at an index: the norm of row `r` of `alpha · x + acc`. -/
theorem pay2_apply (x a : FVec Ideal S512x1024 .f32) (g b : FVec Ideal S1x1024 .f32) (r : Fin 512) (l : Fin 1024) :
    k0_pay2 (F := Ideal) x a g b (ix2 r l)
      = lnorm (Ideal.ofBits .f32 0x44800000#32) (Ideal.ofBits .f32 0x3727C5AC#32)
          (fun k => Ideal.ofBits .f32 0x3FB504F3#32 * x (ix2 r k) + a (ix2 r k)) (g (ix2 0 l)) (b (ix2 0 l)) l := by
  unfold lnorm mean
  pointwise [k0_pay2]

/-- The part one point adds: the gate lane the expert picks times the expert's half of the feed-forward. -/
theorem pay3_apply (i : grid0.Coords) (x : FVec Ideal S512x1024 .bf16) (w1 w3 : FVec Ideal S1x1024x1408 .bf16) (g : FVec Ideal S512x128 .f32)
    (w2 : FVec Ideal S1x1408x1024 .bf16) (r : Fin 512) (l : Fin 1024) (e : Fin 128) (he : (i 1).val = e.val) :
    k0_pay3 (F := Ideal) i x w1 w3 g w2 (ix2 r l)
      = g (ix2 r e) * ∑ j : Fin 1408, gated (∑ k : Fin 1024, x (ix2 r k) * w1 (ix3 0 k j)) (∑ k : Fin 1024, x (ix2 r k) * w3 (ix3 0 k j)) * w2 (ix3 0 j l) := by
  unfold gated
  pointwise [k0_pay3]
  congr 1
  rw [Finset.sum_eq_single e]
  · rw [he]; simp [Scalar.select, IntOp.cmpi]
  · intro k _ hk
    have hne : ¬ BitVec.ofNat 32 k.val = BitVec.ofNat 32 (i 1).val := fun h => hk (by
      have := congrArg BitVec.toNat h
      simp only [BitVec.toNat_ofNat] at this
      have := k.isLt; have := e.isLt
      exact Fin.ext (by omega))
    have hb : (BitVec.ofNat 32 k.val == BitVec.ofNat 32 (i 1).val) = false := beq_eq_false_iff_ne.mpr hne
    simp [Scalar.select, IntOp.cmpi, hb]
  · intro h; exact absurd (Finset.mem_univ _) h

end Cert.MoeIdeal.Block

end
-- ==== Proof.MoeBlock.lean ====
/-
  What one grid point of the mixture-of-experts call leaves: its scratch accumulator and, at the last point of a row
  block's sixteen, its output block, as the body's named payloads of the point's input blocks.
-/
module

public import proofs.«01_k».proof.Proof.Gen.MoeIdeal.Value
public import Idealize.ShloMosaic.Lib.Tactic

@[expose] public section

set_option maxRecDepth 16384

noncomputable section

namespace Cert.MoeIdeal.Block

open Idealize.ShloMosaic Idealize.ShloMosaic.TcCoe Idealize.SL.Sem
open Cert.MoeIdeal Cert.MoeIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first point of a row block stores its part in the accumulator. -/
theorem sout_A (c i a3) (h3 : a3.IsWhole) (a4) (h4 : a4.IsWhole) (a5) (h5 : a5.IsWhole) (a6) (h6 : a6.IsWhole) (a7) (h7 : a7.IsWhole) (a8) (h8 : a8.IsWhole)
    (a9) (h9 : a9.IsWhole) (a10) (h10 : a10.IsWhole) (a11) (h11 : a11.IsWhole) (a12) (h12 : a12.IsWhole) (c0 c1 c2)
    (x0 : Vec F S512x1024 .f32) (x1 x2 x3 x4 x5 x6 x7) :
    sout0_A_0 (F := F) c i a3 h3 a4 h4 a5 h5 a6 h6 a7 h7 a8 h8 a9 h9 a10 h10 a11 h11 a12 h12 c0 c1 c2 x0 x1 x2 x3 x4 x5 x6 x7
      = k0_pay3 i x1 x3 x4 x2 x5 := by
  unfold sout0_A_0
  rw [View.read_writes_eq_canon _ _ _ (scover0_A_0 c i a3 h3 a4 h4 a5 h5 a6 h6 a7 h7 a8 h8 a9 h9 a10 h10 a11 h11 a12 h12 c0 c1 c2 x0 x1 x2 x3 x4 x5 x6 x7)]
  unfold kernelRun0_A
  dsimp only
  sl_unfold_words
  rw [View.canon_unit_zero hz2]
  unfold k0_pay4
  simp only [View.readAt_eq_ld, h4.read_unread, h5.read_unread, h6.read_unread, h7.read_unread, h8.read_unread,
    View.ld_unit_zero (S := S512x1024) hz2, View.ld_unit_zero (S := S512x128) hz2, View.ld_unit_zero (S := S1x1024x1408) hz3,
    View.ld_unit_zero (S := S1x1408x1024) hz3, shapeCast_self]

/-- A later point adds its part to what the accumulator held. -/
theorem sout_B (c i a3) (h3 : a3.IsWhole) (a4) (h4 : a4.IsWhole) (a5) (h5 : a5.IsWhole) (a6) (h6 : a6.IsWhole) (a7) (h7 : a7.IsWhole) (a8) (h8 : a8.IsWhole)
    (a9) (h9 : a9.IsWhole) (a10) (h10 : a10.IsWhole) (a11) (h11 : a11.IsWhole) (a12) (h12 : a12.IsWhole) (c0 c1 c2)
    (x0 : Vec F S512x1024 .f32) (x1 x2 x3 x4 x5 x6 x7 xs) :
    sout0_B_0 (F := F) c i a3 h3 a4 h4 a5 h5 a6 h6 a7 h7 a8 h8 a9 h9 a10 h10 a11 h11 a12 h12 c0 c1 c2 x0 x1 x2 x3 x4 x5 x6 x7 xs
      = addf xs (k0_pay3 i x1 x3 x4 x2 x5) := by
  unfold sout0_B_0
  rw [View.read_writes_eq_canon _ _ _ (scover0_B_0 c i a3 h3 a4 h4 a5 h5 a6 h6 a7 h7 a8 h8 a9 h9 a10 h10 a11 h11 a12 h12 c0 c1 c2 x0 x1 x2 x3 x4 x5 x6 x7 xs)]
  unfold kernelRun0_B
  dsimp only
  sl_unfold_words
  rw [View.canon_unit_zero hz2]
  unfold k0_pay1
  simp only [View.readAt_eq_ld, h4.read_unread, h5.read_unread, h6.read_unread, h7.read_unread, h8.read_unread, h12.read_unread,
    View.ld_unit_zero (S := S512x1024) hz2, View.ld_unit_zero (S := S512x128) hz2, View.ld_unit_zero (S := S1x1024x1408) hz3,
    View.ld_unit_zero (S := S1x1408x1024) hz3, shapeCast_self]

/-- So does the last point of a row block. -/
theorem sout_C (c i a3) (h3 : a3.IsWhole) (a4) (h4 : a4.IsWhole) (a5) (h5 : a5.IsWhole) (a6) (h6 : a6.IsWhole) (a7) (h7 : a7.IsWhole) (a8) (h8 : a8.IsWhole)
    (a9) (h9 : a9.IsWhole) (a10) (h10 : a10.IsWhole) (a11) (h11 : a11.IsWhole) (a12) (h12 : a12.IsWhole) (c0 c1 c2)
    (x0 : Vec F S512x1024 .f32) (x1 x2 x3 x4 x5 x6 x7 xs) :
    sout0_C_0 (F := F) c i a3 h3 a4 h4 a5 h5 a6 h6 a7 h7 a8 h8 a9 h9 a10 h10 a11 h11 a12 h12 c0 c1 c2 x0 x1 x2 x3 x4 x5 x6 x7 xs
      = addf xs (k0_pay3 i x1 x3 x4 x2 x5) := by
  unfold sout0_C_0
  rw [View.read_writes_eq_canon _ _ _ (scover0_C_0 c i a3 h3 a4 h4 a5 h5 a6 h6 a7 h7 a8 h8 a9 h9 a10 h10 a11 h11 a12 h12 c0 c1 c2 x0 x1 x2 x3 x4 x5 x6 x7 xs)]
  unfold kernelRun0_C
  dsimp only
  sl_unfold_words
  rw [View.canon_unit_zero hz2]
  unfold k0_pay1
  simp only [View.readAt_eq_ld, h4.read_unread, h5.read_unread, h6.read_unread, h7.read_unread, h8.read_unread, h12.read_unread,
    View.ld_unit_zero (S := S512x1024) hz2, View.ld_unit_zero (S := S512x128) hz2, View.ld_unit_zero (S := S1x1024x1408) hz3,
    View.ld_unit_zero (S := S1x1408x1024) hz3, shapeCast_self]

/-- The last point writes the layer norm of the residual and the finished accumulator. -/
theorem out_C (c i a3) (h3 : a3.IsWhole) (a4) (h4 : a4.IsWhole) (a5) (h5 : a5.IsWhole) (a6) (h6 : a6.IsWhole) (a7) (h7 : a7.IsWhole) (a8) (h8 : a8.IsWhole)
    (a9) (h9 : a9.IsWhole) (a10) (h10 : a10.IsWhole) (a11) (h11 : a11.IsWhole) (a12) (h12 : a12.IsWhole) (c0 c1 c2)
    (x0 : Vec F S512x1024 .f32) (x1 x2 x3 x4 x5 x6 x7 xs) :
    out0_C_8 (F := F) c i a3 h3 a4 h4 a5 h5 a6 h6 a7 h7 a8 h8 a9 h9 a10 h10 a11 h11 a12 h12 c0 c1 c2 x0 x1 x2 x3 x4 x5 x6 x7 xs
      = k0_pay2 x0 (addf xs (k0_pay3 i x1 x3 x4 x2 x5)) x6 x7 := by
  unfold out0_C_8
  rw [View.read_writes_eq_canon _ _ _ (cover0_C_8 c i a3 h3 a4 h4 a5 h5 a6 h6 a7 h7 a8 h8 a9 h9 a10 h10 a11 h11 a12 h12 c0 c1 c2 x0 x1 x2 x3 x4 x5 x6 x7 xs)]
  unfold kernelRun0_C
  dsimp only
  sl_unfold_words
  rw [View.canon_unit_zero hz2, View.readCov_unit_zero (S := S512x1024) _ hz2]
  unfold k0_pay1
  simp only [View.readAt_eq_ld, h3.read_unread, h4.read_unread, h5.read_unread, h6.read_unread, h7.read_unread, h8.read_unread, h9.read_unread,
    h10.read_unread, h12.read_unread,
    View.ld_unit_zero (S := S512x1024) hz2, View.ld_unit_zero (S := S512x128) hz2, View.ld_unit_zero (S := S1x1024x1408) hz3,
    View.ld_unit_zero (S := S1x1408x1024) hz3, View.ld_unit_zero (S := S1x1024) hz2, shapeCast_self]

end Cert.MoeIdeal.Block

end
-- ==== Proof.MoeFold.lean ====
/-
  What the mixture-of-experts call's arrays hold: the blocks each point reads as places of the arguments, the accumulator
  as the sum of the parts so far, and the result array as the layer norm of the residual and the sixteen parts.
-/
module

public import proofs.«01_k».proof.Proof.MoeRead
public import proofs.«01_k».proof.Proof.MoeBlock

@[expose] public section

set_option maxRecDepth 16384

noncomputable section

namespace Cert.MoeIdeal.Block

open Idealize.ShloMosaic Idealize.ShloMosaic.TcCoe Idealize.SL.Sem
open Cert.MoeIdeal Cert.MoeIdeal.Gen Cert.Alg

variable (m : (ℓ : Loc nD τ sig) → Buf (Elt Ideal) ℓ)

/-- The arguments, as arrays. -/
abbrev argX (c : Dev nD) : FVec Ideal S16384x1024 .f32 := m ((c : Thread nD τ).loc main_arg0)
abbrev argG (c : Dev nD) : FVec Ideal S16384x128 .f32 := m ((c : Thread nD τ).loc main_arg1)
abbrev argW1 (c : Dev nD) : FVec Ideal S1x8x1024x2816 .f32 := m ((c : Thread nD τ).loc main_arg2)
abbrev argW3 (c : Dev nD) : FVec Ideal S1x8x1024x2816 .f32 := m ((c : Thread nD τ).loc main_arg3)
abbrev argW2 (c : Dev nD) : FVec Ideal S1x8x2816x1024 .f32 := m ((c : Thread nD τ).loc main_arg4)
abbrev argLg (c : Dev nD) : FVec Ideal S2x2x1024 .f32 := m ((c : Thread nD τ).loc main_arg5)
abbrev argLb (c : Dev nD) : FVec Ideal S2x2x1024 .f32 := m ((c : Thread nD τ).loc main_arg6)

/-! ## The arrays the call reads -/

theorem V_x (c : Dev nD) (r : Fin 16384) (k : Fin 1024) : V m c main_v0 (ix2 r k) = argX m c (ix2 r k) := by
  have h : V m c main_v0 = truncf .bf16 (argX m c) bitsLt_bf16_f32 := by
    show StableHlo.after hostOps0 _ _ = _
    after_results
  rw [h]; rfl

theorem V_w1 (c : Dev nD) (e : Fin 8) (k : Fin 1024) (j : Fin 2816) : V m c main_v2 (ix3 e k j) = argW1 m c (ix4 0 e k j) := by
  have h : V m c main_v2 = truncf .bf16 (shapeCast _ (argW1 m c) shapeCasts_S1x8x1024x2816_S8x1024x2816) bitsLt_bf16_f32 := by
    show StableHlo.after hostOps0 _ _ = _
    after_results
    rfl
  rw [h]
  pointwise

theorem V_w3 (c : Dev nD) (e : Fin 8) (k : Fin 1024) (j : Fin 2816) : V m c main_v4 (ix3 e k j) = argW3 m c (ix4 0 e k j) := by
  have h : V m c main_v4 = truncf .bf16 (shapeCast _ (argW3 m c) shapeCasts_S1x8x1024x2816_S8x1024x2816) bitsLt_bf16_f32 := by
    show StableHlo.after hostOps0 _ _ = _
    after_results
    rfl
  rw [h]
  pointwise

theorem V_w2 (c : Dev nD) (e : Fin 8) (j : Fin 2816) (l : Fin 1024) : V m c main_v6 (ix3 e j l) = argW2 m c (ix4 0 e j l) := by
  have h : V m c main_v6 = truncf .bf16 (shapeCast _ (argW2 m c) shapeCasts_S1x8x2816x1024_S8x2816x1024) bitsLt_bf16_f32 := by
    show StableHlo.after hostOps0 _ _ = _
    after_results
    rfl
  rw [h]
  pointwise

theorem V_lg (c : Dev nD) (l : Fin 1024) : V m c main_v9 (ix2 0 l) = argLg m c (ix3 1 1 l) := by
  have h : V m c main_v9 = broadcastInDim S1x1024 ![1] bcast_S1024_S1x1024_1 (shapeCast _ (extractStridedSlice S1x1x1024 ![1, 1, 0] (argLg m c) slices_S2x2x1024_S1x1x1024_1_1_0) shapeCasts_S1x1x1024_S1024) := by
    show StableHlo.after hostOps0 _ _ = _
    after_results
    rfl
  rw [h]
  pointwise

theorem V_lb (c : Dev nD) (l : Fin 1024) : V m c main_v12 (ix2 0 l) = argLb m c (ix3 1 1 l) := by
  have h : V m c main_v12 = broadcastInDim S1x1024 ![1] bcast_S1024_S1x1024_1 (shapeCast _ (extractStridedSlice S1x1x1024 ![1, 1, 0] (argLb m c) slices_S2x2x1024_S1x1x1024_1_1_0) shapeCasts_S1x1x1024_S1024) := by
    show StableHlo.after hostOps0 _ _ = _
    after_results
    rfl
  rw [h]
  pointwise

/-! ## The blocks a point reads -/

/-- The printed index maps, over the grid: point `t` is row block `t / 16`, expert `t / 2 % 8`, half `t % 2`. -/
theorem idx_t : ∀ t : Fin cfg0.N, (grid0.coords t 1).val = t.val / 2 % 8
    ∧ (win0_0.index t = ![t.val / 16, 0] ∧ win0_1.index t = ![t.val / 16, 0] ∧ win0_2.index t = ![t.val / 16, 0])
    ∧ (win0_3.index t = ![t.val / 2 % 8, 0, t.val % 2] ∧ win0_4.index t = ![t.val / 2 % 8, 0, t.val % 2] ∧ win0_5.index t = ![t.val / 2 % 8, t.val % 2, 0])
    ∧ win0_6.index t = ![0, 0] ∧ win0_7.index t = ![0, 0] :=
  (by decide +kernel : ∀ t : Fin grid0.N, _)

theorem iblk0 (c : Dev nD) (t : Fin cfg0.N) (r : Fin 512) (k : Fin 1024) (R : Fin 16384) (hR : R.val = 512 * (t.val / 16) + r.val) :
    (iblk m c 0 t : FVec Ideal S512x1024 .f32) (ix2 r k) = argX m c (ix2 R k) := by
  have h := (idx_t t).2.1.1
  unfold iblk
  rw [View.read_apply]
  show V m c main_arg0 _ = _
  rw [V_main_arg0]
  congr 1
  funext a
  apply Fin.ext
  match a with
  | ⟨0, _⟩ => show win0_0.index t 0 * 512 + 1 * r.val = R.val; rw [h]; show t.val / 16 * 512 + _ = _; omega
  | ⟨1, _⟩ => show win0_0.index t 1 * 1024 + 1 * k.val = k.val; rw [h]; show 0 * 1024 + _ = _; omega

theorem iblk1 (c : Dev nD) (t : Fin cfg0.N) (r : Fin 512) (k : Fin 1024) (R : Fin 16384) (hR : R.val = 512 * (t.val / 16) + r.val) :
    (iblk m c 1 t : FVec Ideal S512x1024 .bf16) (ix2 r k) = argX m c (ix2 R k) := by
  have h := (idx_t t).2.1.2.1
  rw [← V_x m c R k]
  unfold iblk
  rw [View.read_apply]
  show V m c main_v0 _ = _
  congr 1
  funext a
  apply Fin.ext
  match a with
  | ⟨0, _⟩ => show win0_1.index t 0 * 512 + 1 * r.val = R.val; rw [h]; show t.val / 16 * 512 + _ = _; omega
  | ⟨1, _⟩ => show win0_1.index t 1 * 1024 + 1 * k.val = k.val; rw [h]; show 0 * 1024 + _ = _; omega

theorem iblk2 (c : Dev nD) (t : Fin cfg0.N) (r : Fin 512) (k : Fin 128) (R : Fin 16384) (hR : R.val = 512 * (t.val / 16) + r.val) :
    (iblk m c 2 t : FVec Ideal S512x128 .f32) (ix2 r k) = argG m c (ix2 R k) := by
  have h := (idx_t t).2.1.2.2
  unfold iblk
  rw [View.read_apply]
  show V m c main_arg1 _ = _
  rw [V_main_arg1]
  congr 1
  funext a
  apply Fin.ext
  match a with
  | ⟨0, _⟩ => show win0_2.index t 0 * 512 + 1 * r.val = R.val; rw [h]; show t.val / 16 * 512 + _ = _; omega
  | ⟨1, _⟩ => show win0_2.index t 1 * 128 + 1 * k.val = k.val; rw [h]; show 0 * 128 + _ = _; omega

theorem iblk3 (c : Dev nD) (t : Fin cfg0.N) (k : Fin 1024) (j : Fin 1408) (e : Fin 8) (J : Fin 2816) (he : e.val = t.val / 2 % 8)
    (hJ : J.val = 1408 * (t.val % 2) + j.val) :
    (iblk m c 3 t : FVec Ideal S1x1024x1408 .bf16) (ix3 0 k j) = argW1 m c (ix4 0 e k J) := by
  have h := (idx_t t).2.2.1.1
  rw [← V_w1 m c e k J]
  unfold iblk
  rw [View.read_apply]
  show V m c main_v2 _ = _
  congr 1
  funext a
  apply Fin.ext
  match a with
  | ⟨0, _⟩ => show win0_3.index t 0 * 1 + 1 * 0 = e.val; rw [h]; show t.val / 2 % 8 * 1 + _ = _; omega
  | ⟨1, _⟩ => show win0_3.index t 1 * 1024 + 1 * k.val = k.val; rw [h]; show 0 * 1024 + _ = _; omega
  | ⟨2, _⟩ => show win0_3.index t 2 * 1408 + 1 * j.val = J.val; rw [h]; show t.val % 2 * 1408 + _ = _; omega

theorem iblk4 (c : Dev nD) (t : Fin cfg0.N) (k : Fin 1024) (j : Fin 1408) (e : Fin 8) (J : Fin 2816) (he : e.val = t.val / 2 % 8)
    (hJ : J.val = 1408 * (t.val % 2) + j.val) :
    (iblk m c 4 t : FVec Ideal S1x1024x1408 .bf16) (ix3 0 k j) = argW3 m c (ix4 0 e k J) := by
  have h := (idx_t t).2.2.1.2.1
  rw [← V_w3 m c e k J]
  unfold iblk
  rw [View.read_apply]
  show V m c main_v4 _ = _
  congr 1
  funext a
  apply Fin.ext
  match a with
  | ⟨0, _⟩ => show win0_4.index t 0 * 1 + 1 * 0 = e.val; rw [h]; show t.val / 2 % 8 * 1 + _ = _; omega
  | ⟨1, _⟩ => show win0_4.index t 1 * 1024 + 1 * k.val = k.val; rw [h]; show 0 * 1024 + _ = _; omega
  | ⟨2, _⟩ => show win0_4.index t 2 * 1408 + 1 * j.val = J.val; rw [h]; show t.val % 2 * 1408 + _ = _; omega

theorem iblk5 (c : Dev nD) (t : Fin cfg0.N) (j : Fin 1408) (l : Fin 1024) (e : Fin 8) (J : Fin 2816) (he : e.val = t.val / 2 % 8)
    (hJ : J.val = 1408 * (t.val % 2) + j.val) :
    (iblk m c 5 t : FVec Ideal S1x1408x1024 .bf16) (ix3 0 j l) = argW2 m c (ix4 0 e J l) := by
  have h := (idx_t t).2.2.1.2.2
  rw [← V_w2 m c e J l]
  unfold iblk
  rw [View.read_apply]
  show V m c main_v6 _ = _
  congr 1
  funext a
  apply Fin.ext
  match a with
  | ⟨0, _⟩ => show win0_5.index t 0 * 1 + 1 * 0 = e.val; rw [h]; show t.val / 2 % 8 * 1 + _ = _; omega
  | ⟨1, _⟩ => show win0_5.index t 1 * 1408 + 1 * j.val = J.val; rw [h]; show t.val % 2 * 1408 + _ = _; omega
  | ⟨2, _⟩ => show win0_5.index t 2 * 1024 + 1 * l.val = l.val; rw [h]; show 0 * 1024 + _ = _; omega

theorem iblk6 (c : Dev nD) (t : Fin cfg0.N) (l : Fin 1024) :
    (iblk m c 6 t : FVec Ideal S1x1024 .f32) (ix2 0 l) = argLg m c (ix3 1 1 l) := by
  have h := (idx_t t).2.2.2.1
  rw [← V_lg m c l]
  unfold iblk
  rw [View.read_apply]
  show V m c main_v9 _ = _
  congr 1
  funext a
  apply Fin.ext
  match a with
  | ⟨0, _⟩ => show win0_6.index t 0 * 1 + 1 * 0 = 0; rw [h]; rfl
  | ⟨1, _⟩ => show win0_6.index t 1 * 1024 + 1 * l.val = l.val; rw [h]; show 0 * 1024 + _ = _; omega

theorem iblk7 (c : Dev nD) (t : Fin cfg0.N) (l : Fin 1024) :
    (iblk m c 7 t : FVec Ideal S1x1024 .f32) (ix2 0 l) = argLb m c (ix3 1 1 l) := by
  have h := (idx_t t).2.2.2.2
  rw [← V_lb m c l]
  unfold iblk
  rw [View.read_apply]
  show V m c main_v12 _ = _
  congr 1
  funext a
  apply Fin.ext
  match a with
  | ⟨0, _⟩ => show win0_7.index t 0 * 1 + 1 * 0 = 0; rw [h]; rfl
  | ⟨1, _⟩ => show win0_7.index t 1 * 1024 + 1 * l.val = l.val; rw [h]; show 0 * 1024 + _ = _; omega

/-! ## The accumulator -/

/-- Unit `J` of expert `e`'s hidden layer, on row `R`. -/
def hid (c : Dev nD) (R : Fin 16384) (e : Fin 8) (J : Fin 2816) : EReal :=
  gated (∑ k : Fin 1024, argX m c (ix2 R k) * argW1 m c (ix4 0 e k J)) (∑ k : Fin 1024, argX m c (ix2 R k) * argW3 m c (ix4 0 e k J))

/-- The place of an expert's gate in the 128 lanes. -/
abbrev lane (e : Fin 8) : Fin 128 := ⟨e.val, by omega⟩

/-- Place `j` of half `f` of the hidden layer. -/
abbrev half (f : Fin 2) (j : Fin 1408) : Fin 2816 := ⟨1408 * f.val + j.val, by omega⟩

/-- What half `f` of expert `e` adds to the result at row `R`, column `l`. -/
def part (c : Dev nD) (R : Fin 16384) (l : Fin 1024) (e : Fin 8) (f : Fin 2) : EReal :=
  argG m c (ix2 R (lane e)) * ∑ j : Fin 1408, hid m c R e (half f j) * argW2 m c (ix4 0 e (half f j) l)

/-- The parts in the order the sixteen points of a row block add them. -/
def partN (c : Dev nD) (R : Fin 16384) (l : Fin 1024) (s : ℕ) : EReal :=
  part m c R l ⟨s / 2 % 8, Nat.mod_lt _ (by decide)⟩ ⟨s % 2, Nat.mod_lt _ (by decide)⟩

/-- Point `t`'s payload is its part. -/
theorem pay_part (c : Dev nD) (t : Fin cfg0.N) (r : Fin 512) (l : Fin 1024) (R : Fin 16384) (hR : R.val = 512 * (t.val / 16) + r.val) :
    k0_pay3 (F := Ideal) (grid0.coords t) (iblk m c 1 t) (iblk m c 3 t) (iblk m c 4 t) (iblk m c 2 t) (iblk m c 5 t) (ix2 r l)
      = partN m c R l t.val := by
  have hc := (idx_t t).1
  refine (pay3_apply _ _ _ _ _ _ r l (lane ⟨t.val / 2 % 8, Nat.mod_lt _ (by decide)⟩) hc).trans ?_
  unfold partN part hid
  refine congrArg₂ HMul.hMul (iblk2 m c t r _ R hR) (Finset.sum_congr rfl fun j _ => ?_)
  exact congrArg₂ HMul.hMul
    (congrArg₂ gated
      (Finset.sum_congr rfl fun k _ => congrArg₂ HMul.hMul (iblk1 m c t r k R hR) (iblk3 m c t k j ⟨t.val / 2 % 8, Nat.mod_lt _ (by decide)⟩ (half ⟨t.val % 2, Nat.mod_lt _ (by decide)⟩ j) rfl rfl))
      (Finset.sum_congr rfl fun k _ => congrArg₂ HMul.hMul (iblk1 m c t r k R hR) (iblk4 m c t k j ⟨t.val / 2 % 8, Nat.mod_lt _ (by decide)⟩ (half ⟨t.val % 2, Nat.mod_lt _ (by decide)⟩ j) rfl rfl)))
    (iblk5 m c t j l ⟨t.val / 2 % 8, Nat.mod_lt _ (by decide)⟩ (half ⟨t.val % 2, Nat.mod_lt _ (by decide)⟩ j) rfl rfl)

/-- The parts repeat every sixteen points. -/
theorem partN_add (c : Dev nD) (R : Fin 16384) (l : Fin 1024) (q s : ℕ) : partN m c R l (16 * q + s) = partN m c R l s := by
  unfold partN
  congr 1 <;> apply Fin.ext <;> show _ % _ = _ % _ <;> omega

/-- The accumulator after point `16 q + j`: the sum of the first `j + 1` parts. -/
theorem acc_eq (c : Dev nD) (q : ℕ) (r : Fin 512) (l : Fin 1024) (R : Fin 16384) (hR : R.val = 512 * q + r.val) :
    ∀ (j : ℕ) (hj : j < 16) (h : 16 * q + j < cfg0.N), (outsAt0 m c (16 * q + j) h).2 (ix2 r l) = ∑ s ∈ Finset.range (j + 1), partN m c R l s
  | 0, hj, h => by
    rw [outsAt0_A m c ⟨16 * q + 0, h⟩ (by show (16 * q + 0) % 16 = 0; omega) (by show ¬ 1 ≤ (16 * q + 0) / 2 % 8 + (16 * q + 0) % 2; omega) (by show ¬ (16 * q + 0) % 16 = 15; omega)]
    dsimp only
    rw [sout_A, pay_part m c ⟨16 * q + 0, h⟩ r l R (by show R.val = 512 * ((16 * q + 0) / 16) + r.val; omega), Finset.sum_range_one]
    exact partN_add m c R l q 0
  | j + 1, hj, h => by
    have ih := acc_eq c q r l R hR j (by omega) (by omega)
    have hp := pay_part m c ⟨16 * q + (j + 1), h⟩ r l R (by show R.val = 512 * ((16 * q + (j + 1)) / 16) + r.val; omega)
    rw [Finset.sum_range_succ, ← ih, ← partN_add m c R l q (j + 1), ← hp]
    by_cases hl : j + 1 = 15
    · rw [outsAt0_C m c ⟨16 * q + (j + 1), h⟩ (by show ¬ (16 * q + (j + 1)) % 16 = 0; omega) (by show 1 ≤ (16 * q + (j + 1)) / 2 % 8 + (16 * q + (j + 1)) % 2; omega) (by show (16 * q + (j + 1)) % 16 = 15; omega)]
      dsimp only
      rw [sout_C]
      rfl
    · rw [outsAt0_B m c ⟨16 * q + (j + 1), h⟩ (by show ¬ (16 * q + (j + 1)) % 16 = 0; omega) (by show 1 ≤ (16 * q + (j + 1)) / 2 % 8 + (16 * q + (j + 1)) % 2; omega) (by show ¬ (16 * q + (j + 1)) % 16 = 15; omega)]
      dsimp only
      rw [sout_B]
      rfl

/-- The result array at an index: the layer norm of the residual and the sixteen parts. -/
theorem G8_apply (c : Dev nD) (R : Fin 16384) (l : Fin 1024) :
    Value.G8 m c (ix2 R l)
      = lnorm (Ideal.ofBits .f32 0x44800000#32) (Ideal.ofBits .f32 0x3727C5AC#32)
          (fun k => Ideal.ofBits .f32 0x3FB504F3#32 * argX m c (ix2 R k) + ∑ s ∈ Finset.range 16, partN m c R k s)
          (argLg m c (ix3 1 1 l)) (argLb m c (ix3 1 1 l)) l := by
  have hN : cfg0.N = 512 := N_0
  have hRl := R.isLt
  have hq : 16 * (R.val / 512) + 15 < cfg0.N := by omega
  have hpt : Value.pt8Of (ix2 R l) = 16 * (R.val / 512) + 15 := by
    show 16 * (1 * (R.val / 512 - 0) + 1 * (l.val / 1024 - 0)) + 15 = _
    have := l.isLt; omega
  have hloc : Value.loc8Of (ix2 R l) = ix2 (⟨R.val % 512, Nat.mod_lt _ (by decide)⟩ : Fin 512) l := by
    funext a; apply Fin.ext
    match a with
    | ⟨0, _⟩ => rfl
    | ⟨1, _⟩ => show l.val % 1024 = l.val; have := l.isLt; omega
  unfold Value.G8
  rw [dif_pos (by rw [hpt]; exact hq), ← Value.outsAt0_sweep m c _ (by rw [hpt]; exact hq)]
  have hpoint : ∀ n (h : n < cfg0.N) (h' : 16 * (R.val / 512) + 15 < cfg0.N), n = 16 * (R.val / 512) + 15 → outsAt0 m c n h = outsAt0 m c _ h' := by
    intro n h h' e; subst e; rfl
  rw [hpoint _ _ hq hpt, hloc,
    outsAt0_C m c ⟨16 * (R.val / 512) + 15, hq⟩ (by show ¬ (16 * (R.val / 512) + 15) % 16 = 0; omega) (by show 1 ≤ (16 * (R.val / 512) + 15) / 2 % 8 + (16 * (R.val / 512) + 15) % 2; omega) (by show (16 * (R.val / 512) + 15) % 16 = 15; omega)]
  dsimp only
  rw [out_C]
  refine (pay2_apply _ _ _ _ _ _).trans ?_
  rw [iblk6, iblk7]
  refine congrArg (fun z => lnorm _ _ z _ _ l) (funext fun k => ?_)
  have hR : R.val = 512 * (R.val / 512) + (⟨R.val % 512, Nat.mod_lt _ (by decide)⟩ : Fin 512).val := by show R.val = 512 * (R.val / 512) + R.val % 512; omega
  have hR' : R.val = 512 * ((16 * (R.val / 512) + 15) / 16) + (⟨R.val % 512, Nat.mod_lt _ (by decide)⟩ : Fin 512).val := by show R.val = 512 * ((16 * (R.val / 512) + 15) / 16) + R.val % 512; omega
  refine congrArg₂ HAdd.hAdd (congrArg (_ * ·) (iblk0 m c ⟨16 * (R.val / 512) + 15, hq⟩ _ k R hR')) ?_
  rw [Finset.sum_range_succ, ← acc_eq m c (R.val / 512) _ k R hR 14 (by omega) (by omega), ← partN_add m c R k (R.val / 512) 15,
    ← pay_part m c ⟨16 * (R.val / 512) + 15, hq⟩ _ k R hR']
  rfl

end Cert.MoeIdeal.Block

end
-- ==== Proof.MoeRef.lean ====
/-
  What the reference of the mixture-of-experts call computes, read at an index over the extended reals.
-/
module

public import proofs.«01_k».proof.Proof.Alg
public import proofs.«01_k».proof.Proof.Gen.MoeRefIdeal.Run
public import Idealize.ShloMosaic.Lib.Pointwise

@[expose] public section

set_option maxRecDepth 16384

noncomputable section

namespace Cert.MoeRefIdeal.Ref

open Idealize.ShloMosaic Idealize.ShloMosaic.TcCoe Idealize.SL.Sem
open Cert.MoeRefIdeal Cert.MoeRefIdeal.Gen Cert.MoeRefIdeal.Value Cert.Alg

variable (X : FVec Ideal S16384x1024 .f32) (G : FVec Ideal S16384x128 .f32) (W1 W3 : FVec Ideal S1x8x1024x2816 .f32)
  (W2 : FVec Ideal S1x8x2816x1024 .f32)

/-- Unit `J` of expert `e`'s hidden layer, on row `R`. -/
def hid (R : Fin 16384) (e : Fin 8) (J : Fin 2816) : EReal :=
  gated (∑ k : Fin 1024, X (ix2 R k) * W1 (ix4 0 e k J)) (∑ k : Fin 1024, X (ix2 R k) * W3 (ix4 0 e k J))

/-- Expert `e`'s weighted feed-forward at row `R`, column `l`. -/
def term (R : Fin 16384) (l : Fin 1024) (e : Fin 8) : EReal :=
  G (ix2 R ⟨e.val, by omega⟩) * ∑ J : Fin 2816, hid X W1 W3 R e J * W2 (ix4 0 e J l)

/-- One expert's operations, at any place its slices start. -/
def expert (e : ℕ) (hg : S16384x128.Slices ![0, e] S16384x1) (h1 : S8x1024x2816.Slices ![e, 0, 0] S1x1024x2816)
    (h2 : S8x2816x1024.Slices ![e, 0, 0] S1x2816x1024) : FVec Ideal S16384x1024 .f32 :=
  let H := Host.dotGeneral dot_S16384x1024_S1024x2816_S16384x2816_1_0_0_1_n_n none X (shapeCast _ (extractStridedSlice S1x1024x2816 ![e, 0, 0] (shapeCast _ W1 shapeCasts_S1x8x1024x2816_S8x1024x2816) h1) shapeCasts_S1x1024x2816_S1024x2816)
  mulf (broadcastInDim S16384x1024 ![0, 1] bcast_S16384x1_S16384x1024_0_1 (extractStridedSlice S16384x1 ![0, e] G hg))
    (Host.dotGeneral dot_S16384x2816_S2816x1024_S16384x1024_1_0_0_1_n_n none
      (mulf (mulf H (Host.divf (broadcastInDim S16384x2816 ![] bcast_S_S16384x2816 (constant S_ .f32 0x3F800000#32)) (addf (broadcastInDim S16384x2816 ![] bcast_S_S16384x2816 (constant S_ .f32 0x3F800000#32)) (Host.exp (Host.negf H)))))
        (Host.dotGeneral dot_S16384x1024_S1024x2816_S16384x2816_1_0_0_1_n_n none X (shapeCast _ (extractStridedSlice S1x1024x2816 ![e, 0, 0] (shapeCast _ W3 shapeCasts_S1x8x1024x2816_S8x1024x2816) h1) shapeCasts_S1x1024x2816_S1024x2816)))
      (shapeCast _ (extractStridedSlice S1x2816x1024 ![e, 0, 0] (shapeCast _ W2 shapeCasts_S1x8x2816x1024_S8x2816x1024) h2) shapeCasts_S1x2816x1024_S2816x1024))

theorem expert_apply (e : Fin 8) (hg h1 h2) (R : Fin 16384) (l : Fin 1024) :
    expert X G W1 W3 W2 e.val hg h1 h2 (ix2 R l) = term X G W1 W3 W2 R l e := by
  unfold expert term hid gated
  pointwise
  rfl

/-- The sum of the experts' weighted feed-forwards, first to last from zero, at an index. -/
theorem z_apply (V0 : Valuation τ sig (Elt Ideal)) (R : Fin 16384) (l : Fin 1024) :
    (res_main_v126 V0 : FVec Ideal S16384x1024 .f32) (ix2 R l)
      = Ideal.ofBits .f32 0x3FB504F3#32 * (V0 (Proc.devRef .tc main_arg0) : FVec Ideal S16384x1024 .f32) (ix2 R l)
        + ∑ e : Fin 8, term (V0 (Proc.devRef .tc main_arg0)) (V0 (Proc.devRef .tc main_arg1)) (V0 (Proc.devRef .tc main_arg2)) (V0 (Proc.devRef .tc main_arg3)) (V0 (Proc.devRef .tc main_arg4)) R l e := by
  have h : (res_main_v126 V0 : FVec Ideal S16384x1024 .f32)
      = addf (mulf (broadcastInDim S16384x1024 ![] bcast_S_S16384x1024 (constant S_ .f32 0x3FB504F3#32)) (V0 (Proc.devRef .tc main_arg0)))
          (addf (addf (addf (addf (addf (addf (addf (addf (broadcastInDim S16384x1024 ![] bcast_S_S16384x1024 (constant S_ .f32 0x00000000#32))
            (expert (V0 (Proc.devRef .tc main_arg0)) (V0 (Proc.devRef .tc main_arg1)) (V0 (Proc.devRef .tc main_arg2)) (V0 (Proc.devRef .tc main_arg3)) (V0 (Proc.devRef .tc main_arg4)) 0 slices_S16384x128_S16384x1_0_0 slices_S8x1024x2816_S1x1024x2816_0_0_0 slices_S8x2816x1024_S1x2816x1024_0_0_0))
            (expert (V0 (Proc.devRef .tc main_arg0)) (V0 (Proc.devRef .tc main_arg1)) (V0 (Proc.devRef .tc main_arg2)) (V0 (Proc.devRef .tc main_arg3)) (V0 (Proc.devRef .tc main_arg4)) 1 slices_S16384x128_S16384x1_0_1 slices_S8x1024x2816_S1x1024x2816_1_0_0 slices_S8x2816x1024_S1x2816x1024_1_0_0))
            (expert (V0 (Proc.devRef .tc main_arg0)) (V0 (Proc.devRef .tc main_arg1)) (V0 (Proc.devRef .tc main_arg2)) (V0 (Proc.devRef .tc main_arg3)) (V0 (Proc.devRef .tc main_arg4)) 2 slices_S16384x128_S16384x1_0_2 slices_S8x1024x2816_S1x1024x2816_2_0_0 slices_S8x2816x1024_S1x2816x1024_2_0_0))
            (expert (V0 (Proc.devRef .tc main_arg0)) (V0 (Proc.devRef .tc main_arg1)) (V0 (Proc.devRef .tc main_arg2)) (V0 (Proc.devRef .tc main_arg3)) (V0 (Proc.devRef .tc main_arg4)) 3 slices_S16384x128_S16384x1_0_3 slices_S8x1024x2816_S1x1024x2816_3_0_0 slices_S8x2816x1024_S1x2816x1024_3_0_0))
            (expert (V0 (Proc.devRef .tc main_arg0)) (V0 (Proc.devRef .tc main_arg1)) (V0 (Proc.devRef .tc main_arg2)) (V0 (Proc.devRef .tc main_arg3)) (V0 (Proc.devRef .tc main_arg4)) 4 slices_S16384x128_S16384x1_0_4 slices_S8x1024x2816_S1x1024x2816_4_0_0 slices_S8x2816x1024_S1x2816x1024_4_0_0))
            (expert (V0 (Proc.devRef .tc main_arg0)) (V0 (Proc.devRef .tc main_arg1)) (V0 (Proc.devRef .tc main_arg2)) (V0 (Proc.devRef .tc main_arg3)) (V0 (Proc.devRef .tc main_arg4)) 5 slices_S16384x128_S16384x1_0_5 slices_S8x1024x2816_S1x1024x2816_5_0_0 slices_S8x2816x1024_S1x2816x1024_5_0_0))
            (expert (V0 (Proc.devRef .tc main_arg0)) (V0 (Proc.devRef .tc main_arg1)) (V0 (Proc.devRef .tc main_arg2)) (V0 (Proc.devRef .tc main_arg3)) (V0 (Proc.devRef .tc main_arg4)) 6 slices_S16384x128_S16384x1_0_6 slices_S8x1024x2816_S1x1024x2816_6_0_0 slices_S8x2816x1024_S1x2816x1024_6_0_0))
            (expert (V0 (Proc.devRef .tc main_arg0)) (V0 (Proc.devRef .tc main_arg1)) (V0 (Proc.devRef .tc main_arg2)) (V0 (Proc.devRef .tc main_arg3)) (V0 (Proc.devRef .tc main_arg4)) 7 slices_S16384x128_S16384x1_0_7 slices_S8x1024x2816_S1x1024x2816_7_0_0 slices_S8x2816x1024_S1x2816x1024_7_0_0)) := rfl
  rw [h]
  show _ + (((((((((Ideal.ofBits .f32 0x00000000#32 : EReal) + _) + _) + _) + _) + _) + _) + _) + _) = _
  rw [Ideal.ofBits_zero_f32, zero_add, Fin.sum_univ_eight]
  exact congrArg₂ HAdd.hAdd rfl (congrArg₂ HAdd.hAdd (congrArg₂ HAdd.hAdd (congrArg₂ HAdd.hAdd (congrArg₂ HAdd.hAdd (congrArg₂ HAdd.hAdd (congrArg₂ HAdd.hAdd (congrArg₂ HAdd.hAdd
    (expert_apply _ _ _ _ _ 0 _ _ _ R l) (expert_apply _ _ _ _ _ 1 _ _ _ R l)) (expert_apply _ _ _ _ _ 2 _ _ _ R l)) (expert_apply _ _ _ _ _ 3 _ _ _ R l)) (expert_apply _ _ _ _ _ 4 _ _ _ R l)) (expert_apply _ _ _ _ _ 5 _ _ _ R l)) (expert_apply _ _ _ _ _ 6 _ _ _ R l)) (expert_apply _ _ _ _ _ 7 _ _ _ R l))

/-- The whole result at an index: the layer norm of row `R` of `alpha · x` plus the experts. -/
theorem out_apply (V0 : Valuation τ sig (Elt Ideal)) (R : Fin 16384) (l : Fin 1024) :
    (addf (mulf (mulf (subf (res_main_v126 V0) (broadcastInDim S16384x1024 ![0, 1] bcast_S16384x1_S16384x1024_0_1 (res_main_v134 V0))) (broadcastInDim S16384x1024 ![0, 1] bcast_S16384x1_S16384x1024_0_1 (Host.rsqrt (addf (Host.divf (broadcastInDim S16384x1 ![0] bcast_S16384_S16384x1_0 (Host.reduceAdd (mulf (res_main_v136 V0) (res_main_v136 V0)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x3727C5AC#32)))))) (broadcastInDim S16384x1024 ![0, 1] bcast_S1x1024_S16384x1024_0_1 (broadcastInDim S1x1024 ![1] bcast_S1024_S1x1024_1 (shapeCast S1024 (extractStridedSlice S1x1x1024 ![1, 1, 0] (V0 (Proc.devRef .tc main_arg5)) slices_S2x2x1024_S1x1x1024_1_1_0) shapeCasts_S1x1x1024_S1024)))) (broadcastInDim S16384x1024 ![0, 1] bcast_S1x1024_S16384x1024_0_1 (broadcastInDim S1x1024 ![1] bcast_S1024_S1x1024_1 (shapeCast S1024 (extractStridedSlice S1x1x1024 ![1, 1, 0] (V0 (Proc.devRef .tc main_arg6)) slices_S2x2x1024_S1x1x1024_1_1_0) shapeCasts_S1x1x1024_S1024))) : FVec Ideal S16384x1024 .f32) (ix2 R l)
      = lnorm (Ideal.ofBits .f32 0x44800000#32) (Ideal.ofBits .f32 0x3727C5AC#32)
          (fun k => (res_main_v126 V0 : FVec Ideal S16384x1024 .f32) (ix2 R k))
          ((V0 (Proc.devRef .tc main_arg5) : FVec Ideal S2x2x1024 .f32) (ix3 1 1 l)) ((V0 (Proc.devRef .tc main_arg6) : FVec Ideal S2x2x1024 .f32) (ix3 1 1 l)) l := by
  unfold lnorm mean
  pointwise [res_main_v134, res_main_v136]

end Cert.MoeRefIdeal.Ref

end
-- ==== Proof.MoeEq.lean ====
/-
  The mixture-of-experts call's result array is its reference's: the sixteen parts are the eight experts' weighted
  feed-forwards, each split in two halves of the hidden layer, since a gate that is non-negative and finite distributes.
-/
module

public import proofs.«01_k».proof.Proof.MoeFold
public import proofs.«01_k».proof.Proof.MoeRef
public import proofs.«01_k».proof.Proof.Gen.Pre_gates_tame
public import proofs.«01_k».proof.Defs

@[expose] public section

set_option maxRecDepth 16384

noncomputable section

namespace Cert.MoeIdeal.Block

open Idealize.ShloMosaic Idealize.ShloMosaic.TcCoe Idealize.SL.Sem
open Cert.MoeIdeal Cert.MoeIdeal.Gen Cert.Alg

variable (m : (ℓ : Loc nD τ sig) → Buf (Elt Ideal) ℓ)

/-- A sum over the hidden layer is the sum over its two halves. -/
theorem sum_halves (f : Fin 2816 → EReal) : ∑ J : Fin 2816, f J = (∑ j : Fin 1408, f (half 0 j)) + ∑ j : Fin 1408, f (half 1 j) := by
  have h := Fin.sum_univ_add (a := 1408) (b := 1408) (fun J => f J)
  refine h.trans (congrArg₂ HAdd.hAdd (Finset.sum_congr rfl fun j _ => congrArg f (Fin.ext ?_)) (Finset.sum_congr rfl fun j _ => congrArg f (Fin.ext ?_)))
  · show j.val = 1408 * 0 + j.val; omega
  · show 1408 + j.val = 1408 * 1 + j.val; omega

/-- The two parts of one expert are its weighted feed-forward. -/
theorem part_add (c : Dev nD) (R : Fin 16384) (l : Fin 1024) (e : Fin 8)
    (h0 : 0 ≤ argG m c (ix2 R (lane e))) (h1 : argG m c (ix2 R (lane e)) ≠ ⊤) :
    part m c R l e 0 + part m c R l e 1
      = Cert.MoeRefIdeal.Ref.term (argX m c) (argG m c) (argW1 m c) (argW3 m c) (argW2 m c) R l e := by
  unfold part Cert.MoeRefIdeal.Ref.term
  rw [sum_halves, EReal.left_distrib_of_nonneg_of_ne_top h0 h1]
  rfl

/-- The sixteen parts are the eight experts. -/
theorem parts_eq (c : Dev nD) (R : Fin 16384) (l : Fin 1024)
    (h0 : ∀ i, 0 ≤ argG m c i) (h1 : ∀ i, argG m c i ≠ ⊤) :
    ∑ s ∈ Finset.range 16, partN m c R l s
      = ∑ e : Fin 8, Cert.MoeRefIdeal.Ref.term (argX m c) (argG m c) (argW1 m c) (argW3 m c) (argW2 m c) R l e := by
  have hp : ∀ e : Fin 8, partN m c R l (2 * e.val) + partN m c R l (2 * e.val + 1)
      = Cert.MoeRefIdeal.Ref.term (argX m c) (argG m c) (argW1 m c) (argW3 m c) (argW2 m c) R l e := fun e => by
    rw [← part_add m c R l e (h0 _) (h1 _)]
    have := e.isLt
    unfold partN
    congr 2 <;> apply Fin.ext
    · show (2 * e.val) / 2 % 8 = e.val; omega
    · show (2 * e.val) % 2 = 0; omega
    · show (2 * e.val + 1) / 2 % 8 = e.val; omega
    · show (2 * e.val + 1) % 2 = 1; omega
  have hs : ∀ (n : ℕ) (f : ℕ → EReal), ∑ s ∈ Finset.range (2 * n), f s = ∑ e ∈ Finset.range n, (f (2 * e) + f (2 * e + 1)) := by
    intro n f
    induction n with
    | zero => rfl
    | succ n ih =>
      rw [show 2 * (n + 1) = 2 * n + 1 + 1 from rfl, Finset.sum_range_succ, Finset.sum_range_succ, ih, Finset.sum_range_succ, add_assoc]
  refine (hs 8 _).trans ?_
  rw [Finset.sum_range]
  exact Finset.sum_congr rfl fun e _ => hp e

/-- The precondition at an index: a gate is non-negative and not infinite. -/
theorem tame [hp : Cert.Pre_gates_tame.Facts] (h : Cert.Pre_MoeIdeal_gates_tame m) (c : Dev nD) (i : S16384x128.Idx) : 0 ≤ argG m c i ∧ argG m c i ≠ ⊤ := by
  have h1 : IntOp.andi (Ideal.cmp .oge (argG m c i) (Ideal.ofBits .f32 0x00000000#32)) (Ideal.cmp .olt (argG m c i) (Ideal.ofBits .f32 0x7F800000#32)) = 1#1 :=
    congrFun (h c) i
  rw [Ideal.ofBits_zero_f32] at h1
  unfold Ideal.cmp at h1
  dsimp only at h1
  by_cases a : (0 : EReal) ≤ argG m c i
  · by_cases b : argG m c i < Ideal.ofBits .f32 0x7F800000#32
    · exact ⟨a, (lt_of_lt_of_le b le_top).ne⟩
    · rw [decide_eq_false b, decide_eq_true a] at h1; exact absurd h1 (by decide)
  · rw [decide_eq_false a] at h1
    revert h1
    cases decide (argG m c i < Ideal.ofBits .f32 0x7F800000#32) <;> exact fun h => absurd h (by decide)

/-- The kernel's result array at an index is what the reference computes of the same arguments. -/
theorem result_eq [hp : Cert.Pre_gates_tame.Facts] (h : Cert.Pre_MoeIdeal_gates_tame m) (c : Dev nD) (R : Fin 16384) (l : Fin 1024) :
    Value.G8 m c (ix2 R l)
      = lnorm (Ideal.ofBits .f32 0x44800000#32) (Ideal.ofBits .f32 0x3727C5AC#32)
          (fun k => Ideal.ofBits .f32 0x3FB504F3#32 * argX m c (ix2 R k)
            + ∑ e : Fin 8, Cert.MoeRefIdeal.Ref.term (argX m c) (argG m c) (argW1 m c) (argW3 m c) (argW2 m c) R k e)
          (argLg m c (ix3 1 1 l)) (argLb m c (ix3 1 1 l)) l := by
  rw [G8_apply]
  refine congrArg (fun z => lnorm _ _ z _ _ l) (funext fun k => congrArg₂ HAdd.hAdd rfl ?_)
  exact parts_eq m c R k (fun i => (tame m h c i).1) (fun i => (tame m h c i).2)

end Cert.MoeIdeal.Block

end
-- ==== Proof.MoeClaim.lean ====
/-
  The mixture-of-experts call's claims: the reference's frame, and the equality of the two result arrays.
-/
module

public import proofs.«01_k».proof.Proof.MoeEq
public import proofs.«01_k».proof.Proof.Gen.Moe.Frame
public import Idealize.ShloMosaic.Adequacy
public import Idealize.ShloMosaic.Init
public import Idealize.ShloMosaic.Lib.Quiescent

@[expose] public section

noncomputable section

namespace Cert.Proof

open Idealize.ShloMosaic Idealize.SL.Sem

/-- The reference runs to the end and leaves its arguments and counters alone. -/
theorem quiescent_MoeRefIdeal : quiescent_MoeRefIdeal := fun m ρ _ =>
  (θ_run Cert.MoeRefIdeal.defs _ _).mono (fun r h => ⟨fun c => (h c).2, sem_eq_zero_of_no_sems (by decide) r.2⟩)
    (Cert.MoeRefIdeal.Value.run (F := Ideal) m ρ)

/-- The same under the precondition. -/
theorem quiescent_MoeRefIdeal_pre [hp : Cert.Pre_gates_tame.Facts] : quiescent_MoeRefIdeal_pre_gates_tame := fun m ρ _ =>
  (θ_run Cert.MoeRefIdeal.defs _ _).mono (fun r h => ⟨fun c => (h c).2, sem_eq_zero_of_no_sems (by decide) r.2⟩)
    (Cert.MoeRefIdeal.Value.run (F := Ideal) m ρ)

/-- From gates that are non-negative and finite, kernel and reference end with equal results. -/
theorem algebraic_Moe [hp : Cert.Pre_gates_tame.Facts] : algebraic_MoeIdeal_MoeRefIdeal_pre_gates_tame := by
  intro m ρ m' ρ' hpre hagree
  refine ⟨_, Cert.MoeIdeal.Value.run (F := Ideal) m ρ, ?_⟩
  refine (θ_run Cert.MoeRefIdeal.defs _ _).mono (fun _ h c => ⟨?_, (h c).2⟩) (Cert.MoeRefIdeal.Value.run (F := Ideal) m' ρ')
  rw [(h c).1]
  obtain ⟨a0, a1, a2, a3, a4, a5, a6⟩ := hagree c
  funext i
  obtain ⟨R, l, rfl⟩ : ∃ (R : Fin 16384) (l : Fin 1024), i = ix2 R l := ⟨i 0, i 1, eq_ix2 i⟩
  refine (Cert.MoeRefIdeal.Ref.out_apply (StableHlo.launchContents m' c) R l).trans ?_
  rw [Cert.MoeIdeal.Block.result_eq m hpre c R l]
  simp only [Cert.MoeRefIdeal.Ref.z_apply]
  have b0 : StableHlo.launchContents m' c (Proc.devRef .tc Cert.MoeRefIdeal.main_arg0) = Cert.MoeIdeal.Block.argX m c := a0
  have b1 : StableHlo.launchContents m' c (Proc.devRef .tc Cert.MoeRefIdeal.main_arg1) = Cert.MoeIdeal.Block.argG m c := a1
  have b2 : StableHlo.launchContents m' c (Proc.devRef .tc Cert.MoeRefIdeal.main_arg2) = Cert.MoeIdeal.Block.argW1 m c := a2
  have b3 : StableHlo.launchContents m' c (Proc.devRef .tc Cert.MoeRefIdeal.main_arg3) = Cert.MoeIdeal.Block.argW3 m c := a3
  have b4 : StableHlo.launchContents m' c (Proc.devRef .tc Cert.MoeRefIdeal.main_arg4) = Cert.MoeIdeal.Block.argW2 m c := a4
  have b5 : StableHlo.launchContents m' c (Proc.devRef .tc Cert.MoeRefIdeal.main_arg5) = Cert.MoeIdeal.Block.argLg m c := a5
  have b6 : StableHlo.launchContents m' c (Proc.devRef .tc Cert.MoeRefIdeal.main_arg6) = Cert.MoeIdeal.Block.argLb m c := a6
  rw [b0, b1, b2, b3, b4, b5, b6]

end Cert.Proof

end
-- ==== Proof.FfnBlock.lean ====
/-
  What one grid point of the dense feed-forward leaves: its scratch accumulator and, at the second point of a row block,
  its two output blocks, as the body's named payloads of the point's input blocks.
-/
module

public import proofs.«01_k».proof.Proof.Gen.FfnIdeal.Value
public import Idealize.ShloMosaic.Lib.Tactic

@[expose] public section

set_option maxRecDepth 16384

noncomputable section

namespace Cert.FfnIdeal.Block

open Idealize.ShloMosaic Idealize.ShloMosaic.TcCoe Idealize.SL.Sem
open Cert.FfnIdeal Cert.FfnIdeal.Gen

variable {F : FTy → Type} [FloatOps F]

theorem hz2 : (![0, 0] : Fin 2 → Nat) = fun _ => 0 := funext fun a => by fin_cases a <;> rfl

/-- The first point of a row block stores its half in the accumulator. -/
theorem sout_A (c i) (a2) (h2 : a2.IsWhole) (a3) (h3 : a3.IsWhole) (a4) (h4 : a4.IsWhole) (a5) (h5 : a5.IsWhole) (a6) (h6 : a6.IsWhole) (a7) (h7 : a7.IsWhole) (a8) (h8 : a8.IsWhole) (a9) (h9 : a9.IsWhole) (a10) (h10 : a10.IsWhole) (a11) (h11 : a11.IsWhole) (c0 c1 c2)
    (x0 : Vec F S512x1024 .f32) (x1 x2 x3 x4 x5 x6) :
    sout0_A_0 (F := F) c i a2 h2 a3 h3 a4 h4 a5 h5 a6 h6 a7 h7 a8 h8 a9 h9 a10 h10 a11 h11 c0 c1 c2 x0 x1 x2 x3 x4 x5 x6
      = k0_pay1 x1 x2 x3 x4 := by
  unfold sout0_A_0
  rw [View.read_writes_eq_canon _ _ _ (scover0_A_0 c i a2 h2 a3 h3 a4 h4 a5 h5 a6 h6 a7 h7 a8 h8 a9 h9 a10 h10 a11 h11 c0 c1 c2 x0 x1 x2 x3 x4 x5 x6)]
  unfold kernelRun0_A
  dsimp only
  sl_unfold_words
  rw [View.canon_unit_zero hz2]
  unfold k0_pay2
  simp only [View.readAt_eq_ld, h3.read_unread, h4.read_unread, h5.read_unread, h6.read_unread,
    View.ld_unit_zero (S := S512x1024) hz2, View.ld_unit_zero (S := S1024x1408) hz2, View.ld_unit_zero (S := S1408x1024) hz2, View.ld_unit_zero (S := S1x1024) hz2, shapeCast_self]

/-- The second point writes the layer norm of the residual and both halves. -/
theorem out_B7 (c i) (a2) (h2 : a2.IsWhole) (a3) (h3 : a3.IsWhole) (a4) (h4 : a4.IsWhole) (a5) (h5 : a5.IsWhole) (a6) (h6 : a6.IsWhole) (a7) (h7 : a7.IsWhole) (a8) (h8 : a8.IsWhole) (a9) (h9 : a9.IsWhole) (a10) (h10 : a10.IsWhole) (a11) (h11 : a11.IsWhole) (c0 c1 c2)
    (x0 : Vec F S512x1024 .f32) (x1 x2 x3 x4 x5 x6 xs) :
    out0_B_7 (F := F) c i a2 h2 a3 h3 a4 h4 a5 h5 a6 h6 a7 h7 a8 h8 a9 h9 a10 h10 a11 h11 c0 c1 c2 x0 x1 x2 x3 x4 x5 x6 xs
      = k0_pay4 x0 (addf xs (k0_pay1 x1 x2 x3 x4)) x5 x6 := by
  unfold out0_B_7
  rw [View.read_writes_eq_canon _ _ _ (cover0_B_7 c i a2 h2 a3 h3 a4 h4 a5 h5 a6 h6 a7 h7 a8 h8 a9 h9 a10 h10 a11 h11 c0 c1 c2 x0 x1 x2 x3 x4 x5 x6 xs)]
  unfold kernelRun0_B
  dsimp only
  sl_unfold_words
  rw [View.canon_unit_zero hz2, View.readCov_unit_zero (S := S512x1024) _ hz2]
  unfold k0_pay3
  simp only [View.readAt_eq_ld, h2.read_unread, h3.read_unread, h4.read_unread, h5.read_unread, h6.read_unread, h7.read_unread, h8.read_unread, h11.read_unread,
    View.ld_unit_zero (S := S512x1024) hz2, View.ld_unit_zero (S := S1024x1408) hz2, View.ld_unit_zero (S := S1408x1024) hz2, View.ld_unit_zero (S := S1x1024) hz2, shapeCast_self]

/-- And the same rounded. -/
theorem out_B8 (c i) (a2) (h2 : a2.IsWhole) (a3) (h3 : a3.IsWhole) (a4) (h4 : a4.IsWhole) (a5) (h5 : a5.IsWhole) (a6) (h6 : a6.IsWhole) (a7) (h7 : a7.IsWhole) (a8) (h8 : a8.IsWhole) (a9) (h9 : a9.IsWhole) (a10) (h10 : a10.IsWhole) (a11) (h11 : a11.IsWhole) (c0 c1 c2)
    (x0 : Vec F S512x1024 .f32) (x1 x2 x3 x4 x5 x6 xs) :
    out0_B_8 (F := F) c i a2 h2 a3 h3 a4 h4 a5 h5 a6 h6 a7 h7 a8 h8 a9 h9 a10 h10 a11 h11 c0 c1 c2 x0 x1 x2 x3 x4 x5 x6 xs
      = k0_pay5 x0 (addf xs (k0_pay1 x1 x2 x3 x4)) x5 x6 := by
  unfold out0_B_8
  rw [View.read_writes_eq_canon _ _ _ (cover0_B_8 c i a2 h2 a3 h3 a4 h4 a5 h5 a6 h6 a7 h7 a8 h8 a9 h9 a10 h10 a11 h11 c0 c1 c2 x0 x1 x2 x3 x4 x5 x6 xs)]
  unfold kernelRun0_B
  dsimp only
  sl_unfold_words
  rw [View.canon_unit_zero hz2, View.readCov_unit_zero (S := S512x1024) _ hz2]
  unfold k0_pay3
  simp only [View.readAt_eq_ld, h2.read_unread, h3.read_unread, h4.read_unread, h5.read_unread, h6.read_unread, h7.read_unread, h8.read_unread, h11.read_unread,
    View.ld_unit_zero (S := S512x1024) hz2, View.ld_unit_zero (S := S1024x1408) hz2, View.ld_unit_zero (S := S1408x1024) hz2, View.ld_unit_zero (S := S1x1024) hz2, shapeCast_self]

end Cert.FfnIdeal.Block

end
-- ==== Proof.FfnFold.lean ====
/-
  The dense feed-forward's two results, from its arguments: what the blocks a grid point reads hold, what the accumulator
  holds after a row block's two halves, and the layer norm the second point writes.
-/
module

public import proofs.«01_k».proof.Proof.FfnBlock
public import proofs.«01_k».proof.Proof.Alg
public import Idealize.ShloMosaic.Lib.Pointwise

@[expose] public section

set_option maxRecDepth 16384

noncomputable section

namespace Cert.FfnIdeal.Block

open Idealize.ShloMosaic Idealize.ShloMosaic.TcCoe Idealize.SL.Sem
open Cert.FfnIdeal Cert.FfnIdeal.Gen Cert.Alg

/-- The layer norm's payload at an index: the norm of row `r` of `alpha · x + acc`. -/
theorem pay4_apply (x a : FVec Ideal S512x1024 .f32) (g b : FVec Ideal S1x1024 .f32) (r : Fin 512) (l : Fin 1024) :
    k0_pay4 (F := Ideal) x a g b (ix2 r l)
      = lnorm (Ideal.ofBits .f32 0x44800000#32) (Ideal.ofBits .f32 0x3727C5AC#32)
          (fun k => Ideal.ofBits .f32 0x3FB504F3#32 * x (ix2 r k) + a (ix2 r k)) (g (ix2 0 l)) (b (ix2 0 l)) l := by
  unfold lnorm mean
  pointwise [k0_pay4]

/-- The half one point adds. -/
theorem pay1_apply (x : FVec Ideal S512x1024 .bf16) (w1 w3 : FVec Ideal S1024x1408 .bf16) (w2 : FVec Ideal S1408x1024 .bf16) (r : Fin 512) (l : Fin 1024) :
    k0_pay1 (F := Ideal) x w1 w3 w2 (ix2 r l)
      = ∑ j : Fin 1408, gated (∑ k : Fin 1024, x (ix2 r k) * w1 (ix2 k j)) (∑ k : Fin 1024, x (ix2 r k) * w3 (ix2 k j)) * w2 (ix2 j l) := by
  unfold gated
  pointwise [k0_pay1]

variable (m : (ℓ : Loc nD τ sig) → Buf (Elt Ideal) ℓ)

/-- The arguments, as arrays. -/
abbrev argX (c : Dev nD) : FVec Ideal S16384x1024 .f32 := m ((c : Thread nD τ).loc main_arg0)
abbrev argW1 (c : Dev nD) : FVec Ideal S1x1024x2816 .f32 := m ((c : Thread nD τ).loc main_arg1)
abbrev argW3 (c : Dev nD) : FVec Ideal S1x1024x2816 .f32 := m ((c : Thread nD τ).loc main_arg2)
abbrev argW2 (c : Dev nD) : FVec Ideal S1x2816x1024 .f32 := m ((c : Thread nD τ).loc main_arg3)
abbrev argLg (c : Dev nD) : FVec Ideal S2x2x1024 .f32 := m ((c : Thread nD τ).loc main_arg4)
abbrev argLb (c : Dev nD) : FVec Ideal S2x2x1024 .f32 := m ((c : Thread nD τ).loc main_arg5)

/-! ## The arrays the call reads -/

theorem V_x (c : Dev nD) (r : Fin 16384) (k : Fin 1024) : V m c main_v0 (ix2 r k) = argX m c (ix2 r k) := by
  have h : V m c main_v0 = truncf .bf16 (argX m c) bitsLt_bf16_f32 := by
    show StableHlo.after hostOps0 _ _ = _
    after_results
  rw [h]; rfl

theorem V_w1 (c : Dev nD) (k : Fin 1024) (j : Fin 2816) : V m c main_v2 (ix2 k j) = argW1 m c (ix3 0 k j) := by
  have h : V m c main_v2 = truncf .bf16 (shapeCast _ (argW1 m c) shapeCasts_S1x1024x2816_S1024x2816) bitsLt_bf16_f32 := by
    show StableHlo.after hostOps0 _ _ = _
    after_results
    rfl
  rw [h]
  pointwise

theorem V_w3 (c : Dev nD) (k : Fin 1024) (j : Fin 2816) : V m c main_v4 (ix2 k j) = argW3 m c (ix3 0 k j) := by
  have h : V m c main_v4 = truncf .bf16 (shapeCast _ (argW3 m c) shapeCasts_S1x1024x2816_S1024x2816) bitsLt_bf16_f32 := by
    show StableHlo.after hostOps0 _ _ = _
    after_results
    rfl
  rw [h]
  pointwise

theorem V_w2 (c : Dev nD) (k : Fin 2816) (j : Fin 1024) : V m c main_v6 (ix2 k j) = argW2 m c (ix3 0 k j) := by
  have h : V m c main_v6 = truncf .bf16 (shapeCast _ (argW2 m c) shapeCasts_S1x2816x1024_S2816x1024) bitsLt_bf16_f32 := by
    show StableHlo.after hostOps0 _ _ = _
    after_results
    rfl
  rw [h]
  pointwise

theorem V_lg (c : Dev nD) (l : Fin 1024) : V m c main_v9 (ix2 0 l) = argLg m c (ix3 0 1 l) := by
  have h : V m c main_v9 = broadcastInDim S1x1024 ![1] bcast_S1024_S1x1024_1 (shapeCast _ (extractStridedSlice S1x1x1024 ![0, 1, 0] (argLg m c) slices_S2x2x1024_S1x1x1024_0_1_0) shapeCasts_S1x1x1024_S1024) := by
    show StableHlo.after hostOps0 _ _ = _
    after_results
    rfl
  rw [h]
  pointwise

theorem V_lb (c : Dev nD) (l : Fin 1024) : V m c main_v12 (ix2 0 l) = argLb m c (ix3 0 1 l) := by
  have h : V m c main_v12 = broadcastInDim S1x1024 ![1] bcast_S1024_S1x1024_1 (shapeCast _ (extractStridedSlice S1x1x1024 ![0, 1, 0] (argLb m c) slices_S2x2x1024_S1x1x1024_0_1_0) shapeCasts_S1x1x1024_S1024) := by
    show StableHlo.after hostOps0 _ _ = _
    after_results
    rfl
  rw [h]
  pointwise

/-! ## The blocks a point reads -/

/-- The printed index maps, over the grid: point `t` is row block `t / 2`, half `t % 2`. -/
theorem idx_t : ∀ t : Fin cfg0.N, (win0_0.index t = ![t.val / 2, 0] ∧ win0_1.index t = ![t.val / 2, 0])
    ∧ (win0_2.index t = ![0, t.val % 2] ∧ win0_3.index t = ![0, t.val % 2] ∧ win0_4.index t = ![t.val % 2, 0])
    ∧ win0_5.index t = ![0, 0] ∧ win0_6.index t = ![0, 0] :=
  (by decide +kernel : ∀ t : Fin grid0.N, _)

theorem iblk0 (c : Dev nD) (t : Fin cfg0.N) (r : Fin 512) (k : Fin 1024) (R : Fin 16384) (hR : R.val = 512 * (t.val / 2) + r.val) :
    (iblk m c 0 t : FVec Ideal S512x1024 .f32) (ix2 r k) = argX m c (ix2 R k) := by
  have h := (idx_t t).1.1
  unfold iblk
  rw [View.read_apply]
  show V m c main_arg0 _ = _
  rw [V_main_arg0]
  congr 1
  funext a
  apply Fin.ext
  match a with
  | ⟨0, _⟩ => show win0_0.index t 0 * 512 + 1 * r.val = R.val; rw [h]; show t.val / 2 * 512 + _ = _; omega
  | ⟨1, _⟩ => show win0_0.index t 1 * 1024 + 1 * k.val = k.val; rw [h]; show 0 * 1024 + _ = _; omega

theorem iblk1 (c : Dev nD) (t : Fin cfg0.N) (r : Fin 512) (k : Fin 1024) (R : Fin 16384) (hR : R.val = 512 * (t.val / 2) + r.val) :
    (iblk m c 1 t : FVec Ideal S512x1024 .bf16) (ix2 r k) = argX m c (ix2 R k) := by
  have h := (idx_t t).1.2
  rw [← V_x m c R k]
  unfold iblk
  rw [View.read_apply]
  show V m c main_v0 _ = _
  congr 1
  funext a
  apply Fin.ext
  match a with
  | ⟨0, _⟩ => show win0_1.index t 0 * 512 + 1 * r.val = R.val; rw [h]; show t.val / 2 * 512 + _ = _; omega
  | ⟨1, _⟩ => show win0_1.index t 1 * 1024 + 1 * k.val = k.val; rw [h]; show 0 * 1024 + _ = _; omega

theorem iblk2 (c : Dev nD) (t : Fin cfg0.N) (k : Fin 1024) (j : Fin 1408) (J : Fin 2816) (hJ : J.val = 1408 * (t.val % 2) + j.val) :
    (iblk m c 2 t : FVec Ideal S1024x1408 .bf16) (ix2 k j) = argW1 m c (ix3 0 k J) := by
  have h := (idx_t t).2.1.1
  rw [← V_w1 m c k J]
  unfold iblk
  rw [View.read_apply]
  show V m c main_v2 _ = _
  congr 1
  funext a
  apply Fin.ext
  match a with
  | ⟨0, _⟩ => show win0_2.index t 0 * 1024 + 1 * k.val = k.val; rw [h]; show 0 * 1024 + _ = _; omega
  | ⟨1, _⟩ => show win0_2.index t 1 * 1408 + 1 * j.val = J.val; rw [h]; show t.val % 2 * 1408 + _ = _; omega

theorem iblk3 (c : Dev nD) (t : Fin cfg0.N) (k : Fin 1024) (j : Fin 1408) (J : Fin 2816) (hJ : J.val = 1408 * (t.val % 2) + j.val) :
    (iblk m c 3 t : FVec Ideal S1024x1408 .bf16) (ix2 k j) = argW3 m c (ix3 0 k J) := by
  have h := (idx_t t).2.1.2.1
  rw [← V_w3 m c k J]
  unfold iblk
  rw [View.read_apply]
  show V m c main_v4 _ = _
  congr 1
  funext a
  apply Fin.ext
  match a with
  | ⟨0, _⟩ => show win0_3.index t 0 * 1024 + 1 * k.val = k.val; rw [h]; show 0 * 1024 + _ = _; omega
  | ⟨1, _⟩ => show win0_3.index t 1 * 1408 + 1 * j.val = J.val; rw [h]; show t.val % 2 * 1408 + _ = _; omega

theorem iblk4 (c : Dev nD) (t : Fin cfg0.N) (j : Fin 1408) (l : Fin 1024) (J : Fin 2816) (hJ : J.val = 1408 * (t.val % 2) + j.val) :
    (iblk m c 4 t : FVec Ideal S1408x1024 .bf16) (ix2 j l) = argW2 m c (ix3 0 J l) := by
  have h := (idx_t t).2.1.2.2
  rw [← V_w2 m c J l]
  unfold iblk
  rw [View.read_apply]
  show V m c main_v6 _ = _
  congr 1
  funext a
  apply Fin.ext
  match a with
  | ⟨0, _⟩ => show win0_4.index t 0 * 1408 + 1 * j.val = J.val; rw [h]; show t.val % 2 * 1408 + _ = _; omega
  | ⟨1, _⟩ => show win0_4.index t 1 * 1024 + 1 * l.val = l.val; rw [h]; show 0 * 1024 + _ = _; omega

theorem iblk5 (c : Dev nD) (t : Fin cfg0.N) (l : Fin 1024) :
    (iblk m c 5 t : FVec Ideal S1x1024 .f32) (ix2 0 l) = argLg m c (ix3 0 1 l) := by
  have h := (idx_t t).2.2.1
  rw [← V_lg m c l]
  unfold iblk
  rw [View.read_apply]
  show V m c main_v9 _ = _
  congr 1
  funext a
  apply Fin.ext
  match a with
  | ⟨0, _⟩ => show win0_5.index t 0 * 1 + 1 * 0 = 0; rw [h]; rfl
  | ⟨1, _⟩ => show win0_5.index t 1 * 1024 + 1 * l.val = l.val; rw [h]; show 0 * 1024 + _ = _; omega

theorem iblk6 (c : Dev nD) (t : Fin cfg0.N) (l : Fin 1024) :
    (iblk m c 6 t : FVec Ideal S1x1024 .f32) (ix2 0 l) = argLb m c (ix3 0 1 l) := by
  have h := (idx_t t).2.2.2
  rw [← V_lb m c l]
  unfold iblk
  rw [View.read_apply]
  show V m c main_v12 _ = _
  congr 1
  funext a
  apply Fin.ext
  match a with
  | ⟨0, _⟩ => show win0_6.index t 0 * 1 + 1 * 0 = 0; rw [h]; rfl
  | ⟨1, _⟩ => show win0_6.index t 1 * 1024 + 1 * l.val = l.val; rw [h]; show 0 * 1024 + _ = _; omega

/-! ## The accumulator -/

/-- Unit `J` of the hidden layer, on row `R`. -/
def hid (c : Dev nD) (R : Fin 16384) (J : Fin 2816) : EReal :=
  gated (∑ k : Fin 1024, argX m c (ix2 R k) * argW1 m c (ix3 0 k J)) (∑ k : Fin 1024, argX m c (ix2 R k) * argW3 m c (ix3 0 k J))

/-- Place `j` of half `f` of the hidden layer. -/
abbrev half (f : Fin 2) (j : Fin 1408) : Fin 2816 := ⟨1408 * f.val + j.val, by omega⟩

/-- What half `f` adds to the result at row `R`, column `l`. -/
def part (c : Dev nD) (R : Fin 16384) (l : Fin 1024) (f : Fin 2) : EReal :=
  ∑ j : Fin 1408, hid m c R (half f j) * argW2 m c (ix3 0 (half f j) l)

/-- A sum over the hidden layer is the sum over its two halves. -/
theorem sum_halves (f : Fin 2816 → EReal) : ∑ J : Fin 2816, f J = (∑ j : Fin 1408, f (half 0 j)) + ∑ j : Fin 1408, f (half 1 j) := by
  have h := Fin.sum_univ_add (a := 1408) (b := 1408) (fun J => f J)
  refine h.trans (congrArg₂ HAdd.hAdd (Finset.sum_congr rfl fun j _ => congrArg f (Fin.ext ?_)) (Finset.sum_congr rfl fun j _ => congrArg f (Fin.ext ?_)))
  · show j.val = 1408 * 0 + j.val; omega
  · show 1408 + j.val = 1408 * 1 + j.val; omega

/-- Point `t`'s payload is its half's part. -/
theorem pay_part (c : Dev nD) (t : Fin cfg0.N) (f : Fin 2) (hf : f.val = t.val % 2) (r : Fin 512) (l : Fin 1024) (R : Fin 16384) (hR : R.val = 512 * (t.val / 2) + r.val) :
    k0_pay1 (F := Ideal) (iblk m c 1 t) (iblk m c 2 t) (iblk m c 3 t) (iblk m c 4 t) (ix2 r l) = part m c R l f := by
  refine (pay1_apply _ _ _ _ r l).trans ?_
  unfold part hid
  have hJ : ∀ j : Fin 1408, (half f j).val = 1408 * (t.val % 2) + j.val := fun j => by show 1408 * f.val + j.val = _; rw [hf]
  refine Finset.sum_congr rfl fun j _ => ?_
  exact congrArg₂ HMul.hMul
    (congrArg₂ gated
      (Finset.sum_congr rfl fun k _ => congrArg₂ HMul.hMul (iblk1 m c t r k R hR) (iblk2 m c t k j (half f j) (hJ j)))
      (Finset.sum_congr rfl fun k _ => congrArg₂ HMul.hMul (iblk1 m c t r k R hR) (iblk3 m c t k j (half f j) (hJ j))))
    (iblk4 m c t j l (half f j) (hJ j))

/-- The accumulator after a row block's first point: the first half. -/
theorem acc_eq (c : Dev nD) (q : ℕ) (h : 2 * q < cfg0.N) (r : Fin 512) (l : Fin 1024) (R : Fin 16384) (hR : R.val = 512 * q + r.val) :
    (outsAt0 m c (2 * q) h).2.2 (ix2 r l) = part m c R l 0 := by
  rw [outsAt0_A m c ⟨2 * q, h⟩ (by show (2 * q) % 2 = 0; omega) (by show ¬ (2 * q) % 2 = 1; omega) (by show ¬ (2 * q) % 2 = 1; omega)]
  dsimp only
  rw [sout_A]
  exact pay_part m c ⟨2 * q, h⟩ 0 (by show 0 = (2 * q) % 2; omega) r l R (by show R.val = 512 * ((2 * q) / 2) + r.val; omega)

/-- The residual and the feed-forward, at an index. -/
def z (c : Dev nD) (R : Fin 16384) (k : Fin 1024) : EReal :=
  Ideal.ofBits .f32 0x3FB504F3#32 * argX m c (ix2 R k) + ∑ J : Fin 2816, hid m c R J * argW2 m c (ix3 0 J k)

/-- The results at an index: the layer norm of the residual and the feed-forward. -/
def res (c : Dev nD) (R : Fin 16384) (l : Fin 1024) : EReal :=
  lnorm (Ideal.ofBits .f32 0x44800000#32) (Ideal.ofBits .f32 0x3727C5AC#32) (z m c R) (argLg m c (ix3 0 1 l)) (argLb m c (ix3 0 1 l)) l

/-- The layer norm's payload at the second point of a row block. -/
theorem pay_res (c : Dev nD) (q : ℕ) (h : 2 * q + 1 < cfg0.N) (r : Fin 512) (l : Fin 1024) (R : Fin 16384) (hR : R.val = 512 * q + r.val) :
    k0_pay4 (F := Ideal) (iblk m c 0 ⟨2 * q + 1, h⟩) (addf (outsAt0 m c (2 * q) (by omega)).2.2 (k0_pay1 (iblk m c 1 ⟨2 * q + 1, h⟩) (iblk m c 2 ⟨2 * q + 1, h⟩) (iblk m c 3 ⟨2 * q + 1, h⟩) (iblk m c 4 ⟨2 * q + 1, h⟩))) (iblk m c 5 ⟨2 * q + 1, h⟩) (iblk m c 6 ⟨2 * q + 1, h⟩) (ix2 r l)
      = res m c R l := by
  refine (pay4_apply _ _ _ _ _ _).trans ?_
  rw [iblk5, iblk6]
  have hR' : R.val = 512 * ((2 * q + 1) / 2) + r.val := by omega
  refine congrArg (fun z => lnorm _ _ z _ _ l) (funext fun k => ?_)
  refine congrArg₂ HAdd.hAdd (congrArg (_ * ·) (iblk0 m c ⟨2 * q + 1, h⟩ r k R hR')) ?_
  rw [sum_halves]
  exact congrArg₂ HAdd.hAdd (acc_eq m c q (by omega) r k R hR) (pay_part m c ⟨2 * q + 1, h⟩ 1 (by show 1 = (2 * q + 1) % 2; omega) r k R hR')

/-- Result 0 at an index. -/
theorem G7_apply (c : Dev nD) (R : Fin 16384) (l : Fin 1024) : Value.G7 m c (ix2 R l) = res m c R l := by
  have hN : cfg0.N = 64 := N_0
  have hRl := R.isLt
  have hq : 2 * (R.val / 512) + 1 < cfg0.N := by omega
  have hpt : Value.pt7Of (ix2 R l) = 2 * (R.val / 512) + 1 := by
    show 2 * (1 * (R.val / 512 - 0) + 1 * (l.val / 1024 - 0)) + 1 = _
    have := l.isLt; omega
  have hloc : Value.loc7Of (ix2 R l) = ix2 (⟨R.val % 512, Nat.mod_lt _ (by decide)⟩ : Fin 512) l := by
    funext a; apply Fin.ext
    match a with
    | ⟨0, _⟩ => rfl
    | ⟨1, _⟩ => show l.val % 1024 = l.val; have := l.isLt; omega
  unfold Value.G7
  rw [dif_pos (by rw [hpt]; exact hq), ← Value.outsAt0_sweep m c _ (by rw [hpt]; exact hq)]
  have hpoint : ∀ n (h : n < cfg0.N) (h' : 2 * (R.val / 512) + 1 < cfg0.N), n = 2 * (R.val / 512) + 1 → outsAt0 m c n h = outsAt0 m c _ h' := by
    intro n h h' e; subst e; rfl
  rw [hpoint _ _ hq hpt, hloc,
    outsAt0_B m c ⟨2 * (R.val / 512) + 1, hq⟩ (by show ¬ (2 * (R.val / 512) + 1) % 2 = 0; omega) (by show (2 * (R.val / 512) + 1) % 2 = 1; omega) (by show (2 * (R.val / 512) + 1) % 2 = 1; omega)]
  dsimp only
  rw [out_B7]
  exact pay_res m c (R.val / 512) hq _ l R (by show R.val = 512 * (R.val / 512) + R.val % 512; omega)

/-- Result 1 at an index. -/
theorem G8_apply (c : Dev nD) (R : Fin 16384) (l : Fin 1024) : Value.G8 m c (ix2 R l) = res m c R l := by
  have hN : cfg0.N = 64 := N_0
  have hRl := R.isLt
  have hq : 2 * (R.val / 512) + 1 < cfg0.N := by omega
  have hpt : Value.pt8Of (ix2 R l) = 2 * (R.val / 512) + 1 := by
    show 2 * (1 * (R.val / 512 - 0) + 1 * (l.val / 1024 - 0)) + 1 = _
    have := l.isLt; omega
  have hloc : Value.loc8Of (ix2 R l) = ix2 (⟨R.val % 512, Nat.mod_lt _ (by decide)⟩ : Fin 512) l := by
    funext a; apply Fin.ext
    match a with
    | ⟨0, _⟩ => rfl
    | ⟨1, _⟩ => show l.val % 1024 = l.val; have := l.isLt; omega
  unfold Value.G8
  rw [dif_pos (by rw [hpt]; exact hq), ← Value.outsAt0_sweep m c _ (by rw [hpt]; exact hq)]
  have hpoint : ∀ n (h : n < cfg0.N) (h' : 2 * (R.val / 512) + 1 < cfg0.N), n = 2 * (R.val / 512) + 1 → outsAt0 m c n h = outsAt0 m c _ h' := by
    intro n h h' e; subst e; rfl
  rw [hpoint _ _ hq hpt, hloc,
    outsAt0_B m c ⟨2 * (R.val / 512) + 1, hq⟩ (by show ¬ (2 * (R.val / 512) + 1) % 2 = 0; omega) (by show (2 * (R.val / 512) + 1) % 2 = 1; omega) (by show (2 * (R.val / 512) + 1) % 2 = 1; omega)]
  dsimp only
  rw [out_B8]
  exact pay_res m c (R.val / 512) hq _ l R (by show R.val = 512 * (R.val / 512) + R.val % 512; omega)

end Cert.FfnIdeal.Block

end
-- ==== Proof.Pads.lean ====
/-
  Arrays padded after their last axis, read at an index.
-/
module

public import Idealize.ShloMosaic.Lib.Pointwise

@[expose] public section

noncomputable section

namespace Cert.Alg

open Idealize.ShloMosaic

variable {α : Type}

/-- A vector padded at its end: the vector, then the padding value. -/
theorem pad1_apply {b c p : Nat} (x : (⟨1, ![b]⟩ : Shape).Idx → α) {u : Shape} (v : u.Idx → α)
    (h : (⟨1, ![b]⟩ : Shape).Pads (![0] : Fin 1 → Nat) ![p] ![0] ⟨1, ![c]⟩) (hu : 0 < u.numel) (l : Fin c) :
    pad ⟨1, ![c]⟩ ![0] ![p] ![0] x v h hu (ix1 l) = if hl : l.val < b then x (ix1 ⟨l.val, hl⟩) else v (Shape.Idx.first hu) := by
  rw [pad_apply]
  by_cases hl : l.val < b
  · have hin : ∀ a : Fin 1, (![0] : Fin 1 → Nat) a ≤ (ix1 l (a.cast h.1)).val ∧ ((ix1 l (a.cast h.1)).val - (![0] : Fin 1 → Nat) a) % ((![0] : Fin 1 → Nat) a + 1) = 0
        ∧ ((ix1 l (a.cast h.1)).val - (![0] : Fin 1 → Nat) a) / ((![0] : Fin 1 → Nat) a + 1) < (⟨1, ![b]⟩ : Shape).size a := fun a => by
      match a with
      | ⟨0, _⟩ => exact ⟨Nat.zero_le _, Nat.mod_one _, by show l.val / 1 < b; omega⟩
    rw [dif_pos hin, dif_pos hl]
    congr 1
    funext a
    apply Fin.ext
    match a with
    | ⟨0, _⟩ => show l.val / 1 = l.val; omega
  · rw [dif_neg hl, dif_neg]
    intro hin
    have := (hin 0).2.2
    have : l.val / 1 < b := this
    omega

/-- A matrix padded at its rows' ends: the matrix, then the padding value. -/
theorem pad2_apply {a b c p : Nat} (x : (⟨2, ![a, b]⟩ : Shape).Idx → α) {u : Shape} (v : u.Idx → α)
    (h : (⟨2, ![a, b]⟩ : Shape).Pads (![0, 0] : Fin 2 → Nat) ![0, p] ![0, 0] ⟨2, ![a, c]⟩) (hu : 0 < u.numel) (k : Fin a) (l : Fin c) :
    pad ⟨2, ![a, c]⟩ ![0, 0] ![0, p] ![0, 0] x v h hu (ix2 k l) = if hl : l.val < b then x (ix2 k ⟨l.val, hl⟩) else v (Shape.Idx.first hu) := by
  rw [pad_apply]
  by_cases hl : l.val < b
  · have hin : ∀ i : Fin 2, (![0, 0] : Fin 2 → Nat) i ≤ (ix2 k l (i.cast h.1)).val ∧ ((ix2 k l (i.cast h.1)).val - (![0, 0] : Fin 2 → Nat) i) % ((![0, 0] : Fin 2 → Nat) i + 1) = 0
        ∧ ((ix2 k l (i.cast h.1)).val - (![0, 0] : Fin 2 → Nat) i) / ((![0, 0] : Fin 2 → Nat) i + 1) < (⟨2, ![a, b]⟩ : Shape).size i := fun i => by
      match i with
      | ⟨0, _⟩ => exact ⟨Nat.zero_le _, Nat.mod_one _, by show k.val / 1 < a; have := k.isLt; omega⟩
      | ⟨1, _⟩ => exact ⟨Nat.zero_le _, Nat.mod_one _, by show l.val / 1 < b; omega⟩
    rw [dif_pos hin, dif_pos hl]
    congr 1
    funext i
    apply Fin.ext
    match i with
    | ⟨0, _⟩ => show k.val / 1 = k.val; omega
    | ⟨1, _⟩ => show l.val / 1 = l.val; omega
  · rw [dif_neg hl, dif_neg]
    intro hin
    have := (hin 1).2.2
    have : l.val / 1 < b := this
    omega

/-- A stack of matrices padded at its rows' ends: the stack, then the padding value. -/
theorem pad3_apply {n a b c p : Nat} (x : (⟨3, ![n, a, b]⟩ : Shape).Idx → α) {u : Shape} (v : u.Idx → α)
    (h : (⟨3, ![n, a, b]⟩ : Shape).Pads (![0, 0, 0] : Fin 3 → Nat) ![0, 0, p] ![0, 0, 0] ⟨3, ![n, a, c]⟩) (hu : 0 < u.numel) (s : Fin n) (k : Fin a) (l : Fin c) :
    pad ⟨3, ![n, a, c]⟩ ![0, 0, 0] ![0, 0, p] ![0, 0, 0] x v h hu (ix3 s k l) = if hl : l.val < b then x (ix3 s k ⟨l.val, hl⟩) else v (Shape.Idx.first hu) := by
  rw [pad_apply]
  by_cases hl : l.val < b
  · have hin : ∀ i : Fin 3, (![0, 0, 0] : Fin 3 → Nat) i ≤ (ix3 s k l (i.cast h.1)).val ∧ ((ix3 s k l (i.cast h.1)).val - (![0, 0, 0] : Fin 3 → Nat) i) % ((![0, 0, 0] : Fin 3 → Nat) i + 1) = 0
        ∧ ((ix3 s k l (i.cast h.1)).val - (![0, 0, 0] : Fin 3 → Nat) i) / ((![0, 0, 0] : Fin 3 → Nat) i + 1) < (⟨3, ![n, a, b]⟩ : Shape).size i := fun i => by
      match i with
      | ⟨0, _⟩ => exact ⟨Nat.zero_le _, Nat.mod_one _, by show s.val / 1 < n; have := s.isLt; omega⟩
      | ⟨1, _⟩ => exact ⟨Nat.zero_le _, Nat.mod_one _, by show k.val / 1 < a; have := k.isLt; omega⟩
      | ⟨2, _⟩ => exact ⟨Nat.zero_le _, Nat.mod_one _, by show l.val / 1 < b; omega⟩
    rw [dif_pos hin, dif_pos hl]
    congr 1
    funext i
    apply Fin.ext
    match i with
    | ⟨0, _⟩ => show s.val / 1 = s.val; omega
    | ⟨1, _⟩ => show k.val / 1 = k.val; omega
    | ⟨2, _⟩ => show l.val / 1 = l.val; omega
  · rw [dif_neg hl, dif_neg]
    intro hin
    have := (hin 2).2.2
    have : l.val / 1 < b := this
    omega

/-- The integer zero as a float. -/
theorem sitofp_zero {S : Shape} (i : S.Idx) : sitofp (F := Ideal) .f32 (constantI S 32 0#32) i = (0 : EReal) := by
  show ((((0#32 : BitVec 32).toInt : ℝ) : EReal)) = 0
  simp

/-- A vector as a row. -/
theorem row_apply {n : Nat} (h : (⟨1, ![n]⟩ : Shape).BroadcastsInDim ⟨2, ![1, n]⟩ ![1]) (x : (⟨1, ![n]⟩ : Shape).Idx → α) (l : Fin n) :
    broadcastInDim ⟨2, ![1, n]⟩ ![1] h x (ix2 0 l) = x (ix1 l) := by
  rw [Pointwise.broadcastInDim_apply]
  congr 1
  funext a
  match a with
  | ⟨0, _⟩ =>
    show (if h1 : n = 1 then (⟨0, by omega⟩ : Fin n) else ⟨l.val, _⟩) = l
    split
    · apply Fin.ext; have := l.isLt; show 0 = l.val; omega
    · rfl

/-- A narrowing cast leaves an idealized value as it is. -/
theorem trunc_apply {s : Shape} (x : FVec Ideal s .f32) (h : FTy.bits .bf16 < FTy.bits .f32) (i : s.Idx) : (truncf .bf16 x h : FVec Ideal s .bf16) i = x i := rfl

end Cert.Alg

end
-- ==== Proof.FfnClaim.lean ====
/-
  The dense feed-forward's claims: what the reference's two results hold at an index, and that they are the kernel's.
-/
module

public import proofs.«01_k».proof.Proof.FfnFold
public import proofs.«01_k».proof.Proof.Gen.FfnRefIdeal.Run
public import proofs.«01_k».proof.Proof.Pads
public import proofs.«01_k».proof.Defs

@[expose] public section

set_option maxRecDepth 16384

noncomputable section

namespace Cert.FfnRefIdeal.Ref

open Idealize.ShloMosaic Idealize.ShloMosaic.TcCoe Idealize.SL.Sem
open Cert.FfnRefIdeal Cert.FfnRefIdeal.Gen Cert.FfnRefIdeal.Value Cert.Alg

/-- The residual and the feed-forward, as the reference's operations. -/
def zRef (X : FVec Ideal S16384x1024 .f32) (W1 W3 : FVec Ideal S1x1024x2816 .f32) (W2 : FVec Ideal S1x2816x1024 .f32) : FVec Ideal S16384x1024 .f32 :=
  let H := Host.dotGeneral dot_S16384x1024_S1024x2816_S16384x2816_1_0_0_1_n_n none X (shapeCast _ W1 shapeCasts_S1x1024x2816_S1024x2816)
  addf (mulf (broadcastInDim S16384x1024 ![] bcast_S_S16384x1024 (constant S_ .f32 0x3FB504F3#32)) X)
    (Host.dotGeneral dot_S16384x2816_S2816x1024_S16384x1024_1_0_0_1_n_n none
      (mulf (mulf H (Host.divf (broadcastInDim S16384x2816 ![] bcast_S_S16384x2816 (constant S_ .f32 0x3F800000#32)) (addf (broadcastInDim S16384x2816 ![] bcast_S_S16384x2816 (constant S_ .f32 0x3F800000#32)) (Host.exp (Host.negf H)))))
        (Host.dotGeneral dot_S16384x1024_S1024x2816_S16384x2816_1_0_0_1_n_n none X (shapeCast _ W3 shapeCasts_S1x1024x2816_S1024x2816)))
      (shapeCast _ W2 shapeCasts_S1x2816x1024_S2816x1024))

theorem zRef_apply (X : FVec Ideal S16384x1024 .f32) (W1 W3 : FVec Ideal S1x1024x2816 .f32) (W2 : FVec Ideal S1x2816x1024 .f32) (R : Fin 16384) (l : Fin 1024) :
    zRef X W1 W3 W2 (ix2 R l) = Ideal.ofBits .f32 0x3FB504F3#32 * X (ix2 R l)
      + ∑ J : Fin 2816, gated (∑ k : Fin 1024, X (ix2 R k) * W1 (ix3 0 k J)) (∑ k : Fin 1024, X (ix2 R k) * W3 (ix3 0 k J)) * W2 (ix3 0 J l) := by
  unfold zRef gated
  pointwise
  rfl

/-- The row means, as the reference's operations. -/
def mRef (Z : FVec Ideal S16384x1024 .f32) : FVec Ideal S16384x1 .f32 :=
  Host.divf (broadcastInDim S16384x1 ![0] bcast_S16384_S16384x1_0 (Host.reduceAdd Z (constant S_ .f32 0x00000000#32) reducesTo_S16384x1024_S16384_d1 h_S_)) (broadcastInDim S16384x1 ![] bcast_S_S16384x1 (constant S_ .f32 0x44800000#32))

/-- The layer norm, as the reference's operations. -/
def lnRef (Z : FVec Ideal S16384x1024 .f32) (Lg Lb : FVec Ideal S2x2x1024 .f32) : FVec Ideal S16384x1024 .f32 :=
  let D := subf Z (broadcastInDim S16384x1024 ![0, 1] bcast_S16384x1_S16384x1024_0_1 (mRef Z))
  addf (mulf (mulf D (broadcastInDim S16384x1024 ![0, 1] bcast_S16384x1_S16384x1024_0_1 (Host.rsqrt (addf (mRef (mulf D D)) (broadcastInDim S16384x1 ![] bcast_S_S16384x1 (constant S_ .f32 0x3727C5AC#32))))))
      (broadcastInDim S16384x1024 ![0, 1] bcast_S1x1024_S16384x1024_0_1 (broadcastInDim S1x1024 ![1] bcast_S1024_S1x1024_1 (shapeCast _ (extractStridedSlice S1x1x1024 ![0, 1, 0] Lg slices_S2x2x1024_S1x1x1024_0_1_0) shapeCasts_S1x1x1024_S1024))))
    (broadcastInDim S16384x1024 ![0, 1] bcast_S1x1024_S16384x1024_0_1 (broadcastInDim S1x1024 ![1] bcast_S1024_S1x1024_1 (shapeCast _ (extractStridedSlice S1x1x1024 ![0, 1, 0] Lb slices_S2x2x1024_S1x1x1024_0_1_0) shapeCasts_S1x1x1024_S1024)))

theorem lnRef_apply (Z : FVec Ideal S16384x1024 .f32) (Lg Lb : FVec Ideal S2x2x1024 .f32) (R : Fin 16384) (l : Fin 1024) :
    lnRef Z Lg Lb (ix2 R l)
      = lnorm (Ideal.ofBits .f32 0x44800000#32) (Ideal.ofBits .f32 0x3727C5AC#32) (fun k => Z (ix2 R k)) (Lg (ix3 0 1 l)) (Lb (ix3 0 1 l)) l := by
  unfold lnorm mean
  pointwise [lnRef, mRef]

variable (m : (ℓ : Loc nD τ sig) → Buf (Elt Ideal) ℓ)

theorem out0_eq (c : Dev nD) : res_out0 m c = lnRef (zRef (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) := rfl

theorem out1_eq (c : Dev nD) : res_out1 m c = truncf .bf16 (lnRef (zRef (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5))) bitsLt_bf16_f32 := rfl

end Cert.FfnRefIdeal.Ref

namespace Cert.Proof

open Idealize.ShloMosaic Idealize.SL.Sem

/-- The reference runs to the end and leaves its arguments and counters alone. -/
theorem quiescent_FfnRefIdeal : quiescent_FfnRefIdeal := fun m ρ _ =>
  (θ_run Cert.FfnRefIdeal.defs _ _).mono (fun r h => ⟨fun c => (h c).2.2, sem_eq_zero_of_no_sems (by decide) r.2⟩)
    (Cert.FfnRefIdeal.Value.run (F := Ideal) m ρ)

/-- The layer norm the reference computes is the kernel's result, at an index. -/
theorem ffn_eq (m : (ℓ : Loc Cert.FfnIdeal.nD Cert.FfnIdeal.τ Cert.FfnIdeal.sig) → Buf (Elt Ideal) ℓ) (c : Dev Cert.FfnIdeal.nD) (R : Fin 16384) (l : Fin 1024) :
    Cert.FfnRefIdeal.Ref.lnRef (Cert.FfnRefIdeal.Ref.zRef (Cert.FfnIdeal.Block.argX m c) (Cert.FfnIdeal.Block.argW1 m c) (Cert.FfnIdeal.Block.argW3 m c) (Cert.FfnIdeal.Block.argW2 m c)) (Cert.FfnIdeal.Block.argLg m c) (Cert.FfnIdeal.Block.argLb m c) (ix2 R l)
      = Cert.FfnIdeal.Block.res m c R l := by
  rw [Cert.FfnRefIdeal.Ref.lnRef_apply]
  simp only [Cert.FfnRefIdeal.Ref.zRef_apply]
  rfl

/-- Kernel and reference end with equal results. -/
theorem algebraic_Ffn : algebraic_FfnIdeal_FfnRefIdeal := by
  intro m ρ m' ρ' hpre hagree
  refine ⟨_, _, Cert.FfnIdeal.Value.run (F := Ideal) m ρ, ?_⟩
  refine (θ_run Cert.FfnRefIdeal.defs _ _).mono (fun _ h c => ⟨?_, ?_, (h c).2.2⟩) (Cert.FfnRefIdeal.Value.run (F := Ideal) m' ρ')
  · obtain ⟨a0, a1, a2, a3, a4, a5⟩ := hagree c
    rw [(h c).1, show Cert.FfnRefIdeal.Value.res_main_v38 m' c = _ from Cert.FfnRefIdeal.Ref.out0_eq m' c, a0, a1, a2, a3, a4, a5]
    funext i
    obtain ⟨R, l, rfl⟩ : ∃ (R : Fin 16384) (l : Fin 1024), i = ix2 R l := ⟨i 0, i 1, eq_ix2 i⟩
    exact (ffn_eq m c R l).trans (Cert.FfnIdeal.Block.G7_apply m c R l).symm
  · obtain ⟨a0, a1, a2, a3, a4, a5⟩ := hagree c
    rw [(h c).2.1, show Cert.FfnRefIdeal.Value.res_main_v39 m' c = _ from Cert.FfnRefIdeal.Ref.out1_eq m' c, a0, a1, a2, a3, a4, a5]
    funext i
    obtain ⟨R, l, rfl⟩ : ∃ (R : Fin 16384) (l : Fin 1024), i = ix2 R l := ⟨i 0, i 1, eq_ix2 i⟩
    exact (Cert.Alg.trunc_apply _ _ _).trans ((ffn_eq m c R l).trans (Cert.FfnIdeal.Block.G8_apply m c R l).symm)

end Cert.Proof

end
-- ==== Proof.InAttClaim.lean ====
/-
  The input projection's call for the attention's queries, keys and values: what its result array holds, and that it is its reference's.
-/
module

public import proofs.«01_k».proof.Proof.Gen.InAtt.Frame
public import proofs.«01_k».proof.Proof.Gen.InAttIdeal.Value
public import proofs.«01_k».proof.Proof.Gen.InAttRefIdeal.Run
public import proofs.«01_k».proof.Proof.Pads
public import proofs.«01_k».proof.Defs
public import Idealize.ShloMosaic.Adequacy
public import Idealize.ShloMosaic.Init
public import Idealize.ShloMosaic.Lib.Quiescent
public import Idealize.ShloMosaic.Lib.Tactic
public import Idealize.ShloMosaic.Lib.Pointwise

@[expose] public section

set_option maxRecDepth 16384

noncomputable section

namespace Cert.InAttIdeal.Block

open Idealize.ShloMosaic Idealize.ShloMosaic.TcCoe Idealize.SL.Sem
open Cert.InAttIdeal Cert.InAttIdeal.Gen

variable (m : (ℓ : Loc nD τ sig) → Buf (Elt Ideal) ℓ)

/-- The arguments, as arrays: the rows, the projection's weights and its biases. -/
abbrev argX (c : Dev nD) : FVec Ideal S16384x1024 .f32 := m ((c : Thread nD τ).loc main_arg0)
abbrev argW (c : Dev nD) : FVec Ideal S2x1024x9992 .f32 := m ((c : Thread nD τ).loc main_arg1)
abbrev argB (c : Dev nD) : FVec Ideal S2x9992 .f32 := m ((c : Thread nD τ).loc main_arg2)

/-! ## What one point computes -/

theorem hz2 : (![0, 0] : Fin 2 → Nat) = fun _ => 0 := funext fun a => by fin_cases a <;> rfl

/-- The output block is the body's payload of the input blocks. -/
theorem out_eq (x0 : Vec Ideal S1024x1024 .bf16) (x1 : Vec Ideal S1024x768 .bf16) (x2 : Vec Ideal S1x768 .f32) : out0_3 x0 x1 x2 = k0_pay1 x0 x1 x2 := by
  unfold out0_3
  rw [View.canon_unit_zero hz2]
  simp only [View.ld_unit_zero (S := S1024x1024) hz2, View.ld_unit_zero (S := S1024x768) hz2, View.ld_unit_zero (S := S1x768) hz2]

/-- The payload at an index: the row's product with the column, and the column's bias. -/
theorem pay_apply (x0 : FVec Ideal S1024x1024 .bf16) (x1 : FVec Ideal S1024x768 .bf16) (x2 : FVec Ideal S1x768 .f32) (r : Fin 1024) (l : Fin 768) :
    k0_pay1 (F := Ideal) x0 x1 x2 (ix2 r l) = (∑ k : Fin 1024, x0 (ix2 r k) * x1 (ix2 k l)) + x2 (ix2 0 l) := by
  pointwise [k0_pay1]

/-! ## The arrays the call reads -/

theorem V_x (c : Dev nD) (r : Fin 16384) (k : Fin 1024) : V m c main_v4 (ix2 r k) = argX m c (ix2 r k) := by
  have h : V m c main_v4 = truncf .bf16 (argX m c) bitsLt_bf16_f32 := by
    show StableHlo.after hostOps0 _ _ = _
    after_results
  rw [h]; rfl

theorem V_w (c : Dev nD) (k : Fin 1024) (l : Fin 2304) (L : Fin 9992) (hL : L.val = 0 + l.val) : V m c main_v6 (ix2 k l) = argW m c (ix3 0 k L) := by
  have h : V m c main_v6 = truncf .bf16 (extractStridedSlice S1024x2304 ![0, 0] (shapeCast _ (extractStridedSlice S1x1024x9992 ![0, 0, 0] (argW m c) slices_S2x1024x9992_S1x1024x9992_0_0_0) shapeCasts_S1x1024x9992_S1024x9992) slices_S1024x9992_S1024x2304_0_0) bitsLt_bf16_f32 := by
    show StableHlo.after hostOps0 _ _ = _
    after_results
    rfl
  rw [h]
  pointwise
  exact congrArg (argW m c) (congrArg (ix3 0 k) (Fin.ext (by simpa using hL.symm)))

theorem V_b (c : Dev nD) (l : Fin 2304) (L : Fin 9992) (hL : L.val = 0 + l.val) : V m c main_v8 (ix2 0 l) = argB m c (ix2 0 L) := by
  have h : V m c main_v8 = broadcastInDim S1x2304 ![1] bcast_S2304_S1x2304_1 (extractStridedSlice S2304 ![0] (shapeCast _ (extractStridedSlice S1x9992 ![0, 0] (argB m c) slices_S2x9992_S1x9992_0_0) shapeCasts_S1x9992_S9992) slices_S9992_S2304_0) := by
    show StableHlo.after hostOps0 _ _ = _
    after_results
    rfl
  rw [h]
  pointwise
  exact congrArg (argB m c) (congrArg (ix2 0) (Fin.ext (by simpa using hL.symm)))

/-- Every point writes its block back. -/
theorem flush3 : ∀ t : Fin cfg0.N, (cfg0.win 3).flush t = true :=
  (by decide +kernel : ∀ t : Fin grid0.N, _)

/-! ## The blocks a point reads -/

/-- The printed index maps, over the grid: point `t` is row block `t / 3`, column block `t % 3`. -/
theorem idx_t : ∀ t : Fin cfg0.N, win0_0.index t = ![t.val / 3, 0] ∧ win0_1.index t = ![0, t.val % 3] ∧ win0_2.index t = ![0, t.val % 3]
    ∧ win0_3.index t = ![t.val / 3, t.val % 3] :=
  (by decide +kernel : ∀ t : Fin grid0.N, _)

theorem iblk0 (c : Dev nD) (t : Fin cfg0.N) (r : Fin 1024) (k : Fin 1024) (R : Fin 16384) (hR : R.val = 1024 * (t.val / 3) + r.val) :
    (iblk m c 0 t : FVec Ideal S1024x1024 .bf16) (ix2 r k) = argX m c (ix2 R k) := by
  have h := (idx_t t).1
  rw [← V_x m c R k]
  unfold iblk
  rw [View.read_apply]
  show V m c main_v4 _ = _
  congr 1
  funext a
  apply Fin.ext
  match a with
  | ⟨0, _⟩ => show win0_0.index t 0 * 1024 + 1 * r.val = R.val; rw [h]; show t.val / 3 * 1024 + _ = _; omega
  | ⟨1, _⟩ => show win0_0.index t 1 * 1024 + 1 * k.val = k.val; rw [h]; show 0 * 1024 + _ = _; omega

theorem iblk1 (c : Dev nD) (t : Fin cfg0.N) (k : Fin 1024) (l : Fin 768) (L : Fin 2304) (hL : L.val = 768 * (t.val % 3) + l.val) :
    (iblk m c 1 t : FVec Ideal S1024x768 .bf16) (ix2 k l) = V m c main_v6 (ix2 k L) := by
  have h := (idx_t t).2.1
  unfold iblk
  rw [View.read_apply]
  show V m c main_v6 _ = _
  congr 1
  funext a
  apply Fin.ext
  match a with
  | ⟨0, _⟩ => show win0_1.index t 0 * 1024 + 1 * k.val = k.val; rw [h]; show 0 * 1024 + _ = _; omega
  | ⟨1, _⟩ => show win0_1.index t 1 * 768 + 1 * l.val = L.val; rw [h]; show t.val % 3 * 768 + _ = _; omega

theorem iblk2 (c : Dev nD) (t : Fin cfg0.N) (l : Fin 768) (L : Fin 2304) (hL : L.val = 768 * (t.val % 3) + l.val) :
    (iblk m c 2 t : FVec Ideal S1x768 .f32) (ix2 0 l) = V m c main_v8 (ix2 0 L) := by
  have h := (idx_t t).2.2.1
  unfold iblk
  rw [View.read_apply]
  show V m c main_v8 _ = _
  congr 1
  funext a
  apply Fin.ext
  match a with
  | ⟨0, _⟩ => show win0_2.index t 0 * 1 + 1 * 0 = 0; rw [h]; rfl
  | ⟨1, _⟩ => show win0_2.index t 1 * 768 + 1 * l.val = L.val; rw [h]; show t.val % 3 * 768 + _ = _; omega

/-! ## The result array -/

/-- The result array at an index: the row's product with the column, and the column's bias. -/
theorem arr_apply (c : Dev nD) (R : Fin 16384) (L : Fin 2304) :
    ((dats m 0 c).arrAt 3 cfg0.N : FVec Ideal S16384x2304 .bf16) (ix2 R L)
      = (∑ k : Fin 1024, argX m c (ix2 R k) * (V m c main_v6 : FVec Ideal S1024x2304 .bf16) (ix2 k L)) + (V m c main_v8 : FVec Ideal S1x2304 .f32) (ix2 0 L) := by
  have hN : cfg0.N = 48 := N_0
  have hRl := R.isLt
  have hLl := L.isLt
  obtain ⟨t, ht⟩ : ∃ t : Fin cfg0.N, t.val = 3 * (R.val / 1024) + L.val / 768 := ⟨⟨3 * (R.val / 1024) + L.val / 768, by omega⟩, rfl⟩
  obtain ⟨r, hr⟩ : ∃ r : Fin 1024, r.val = R.val % 1024 := ⟨⟨R.val % 1024, Nat.mod_lt _ (by decide)⟩, rfl⟩
  obtain ⟨l, hl⟩ : ∃ l : Fin 768, l.val = L.val % 768 := ⟨⟨L.val % 768, Nat.mod_lt _ (by decide)⟩, rfl⟩
  have hi := (idx_t t).2.2.2
  have hb := congrFun ((Value.blocks3 m c t (flush3 t)).trans (Value.flushed3 m c t)) (ix2 r l)
  rw [View.read_apply] at hb
  have he : ((cfg0.win 3).blk t).view.emb (ix2 r l) = ix2 R L := by
    funext a
    apply Fin.ext
    match a with
    | ⟨0, _⟩ => show win0_3.index t 0 * 1024 + 1 * r.val = R.val; rw [hi]; show t.val / 3 * 1024 + _ = _; omega
    | ⟨1, _⟩ => show win0_3.index t 1 * 768 + 1 * l.val = L.val; rw [hi]; show t.val % 3 * 768 + _ = _; omega
  rw [he] at hb
  refine hb.trans ?_
  show out0_3 (iblk m c 0 t) (iblk m c 1 t) (iblk m c 2 t) (ix2 r l) = _
  rw [out_eq]
  refine (pay_apply _ _ _ r l).trans ?_
  refine congrArg₂ HAdd.hAdd (Finset.sum_congr rfl fun k _ => congrArg₂ HMul.hMul (iblk0 m c t r k R (by omega)) (iblk1 m c t k l L (by omega))) (iblk2 m c t l L (by omega))

end Cert.InAttIdeal.Block

namespace Cert.InAttRefIdeal.Ref

open Idealize.ShloMosaic Idealize.SL.Sem
open Cert.InAttRefIdeal Cert.InAttRefIdeal.Gen

/-- The reference's result at an index: the row's product with the column of all 9992, and its bias. -/
theorem ref_apply (x : FVec Ideal S16384x1024 .f32) (w : FVec Ideal S2x1024x9992 .f32) (b : FVec Ideal S2x9992 .f32) (R : Fin 16384) (l : Fin 2304) (L : Fin 9992) (hL : L.val = 0 + l.val) :
    truncf .bf16 (extractStridedSlice S16384x2304 ![0, 0] (addf (Host.dotGeneral dot_S16384x1024_S1024x9992_S16384x9992_1_0_0_1_n_n none x (shapeCast _ (extractStridedSlice S1x1024x9992 ![0, 0, 0] w slices_S2x1024x9992_S1x1024x9992_0_0_0) shapeCasts_S1x1024x9992_S1024x9992)) (broadcastInDim S16384x9992 ![0, 1] bcast_S1x9992_S16384x9992_0_1 (broadcastInDim S1x9992 ![1] bcast_S9992_S1x9992_1 (shapeCast _ (extractStridedSlice S1x9992 ![0, 0] b slices_S2x9992_S1x9992_0_0) shapeCasts_S1x9992_S9992)))) slices_S16384x9992_S16384x2304_0_0) bitsLt_bf16_f32 (ix2 R l)
      = (∑ k : Fin 1024, x (ix2 R k) * w (ix3 0 k L)) + b (ix2 0 L) := by
  pointwise
  exact congrArg₂ HAdd.hAdd (Finset.sum_congr rfl fun k _ => congrArg₂ HMul.hMul rfl (congrArg w (congrArg (ix3 0 k) (Fin.ext (by simpa using hL.symm)))))
    (congrArg b (congrArg (ix2 0) (Fin.ext (by simpa using hL.symm))))

end Cert.InAttRefIdeal.Ref

namespace Cert.Proof

open Idealize.ShloMosaic Idealize.SL.Sem

/-- The reference runs to the end and leaves its arguments and counters alone. -/
theorem quiescent_InAttRefIdeal : quiescent_InAttRefIdeal := fun m ρ _ =>
  (θ_run Cert.InAttRefIdeal.defs _ _).mono (fun r h => ⟨fun c => (h c).2, sem_eq_zero_of_no_sems (by decide) r.2⟩)
    (Cert.InAttRefIdeal.Value.run (F := Ideal) m ρ)

/-- Kernel and reference end with equal results. -/
theorem algebraic_InAtt : algebraic_InAttIdeal_InAttRefIdeal := by
  intro m ρ m' ρ' hpre hagree
  refine ⟨_, Cert.InAttIdeal.Value.run_blocks (F := Ideal) m ρ, ?_⟩
  refine (θ_run Cert.InAttRefIdeal.defs _ _).mono (fun _ h c => ⟨?_, (h c).2⟩) (Cert.InAttRefIdeal.Value.run (F := Ideal) m' ρ')
  rw [(h c).1]
  obtain ⟨a0, a1, a2⟩ := hagree c
  rw [a0, a1, a2]
  funext i
  obtain ⟨R, l, rfl⟩ : ∃ (R : Fin 16384) (l : Fin 2304), i = ix2 R l := ⟨i 0, i 1, eq_ix2 i⟩
  obtain ⟨L, hL⟩ : ∃ L : Fin 9992, L.val = 0 + l.val := ⟨⟨0 + l.val, by have := l.isLt; omega⟩, rfl⟩
  refine (Cert.InAttRefIdeal.Ref.ref_apply _ _ _ R l L hL).trans (Eq.trans ?_ (Cert.InAttIdeal.Block.arr_apply m c R l).symm)
  exact congrArg₂ HAdd.hAdd (Finset.sum_congr rfl fun k _ => congrArg₂ HMul.hMul rfl (Cert.InAttIdeal.Block.V_w m c k l L hL).symm) (Cert.InAttIdeal.Block.V_b m c l L hL).symm

end Cert.Proof

end
-- ==== Proof.InSgClaim.lean ====
/-
  The input projection's call for the spatial gate's two halves: what its result array holds, and that it is its reference's.
-/
module

public import proofs.«01_k».proof.Proof.Gen.InSg.Frame
public import proofs.«01_k».proof.Proof.Gen.InSgIdeal.Value
public import proofs.«01_k».proof.Proof.Gen.InSgRefIdeal.Run
public import proofs.«01_k».proof.Proof.Pads
public import proofs.«01_k».proof.Defs
public import Idealize.ShloMosaic.Adequacy
public import Idealize.ShloMosaic.Init
public import Idealize.ShloMosaic.Lib.Quiescent
public import Idealize.ShloMosaic.Lib.Tactic
public import Idealize.ShloMosaic.Lib.Pointwise

@[expose] public section

set_option maxRecDepth 16384

noncomputable section

namespace Cert.InSgIdeal.Block

open Idealize.ShloMosaic Idealize.ShloMosaic.TcCoe Idealize.SL.Sem
open Cert.InSgIdeal Cert.InSgIdeal.Gen

variable (m : (ℓ : Loc nD τ sig) → Buf (Elt Ideal) ℓ)

/-- The arguments, as arrays: the rows, the projection's weights and its biases. -/
abbrev argX (c : Dev nD) : FVec Ideal S16384x1024 .f32 := m ((c : Thread nD τ).loc main_arg0)
abbrev argW (c : Dev nD) : FVec Ideal S2x1024x9992 .f32 := m ((c : Thread nD τ).loc main_arg1)
abbrev argB (c : Dev nD) : FVec Ideal S2x9992 .f32 := m ((c : Thread nD τ).loc main_arg2)

/-! ## What one point computes -/

theorem hz2 : (![0, 0] : Fin 2 → Nat) = fun _ => 0 := funext fun a => by fin_cases a <;> rfl

/-- The output block is the body's payload of the input blocks. -/
theorem out_eq (x0 : Vec Ideal S1024x1024 .bf16) (x1 : Vec Ideal S1024x768 .bf16) (x2 : Vec Ideal S1x768 .f32) : out0_3 x0 x1 x2 = k0_pay1 x0 x1 x2 := by
  unfold out0_3
  rw [View.canon_unit_zero hz2]
  simp only [View.ld_unit_zero (S := S1024x1024) hz2, View.ld_unit_zero (S := S1024x768) hz2, View.ld_unit_zero (S := S1x768) hz2]

/-- The payload at an index: the row's product with the column, and the column's bias. -/
theorem pay_apply (x0 : FVec Ideal S1024x1024 .bf16) (x1 : FVec Ideal S1024x768 .bf16) (x2 : FVec Ideal S1x768 .f32) (r : Fin 1024) (l : Fin 768) :
    k0_pay1 (F := Ideal) x0 x1 x2 (ix2 r l) = (∑ k : Fin 1024, x0 (ix2 r k) * x1 (ix2 k l)) + x2 (ix2 0 l) := by
  pointwise [k0_pay1]

/-! ## The arrays the call reads -/

theorem V_x (c : Dev nD) (r : Fin 16384) (k : Fin 1024) : V m c main_v4 (ix2 r k) = argX m c (ix2 r k) := by
  have h : V m c main_v4 = truncf .bf16 (argX m c) bitsLt_bf16_f32 := by
    show StableHlo.after hostOps0 _ _ = _
    after_results
  rw [h]; rfl

theorem V_w (c : Dev nD) (k : Fin 1024) (l : Fin 1536) (L : Fin 9992) (hL : L.val = 2304 + l.val) : V m c main_v6 (ix2 k l) = argW m c (ix3 0 k L) := by
  have h : V m c main_v6 = truncf .bf16 (extractStridedSlice S1024x1536 ![0, 2304] (shapeCast _ (extractStridedSlice S1x1024x9992 ![0, 0, 0] (argW m c) slices_S2x1024x9992_S1x1024x9992_0_0_0) shapeCasts_S1x1024x9992_S1024x9992) slices_S1024x9992_S1024x1536_0_2304) bitsLt_bf16_f32 := by
    show StableHlo.after hostOps0 _ _ = _
    after_results
    rfl
  rw [h]
  pointwise
  exact congrArg (argW m c) (congrArg (ix3 0 k) (Fin.ext (by simpa using hL.symm)))

theorem V_b (c : Dev nD) (l : Fin 1536) (L : Fin 9992) (hL : L.val = 2304 + l.val) : V m c main_v8 (ix2 0 l) = argB m c (ix2 0 L) := by
  have h : V m c main_v8 = broadcastInDim S1x1536 ![1] bcast_S1536_S1x1536_1 (extractStridedSlice S1536 ![2304] (shapeCast _ (extractStridedSlice S1x9992 ![0, 0] (argB m c) slices_S2x9992_S1x9992_0_0) shapeCasts_S1x9992_S9992) slices_S9992_S1536_2304) := by
    show StableHlo.after hostOps0 _ _ = _
    after_results
    rfl
  rw [h]
  pointwise
  exact congrArg (argB m c) (congrArg (ix2 0) (Fin.ext (by simpa using hL.symm)))

/-- Every point writes its block back. -/
theorem flush3 : ∀ t : Fin cfg0.N, (cfg0.win 3).flush t = true :=
  (by decide +kernel : ∀ t : Fin grid0.N, _)

/-! ## The blocks a point reads -/

/-- The printed index maps, over the grid: point `t` is row block `t / 2`, column block `t % 2`. -/
theorem idx_t : ∀ t : Fin cfg0.N, win0_0.index t = ![t.val / 2, 0] ∧ win0_1.index t = ![0, t.val % 2] ∧ win0_2.index t = ![0, t.val % 2]
    ∧ win0_3.index t = ![t.val / 2, t.val % 2] :=
  (by decide +kernel : ∀ t : Fin grid0.N, _)

theorem iblk0 (c : Dev nD) (t : Fin cfg0.N) (r : Fin 1024) (k : Fin 1024) (R : Fin 16384) (hR : R.val = 1024 * (t.val / 2) + r.val) :
    (iblk m c 0 t : FVec Ideal S1024x1024 .bf16) (ix2 r k) = argX m c (ix2 R k) := by
  have h := (idx_t t).1
  rw [← V_x m c R k]
  unfold iblk
  rw [View.read_apply]
  show V m c main_v4 _ = _
  congr 1
  funext a
  apply Fin.ext
  match a with
  | ⟨0, _⟩ => show win0_0.index t 0 * 1024 + 1 * r.val = R.val; rw [h]; show t.val / 2 * 1024 + _ = _; omega
  | ⟨1, _⟩ => show win0_0.index t 1 * 1024 + 1 * k.val = k.val; rw [h]; show 0 * 1024 + _ = _; omega

theorem iblk1 (c : Dev nD) (t : Fin cfg0.N) (k : Fin 1024) (l : Fin 768) (L : Fin 1536) (hL : L.val = 768 * (t.val % 2) + l.val) :
    (iblk m c 1 t : FVec Ideal S1024x768 .bf16) (ix2 k l) = V m c main_v6 (ix2 k L) := by
  have h := (idx_t t).2.1
  unfold iblk
  rw [View.read_apply]
  show V m c main_v6 _ = _
  congr 1
  funext a
  apply Fin.ext
  match a with
  | ⟨0, _⟩ => show win0_1.index t 0 * 1024 + 1 * k.val = k.val; rw [h]; show 0 * 1024 + _ = _; omega
  | ⟨1, _⟩ => show win0_1.index t 1 * 768 + 1 * l.val = L.val; rw [h]; show t.val % 2 * 768 + _ = _; omega

theorem iblk2 (c : Dev nD) (t : Fin cfg0.N) (l : Fin 768) (L : Fin 1536) (hL : L.val = 768 * (t.val % 2) + l.val) :
    (iblk m c 2 t : FVec Ideal S1x768 .f32) (ix2 0 l) = V m c main_v8 (ix2 0 L) := by
  have h := (idx_t t).2.2.1
  unfold iblk
  rw [View.read_apply]
  show V m c main_v8 _ = _
  congr 1
  funext a
  apply Fin.ext
  match a with
  | ⟨0, _⟩ => show win0_2.index t 0 * 1 + 1 * 0 = 0; rw [h]; rfl
  | ⟨1, _⟩ => show win0_2.index t 1 * 768 + 1 * l.val = L.val; rw [h]; show t.val % 2 * 768 + _ = _; omega

/-! ## The result array -/

/-- The result array at an index: the row's product with the column, and the column's bias. -/
theorem arr_apply (c : Dev nD) (R : Fin 16384) (L : Fin 1536) :
    ((dats m 0 c).arrAt 3 cfg0.N : FVec Ideal S16384x1536 .bf16) (ix2 R L)
      = (∑ k : Fin 1024, argX m c (ix2 R k) * (V m c main_v6 : FVec Ideal S1024x1536 .bf16) (ix2 k L)) + (V m c main_v8 : FVec Ideal S1x1536 .f32) (ix2 0 L) := by
  have hN : cfg0.N = 32 := N_0
  have hRl := R.isLt
  have hLl := L.isLt
  obtain ⟨t, ht⟩ : ∃ t : Fin cfg0.N, t.val = 2 * (R.val / 1024) + L.val / 768 := ⟨⟨2 * (R.val / 1024) + L.val / 768, by omega⟩, rfl⟩
  obtain ⟨r, hr⟩ : ∃ r : Fin 1024, r.val = R.val % 1024 := ⟨⟨R.val % 1024, Nat.mod_lt _ (by decide)⟩, rfl⟩
  obtain ⟨l, hl⟩ : ∃ l : Fin 768, l.val = L.val % 768 := ⟨⟨L.val % 768, Nat.mod_lt _ (by decide)⟩, rfl⟩
  have hi := (idx_t t).2.2.2
  have hb := congrFun ((Value.blocks3 m c t (flush3 t)).trans (Value.flushed3 m c t)) (ix2 r l)
  rw [View.read_apply] at hb
  have he : ((cfg0.win 3).blk t).view.emb (ix2 r l) = ix2 R L := by
    funext a
    apply Fin.ext
    match a with
    | ⟨0, _⟩ => show win0_3.index t 0 * 1024 + 1 * r.val = R.val; rw [hi]; show t.val / 2 * 1024 + _ = _; omega
    | ⟨1, _⟩ => show win0_3.index t 1 * 768 + 1 * l.val = L.val; rw [hi]; show t.val % 2 * 768 + _ = _; omega
  rw [he] at hb
  refine hb.trans ?_
  show out0_3 (iblk m c 0 t) (iblk m c 1 t) (iblk m c 2 t) (ix2 r l) = _
  rw [out_eq]
  refine (pay_apply _ _ _ r l).trans ?_
  refine congrArg₂ HAdd.hAdd (Finset.sum_congr rfl fun k _ => congrArg₂ HMul.hMul (iblk0 m c t r k R (by omega)) (iblk1 m c t k l L (by omega))) (iblk2 m c t l L (by omega))

end Cert.InSgIdeal.Block

namespace Cert.InSgRefIdeal.Ref

open Idealize.ShloMosaic Idealize.SL.Sem
open Cert.InSgRefIdeal Cert.InSgRefIdeal.Gen

/-- The reference's result at an index: the row's product with the column of all 9992, and its bias. -/
theorem ref_apply (x : FVec Ideal S16384x1024 .f32) (w : FVec Ideal S2x1024x9992 .f32) (b : FVec Ideal S2x9992 .f32) (R : Fin 16384) (l : Fin 1536) (L : Fin 9992) (hL : L.val = 2304 + l.val) :
    truncf .bf16 (extractStridedSlice S16384x1536 ![0, 2304] (addf (Host.dotGeneral dot_S16384x1024_S1024x9992_S16384x9992_1_0_0_1_n_n none x (shapeCast _ (extractStridedSlice S1x1024x9992 ![0, 0, 0] w slices_S2x1024x9992_S1x1024x9992_0_0_0) shapeCasts_S1x1024x9992_S1024x9992)) (broadcastInDim S16384x9992 ![0, 1] bcast_S1x9992_S16384x9992_0_1 (broadcastInDim S1x9992 ![1] bcast_S9992_S1x9992_1 (shapeCast _ (extractStridedSlice S1x9992 ![0, 0] b slices_S2x9992_S1x9992_0_0) shapeCasts_S1x9992_S9992)))) slices_S16384x9992_S16384x1536_0_2304) bitsLt_bf16_f32 (ix2 R l)
      = (∑ k : Fin 1024, x (ix2 R k) * w (ix3 0 k L)) + b (ix2 0 L) := by
  pointwise
  exact congrArg₂ HAdd.hAdd (Finset.sum_congr rfl fun k _ => congrArg₂ HMul.hMul rfl (congrArg w (congrArg (ix3 0 k) (Fin.ext (by simpa using hL.symm)))))
    (congrArg b (congrArg (ix2 0) (Fin.ext (by simpa using hL.symm))))

end Cert.InSgRefIdeal.Ref

namespace Cert.Proof

open Idealize.ShloMosaic Idealize.SL.Sem

/-- The reference runs to the end and leaves its arguments and counters alone. -/
theorem quiescent_InSgRefIdeal : quiescent_InSgRefIdeal := fun m ρ _ =>
  (θ_run Cert.InSgRefIdeal.defs _ _).mono (fun r h => ⟨fun c => (h c).2, sem_eq_zero_of_no_sems (by decide) r.2⟩)
    (Cert.InSgRefIdeal.Value.run (F := Ideal) m ρ)

/-- Kernel and reference end with equal results. -/
theorem algebraic_InSg : algebraic_InSgIdeal_InSgRefIdeal := by
  intro m ρ m' ρ' hpre hagree
  refine ⟨_, Cert.InSgIdeal.Value.run_blocks (F := Ideal) m ρ, ?_⟩
  refine (θ_run Cert.InSgRefIdeal.defs _ _).mono (fun _ h c => ⟨?_, (h c).2⟩) (Cert.InSgRefIdeal.Value.run (F := Ideal) m' ρ')
  rw [(h c).1]
  obtain ⟨a0, a1, a2⟩ := hagree c
  rw [a0, a1, a2]
  funext i
  obtain ⟨R, l, rfl⟩ : ∃ (R : Fin 16384) (l : Fin 1536), i = ix2 R l := ⟨i 0, i 1, eq_ix2 i⟩
  obtain ⟨L, hL⟩ : ∃ L : Fin 9992, L.val = 2304 + l.val := ⟨⟨2304 + l.val, by have := l.isLt; omega⟩, rfl⟩
  refine (Cert.InSgRefIdeal.Ref.ref_apply _ _ _ R l L hL).trans (Eq.trans ?_ (Cert.InSgIdeal.Block.arr_apply m c R l).symm)
  exact congrArg₂ HAdd.hAdd (Finset.sum_congr rfl fun k _ => congrArg₂ HMul.hMul rfl (Cert.InSgIdeal.Block.V_w m c k l L hL).symm) (Cert.InSgIdeal.Block.V_b m c l L hL).symm

end Cert.Proof

end
-- ==== Proof.InMlClaim.lean ====
/-
  The input projection's call for the mLSTM's queries, keys, values and output gates: what its result array holds, and that it is its reference's.
-/
module

public import proofs.«01_k».proof.Proof.Gen.InMl.Frame
public import proofs.«01_k».proof.Proof.Gen.InMlIdeal.Value
public import proofs.«01_k».proof.Proof.Gen.InMlRefIdeal.Run
public import proofs.«01_k».proof.Proof.Pads
public import proofs.«01_k».proof.Defs
public import Idealize.ShloMosaic.Adequacy
public import Idealize.ShloMosaic.Init
public import Idealize.ShloMosaic.Lib.Quiescent
public import Idealize.ShloMosaic.Lib.Tactic
public import Idealize.ShloMosaic.Lib.Pointwise

@[expose] public section

set_option maxRecDepth 16384

noncomputable section

namespace Cert.InMlIdeal.Block

open Idealize.ShloMosaic Idealize.ShloMosaic.TcCoe Idealize.SL.Sem
open Cert.InMlIdeal Cert.InMlIdeal.Gen

variable (m : (ℓ : Loc nD τ sig) → Buf (Elt Ideal) ℓ)

/-- The arguments, as arrays: the rows, the projection's weights and its biases. -/
abbrev argX (c : Dev nD) : FVec Ideal S16384x1024 .f32 := m ((c : Thread nD τ).loc main_arg0)
abbrev argW (c : Dev nD) : FVec Ideal S2x1024x9992 .f32 := m ((c : Thread nD τ).loc main_arg1)
abbrev argB (c : Dev nD) : FVec Ideal S2x9992 .f32 := m ((c : Thread nD τ).loc main_arg2)

/-! ## What one point computes -/

theorem hz2 : (![0, 0] : Fin 2 → Nat) = fun _ => 0 := funext fun a => by fin_cases a <;> rfl

/-- The output block is the body's payload of the input blocks. -/
theorem out_eq (x0 : Vec Ideal S1024x1024 .bf16) (x1 : Vec Ideal S1024x1024 .bf16) (x2 : Vec Ideal S1x1024 .f32) : out0_3 x0 x1 x2 = k0_pay1 x0 x1 x2 := by
  unfold out0_3
  rw [View.canon_unit_zero hz2]
  simp only [View.ld_unit_zero (S := S1024x1024) hz2, View.ld_unit_zero (S := S1024x1024) hz2, View.ld_unit_zero (S := S1x1024) hz2]

/-- The payload at an index: the row's product with the column, and the column's bias. -/
theorem pay_apply (x0 : FVec Ideal S1024x1024 .bf16) (x1 : FVec Ideal S1024x1024 .bf16) (x2 : FVec Ideal S1x1024 .f32) (r : Fin 1024) (l : Fin 1024) :
    k0_pay1 (F := Ideal) x0 x1 x2 (ix2 r l) = (∑ k : Fin 1024, x0 (ix2 r k) * x1 (ix2 k l)) + x2 (ix2 0 l) := by
  pointwise [k0_pay1]

/-! ## The arrays the call reads -/

theorem V_x (c : Dev nD) (r : Fin 16384) (k : Fin 1024) : V m c main_v44 (ix2 r k) = argX m c (ix2 r k) := by
  have h : V m c main_v44 = truncf .bf16 (argX m c) bitsLt_bf16_f32 := by
    show StableHlo.after _ _ _ = _
    simp only [List.flatten_cons, List.flatten_nil, List.append_nil, List.cons_append, List.nil_append]
    after_results
  rw [h]; rfl

/-- Column `1024 p + 256 h + d` of the padded layout, and column `3840 + 192 (4 p + h) + d` of the projection. -/
def col (p h : Fin 4) (d : Fin 256) : Fin 4096 := ⟨1024 * p.val + 256 * h.val + d.val, by omega⟩
def src (p h : Fin 4) (d : Fin 192) : Fin 9992 := ⟨3840 + 192 * (4 * p.val + h.val) + d.val, by omega⟩

/-- Four heads of a matrix's columns from `o`, each padded with zero columns to 256. -/
theorem heads2_apply (W : FVec Ideal S1024x9992 .f32) (o : ℕ) (hs : S1024x9992.Slices ![0, o] S1024x768) (k : Fin 1024) (h : Fin 4) (d : Fin 256) (l : Fin 1024) (hl : l.val = 256 * h.val + d.val)
    (L : Fin 192 → Fin 9992) (hL : ∀ e, (L e).val = o + 192 * h.val + e.val) :
    shapeCast S1024x1024 (pad S1024x4x256 ![0, 0, 0] ![0, 0, 64] ![0, 0, 0] (shapeCast S1024x4x192 (extractStridedSlice S1024x768 ![0, o] W hs) shapeCasts_S1024x768_S1024x4x192)
        (sitofp .f32 (constantI S_ 32 0#32)) pads_S1024x4x192_S1024x4x256_000_000_0640 h_S_) shapeCasts_S1024x4x256_S1024x1024 (ix2 k l)
      = if hd : d.val < 192 then W (ix2 k (L ⟨d.val, hd⟩)) else 0 := by
  rw [shapeCast_apply _ _ (ix2 k l) (ix3 k h d) (by
    rw [Shape.rowMajor_val_three, Shape.rowMajor_val_two]
    show (k.val * 4 + h.val) * 256 + d.val = k.val * 1024 + l.val; omega)]
  rw [Cert.Alg.pad3_apply, Cert.Alg.sitofp_zero]
  split
  · next hd =>
    have := h.isLt
    rw [shapeCast_apply _ _ (ix3 k h ⟨d.val, hd⟩) (ix2 k (⟨192 * h.val + d.val, by omega⟩ : Fin 768)) (by
      rw [Shape.rowMajor_val_three, Shape.rowMajor_val_two]
      show k.val * 768 + (192 * h.val + d.val) = (k.val * 4 + h.val) * 192 + d.val; omega)]
    unfold extractStridedSlice
    congr 1
    funext a
    apply Fin.ext
    match a with
    | ⟨0, _⟩ => show 0 + k.val = k.val; omega
    | ⟨1, _⟩ => show o + (192 * h.val + d.val) = (L ⟨d.val, hd⟩).val; rw [hL]; show _ = o + 192 * h.val + d.val; omega
  · rfl

/-- The same of a vector. -/
theorem heads1_apply (W : FVec Ideal S9992 .f32) (o : ℕ) (hs : S9992.Slices ![o] S768) (h : Fin 4) (d : Fin 256) (l : Fin 1024) (hl : l.val = 256 * h.val + d.val)
    (L : Fin 192 → Fin 9992) (hL : ∀ e, (L e).val = o + 192 * h.val + e.val) :
    shapeCast S1024 (pad S4x256 ![0, 0] ![0, 64] ![0, 0] (shapeCast S4x192 (extractStridedSlice S768 ![o] W hs) shapeCasts_S768_S4x192)
        (sitofp .f32 (constantI S_ 32 0#32)) pads_S4x192_S4x256_000_0640 h_S_) shapeCasts_S4x256_S1024 (ix1 l)
      = if hd : d.val < 192 then W (ix1 (L ⟨d.val, hd⟩)) else 0 := by
  rw [shapeCast_apply _ _ (ix1 l) (ix2 h d) (by
    rw [Shape.rowMajor_val_two, Shape.rowMajor_val_one]
    show h.val * 256 + d.val = l.val; omega)]
  rw [Cert.Alg.pad2_apply, Cert.Alg.sitofp_zero]
  split
  · next hd =>
    have := h.isLt
    rw [shapeCast_apply _ _ (ix2 h ⟨d.val, hd⟩) (ix1 (⟨192 * h.val + d.val, by omega⟩ : Fin 768)) (by
      rw [Shape.rowMajor_val_two, Shape.rowMajor_val_one]
      show 192 * h.val + d.val = h.val * 192 + d.val; omega)]
    unfold extractStridedSlice
    congr 1
    funext a
    apply Fin.ext
    match a with
    | ⟨0, _⟩ => show o + (192 * h.val + d.val) = (L ⟨d.val, hd⟩).val; rw [hL]; show _ = o + 192 * h.val + d.val; omega
  · rfl

/-- Where the host writes its ones: column 192 of each head. -/
theorem ones_at : ∀ n : Fin S4.numel, scatter_S4x256_S1_S4_0_1_1_0.resultIdx? (S4.rowMajor.symm n) (broadcastInDim S1 ![] bcast_S_S1 (constantI S_ 32 192#32)) = some (ix2 (Fin.cast (by decide) n : Fin 4) 192) := by
  decide +kernel

/-- A fold that sets one place to a fixed value. -/
theorem fold_set {ι κ α : Type} (f : (ι → α) → κ → ι → α) (j : ι) (P : κ → Prop) [DecidablePred P] (v : α)
    (hf : ∀ r n, f r n j = if P n then v else r j) (l : List κ) (r : ι → α) : l.foldl f r j = if ∃ n ∈ l, P n then v else r j := by
  classical
  induction l generalizing r with
  | nil => simp
  | cons n l ih =>
    rw [List.foldl_cons, ih, hf]
    by_cases h1 : ∃ n ∈ l, P n <;> by_cases h2 : P n <;> simp [h1, h2]

/-- The column of ones, head by head. -/
theorem ones_apply (h : Fin 4) (d : Fin 256) :
    Host.scatter scatter_S4x256_S1_S4_0_1_1_0 (fun _ b => b) (broadcastInDim S4x256 ![] bcast_S_S4x256 (constant (F := Ideal) S_ .f32 0x00000000#32)) (broadcastInDim S1 ![] bcast_S_S1 (constantI S_ 32 192#32)) (broadcastInDim S4 ![] bcast_S_S4 (constant (F := Ideal) S_ .f32 0x3F800000#32)) (ix2 h d)
      = if d.val = 192 then (1 : EReal) else 0 := by
  have h1 : ∀ i, broadcastInDim S4 ![] bcast_S_S4 (constant (F := Ideal) S_ .f32 0x3F800000#32) i = (1 : EReal) := fun i => Ideal.ofBits_one_f32
  have hz : broadcastInDim S4x256 ![] bcast_S_S4x256 (constant (F := Ideal) S_ .f32 0x00000000#32) (ix2 h d) = (0 : EReal) := Ideal.ofBits_zero_f32
  unfold Host.scatter
  refine (fold_set _ (ix2 h d : S4x256.Idx) (fun n : Fin S4.numel => d.val = 192 ∧ n.val = h.val) (1 : EReal) (fun r n => ?_) (List.finRange S4.numel) _).trans ?_
  · have o := ones_at n
    generalize scatter_S4x256_S1_S4_0_1_1_0.resultIdx? (S4.rowMajor.symm n) (broadcastInDim S1 ![] bcast_S_S1 (constantI S_ 32 192#32)) = q at o ⊢
    subst o
    show (if (ix2 h d : S4x256.Idx) = ix2 (Fin.cast (by decide) n : Fin 4) 192 then _ else r (ix2 h d)) = _
    rw [h1]
    refine if_congr ⟨fun e => ⟨congrArg Fin.val (congrFun e 1), (congrArg Fin.val (congrFun e 0)).symm⟩, fun e => ?_⟩ rfl rfl
    funext a
    match a with
    | ⟨0, _⟩ => exact Fin.ext e.2.symm
    | ⟨1, _⟩ => exact Fin.ext e.1
  · rw [hz]
    by_cases hd : d.val = 192
    · rw [if_pos ⟨Fin.cast (by decide) h, List.mem_finRange _, hd, rfl⟩, if_pos hd]
    · rw [if_neg (fun ⟨_, _, e, _⟩ => hd e), if_neg hd]

/-- Four blocks of 1024 columns side by side. -/
theorem parts2_apply (x0 x1 x2 x3 : FVec Ideal S1024x1024 .f32) (k : Fin 1024) (p : Fin 4) (l : Fin 1024) (L : Fin 4096) (hL : L.val = 1024 * p.val + l.val) :
    concatenate S1024x4096 1 [⟨S1024x1024, x0⟩, ⟨S1024x1024, x1⟩, ⟨S1024x1024, x2⟩, ⟨S1024x1024, x3⟩] concatenates_S1024x1024_S1024x1024_S1024x1024_S1024x1024_S1024x4096_d1 (ix2 k L) = ![x0, x1, x2, x3] p (ix2 k l) := by
  have hl := l.isLt
  rw [concatenate_apply]
  match p, hL with
  | ⟨0, _⟩, hL =>
    replace hL : L.val = l.val := hL.trans (Nat.zero_add _)
    rw [concatenateAt_cons, dif_pos (by show L.val < 1024; omega)]
    show x0 _ = x0 _
    congr 1; funext a; apply Fin.ext
    match a with
    | ⟨0, _⟩ => rfl
    | ⟨1, _⟩ => show L.val = l.val; omega
  | ⟨1, _⟩, hL =>
    replace hL : L.val = 1024 + l.val := hL
    rw [concatenateAt_cons, dif_neg (by show ¬ L.val < 1024; omega), concatenateAt_cons, dif_pos (by show L.val - 1024 < 1024; omega)]
    show x1 _ = x1 _
    congr 1; funext a; apply Fin.ext
    match a with
    | ⟨0, _⟩ => rfl
    | ⟨1, _⟩ => show L.val - 1024 = l.val; omega
  | ⟨2, _⟩, hL =>
    replace hL : L.val = 2048 + l.val := hL
    rw [concatenateAt_cons, dif_neg (by show ¬ L.val < 1024; omega), concatenateAt_cons, dif_neg (by show ¬ L.val - 1024 < 1024; omega), concatenateAt_cons, dif_pos (by show L.val - 1024 - 1024 < 1024; omega)]
    show x2 _ = x2 _
    congr 1; funext a; apply Fin.ext
    match a with
    | ⟨0, _⟩ => rfl
    | ⟨1, _⟩ => show L.val - 1024 - 1024 = l.val; omega
  | ⟨3, _⟩, hL =>
    replace hL : L.val = 3072 + l.val := hL
    rw [concatenateAt_cons, dif_neg (by show ¬ L.val < 1024; omega), concatenateAt_cons, dif_neg (by show ¬ L.val - 1024 < 1024; omega), concatenateAt_cons, dif_neg (by show ¬ L.val - 1024 - 1024 < 1024; omega), concatenateAt_singleton]
    show x3 _ = x3 _
    congr 1; funext a; apply Fin.ext
    match a with
    | ⟨0, _⟩ => rfl
    | ⟨1, _⟩ => show L.val - 1024 - 1024 - 1024 = l.val; omega

/-- Four vectors of 1024 end to end. -/
theorem parts1_apply (x0 x1 x2 x3 : FVec Ideal S1024 .f32) (p : Fin 4) (l : Fin 1024) (L : Fin 4096) (hL : L.val = 1024 * p.val + l.val) :
    concatenate S4096 0 [⟨S1024, x0⟩, ⟨S1024, x1⟩, ⟨S1024, x2⟩, ⟨S1024, x3⟩] concatenates_S1024_S1024_S1024_S1024_S4096_d0 (ix1 L) = ![x0, x1, x2, x3] p (ix1 l) := by
  have hl := l.isLt
  rw [concatenate_apply]
  match p, hL with
  | ⟨0, _⟩, hL =>
    replace hL : L.val = l.val := hL.trans (Nat.zero_add _)
    rw [concatenateAt_cons, dif_pos (by show L.val < 1024; omega)]
    show x0 _ = x0 _
    congr 1; funext a; apply Fin.ext
    match a with
    | ⟨0, _⟩ => show L.val = l.val; omega
  | ⟨1, _⟩, hL =>
    replace hL : L.val = 1024 + l.val := hL
    rw [concatenateAt_cons, dif_neg (by show ¬ L.val < 1024; omega), concatenateAt_cons, dif_pos (by show L.val - 1024 < 1024; omega)]
    show x1 _ = x1 _
    congr 1; funext a; apply Fin.ext
    match a with
    | ⟨0, _⟩ => show L.val - 1024 = l.val; omega
  | ⟨2, _⟩, hL =>
    replace hL : L.val = 2048 + l.val := hL
    rw [concatenateAt_cons, dif_neg (by show ¬ L.val < 1024; omega), concatenateAt_cons, dif_neg (by show ¬ L.val - 1024 < 1024; omega), concatenateAt_cons, dif_pos (by show L.val - 1024 - 1024 < 1024; omega)]
    show x2 _ = x2 _
    congr 1; funext a; apply Fin.ext
    match a with
    | ⟨0, _⟩ => show L.val - 1024 - 1024 = l.val; omega
  | ⟨3, _⟩, hL =>
    replace hL : L.val = 3072 + l.val := hL
    rw [concatenateAt_cons, dif_neg (by show ¬ L.val < 1024; omega), concatenateAt_cons, dif_neg (by show ¬ L.val - 1024 < 1024; omega), concatenateAt_cons, dif_neg (by show ¬ L.val - 1024 - 1024 < 1024; omega), concatenateAt_singleton]
    show x3 _ = x3 _
    congr 1; funext a; apply Fin.ext
    match a with
    | ⟨0, _⟩ => show L.val - 1024 - 1024 - 1024 = l.val; omega

/-- The projection's weights and biases of block 0, as the host slices them. -/
def w0 (c : Dev nD) : FVec Ideal S1024x9992 .f32 := shapeCast _ (extractStridedSlice S1x1024x9992 ![0, 0, 0] (argW m c) slices_S2x1024x9992_S1x1024x9992_0_0_0) shapeCasts_S1x1024x9992_S1024x9992
def b0 (c : Dev nD) : FVec Ideal S9992 .f32 := shapeCast _ (extractStridedSlice S1x9992 ![0, 0] (argB m c) slices_S2x9992_S1x9992_0_0) shapeCasts_S1x9992_S9992

theorem w0_apply (c : Dev nD) (k : Fin 1024) (q : Fin 9992) : w0 m c (ix2 k q) = argW m c (ix3 0 k q) := by
  unfold w0; pointwise

theorem b0_apply (c : Dev nD) (q : Fin 9992) : b0 m c (ix1 q) = argB m c (ix2 0 q) := by
  unfold b0; pointwise

/-- Four heads' columns from `o`, padded. -/
def wPart (c : Dev nD) (o : ℕ) (hs : S1024x9992.Slices ![0, o] S1024x768) : FVec Ideal S1024x1024 .f32 :=
  shapeCast S1024x1024 (pad S1024x4x256 ![0, 0, 0] ![0, 0, 64] ![0, 0, 0] (shapeCast S1024x4x192 (extractStridedSlice S1024x768 ![0, o] (w0 m c) hs) shapeCasts_S1024x768_S1024x4x192)
        (sitofp .f32 (constantI S_ 32 0#32)) pads_S1024x4x192_S1024x4x256_000_000_0640 h_S_) shapeCasts_S1024x4x256_S1024x1024
def bPart (c : Dev nD) (o : ℕ) (hs : S9992.Slices ![o] S768) : FVec Ideal S1024 .f32 :=
  shapeCast S1024 (pad S4x256 ![0, 0] ![0, 64] ![0, 0] (shapeCast S4x192 (extractStridedSlice S768 ![o] (b0 m c) hs) shapeCasts_S768_S4x192)
        (sitofp .f32 (constantI S_ 32 0#32)) pads_S4x192_S4x256_000_0640 h_S_) shapeCasts_S4x256_S1024
def bOnes : FVec Ideal S1024 .f32 :=
  shapeCast S1024 (Host.scatter scatter_S4x256_S1_S4_0_1_1_0 (fun _ b => b) (broadcastInDim S4x256 ![] bcast_S_S4x256 (constant (F := Ideal) S_ .f32 0x00000000#32)) (broadcastInDim S1 ![] bcast_S_S1 (constantI S_ 32 192#32)) (broadcastInDim S4 ![] bcast_S_S4 (constant (F := Ideal) S_ .f32 0x3F800000#32))) shapeCasts_S4x256_S1024

theorem bOnes_apply (h : Fin 4) (d : Fin 256) (l : Fin 1024) (hl : l.val = 256 * h.val + d.val) : bOnes (ix1 l) = if d.val = 192 then (1 : EReal) else 0 := by
  unfold bOnes
  rw [shapeCast_apply _ _ (ix1 l) (ix2 h d) (by
    rw [Shape.rowMajor_val_two, Shape.rowMajor_val_one]
    show h.val * 256 + d.val = l.val; omega)]
  exact ones_apply h d

/-- The weights' array: per head, its 192 columns of the projection and 64 columns of zeros. -/
theorem V_w (c : Dev nD) (k : Fin 1024) (p h : Fin 4) (d : Fin 256) : V m c main_v45 (ix2 k (col p h d)) = if hd : d.val < 192 then argW m c (ix3 0 k (src p h ⟨d.val, hd⟩)) else 0 := by
  have e : V m c main_v45 = truncf .bf16 (concatenate S1024x4096 1 [⟨S1024x1024, wPart m c 3840 slices_S1024x9992_S1024x768_0_3840⟩, ⟨S1024x1024, wPart m c 4608 slices_S1024x9992_S1024x768_0_4608⟩, ⟨S1024x1024, wPart m c 5376 slices_S1024x9992_S1024x768_0_5376⟩, ⟨S1024x1024, wPart m c 6144 slices_S1024x9992_S1024x768_0_6144⟩] concatenates_S1024x1024_S1024x1024_S1024x1024_S1024x1024_S1024x4096_d1) bitsLt_bf16_f32 := by
    show StableHlo.after _ _ _ = _
    simp only [List.flatten_cons, List.flatten_nil, List.append_nil, List.cons_append, List.nil_append]
    after_results
    rfl
  have hh := h.isLt
  have hd := d.isLt
  rw [e]
  refine (parts2_apply _ _ _ _ k p ⟨256 * h.val + d.val, by omega⟩ (col p h d) (by show 1024 * p.val + 256 * h.val + d.val = 1024 * p.val + (256 * h.val + d.val); omega)).trans ?_
  have key : ∀ (o : ℕ) (hs : S1024x9992.Slices ![0, o] S1024x768) (ho : o = 3840 + 768 * p.val), wPart m c o hs (ix2 k ⟨256 * h.val + d.val, by omega⟩) = if hd : d.val < 192 then argW m c (ix3 0 k (src p h ⟨d.val, hd⟩)) else 0 := by
    intro o hs ho
    refine (heads2_apply (w0 m c) o hs k h d _ rfl (src p h) (fun e => by show 3840 + 192 * (4 * p.val + h.val) + e.val = _; omega)).trans ?_
    by_cases hd : d.val < 192
    · rw [dif_pos hd, dif_pos hd, w0_apply]
    · rw [dif_neg hd, dif_neg hd]
  match p, key with
  | ⟨0, _⟩, key => exact key 3840 _ rfl
  | ⟨1, _⟩, key => exact key 4608 _ rfl
  | ⟨2, _⟩, key => exact key 5376 _ rfl
  | ⟨3, _⟩, key => exact key 6144 _ rfl

/-- The biases' array: per head its 192 biases, then zeros; in the values' heads the first of these is one. -/
theorem V_b (c : Dev nD) (p h : Fin 4) (d : Fin 256) : V m c main_v46 (ix2 0 (col p h d)) = if hd : d.val < 192 then argB m c (ix2 0 (src p h ⟨d.val, hd⟩)) else if p.val = 2 ∧ d.val = 192 then 1 else 0 := by
  have e : V m c main_v46 = broadcastInDim S1x4096 ![1] bcast_S4096_S1x4096_1 (concatenate S4096 0 [⟨S1024, bPart m c 3840 slices_S9992_S768_3840⟩, ⟨S1024, bPart m c 4608 slices_S9992_S768_4608⟩, ⟨S1024, addf (bPart m c 5376 slices_S9992_S768_5376) bOnes⟩, ⟨S1024, bPart m c 6144 slices_S9992_S768_6144⟩] concatenates_S1024_S1024_S1024_S1024_S4096_d0) := by
    show StableHlo.after _ _ _ = _
    simp only [List.flatten_cons, List.flatten_nil, List.append_nil, List.cons_append, List.nil_append]
    after_results
    rfl
  have hh := h.isLt
  have hd := d.isLt
  rw [e, Cert.Alg.row_apply]
  refine (parts1_apply _ _ _ _ p ⟨256 * h.val + d.val, by omega⟩ (col p h d) (by show 1024 * p.val + 256 * h.val + d.val = 1024 * p.val + (256 * h.val + d.val); omega)).trans ?_
  have key : ∀ (o : ℕ) (hs : S9992.Slices ![o] S768) (ho : o = 3840 + 768 * p.val), bPart m c o hs (ix1 ⟨256 * h.val + d.val, by omega⟩) = if hd : d.val < 192 then argB m c (ix2 0 (src p h ⟨d.val, hd⟩)) else 0 := by
    intro o hs ho
    refine (heads1_apply (b0 m c) o hs h d _ rfl (src p h) (fun e => by show 3840 + 192 * (4 * p.val + h.val) + e.val = _; omega)).trans ?_
    by_cases hd : d.val < 192
    · rw [dif_pos hd, dif_pos hd, b0_apply]
    · rw [dif_neg hd, dif_neg hd]
  match p, key with
  | ⟨0, _⟩, key => exact (key 3840 _ rfl).trans (by simp)
  | ⟨1, _⟩, key => exact (key 4608 _ rfl).trans (by simp)
  | ⟨2, _⟩, key =>
    show bPart m c 5376 _ _ + bOnes _ = _
    rw [key 5376 _ rfl, bOnes_apply h d _ rfl]
    by_cases hd : d.val < 192
    · rw [dif_pos hd, dif_pos hd, if_neg (by omega), add_zero]
    · rw [dif_neg hd, dif_neg hd, zero_add]; simp
  | ⟨3, _⟩, key => exact (key 6144 _ rfl).trans (by simp)

/-- Every point writes its block back. -/
theorem flush3 : ∀ t : Fin cfg0.N, (cfg0.win 3).flush t = true :=
  (by decide +kernel : ∀ t : Fin grid0.N, _)

/-! ## The blocks a point reads -/

/-- The printed index maps, over the grid: point `t` is row block `t / 4`, column block `t % 4`. -/
theorem idx_t : ∀ t : Fin cfg0.N, win0_0.index t = ![t.val / 4, 0] ∧ win0_1.index t = ![0, t.val % 4] ∧ win0_2.index t = ![0, t.val % 4]
    ∧ win0_3.index t = ![t.val / 4, t.val % 4] :=
  (by decide +kernel : ∀ t : Fin grid0.N, _)

theorem iblk0 (c : Dev nD) (t : Fin cfg0.N) (r : Fin 1024) (k : Fin 1024) (R : Fin 16384) (hR : R.val = 1024 * (t.val / 4) + r.val) :
    (iblk m c 0 t : FVec Ideal S1024x1024 .bf16) (ix2 r k) = argX m c (ix2 R k) := by
  have h := (idx_t t).1
  rw [← V_x m c R k]
  unfold iblk
  rw [View.read_apply]
  show V m c main_v44 _ = _
  congr 1
  funext a
  apply Fin.ext
  match a with
  | ⟨0, _⟩ => show win0_0.index t 0 * 1024 + 1 * r.val = R.val; rw [h]; show t.val / 4 * 1024 + _ = _; omega
  | ⟨1, _⟩ => show win0_0.index t 1 * 1024 + 1 * k.val = k.val; rw [h]; show 0 * 1024 + _ = _; omega

theorem iblk1 (c : Dev nD) (t : Fin cfg0.N) (k : Fin 1024) (l : Fin 1024) (L : Fin 4096) (hL : L.val = 1024 * (t.val % 4) + l.val) :
    (iblk m c 1 t : FVec Ideal S1024x1024 .bf16) (ix2 k l) = V m c main_v45 (ix2 k L) := by
  have h := (idx_t t).2.1
  unfold iblk
  rw [View.read_apply]
  show V m c main_v45 _ = _
  congr 1
  funext a
  apply Fin.ext
  match a with
  | ⟨0, _⟩ => show win0_1.index t 0 * 1024 + 1 * k.val = k.val; rw [h]; show 0 * 1024 + _ = _; omega
  | ⟨1, _⟩ => show win0_1.index t 1 * 1024 + 1 * l.val = L.val; rw [h]; show t.val % 4 * 1024 + _ = _; omega

theorem iblk2 (c : Dev nD) (t : Fin cfg0.N) (l : Fin 1024) (L : Fin 4096) (hL : L.val = 1024 * (t.val % 4) + l.val) :
    (iblk m c 2 t : FVec Ideal S1x1024 .f32) (ix2 0 l) = V m c main_v46 (ix2 0 L) := by
  have h := (idx_t t).2.2.1
  unfold iblk
  rw [View.read_apply]
  show V m c main_v46 _ = _
  congr 1
  funext a
  apply Fin.ext
  match a with
  | ⟨0, _⟩ => show win0_2.index t 0 * 1 + 1 * 0 = 0; rw [h]; rfl
  | ⟨1, _⟩ => show win0_2.index t 1 * 1024 + 1 * l.val = L.val; rw [h]; show t.val % 4 * 1024 + _ = _; omega

/-! ## The result array -/

/-- The result array at an index: the row's product with the column, and the column's bias. -/
theorem arr_apply (c : Dev nD) (R : Fin 16384) (L : Fin 4096) :
    ((dats m 0 c).arrAt 3 cfg0.N : FVec Ideal S16384x4096 .bf16) (ix2 R L)
      = (∑ k : Fin 1024, argX m c (ix2 R k) * (V m c main_v45 : FVec Ideal S1024x4096 .bf16) (ix2 k L)) + (V m c main_v46 : FVec Ideal S1x4096 .f32) (ix2 0 L) := by
  have hN : cfg0.N = 64 := N_0
  have hRl := R.isLt
  have hLl := L.isLt
  obtain ⟨t, ht⟩ : ∃ t : Fin cfg0.N, t.val = 4 * (R.val / 1024) + L.val / 1024 := ⟨⟨4 * (R.val / 1024) + L.val / 1024, by omega⟩, rfl⟩
  obtain ⟨r, hr⟩ : ∃ r : Fin 1024, r.val = R.val % 1024 := ⟨⟨R.val % 1024, Nat.mod_lt _ (by decide)⟩, rfl⟩
  obtain ⟨l, hl⟩ : ∃ l : Fin 1024, l.val = L.val % 1024 := ⟨⟨L.val % 1024, Nat.mod_lt _ (by decide)⟩, rfl⟩
  have hi := (idx_t t).2.2.2
  have hb := congrFun ((Value.blocks3 m c t (flush3 t)).trans (Value.flushed3 m c t)) (ix2 r l)
  rw [View.read_apply] at hb
  have he : ((cfg0.win 3).blk t).view.emb (ix2 r l) = ix2 R L := by
    funext a
    apply Fin.ext
    match a with
    | ⟨0, _⟩ => show win0_3.index t 0 * 1024 + 1 * r.val = R.val; rw [hi]; show t.val / 4 * 1024 + _ = _; omega
    | ⟨1, _⟩ => show win0_3.index t 1 * 1024 + 1 * l.val = L.val; rw [hi]; show t.val % 4 * 1024 + _ = _; omega
  rw [he] at hb
  refine hb.trans ?_
  show out0_3 (iblk m c 0 t) (iblk m c 1 t) (iblk m c 2 t) (ix2 r l) = _
  rw [out_eq]
  refine (pay_apply _ _ _ r l).trans ?_
  refine congrArg₂ HAdd.hAdd (Finset.sum_congr rfl fun k _ => congrArg₂ HMul.hMul (iblk0 m c t r k R (by omega)) (iblk1 m c t k l L (by omega))) (iblk2 m c t l L (by omega))

end Cert.InMlIdeal.Block

namespace Cert.InMlRefIdeal.Ref

open Idealize.ShloMosaic Idealize.SL.Sem
open Cert.InMlRefIdeal Cert.InMlRefIdeal.Gen

/-- The constant columns after each head's 192: one in the first of the values' heads (heads 8 to 11), zero elsewhere. -/
theorem pad_apply (R : Fin 16384) (g : Fin 16) (e : Fin 64) :
    concatenate S16384x16x64 1 [⟨S16384x8x64, (broadcastInDim S16384x8x64 ![] bcast_S_S16384x8x64 (constant (F := Ideal) S_ .f32 0x00000000#32))⟩, ⟨S16384x4x64, (concatenate S16384x4x64 2 [⟨S16384x4x1, (broadcastInDim S16384x4x1 ![] bcast_S_S16384x4x1 (constant (F := Ideal) S_ .f32 0x3F800000#32))⟩, ⟨S16384x4x63, (broadcastInDim S16384x4x63 ![] bcast_S_S16384x4x63 (constant (F := Ideal) S_ .f32 0x00000000#32))⟩] concatenates_S16384x4x1_S16384x4x63_S16384x4x64_d2)⟩, ⟨S16384x4x64, (broadcastInDim S16384x4x64 ![] bcast_S_S16384x4x64 (constant (F := Ideal) S_ .f32 0x00000000#32))⟩] concatenates_S16384x8x64_S16384x4x64_S16384x4x64_S16384x16x64_d1 (ix3 R g e)
      = if g.val / 4 = 2 ∧ e.val = 0 then (1 : EReal) else 0 := by
  have hg := g.isLt
  rw [concatenate_apply, concatenateAt_cons]
  by_cases h1 : g.val < 8
  · rw [dif_pos (by exact h1), if_neg (by omega)]
    exact Ideal.ofBits_zero_f32
  · rw [dif_neg (by exact h1), concatenateAt_cons]
    by_cases h2 : g.val - 8 < 4
    · rw [dif_pos (by exact h2), concatenate_apply, concatenateAt_cons]
      by_cases h3 : e.val < 1
      · rw [dif_pos (by exact h3), if_pos (by omega)]
        exact Ideal.ofBits_one_f32
      · rw [dif_neg (by exact h3), concatenateAt_singleton, if_neg (by omega)]
        exact Ideal.ofBits_zero_f32
    · rw [dif_neg (by exact h2), concatenateAt_singleton, if_neg (by omega)]
      exact Ideal.ofBits_zero_f32

/-- Each head's 192 columns followed by its constant columns, at an index. -/
theorem heads_apply (Y : FVec Ideal S16384x3072 .f32) (Z : FVec Ideal S16384x16x64 .f32) (R : Fin 16384) (g : Fin 16) (d : Fin 256) :
    concatenate S16384x16x256 2 [⟨S16384x16x192, shapeCast S16384x16x192 Y shapeCasts_S16384x3072_S16384x16x192⟩, ⟨S16384x16x64, Z⟩] concatenates_S16384x16x192_S16384x16x64_S16384x16x256_d2 (ix3 R g d)
      = if h : d.val < 192 then Y (ix2 R ⟨192 * g.val + d.val, by omega⟩) else Z (ix3 R g ⟨d.val - 192, by omega⟩) := by
  have hg := g.isLt
  have hd := d.isLt
  rw [concatenate_apply, concatenateAt_cons]
  by_cases h : d.val < 192
  · rw [dif_pos (by exact h), dif_pos h]
    rw [← shapeCast_apply Y shapeCasts_S16384x3072_S16384x16x192 (ix3 R g (⟨d.val, h⟩ : Fin 192)) (ix2 R (⟨192 * g.val + d.val, by omega⟩ : Fin 3072)) (by
      rw [Shape.rowMajor_val_three, Shape.rowMajor_val_two]
      show R.val * 3072 + (192 * g.val + d.val) = (R.val * 16 + g.val) * 192 + d.val; omega)]
    congr 1; funext a; apply Fin.ext
    match a with
    | ⟨0, _⟩ => rfl
    | ⟨1, _⟩ => rfl
    | ⟨2, _⟩ => rfl
  · rw [dif_neg (by exact h), dif_neg h, concatenateAt_singleton]
    congr 1; funext a; apply Fin.ext
    match a with
    | ⟨0, _⟩ => rfl
    | ⟨1, _⟩ => rfl
    | ⟨2, _⟩ => rfl

/-- The reference's result, head by head. -/
theorem ref_apply (x : FVec Ideal S16384x1024 .f32) (w : FVec Ideal S2x1024x9992 .f32) (b : FVec Ideal S2x9992 .f32) (R : Fin 16384) (g : Fin 16) (d : Fin 256) (L : Fin 4096) (hL : L.val = 256 * g.val + d.val) (Q : Fin 192 → Fin 9992) (hQ : ∀ e, (Q e).val = 3840 + 192 * g.val + e.val) :
    (truncf .bf16 (shapeCast _ (concatenate S16384x16x256 2 [⟨S16384x16x192, (shapeCast _ (extractStridedSlice S16384x3072 ![0, 3840] (addf (Host.dotGeneral dot_S16384x1024_S1024x9992_S16384x9992_1_0_0_1_n_n none x (shapeCast _ (extractStridedSlice S1x1024x9992 ![0, 0, 0] w slices_S2x1024x9992_S1x1024x9992_0_0_0) shapeCasts_S1x1024x9992_S1024x9992)) (broadcastInDim S16384x9992 ![0, 1] bcast_S1x9992_S16384x9992_0_1 (broadcastInDim S1x9992 ![1] bcast_S9992_S1x9992_1 (shapeCast _ (extractStridedSlice S1x9992 ![0, 0] b slices_S2x9992_S1x9992_0_0) shapeCasts_S1x9992_S9992)))) slices_S16384x9992_S16384x3072_0_3840) shapeCasts_S16384x3072_S16384x16x192)⟩, ⟨S16384x16x64, ((concatenate S16384x16x64 1 [⟨S16384x8x64, ((broadcastInDim S16384x8x64 ![] bcast_S_S16384x8x64 (constant (F := Ideal) S_ .f32 0x00000000#32)))⟩, ⟨S16384x4x64, ((concatenate S16384x4x64 2 [⟨S16384x4x1, (broadcastInDim S16384x4x1 ![] bcast_S_S16384x4x1 (constant (F := Ideal) S_ .f32 0x3F800000#32))⟩, ⟨S16384x4x63, (broadcastInDim S16384x4x63 ![] bcast_S_S16384x4x63 (constant (F := Ideal) S_ .f32 0x00000000#32))⟩] concatenates_S16384x4x1_S16384x4x63_S16384x4x64_d2))⟩, ⟨S16384x4x64, ((broadcastInDim S16384x4x64 ![] bcast_S_S16384x4x64 (constant (F := Ideal) S_ .f32 0x00000000#32)))⟩] concatenates_S16384x8x64_S16384x4x64_S16384x4x64_S16384x16x64_d1))⟩] concatenates_S16384x16x192_S16384x16x64_S16384x16x256_d2) shapeCasts_S16384x16x256_S16384x4096) bitsLt_bf16_f32) (ix2 R L)
      = if h : d.val < 192 then (∑ k : Fin 1024, x (ix2 R k) * w (ix3 0 k (Q ⟨d.val, h⟩))) + b (ix2 0 (Q ⟨d.val, h⟩)) else if g.val / 4 = 2 ∧ d.val = 192 then 1 else 0 := by
  have hg := g.isLt
  have hd := d.isLt
  rw [Cert.Alg.trunc_apply]
  refine (shapeCast_apply _ shapeCasts_S16384x16x256_S16384x4096 (ix2 R L) (ix3 R g d) (by
    rw [Shape.rowMajor_val_three, Shape.rowMajor_val_two]
    show (R.val * 16 + g.val) * 256 + d.val = R.val * 4096 + L.val; omega)).trans ?_
  rw [heads_apply]
  by_cases h : d.val < 192
  · rw [dif_pos h, dif_pos h]
    have hq : (⟨3840 + (192 * g.val + d.val), by omega⟩ : Fin 9992) = Q ⟨d.val, h⟩ := Fin.ext (by rw [hQ]; show 3840 + (192 * g.val + d.val) = 3840 + 192 * g.val + d.val; omega)
    rw [← hq]
    pointwise
  · rw [dif_neg h, dif_neg h, pad_apply]
    refine if_congr (and_congr_right fun _ => ?_) rfl rfl
    show d.val - 192 = 0 ↔ d.val = 192
    omega

end Cert.InMlRefIdeal.Ref

namespace Cert.Proof

open Idealize.ShloMosaic Idealize.SL.Sem

/-- The reference runs to the end and leaves its arguments and counters alone. -/
theorem quiescent_InMlRefIdeal : quiescent_InMlRefIdeal := fun m ρ _ =>
  (θ_run Cert.InMlRefIdeal.defs _ _).mono (fun r h => ⟨fun c => (h c).2, sem_eq_zero_of_no_sems (by decide) r.2⟩)
    (Cert.InMlRefIdeal.Value.run (F := Ideal) m ρ)

/-- Kernel and reference end with equal results. -/
theorem algebraic_InMl : algebraic_InMlIdeal_InMlRefIdeal := by
  intro m ρ m' ρ' hpre hagree
  refine ⟨_, Cert.InMlIdeal.Value.run_blocks (F := Ideal) m ρ, ?_⟩
  refine (θ_run Cert.InMlRefIdeal.defs _ _).mono (fun _ h c => ⟨?_, (h c).2⟩) (Cert.InMlRefIdeal.Value.run (F := Ideal) m' ρ')
  rw [(h c).1]
  obtain ⟨a0, a1, a2⟩ := hagree c
  rw [a0, a1, a2]
  funext i
  obtain ⟨R, l, rfl⟩ : ∃ (R : Fin 16384) (l : Fin 4096), i = ix2 R l := ⟨i 0, i 1, eq_ix2 i⟩
  have hl := l.isLt
  obtain ⟨p, hp⟩ : ∃ p : Fin 4, p.val = l.val / 1024 := ⟨⟨l.val / 1024, by omega⟩, rfl⟩
  obtain ⟨h', hh⟩ : ∃ h : Fin 4, h.val = l.val / 256 % 4 := ⟨⟨l.val / 256 % 4, by omega⟩, rfl⟩
  obtain ⟨d, hd⟩ : ∃ d : Fin 256, d.val = l.val % 256 := ⟨⟨l.val % 256, by omega⟩, rfl⟩
  obtain rfl : l = Cert.InMlIdeal.Block.col p h' d := Fin.ext (by show l.val = 1024 * p.val + 256 * h'.val + d.val; omega)
  have hpl := p.isLt
  have hhl := h'.isLt
  refine (Cert.InMlRefIdeal.Ref.ref_apply _ _ _ R ⟨4 * p.val + h'.val, by omega⟩ d (Cert.InMlIdeal.Block.col p h' d) (by show 1024 * p.val + 256 * h'.val + d.val = 256 * (4 * p.val + h'.val) + d.val; omega) (Cert.InMlIdeal.Block.src p h') (fun _ => rfl)).trans (Eq.trans ?_ (Cert.InMlIdeal.Block.arr_apply m c R _).symm)
  have e1 := fun k => Cert.InMlIdeal.Block.V_w m c k p h' d
  have e2 := Cert.InMlIdeal.Block.V_b m c p h' d
  by_cases hq : d.val < 192
  · rw [dif_pos hq]
    refine congrArg₂ HAdd.hAdd (Finset.sum_congr rfl fun k _ => congrArg₂ HMul.hMul rfl ?_) ?_
    · exact ((e1 k).trans (dif_pos hq)).symm
    · exact (e2.trans (dif_pos hq)).symm
  · rw [dif_neg hq]
    refine Eq.trans ?_ (congrArg₂ HAdd.hAdd (Finset.sum_congr rfl fun k _ => congrArg (_ * ·) ((e1 k).trans (dif_neg hq)).symm) (e2.trans (dif_neg hq)).symm)
    have h4 : (4 * p.val + h'.val) / 4 = p.val := by omega
    simp [h4]

end Cert.Proof

end
-- ==== Proof.InIfClaim.lean ====
/-
  The input projection's call for the mLSTM's input and forget gates: what its result array holds, and that it is its reference's.
-/
module

public import proofs.«01_k».proof.Proof.Gen.InIf.Frame
public import proofs.«01_k».proof.Proof.Gen.InIfIdeal.Value
public import proofs.«01_k».proof.Proof.Gen.InIfRefIdeal.Run
public import proofs.«01_k».proof.Proof.Pads
public import proofs.«01_k».proof.Defs
public import Idealize.ShloMosaic.Adequacy
public import Idealize.ShloMosaic.Init
public import Idealize.ShloMosaic.Lib.Quiescent
public import Idealize.ShloMosaic.Lib.Tactic
public import Idealize.ShloMosaic.Lib.Pointwise

@[expose] public section

set_option maxRecDepth 16384

noncomputable section

namespace Cert.InIfIdeal.Block

open Idealize.ShloMosaic Idealize.ShloMosaic.TcCoe Idealize.SL.Sem
open Cert.InIfIdeal Cert.InIfIdeal.Gen

variable (m : (ℓ : Loc nD τ sig) → Buf (Elt Ideal) ℓ)

/-- The arguments, as arrays: the rows, the projection's weights and its biases. -/
abbrev argX (c : Dev nD) : FVec Ideal S16384x1024 .f32 := m ((c : Thread nD τ).loc main_arg0)
abbrev argW (c : Dev nD) : FVec Ideal S2x1024x9992 .f32 := m ((c : Thread nD τ).loc main_arg1)
abbrev argB (c : Dev nD) : FVec Ideal S2x9992 .f32 := m ((c : Thread nD τ).loc main_arg2)

/-! ## What one point computes -/

theorem hz2 : (![0, 0] : Fin 2 → Nat) = fun _ => 0 := funext fun a => by fin_cases a <;> rfl

/-- The output block is the body's payload of the input blocks. -/
theorem out_eq (x0 : Vec Ideal S1024x1024 .bf16) (x1 : Vec Ideal S1024x128 .bf16) (x2 : Vec Ideal S1x128 .f32) : out0_3 x0 x1 x2 = k0_pay1 x0 x1 x2 := by
  unfold out0_3
  rw [View.canon_unit_zero hz2]
  simp only [View.ld_unit_zero (S := S1024x1024) hz2, View.ld_unit_zero (S := S1024x128) hz2, View.ld_unit_zero (S := S1x128) hz2]

/-- The payload at an index: the row's product with the column, and the column's bias. -/
theorem pay_apply (x0 : FVec Ideal S1024x1024 .bf16) (x1 : FVec Ideal S1024x128 .bf16) (x2 : FVec Ideal S1x128 .f32) (r : Fin 1024) (l : Fin 128) :
    k0_pay1 (F := Ideal) x0 x1 x2 (ix2 r l) = (∑ k : Fin 1024, x0 (ix2 r k) * x1 (ix2 k l)) + x2 (ix2 0 l) := by
  pointwise [k0_pay1]

/-! ## The arrays the call reads -/

theorem V_x (c : Dev nD) (r : Fin 16384) (k : Fin 1024) : V m c main_v10 (ix2 r k) = argX m c (ix2 r k) := by
  have h : V m c main_v10 = truncf .bf16 (argX m c) bitsLt_bf16_f32 := by
    show StableHlo.after _ _ _ = _
    simp only [List.flatten_cons, List.flatten_nil, List.append_nil, List.cons_append, List.nil_append]
    after_results
  rw [h]; rfl

/-- The weights' array: the gates' eight columns, then zeros. -/
theorem V_w (c : Dev nD) (k : Fin 1024) (l : Fin 128) : V m c main_v6 (ix2 k l) = if h : l.val < 8 then argW m c (ix3 0 k ⟨6912 + l.val, by omega⟩) else 0 := by
  have h : V m c main_v6 = truncf .bf16 (pad S1024x128 ![0, 0] ![0, 120] ![0, 0] (extractStridedSlice S1024x8 ![0, 6912] (shapeCast _ (extractStridedSlice S1x1024x9992 ![0, 0, 0] (argW m c) slices_S2x1024x9992_S1x1024x9992_0_0_0) shapeCasts_S1x1024x9992_S1024x9992) slices_S1024x9992_S1024x8_0_6912)
      (sitofp .f32 (constantI S_ 32 0#32)) pads_S1024x8_S1024x128_000_01200 h_S_) bitsLt_bf16_f32 := by
    show StableHlo.after _ _ _ = _
    simp only [List.flatten_cons, List.flatten_nil, List.append_nil, List.cons_append, List.nil_append]
    after_results
    rfl
  rw [h]
  refine (Cert.Alg.pad2_apply _ _ pads_S1024x8_S1024x128_000_01200 h_S_ k l).trans ?_
  rw [Cert.Alg.sitofp_zero]
  split
  · pointwise
  · rfl

/-- The biases' array: the gates' eight, then zeros. -/
theorem V_b (c : Dev nD) (l : Fin 128) : V m c main_v9 (ix2 0 l) = if h : l.val < 8 then argB m c (ix2 0 ⟨6912 + l.val, by omega⟩) else 0 := by
  have h : V m c main_v9 = broadcastInDim S1x128 ![1] bcast_S128_S1x128_1 (pad S128 ![0] ![120] ![0] (extractStridedSlice S8 ![6912] (shapeCast _ (extractStridedSlice S1x9992 ![0, 0] (argB m c) slices_S2x9992_S1x9992_0_0) shapeCasts_S1x9992_S9992) slices_S9992_S8_6912) (sitofp .f32 (constantI S_ 32 0#32)) pads_S8_S128_01200 h_S_) := by
    show StableHlo.after _ _ _ = _
    simp only [List.flatten_cons, List.flatten_nil, List.append_nil, List.cons_append, List.nil_append]
    after_results
    rfl
  rw [h, Cert.Alg.row_apply, Cert.Alg.pad1_apply, Cert.Alg.sitofp_zero]
  split
  · pointwise
  · rfl

/-- Every point writes its block back. -/
theorem flush3 : ∀ t : Fin cfg0.N, (cfg0.win 3).flush t = true :=
  (by decide +kernel : ∀ t : Fin grid0.N, _)

/-! ## The blocks a point reads -/

/-- The printed index maps, over the grid: point `t` is row block `t / 1`, column block `t % 1`. -/
theorem idx_t : ∀ t : Fin cfg0.N, win0_0.index t = ![t.val / 1, 0] ∧ win0_1.index t = ![0, t.val % 1] ∧ win0_2.index t = ![0, t.val % 1]
    ∧ win0_3.index t = ![t.val / 1, t.val % 1] :=
  (by decide +kernel : ∀ t : Fin grid0.N, _)

theorem iblk0 (c : Dev nD) (t : Fin cfg0.N) (r : Fin 1024) (k : Fin 1024) (R : Fin 16384) (hR : R.val = 1024 * (t.val / 1) + r.val) :
    (iblk m c 0 t : FVec Ideal S1024x1024 .bf16) (ix2 r k) = argX m c (ix2 R k) := by
  have h := (idx_t t).1
  rw [← V_x m c R k]
  unfold iblk
  rw [View.read_apply]
  show V m c main_v10 _ = _
  congr 1
  funext a
  apply Fin.ext
  match a with
  | ⟨0, _⟩ => show win0_0.index t 0 * 1024 + 1 * r.val = R.val; rw [h]; show t.val / 1 * 1024 + _ = _; omega
  | ⟨1, _⟩ => show win0_0.index t 1 * 1024 + 1 * k.val = k.val; rw [h]; show 0 * 1024 + _ = _; omega

theorem iblk1 (c : Dev nD) (t : Fin cfg0.N) (k : Fin 1024) (l : Fin 128) (L : Fin 128) (hL : L.val = 128 * (t.val % 1) + l.val) :
    (iblk m c 1 t : FVec Ideal S1024x128 .bf16) (ix2 k l) = V m c main_v6 (ix2 k L) := by
  have h := (idx_t t).2.1
  unfold iblk
  rw [View.read_apply]
  show V m c main_v6 _ = _
  congr 1
  funext a
  apply Fin.ext
  match a with
  | ⟨0, _⟩ => show win0_1.index t 0 * 1024 + 1 * k.val = k.val; rw [h]; show 0 * 1024 + _ = _; omega
  | ⟨1, _⟩ => show win0_1.index t 1 * 128 + 1 * l.val = L.val; rw [h]; show t.val % 1 * 128 + _ = _; omega

theorem iblk2 (c : Dev nD) (t : Fin cfg0.N) (l : Fin 128) (L : Fin 128) (hL : L.val = 128 * (t.val % 1) + l.val) :
    (iblk m c 2 t : FVec Ideal S1x128 .f32) (ix2 0 l) = V m c main_v9 (ix2 0 L) := by
  have h := (idx_t t).2.2.1
  unfold iblk
  rw [View.read_apply]
  show V m c main_v9 _ = _
  congr 1
  funext a
  apply Fin.ext
  match a with
  | ⟨0, _⟩ => show win0_2.index t 0 * 1 + 1 * 0 = 0; rw [h]; rfl
  | ⟨1, _⟩ => show win0_2.index t 1 * 128 + 1 * l.val = L.val; rw [h]; show t.val % 1 * 128 + _ = _; omega

/-! ## The result array -/

/-- The result array at an index: the row's product with the column, and the column's bias. -/
theorem arr_apply (c : Dev nD) (R : Fin 16384) (L : Fin 128) :
    ((dats m 0 c).arrAt 3 cfg0.N : FVec Ideal S16384x128 .f32) (ix2 R L)
      = (∑ k : Fin 1024, argX m c (ix2 R k) * (V m c main_v6 : FVec Ideal S1024x128 .bf16) (ix2 k L)) + (V m c main_v9 : FVec Ideal S1x128 .f32) (ix2 0 L) := by
  have hN : cfg0.N = 16 := N_0
  have hRl := R.isLt
  have hLl := L.isLt
  obtain ⟨t, ht⟩ : ∃ t : Fin cfg0.N, t.val = 1 * (R.val / 1024) + L.val / 128 := ⟨⟨1 * (R.val / 1024) + L.val / 128, by omega⟩, rfl⟩
  obtain ⟨r, hr⟩ : ∃ r : Fin 1024, r.val = R.val % 1024 := ⟨⟨R.val % 1024, Nat.mod_lt _ (by decide)⟩, rfl⟩
  obtain ⟨l, hl⟩ : ∃ l : Fin 128, l.val = L.val % 128 := ⟨⟨L.val % 128, Nat.mod_lt _ (by decide)⟩, rfl⟩
  have hi := (idx_t t).2.2.2
  have hb := congrFun ((Value.blocks3 m c t (flush3 t)).trans (Value.flushed3 m c t)) (ix2 r l)
  rw [View.read_apply] at hb
  have he : ((cfg0.win 3).blk t).view.emb (ix2 r l) = ix2 R L := by
    funext a
    apply Fin.ext
    match a with
    | ⟨0, _⟩ => show win0_3.index t 0 * 1024 + 1 * r.val = R.val; rw [hi]; show t.val / 1 * 1024 + _ = _; omega
    | ⟨1, _⟩ => show win0_3.index t 1 * 128 + 1 * l.val = L.val; rw [hi]; show t.val % 1 * 128 + _ = _; omega
  rw [he] at hb
  refine hb.trans ?_
  show out0_3 (iblk m c 0 t) (iblk m c 1 t) (iblk m c 2 t) (ix2 r l) = _
  rw [out_eq]
  refine (pay_apply _ _ _ r l).trans ?_
  refine congrArg₂ HAdd.hAdd (Finset.sum_congr rfl fun k _ => congrArg₂ HMul.hMul (iblk0 m c t r k R (by omega)) (iblk1 m c t k l L (by omega))) (iblk2 m c t l L (by omega))

end Cert.InIfIdeal.Block

namespace Cert.InIfRefIdeal.Ref

open Idealize.ShloMosaic Idealize.SL.Sem
open Cert.InIfRefIdeal Cert.InIfRefIdeal.Gen

/-- The reference's result at an index: in the first eight columns the row's product with the gate's column and its bias, then zeros. -/
theorem ref_apply (x : FVec Ideal S16384x1024 .f32) (w : FVec Ideal S2x1024x9992 .f32) (b : FVec Ideal S2x9992 .f32) (R : Fin 16384) (l : Fin 128) :
    pad S16384x128 ![0, 0] ![0, 120] ![0, 0] (extractStridedSlice S16384x8 ![0, 6912] (addf (Host.dotGeneral dot_S16384x1024_S1024x9992_S16384x9992_1_0_0_1_n_n none x (shapeCast _ (extractStridedSlice S1x1024x9992 ![0, 0, 0] w slices_S2x1024x9992_S1x1024x9992_0_0_0) shapeCasts_S1x1024x9992_S1024x9992)) (broadcastInDim S16384x9992 ![0, 1] bcast_S1x9992_S16384x9992_0_1 (broadcastInDim S1x9992 ![1] bcast_S9992_S1x9992_1 (shapeCast _ (extractStridedSlice S1x9992 ![0, 0] b slices_S2x9992_S1x9992_0_0) shapeCasts_S1x9992_S9992)))) slices_S16384x9992_S16384x8_0_6912) (sitofp .f32 (constantI S_ 32 0#32)) pads_S16384x8_S16384x128_000_01200 h_S_ (ix2 R l)
      = if h : l.val < 8 then (∑ k : Fin 1024, x (ix2 R k) * w (ix3 0 k ⟨6912 + l.val, by omega⟩)) + b (ix2 0 ⟨6912 + l.val, by omega⟩) else 0 := by
  rw [Cert.Alg.pad2_apply, Cert.Alg.sitofp_zero]
  split
  · pointwise
  · rfl

end Cert.InIfRefIdeal.Ref

namespace Cert.Proof

open Idealize.ShloMosaic Idealize.SL.Sem

/-- The reference runs to the end and leaves its arguments and counters alone. -/
theorem quiescent_InIfRefIdeal : quiescent_InIfRefIdeal := fun m ρ _ =>
  (θ_run Cert.InIfRefIdeal.defs _ _).mono (fun r h => ⟨fun c => (h c).2, sem_eq_zero_of_no_sems (by decide) r.2⟩)
    (Cert.InIfRefIdeal.Value.run (F := Ideal) m ρ)

/-- Kernel and reference end with equal results. -/
theorem algebraic_InIf : algebraic_InIfIdeal_InIfRefIdeal := by
  intro m ρ m' ρ' hpre hagree
  refine ⟨_, Cert.InIfIdeal.Value.run_blocks (F := Ideal) m ρ, ?_⟩
  refine (θ_run Cert.InIfRefIdeal.defs _ _).mono (fun _ h c => ⟨?_, (h c).2⟩) (Cert.InIfRefIdeal.Value.run (F := Ideal) m' ρ')
  rw [(h c).1]
  obtain ⟨a0, a1, a2⟩ := hagree c
  rw [a0, a1, a2]
  funext i
  obtain ⟨R, l, rfl⟩ : ∃ (R : Fin 16384) (l : Fin 128), i = ix2 R l := ⟨i 0, i 1, eq_ix2 i⟩
  refine (Cert.InIfRefIdeal.Ref.ref_apply _ _ _ R l).trans (Eq.trans ?_ (Cert.InIfIdeal.Block.arr_apply m c R l).symm)
  by_cases hl : l.val < 8
  · rw [dif_pos hl]
    refine congrArg₂ HAdd.hAdd (Finset.sum_congr rfl fun k _ => congrArg₂ HMul.hMul rfl ?_) ?_
    · exact ((Cert.InIfIdeal.Block.V_w m c k l).trans (dif_pos hl)).symm
    · exact ((Cert.InIfIdeal.Block.V_b m c l).trans (dif_pos hl)).symm
  · rw [dif_neg hl]
    refine Eq.trans ?_ (congrArg₂ HAdd.hAdd (Finset.sum_congr rfl fun k _ => congrArg (_ * ·) ((Cert.InIfIdeal.Block.V_w m c k l).trans (dif_neg hl)).symm) ((Cert.InIfIdeal.Block.V_b m c l).trans (dif_neg hl)).symm)
    simp

end Cert.Proof

end
-- ==== Proof.InGateClaim.lean ====
/-
  The input projection's call for the three branches' gates: what its result array holds, and that it is its reference's.
-/
module

public import proofs.«01_k».proof.Proof.Gen.InGate.Frame
public import proofs.«01_k».proof.Proof.Gen.InGateIdeal.Value
public import proofs.«01_k».proof.Proof.Gen.InGateRefIdeal.Run
public import proofs.«01_k».proof.Proof.Pads
public import proofs.«01_k».proof.Defs
public import Idealize.ShloMosaic.Adequacy
public import Idealize.ShloMosaic.Init
public import Idealize.ShloMosaic.Lib.Quiescent
public import Idealize.ShloMosaic.Lib.Tactic
public import Idealize.ShloMosaic.Lib.Pointwise

@[expose] public section

set_option maxRecDepth 16384

noncomputable section

namespace Cert.InGateIdeal.Block

open Idealize.ShloMosaic Idealize.ShloMosaic.TcCoe Idealize.SL.Sem
open Cert.InGateIdeal Cert.InGateIdeal.Gen

variable (m : (ℓ : Loc nD τ sig) → Buf (Elt Ideal) ℓ)

/-- The arguments, as arrays: the rows, the projection's weights and its biases. -/
abbrev argX (c : Dev nD) : FVec Ideal S16384x1024 .f32 := m ((c : Thread nD τ).loc main_arg0)
abbrev argW (c : Dev nD) : FVec Ideal S2x1024x9992 .f32 := m ((c : Thread nD τ).loc main_arg1)
abbrev argB (c : Dev nD) : FVec Ideal S2x9992 .f32 := m ((c : Thread nD τ).loc main_arg2)

/-! ## What one point computes -/

theorem hz2 : (![0, 0] : Fin 2 → Nat) = fun _ => 0 := funext fun a => by fin_cases a <;> rfl

/-- The output block is the body's payload of the input blocks. -/
theorem out_eq (x0 : Vec Ideal S1024x1024 .bf16) (x1 : Vec Ideal S1024x1024 .bf16) (x2 : Vec Ideal S1x1024 .f32) : out0_3 x0 x1 x2 = k0_pay1 x0 x1 x2 := by
  unfold out0_3
  rw [View.canon_unit_zero hz2]
  simp only [View.ld_unit_zero (S := S1024x1024) hz2, View.ld_unit_zero (S := S1024x1024) hz2, View.ld_unit_zero (S := S1x1024) hz2]

/-- The payload at an index: the row's product with the column, and the column's bias. -/
theorem pay_apply (x0 : FVec Ideal S1024x1024 .bf16) (x1 : FVec Ideal S1024x1024 .bf16) (x2 : FVec Ideal S1x1024 .f32) (r : Fin 1024) (l : Fin 1024) :
    k0_pay1 (F := Ideal) x0 x1 x2 (ix2 r l) = (∑ k : Fin 1024, x0 (ix2 r k) * x1 (ix2 k l)) + x2 (ix2 0 l) := by
  pointwise [k0_pay1]

/-! ## The arrays the call reads -/

theorem V_x (c : Dev nD) (r : Fin 16384) (k : Fin 1024) : V m c main_v4 (ix2 r k) = argX m c (ix2 r k) := by
  have h : V m c main_v4 = truncf .bf16 (argX m c) bitsLt_bf16_f32 := by
    show StableHlo.after hostOps0 _ _ = _
    after_results
  rw [h]; rfl

theorem V_w (c : Dev nD) (k : Fin 1024) (l : Fin 3072) (L : Fin 9992) (hL : L.val = 6920 + l.val) : V m c main_v6 (ix2 k l) = argW m c (ix3 0 k L) := by
  have h : V m c main_v6 = truncf .bf16 (extractStridedSlice S1024x3072 ![0, 6920] (shapeCast _ (extractStridedSlice S1x1024x9992 ![0, 0, 0] (argW m c) slices_S2x1024x9992_S1x1024x9992_0_0_0) shapeCasts_S1x1024x9992_S1024x9992) slices_S1024x9992_S1024x3072_0_6920) bitsLt_bf16_f32 := by
    show StableHlo.after hostOps0 _ _ = _
    after_results
    rfl
  rw [h]
  pointwise
  exact congrArg (argW m c) (congrArg (ix3 0 k) (Fin.ext (by simpa using hL.symm)))

theorem V_b (c : Dev nD) (l : Fin 3072) (L : Fin 9992) (hL : L.val = 6920 + l.val) : V m c main_v8 (ix2 0 l) = argB m c (ix2 0 L) := by
  have h : V m c main_v8 = broadcastInDim S1x3072 ![1] bcast_S3072_S1x3072_1 (extractStridedSlice S3072 ![6920] (shapeCast _ (extractStridedSlice S1x9992 ![0, 0] (argB m c) slices_S2x9992_S1x9992_0_0) shapeCasts_S1x9992_S9992) slices_S9992_S3072_6920) := by
    show StableHlo.after hostOps0 _ _ = _
    after_results
    rfl
  rw [h]
  pointwise
  exact congrArg (argB m c) (congrArg (ix2 0) (Fin.ext (by simpa using hL.symm)))

/-- Every point writes its block back. -/
theorem flush3 : ∀ t : Fin cfg0.N, (cfg0.win 3).flush t = true :=
  (by decide +kernel : ∀ t : Fin grid0.N, _)

/-! ## The blocks a point reads -/

/-- The printed index maps, over the grid: point `t` is row block `t / 3`, column block `t % 3`. -/
theorem idx_t : ∀ t : Fin cfg0.N, win0_0.index t = ![t.val / 3, 0] ∧ win0_1.index t = ![0, t.val % 3] ∧ win0_2.index t = ![0, t.val % 3]
    ∧ win0_3.index t = ![t.val / 3, t.val % 3] :=
  (by decide +kernel : ∀ t : Fin grid0.N, _)

theorem iblk0 (c : Dev nD) (t : Fin cfg0.N) (r : Fin 1024) (k : Fin 1024) (R : Fin 16384) (hR : R.val = 1024 * (t.val / 3) + r.val) :
    (iblk m c 0 t : FVec Ideal S1024x1024 .bf16) (ix2 r k) = argX m c (ix2 R k) := by
  have h := (idx_t t).1
  rw [← V_x m c R k]
  unfold iblk
  rw [View.read_apply]
  show V m c main_v4 _ = _
  congr 1
  funext a
  apply Fin.ext
  match a with
  | ⟨0, _⟩ => show win0_0.index t 0 * 1024 + 1 * r.val = R.val; rw [h]; show t.val / 3 * 1024 + _ = _; omega
  | ⟨1, _⟩ => show win0_0.index t 1 * 1024 + 1 * k.val = k.val; rw [h]; show 0 * 1024 + _ = _; omega

theorem iblk1 (c : Dev nD) (t : Fin cfg0.N) (k : Fin 1024) (l : Fin 1024) (L : Fin 3072) (hL : L.val = 1024 * (t.val % 3) + l.val) :
    (iblk m c 1 t : FVec Ideal S1024x1024 .bf16) (ix2 k l) = V m c main_v6 (ix2 k L) := by
  have h := (idx_t t).2.1
  unfold iblk
  rw [View.read_apply]
  show V m c main_v6 _ = _
  congr 1
  funext a
  apply Fin.ext
  match a with
  | ⟨0, _⟩ => show win0_1.index t 0 * 1024 + 1 * k.val = k.val; rw [h]; show 0 * 1024 + _ = _; omega
  | ⟨1, _⟩ => show win0_1.index t 1 * 1024 + 1 * l.val = L.val; rw [h]; show t.val % 3 * 1024 + _ = _; omega

theorem iblk2 (c : Dev nD) (t : Fin cfg0.N) (l : Fin 1024) (L : Fin 3072) (hL : L.val = 1024 * (t.val % 3) + l.val) :
    (iblk m c 2 t : FVec Ideal S1x1024 .f32) (ix2 0 l) = V m c main_v8 (ix2 0 L) := by
  have h := (idx_t t).2.2.1
  unfold iblk
  rw [View.read_apply]
  show V m c main_v8 _ = _
  congr 1
  funext a
  apply Fin.ext
  match a with
  | ⟨0, _⟩ => show win0_2.index t 0 * 1 + 1 * 0 = 0; rw [h]; rfl
  | ⟨1, _⟩ => show win0_2.index t 1 * 1024 + 1 * l.val = L.val; rw [h]; show t.val % 3 * 1024 + _ = _; omega

/-! ## The result array -/

/-- The result array at an index: the row's product with the column, and the column's bias. -/
theorem arr_apply (c : Dev nD) (R : Fin 16384) (L : Fin 3072) :
    ((dats m 0 c).arrAt 3 cfg0.N : FVec Ideal S16384x3072 .bf16) (ix2 R L)
      = (∑ k : Fin 1024, argX m c (ix2 R k) * (V m c main_v6 : FVec Ideal S1024x3072 .bf16) (ix2 k L)) + (V m c main_v8 : FVec Ideal S1x3072 .f32) (ix2 0 L) := by
  have hN : cfg0.N = 48 := N_0
  have hRl := R.isLt
  have hLl := L.isLt
  obtain ⟨t, ht⟩ : ∃ t : Fin cfg0.N, t.val = 3 * (R.val / 1024) + L.val / 1024 := ⟨⟨3 * (R.val / 1024) + L.val / 1024, by omega⟩, rfl⟩
  obtain ⟨r, hr⟩ : ∃ r : Fin 1024, r.val = R.val % 1024 := ⟨⟨R.val % 1024, Nat.mod_lt _ (by decide)⟩, rfl⟩
  obtain ⟨l, hl⟩ : ∃ l : Fin 1024, l.val = L.val % 1024 := ⟨⟨L.val % 1024, Nat.mod_lt _ (by decide)⟩, rfl⟩
  have hi := (idx_t t).2.2.2
  have hb := congrFun ((Value.blocks3 m c t (flush3 t)).trans (Value.flushed3 m c t)) (ix2 r l)
  rw [View.read_apply] at hb
  have he : ((cfg0.win 3).blk t).view.emb (ix2 r l) = ix2 R L := by
    funext a
    apply Fin.ext
    match a with
    | ⟨0, _⟩ => show win0_3.index t 0 * 1024 + 1 * r.val = R.val; rw [hi]; show t.val / 3 * 1024 + _ = _; omega
    | ⟨1, _⟩ => show win0_3.index t 1 * 1024 + 1 * l.val = L.val; rw [hi]; show t.val % 3 * 1024 + _ = _; omega
  rw [he] at hb
  refine hb.trans ?_
  show out0_3 (iblk m c 0 t) (iblk m c 1 t) (iblk m c 2 t) (ix2 r l) = _
  rw [out_eq]
  refine (pay_apply _ _ _ r l).trans ?_
  refine congrArg₂ HAdd.hAdd (Finset.sum_congr rfl fun k _ => congrArg₂ HMul.hMul (iblk0 m c t r k R (by omega)) (iblk1 m c t k l L (by omega))) (iblk2 m c t l L (by omega))

end Cert.InGateIdeal.Block

namespace Cert.InGateRefIdeal.Ref

open Idealize.ShloMosaic Idealize.SL.Sem
open Cert.InGateRefIdeal Cert.InGateRefIdeal.Gen

/-- The reference's result at an index: the row's product with the column of all 9992, and its bias. -/
theorem ref_apply (x : FVec Ideal S16384x1024 .f32) (w : FVec Ideal S2x1024x9992 .f32) (b : FVec Ideal S2x9992 .f32) (R : Fin 16384) (l : Fin 3072) (L : Fin 9992) (hL : L.val = 6920 + l.val) :
    truncf .bf16 (extractStridedSlice S16384x3072 ![0, 6920] (addf (Host.dotGeneral dot_S16384x1024_S1024x9992_S16384x9992_1_0_0_1_n_n none x (shapeCast _ (extractStridedSlice S1x1024x9992 ![0, 0, 0] w slices_S2x1024x9992_S1x1024x9992_0_0_0) shapeCasts_S1x1024x9992_S1024x9992)) (broadcastInDim S16384x9992 ![0, 1] bcast_S1x9992_S16384x9992_0_1 (broadcastInDim S1x9992 ![1] bcast_S9992_S1x9992_1 (shapeCast _ (extractStridedSlice S1x9992 ![0, 0] b slices_S2x9992_S1x9992_0_0) shapeCasts_S1x9992_S9992)))) slices_S16384x9992_S16384x3072_0_6920) bitsLt_bf16_f32 (ix2 R l)
      = (∑ k : Fin 1024, x (ix2 R k) * w (ix3 0 k L)) + b (ix2 0 L) := by
  pointwise
  exact congrArg₂ HAdd.hAdd (Finset.sum_congr rfl fun k _ => congrArg₂ HMul.hMul rfl (congrArg w (congrArg (ix3 0 k) (Fin.ext (by simpa using hL.symm)))))
    (congrArg b (congrArg (ix2 0) (Fin.ext (by simpa using hL.symm))))

end Cert.InGateRefIdeal.Ref

namespace Cert.Proof

open Idealize.ShloMosaic Idealize.SL.Sem

/-- The reference runs to the end and leaves its arguments and counters alone. -/
theorem quiescent_InGateRefIdeal : quiescent_InGateRefIdeal := fun m ρ _ =>
  (θ_run Cert.InGateRefIdeal.defs _ _).mono (fun r h => ⟨fun c => (h c).2, sem_eq_zero_of_no_sems (by decide) r.2⟩)
    (Cert.InGateRefIdeal.Value.run (F := Ideal) m ρ)

/-- Kernel and reference end with equal results. -/
theorem algebraic_InGate : algebraic_InGateIdeal_InGateRefIdeal := by
  intro m ρ m' ρ' hpre hagree
  refine ⟨_, Cert.InGateIdeal.Value.run_blocks (F := Ideal) m ρ, ?_⟩
  refine (θ_run Cert.InGateRefIdeal.defs _ _).mono (fun _ h c => ⟨?_, (h c).2⟩) (Cert.InGateRefIdeal.Value.run (F := Ideal) m' ρ')
  rw [(h c).1]
  obtain ⟨a0, a1, a2⟩ := hagree c
  rw [a0, a1, a2]
  funext i
  obtain ⟨R, l, rfl⟩ : ∃ (R : Fin 16384) (l : Fin 3072), i = ix2 R l := ⟨i 0, i 1, eq_ix2 i⟩
  obtain ⟨L, hL⟩ : ∃ L : Fin 9992, L.val = 6920 + l.val := ⟨⟨6920 + l.val, by have := l.isLt; omega⟩, rfl⟩
  refine (Cert.InGateRefIdeal.Ref.ref_apply _ _ _ R l L hL).trans (Eq.trans ?_ (Cert.InGateIdeal.Block.arr_apply m c R l).symm)
  exact congrArg₂ HAdd.hAdd (Finset.sum_congr rfl fun k _ => congrArg₂ HMul.hMul rfl (Cert.InGateIdeal.Block.V_w m c k l L hL).symm) (Cert.InGateIdeal.Block.V_b m c l L hL).symm

end Cert.Proof

end
-- ==== Proof.MixAlg.lean ====
/-
  The merge of the mixer's three branches, as functions of extended reals: the pieces in which the kernel's block and the
  reference's arrays are both written.
-/
module

public import proofs.«01_k».proof.Proof.Alg

@[expose] public section

noncomputable section

namespace Cert.Alg

open Idealize.ShloMosaic

/-- The tanh form of the Gaussian error unit. -/
def gelu (x : EReal) : EReal :=
  Ideal.ofBits .f32 0x3F000000#32 * x * (1 + Ideal.tanh (Ideal.ofBits .f32 0x3F4C422A#32 * (x + Ideal.ofBits .f32 0x3D372713#32 * (x * x * x))))

/-- Three values merged by the softmax of three log-denominators. -/
def merge3 (l0 l1 l2 o0 o1 o2 : EReal) : EReal :=
  let M := max (max l0 l1) l2
  let inv := Ideal.div 1 (Ideal.exp (l0 - M) + Ideal.exp (l1 - M) + Ideal.exp (l2 - M))
  Ideal.exp (l0 - M) * inv * o0 + Ideal.exp (l1 - M) * inv * o1 + Ideal.exp (l2 - M) * inv * o2

theorem exp_nonneg (x : EReal) : 0 ≤ Ideal.exp x := by
  induction x using EReal.rec with
  | bot => exact le_refl _
  | coe r => exact EReal.coe_nonneg.2 (Real.exp_pos r).le
  | top => exact le_top

/-- Where the largest of three log-denominators is finite, the softmax's quotients are products with the inverse of its sum. -/
theorem merge3_div (l0 l1 l2 o0 o1 o2 : EReal) (h0 : max (max l0 l1) l2 ≠ ⊥) (h1 : max (max l0 l1) l2 ≠ ⊤) :
    Ideal.div (Ideal.exp (l0 - max (max l0 l1) l2)) (Ideal.exp (l0 - max (max l0 l1) l2) + Ideal.exp (l1 - max (max l0 l1) l2) + Ideal.exp (l2 - max (max l0 l1) l2)) * o0
      + Ideal.div (Ideal.exp (l1 - max (max l0 l1) l2)) (Ideal.exp (l0 - max (max l0 l1) l2) + Ideal.exp (l1 - max (max l0 l1) l2) + Ideal.exp (l2 - max (max l0 l1) l2)) * o1
      + Ideal.div (Ideal.exp (l2 - max (max l0 l1) l2)) (Ideal.exp (l0 - max (max l0 l1) l2) + Ideal.exp (l1 - max (max l0 l1) l2) + Ideal.exp (l2 - max (max l0 l1) l2)) * o2
      = merge3 l0 l1 l2 o0 o1 o2 := by
  have hm : max (max l0 l1) l2 = l0 ∨ max (max l0 l1) l2 = l1 ∨ max (max l0 l1) l2 = l2 := by
    rcases max_choice (max l0 l1) l2 with h | h
    · rcases max_choice l0 l1 with k | k
      · exact Or.inl (h.trans k)
      · exact Or.inr (Or.inl (h.trans k))
    · exact Or.inr (Or.inr h)
  unfold merge3
  dsimp only
  generalize max (max l0 l1) l2 = M at hm h0 h1 ⊢
  have hz : Ideal.exp (M - M) = 1 := by
    rw [EReal.sub_self h1 h0]
    show ((Real.exp 0 : ℝ) : EReal) = 1
    rw [Real.exp_zero]; rfl
  have hS : Ideal.exp (l0 - M) + Ideal.exp (l1 - M) + Ideal.exp (l2 - M) ≠ 0 := by
    have n0 := exp_nonneg (l0 - M)
    have n1 := exp_nonneg (l1 - M)
    have n2 := exp_nonneg (l2 - M)
    have hp : (0 : EReal) < Ideal.exp (l0 - M) + Ideal.exp (l1 - M) + Ideal.exp (l2 - M) := by
      have h01 : (0 : EReal) < 1 := zero_lt_one
      rcases hm with h | h | h
      · rw [← h, hz]; exact h01.trans_le (le_add_of_le_of_nonneg (le_add_of_nonneg_right n1) n2)
      · rw [← h, hz]; exact h01.trans_le (le_add_of_le_of_nonneg (le_add_of_nonneg_left n0) n2)
      · rw [← h, hz]; exact h01.trans_le (le_add_of_nonneg_left (add_nonneg n0 n1))
    exact hp.ne'
  simp only [Ideal.div, if_neg hS, one_mul]

/-- The group of 128 columns a column lies in. -/
def grp (L : Fin 768) : Fin 6 := ⟨L.val / 128, by omega⟩

/-- The causal mixing of a chunk's rows at row `t`, column `L`, scaled by the gate `u`. -/
def gating (u : EReal) (v : Fin 128 → EReal) (w : Fin 128 → EReal) (b : EReal) (t : Fin 128) : EReal :=
  u * ((∑ s : Fin 128, (if s.val ≤ t.val then w s else 0) * v s) + b)

/-- A row of the residual plus the mixed branches: the three branch rows are projected, gated and added, and the sum
    projected again. -/
def zrow (x : Fin 1024 → EReal) (g0 g1 g2 : Fin 1024 → EReal) (pa pb pc : Fin 1024 → EReal) (wo : Fin 1024 → Fin 1024 → EReal) (l : Fin 1024) : EReal :=
  Ideal.ofBits .f32 0x3FB504F3#32 * x l
    + ∑ k : Fin 1024, (Ideal.logistic (g0 k) * pa k + Ideal.logistic (g1 k) * pb k + Ideal.logistic (g2 k) * pc k) * wo k l

/-- A row's projection. -/
def proj {n : ℕ} (y : Fin n → EReal) (w : Fin n → Fin 1024 → EReal) (k : Fin 1024) : EReal := ∑ j : Fin n, y j * w j k

/-- Column `o + l` of a wider row. -/
def at_ {n N : ℕ} (o : ℕ) (h : o + n ≤ N) (l : Fin n) : Fin N := ⟨o + l.val, by omega⟩

/-- One element of the merge's result: the layer norm of the row's residual and mixed branches. The spatial gating unit's
    row is row `t` of its chunk, whose 128 rows are `sv`. -/
def mixRow (x : Fin 1024 → EReal) (gp : Fin 3072 → EReal) (l0 l1 l2 o0 o1 o2 : Fin 256 → EReal) (su : Fin 1536 → EReal) (sv : Fin 128 → Fin 1536 → EReal) (t : Fin 128)
    (sgg sgb : Fin 768 → EReal) (w : Fin 6 → Fin 128 → Fin 128 → EReal) (bias : Fin 128 → Fin 6 → EReal)
    (wa : Fin 256 → Fin 1024 → EReal) (wb : Fin 768 → Fin 1024 → EReal) (pc : Fin 1024 → EReal) (wo : Fin 1024 → Fin 1024 → EReal) (g b : Fin 1024 → EReal) (l : Fin 1024) : EReal :=
  lnorm (Ideal.ofBits .f32 0x44800000#32) (Ideal.ofBits .f32 0x3727C5AC#32)
    (zrow x (fun k => gp (at_ 0 (by omega) k)) (fun k => gp (at_ 1024 (by omega) k)) (fun k => gp (at_ 2048 (by omega) k))
      (proj (fun j => merge3 (l0 j) (l1 j) (l2 j) (o0 j) (o1 j) (o2 j)) wa)
      (proj (fun L => gating (gelu (su (at_ 0 (by omega) L)))
        (fun s => lnorm (Ideal.ofBits .f32 0x44400000#32) (Ideal.ofBits .f32 0x3727C5AC#32) (fun k => gelu (sv s (at_ 768 (by omega) k))) (sgg L) (sgb L) L)
        (fun s => w (grp L) t s) (bias t (grp L)) t) wb)
      pc wo) (g l) (b l) l

/-- Head rows padded to 256 columns meet padded weights: the padding adds nothing. -/
theorem proj_pad (y : Fin 1024 → EReal) (w : Fin 768 → Fin 1024 → EReal) (W : Fin 1024 → Fin 1024 → EReal)
    (hW : ∀ (K : Fin 1024) k, W K k = if h : K.val % 256 < 192 then w ⟨192 * (K.val / 256) + K.val % 256, by omega⟩ k else 0) :
    proj y W = proj (fun J : Fin 768 => y ⟨256 * (J.val / 192) + J.val % 192, by omega⟩) w := by
  funext k
  unfold proj
  symm
  refine Finset.sum_of_injOn (fun J : Fin 768 => (⟨256 * (J.val / 192) + J.val % 192, by omega⟩ : Fin 1024)) (fun a _ b _ h => ?_) (fun _ _ => Finset.mem_coe.2 (Finset.mem_univ _)) (fun K _ hK => ?_) (fun J _ => ?_)
  · have := congrArg Fin.val h
    apply Fin.ext
    show a.val = b.val
    dsimp only at this
    omega
  · rw [hW, dif_neg, mul_zero]
    intro h
    refine hK ⟨⟨192 * (K.val / 256) + K.val % 256, by omega⟩, Finset.mem_coe.2 (Finset.mem_univ _), Fin.ext ?_⟩
    show 256 * ((192 * (K.val / 256) + K.val % 256) / 192) + (192 * (K.val / 256) + K.val % 256) % 192 = K.val
    omega
  · rw [hW, dif_pos (by show (256 * (J.val / 192) + J.val % 192) % 256 < 192; omega)]
    refine congrArg₂ HMul.hMul rfl (congrArg (fun J => w J k) (Fin.ext ?_))
    show J.val = 192 * ((256 * (J.val / 192) + J.val % 192) / 256) + (256 * (J.val / 192) + J.val % 192) % 256
    omega

end Cert.Alg

end
-- ==== Proof.MixBlock.lean ====
/-
  What one grid point of the branch merge leaves in its two output blocks, at an index, from the blocks it reads.
-/
module

public import proofs.«01_k».proof.Proof.Gen.MixIdeal.Value
public import proofs.«01_k».proof.Proof.MixAlg
public import proofs.«01_k».proof.Proof.Pads
public import Idealize.ShloMosaic.Lib.Tactic
public import Idealize.ShloMosaic.Lib.Pointwise

@[expose] public section

set_option maxRecDepth 16384

noncomputable section

namespace Cert.MixIdeal.Block

open Idealize.ShloMosaic Idealize.ShloMosaic.TcCoe Idealize.SL.Sem
open Cert.MixIdeal Cert.MixIdeal.Gen Cert.Alg

theorem hz2 : (![0, 0] : Fin 2 → Nat) = fun _ => 0 := funext fun a => by fin_cases a <;> rfl

/-- The merged attention groups at an index. -/
theorem pay3_apply (l0 l1 l2 : FVec Ideal S256x256 .f32) (o0 o1 o2 : FVec Ideal S256x256 .bf16) (r : Fin 256) (j : Fin 256) :
    k0_pay3 (F := Ideal) l0 l1 l2 o0 o1 o2 (ix2 r j)
      = merge3 (l0 (ix2 r j)) (l1 (ix2 r j)) (l2 (ix2 r j)) (o0 (ix2 r j)) (o1 (ix2 r j)) (o2 (ix2 r j)) := by
  unfold merge3
  pointwise [k0_pay3]

/-- The gate of the spatial gating unit at an index. -/
theorem pay7_apply (s : FVec Ideal S256x768 .bf16) (r : Fin 256) (L : Fin 768) :
    k0_pay7 (F := Ideal) (k0_pay5 s) (k0_pay6 s) (ix2 r L) = gelu (s (ix2 r L)) := by
  unfold gelu
  pointwise [k0_pay7, k0_pay5, k0_pay6, k0_pay4]

/-- The value of the spatial gating unit at an index: the layer norm of a row. -/
theorem pay8_apply (s : FVec Ideal S256x768 .bf16) (g b : FVec Ideal S1x768 .f32) (r : Fin 256) (L : Fin 768) :
    k0_pay8 (F := Ideal) s g b (ix2 r L)
      = lnorm (Ideal.ofBits .f32 0x44400000#32) (Ideal.ofBits .f32 0x3727C5AC#32) (fun k => gelu (s (ix2 r k))) (g (ix2 0 L)) (b (ix2 0 L)) L := by
  unfold lnorm mean gelu
  pointwise [k0_pay8]

/-- The causal mask of a chunk. -/
def msk : IVec S128x128 1 := k0_pay9 (iota .tc S128x128 32 [0] iota_S128x128_d0_w32)

/-- One group of one chunk: the masked weights times the group's values, and the bias. -/
def part (o : Fin 2 → ℕ) (h : S256x768.Slices o S128x128) (v : FVec Ideal S256x768 .bf16) (w : FVec Ideal S1x128x128 .f32) (b : FVec Ideal S128x1 .f32) : FVec Ideal S128x128 .f32 :=
  addf (matmul dot_S128x128_S128x128_S128x128_1_0_0_1_n_n none (truncf .bf16 (select msk (shapeCast S128x128 w shapeCasts_S1x128x128_S128x128) (broadcast S128x128 (Scalar.ofBits .f32 0x00000000#32))) bitsLt_bf16_f32)
      (extractStridedSlice S128x128 o v h) (constant S128x128 .f32 0x00000000#32))
    (broadcastTo S128x128 (shapeCast S128x1 b shapeCasts_S128x1_S128x1) broadcasts_S128x1_S128x128)

theorem msk_apply (t s : Fin 128) : msk (ix2 t s) = if s.val ≤ t.val then 1#1 else 0#1 := by
  revert t s
  decide +kernel

theorem part_apply (a c : ℕ) (h : S256x768.Slices ![a, c] S128x128) (v : FVec Ideal S256x768 .bf16) (w : FVec Ideal S1x128x128 .f32) (b : FVec Ideal S128x1 .f32)
    (t d : Fin 128) (R : Fin 128 → Fin 256) (hR : ∀ s, (R s).val = a + s.val) (L : Fin 768) (hL : L.val = c + d.val) :
    part ![a, c] h v w b (ix2 t d) = (∑ s : Fin 128, (if s.val ≤ t.val then w (ix3 0 t s) else 0) * v (ix2 (R s) L)) + b (ix2 t 0) := by
  have hv : ∀ s : Fin 128, extractStridedSlice S128x128 ![a, c] v h (ix2 s d) = v (ix2 (R s) L) := fun s => by
    unfold extractStridedSlice
    congr 1
    funext i
    apply Fin.ext
    match i with
    | ⟨0, _⟩ => exact (hR s).symm
    | ⟨1, _⟩ => exact hL.symm
  unfold part
  generalize extractStridedSlice S128x128 ![a, c] v h = e at hv
  simp only [← hv]
  pointwise
  simp only [msk_apply]
  refine congrArg₂ HAdd.hAdd (Finset.sum_congr rfl fun s _ => ?_) rfl
  by_cases hs : s.val ≤ t.val
  · rw [if_pos hs, if_pos hs]; rfl
  · rw [if_neg hs, if_neg hs]; exact (zero_mul (M₀ := EReal) _).symm

theorem slc : ∀ (c : Fin 2) (g : Fin 6), S256x768.Slices ![128 * c.val, 128 * g.val] S128x128 := by decide

/-- The mixed rows of one chunk: its six groups side by side. -/
def tile (c : Fin 2) (v : FVec Ideal S256x768 .bf16) (W : Fin 6 → FVec Ideal S1x128x128 .f32) (B : Fin 6 → FVec Ideal S128x1 .f32) : FVec Ideal S128x768 .f32 :=
  concatenate S128x768 1 (List.ofFn fun g : Fin 6 => ⟨S128x128, part ![128 * c.val, 128 * g.val] (slc c g) v (W g) (B g)⟩) concatenates_S128x128_S128x128_S128x128_S128x128_S128x128_S128x128_S128x768_d1

theorem tile_apply (c : Fin 2) (v : FVec Ideal S256x768 .bf16) (W : Fin 6 → FVec Ideal S1x128x128 .f32) (B : Fin 6 → FVec Ideal S128x1 .f32) (t : Fin 128) (L : Fin 768)
    (R : Fin 128 → Fin 256) (hR : ∀ s, (R s).val = 128 * c.val + s.val) :
    tile c v W B (ix2 t L) = (∑ s : Fin 128, (if s.val ≤ t.val then W (grp L) (ix3 0 t s) else 0) * v (ix2 (R s) L)) + B (grp L) (ix2 t 0) := by
  have hL := L.isLt
  unfold tile
  refine (concatenate_ofFn_apply (t := S128x768) (s₁ := S128x128) 1 (fun g : Fin 6 => part ![128 * c.val, 128 * g.val] (slc c g) v (W g) (B g)) _ rfl 128 rfl (ix2 t L) (grp L) rfl
    (ix2 t (⟨L.val % 128, Nat.mod_lt _ (by omega)⟩ : Fin 128)) rfl (fun b hb => by
      match b, hb with
      | ⟨0, _⟩, _ => rfl
      | ⟨1, _⟩, hb => exact absurd rfl hb)).trans ?_
  exact part_apply _ _ _ _ _ _ _ _ R hR L (by show L.val = 128 * (L.val / 128) + L.val % 128; omega)

/-- The weights and biases of group `g`, as the body loads them. -/
def ldW (w : FVec Ideal S6x128x128 .f32) : Fin 6 → FVec Ideal S1x128x128 .f32 :=
  ![View.ld (Val := Elt Ideal) (e' := .f32) w r0_4, View.ld (Val := Elt Ideal) (e' := .f32) w r0_6, View.ld (Val := Elt Ideal) (e' := .f32) w r0_8,
    View.ld (Val := Elt Ideal) (e' := .f32) w r0_10, View.ld (Val := Elt Ideal) (e' := .f32) w r0_12, View.ld (Val := Elt Ideal) (e' := .f32) w r0_14]
def ldB (b : FVec Ideal S128x6 .f32) : Fin 6 → FVec Ideal S128x1 .f32 :=
  ![View.ld (Val := Elt Ideal) (e' := .f32) b r0_5, View.ld (Val := Elt Ideal) (e' := .f32) b r0_7, View.ld (Val := Elt Ideal) (e' := .f32) b r0_9,
    View.ld (Val := Elt Ideal) (e' := .f32) b r0_11, View.ld (Val := Elt Ideal) (e' := .f32) b r0_13, View.ld (Val := Elt Ideal) (e' := .f32) b r0_15]

theorem ldW_apply (w : FVec Ideal S6x128x128 .f32) (g : Fin 6) (t s : Fin 128) : ldW w g (ix3 0 t s) = w (ix3 g t s) := by
  fin_cases g
  all_goals
    show w _ = w _
    congr 1
    funext a
    apply Fin.ext
    match a with
    | ⟨0, _⟩ => rfl
    | ⟨1, _⟩ => show 0 + 1 * t.val = t.val; omega
    | ⟨2, _⟩ => show 0 + 1 * s.val = s.val; omega

theorem ldB_apply (b : FVec Ideal S128x6 .f32) (g : Fin 6) (t : Fin 128) : ldB b g (ix2 t 0) = b (ix2 t g) := by
  fin_cases g
  all_goals
    show b _ = b _
    congr 1
    funext a
    apply Fin.ext
    match a with
    | ⟨0, _⟩ => show 0 + 1 * t.val = t.val; omega
    | ⟨1, _⟩ => rfl

/-- The spatial gating unit's rows, both chunks. -/
def gate (u : FVec Ideal S256x768 .f32) (v : FVec Ideal S256x768 .bf16) (w : FVec Ideal S6x128x128 .f32) (b : FVec Ideal S128x6 .f32) : FVec Ideal S256x768 .f32 :=
  mulf u (concatenate S256x768 0 (List.ofFn fun c : Fin 2 => ⟨S128x768, tile c v (ldW w) (ldB b)⟩) concatenates_S128x768_S128x768_S256x768_d0)

theorem gate_apply (u : FVec Ideal S256x768 .f32) (v : FVec Ideal S256x768 .bf16) (w : FVec Ideal S6x128x128 .f32) (b : FVec Ideal S128x6 .f32) (r : Fin 256) (L : Fin 768)
    (R : Fin 128 → Fin 256) (hR : ∀ s, (R s).val = 128 * (r.val / 128) + s.val) (t : Fin 128) (ht : t.val = r.val % 128) :
    gate u v w b (ix2 r L) = gating (u (ix2 r L)) (fun s => v (ix2 (R s) L)) (fun s => w (ix3 (grp L) t s)) (b (ix2 t (grp L))) t := by
  have hr := r.isLt
  unfold gate gating
  refine congrArg₂ HMul.hMul rfl ((concatenate_ofFn_apply (t := S256x768) (s₁ := S128x768) 0 (fun c : Fin 2 => tile c v (ldW w) (ldB b)) _ rfl 128 rfl (ix2 r L) (⟨r.val / 128, by omega⟩ : Fin 2) rfl
    (ix2 t L) ht (fun a ha => by
      match a, ha with
      | ⟨0, _⟩, ha => exact absurd rfl ha
      | ⟨1, _⟩, _ => rfl)).trans ?_)
  rw [tile_apply _ _ _ _ _ _ R hR]
  simp only [ldW_apply, ldB_apply]

variable (x0 : FVec Ideal S256x1024 .f32) (x1 x2 x3 : FVec Ideal S256x256 .bf16) (x4 x5 x6 : FVec Ideal S256x256 .f32) (x7 : FVec Ideal S256x1536 .bf16)
  (x8 : FVec Ideal S256x1024 .bf16) (x9 : FVec Ideal S256x3072 .bf16) (x10 x11 : FVec Ideal S1x768 .f32) (x12 : FVec Ideal S6x128x128 .f32) (x13 : FVec Ideal S128x6 .f32)
  (x14 : FVec Ideal S256x1024 .bf16) (x15 : FVec Ideal S768x1024 .bf16) (x16 x17 : FVec Ideal S1024x1024 .bf16) (x18 x19 : FVec Ideal S1x1024 .f32)

theorem pay29_eq : k0_pay29 (F := Ideal) x0 x1 x2 x3 x4 x5 x6 x7 x8 x9 x10 x11 x12 x13 x14 x15 x16 x17 x18 x19
    = gate (k0_pay7 (k0_pay5 (View.ld (Val := Elt Ideal) (e' := .bf16) x7 r0_1)) (k0_pay6 (View.ld (Val := Elt Ideal) (e' := .bf16) x7 r0_1)))
        (k0_pay8 (View.ld (Val := Elt Ideal) (e' := .bf16) x7 r0_2) (View.ld (Val := Elt Ideal) (e' := .f32) x10 r0_3) (View.ld (Val := Elt Ideal) (e' := .f32) x11 r0_3)) x12 x13 := rfl

/-- The residual and the mixed branches, from the body's values. -/
def zpay (ya : FVec Ideal S256x256 .f32) (yb : FVec Ideal S256x768 .f32) (g0 g1 g2 : FVec Ideal S256x1024 .bf16) : FVec Ideal S256x1024 .f32 :=
  addf (mulf (broadcast S256x1024 (Scalar.ofBits .f32 0x3FB504F3#32)) x0)
    (matmul dot_S256x1024_S1024x1024_S256x1024_1_0_0_1_n_n none
      (truncf .bf16 (addf (addf
          (mulf (logistic (extf .f32 g0 bitsLt_bf16_f32)) (matmul dot_S256x256_S256x1024_S256x1024_1_0_0_1_n_n none (truncf .bf16 ya bitsLt_bf16_f32) x14 (constant S256x1024 .f32 0x00000000#32)))
          (mulf (logistic (extf .f32 g1 bitsLt_bf16_f32)) (matmul dot_S256x768_S768x1024_S256x1024_1_0_0_1_n_n none (truncf .bf16 yb bitsLt_bf16_f32) x15 (constant S256x1024 .f32 0x00000000#32))))
          (mulf (logistic (extf .f32 g2 bitsLt_bf16_f32)) (matmul dot_S256x1024_S1024x1024_S256x1024_1_0_0_1_n_n none x8 x16 (constant S256x1024 .f32 0x00000000#32)))) bitsLt_bf16_f32)
      x17 (constant S256x1024 .f32 0x00000000#32))

theorem zpay_apply (ya : FVec Ideal S256x256 .f32) (yb : FVec Ideal S256x768 .f32) (g0 g1 g2 : FVec Ideal S256x1024 .bf16) (r : Fin 256) (l : Fin 1024) :
    zpay x0 x8 x14 x15 x16 x17 ya yb g0 g1 g2 (ix2 r l)
      = zrow (fun k => x0 (ix2 r k)) (fun k => g0 (ix2 r k)) (fun k => g1 (ix2 r k)) (fun k => g2 (ix2 r k))
          (proj (fun j => ya (ix2 r j)) fun j k => x14 (ix2 j k)) (proj (fun j => yb (ix2 r j)) fun j k => x15 (ix2 j k)) (proj (fun j => x8 (ix2 r j)) fun j k => x16 (ix2 j k))
          (fun k l => x17 (ix2 k l)) l := by
  unfold zpay zrow proj
  pointwise

/-- The layer norm of a block. -/
def npay (z : FVec Ideal S256x1024 .f32) (g b : FVec Ideal S1x1024 .f32) : FVec Ideal S256x1024 .f32 :=
  let d := subf z (broadcastTo S256x1024 (divf (shapeCast S256x1 (multiReduction .add [1] S256 z 0x00000000#32 reduces_S256x1024_S256 (.inl rfl) rfl) shapeCasts_S256_S256x1) (broadcast S256x1 (Scalar.ofBits .f32 0x44800000#32))) broadcasts_S256x1_S256x1024)
  k0_pay1 g b d (shapeCast S256x1 (multiReduction .add [1] S256 (mulf d d) 0x00000000#32 reduces_S256x1024_S256 (.inl rfl) rfl) shapeCasts_S256_S256x1) (Scalar.ofBits .f32 0x44800000#32)

theorem npay_apply (z : FVec Ideal S256x1024 .f32) (g b : FVec Ideal S1x1024 .f32) (r : Fin 256) (l : Fin 1024) :
    npay z g b (ix2 r l) = lnorm (Ideal.ofBits .f32 0x44800000#32) (Ideal.ofBits .f32 0x3727C5AC#32) (fun k => z (ix2 r k)) (g (ix2 0 l)) (b (ix2 0 l)) l := by
  unfold lnorm mean
  pointwise [npay, k0_pay1]

/-- What the body writes, before its cast. -/
def bpay : FVec Ideal S256x1024 .f32 :=
  npay (zpay x0 x8 x14 x15 x16 x17
    (k0_pay3 (F := Ideal) x4 x5 x6 x1 x2 x3)
    (gate (k0_pay7 (k0_pay5 (View.ld (Val := Elt Ideal) (e' := .bf16) x7 r0_1)) (k0_pay6 (View.ld (Val := Elt Ideal) (e' := .bf16) x7 r0_1)))
        (k0_pay8 (View.ld (Val := Elt Ideal) (e' := .bf16) x7 r0_2) x10 x11) x12 x13)
    (View.ld (Val := Elt Ideal) (e' := .bf16) x9 r0_16) (View.ld (Val := Elt Ideal) (e' := .bf16) x9 r0_18) (View.ld (Val := Elt Ideal) (e' := .bf16) x9 r0_20)) x18 x19

theorem out20_eq : out0_20 (F := Ideal) x0 x1 x2 x3 x4 x5 x6 x7 x8 x9 x10 x11 x12 x13 x14 x15 x16 x17 x18 x19
    = bpay x0 x1 x2 x3 x4 x5 x6 x7 x8 x9 x10 x11 x12 x13 x14 x15 x16 x17 x18 x19 := by
  unfold out0_20
  rw [View.canon_unit_zero hz2]
  unfold k0_pay35 k0_pay34 k0_pay33 k0_pay32 k0_pay31 k0_pay30
  rw [pay29_eq]
  unfold bpay
  simp only [View.ld_unit_zero (S := S256x256) hz2, View.ld_unit_zero (S := S256x1024) hz2, View.ld_unit_zero (S := S768x1024) hz2, View.ld_unit_zero (S := S1024x1024) hz2,
    View.ld_unit_zero (S := S1x1024) hz2, View.ld_unit_zero (S := S1x768) hz2]
  unfold k0_pay22 k0_pay23 k0_pay25 k0_pay24 k0_pay20 k0_pay21 npay zpay
  simp only [shapeCast_self]

theorem out21_eq : out0_21 (F := Ideal) x0 x1 x2 x3 x4 x5 x6 x7 x8 x9 x10 x11 x12 x13 x14 x15 x16 x17 x18 x19
    = truncf .bf16 (bpay x0 x1 x2 x3 x4 x5 x6 x7 x8 x9 x10 x11 x12 x13 x14 x15 x16 x17 x18 x19) bitsLt_bf16_f32 := by
  unfold out0_21
  rw [View.canon_unit_zero hz2]
  unfold k0_pay2 k0_pay35 k0_pay34 k0_pay33 k0_pay32 k0_pay31 k0_pay30
  rw [pay29_eq]
  unfold bpay
  simp only [View.ld_unit_zero (S := S256x256) hz2, View.ld_unit_zero (S := S256x1024) hz2, View.ld_unit_zero (S := S768x1024) hz2, View.ld_unit_zero (S := S1024x1024) hz2,
    View.ld_unit_zero (S := S1x1024) hz2, View.ld_unit_zero (S := S1x768) hz2]
  unfold k0_pay22 k0_pay23 k0_pay25 k0_pay24 k0_pay20 k0_pay21 npay zpay
  simp only [shapeCast_self]

/-! Loads of some columns, at an index. -/

theorem ld1_apply (L : Fin 768) (r : Fin 256) : View.ld (Val := Elt Ideal) (e' := .bf16) x7 r0_1 (ix2 r L) = x7 (ix2 r (at_ 0 (by omega) L : Fin 1536)) := by
  show x7 _ = x7 _
  congr 1
  funext a
  apply Fin.ext
  match a with
  | ⟨0, _⟩ => show 0 + 1 * r.val = r.val; omega
  | ⟨1, _⟩ => show 0 + 1 * L.val = 0 + L.val; omega

theorem ld2_apply (L : Fin 768) (r : Fin 256) : View.ld (Val := Elt Ideal) (e' := .bf16) x7 r0_2 (ix2 r L) = x7 (ix2 r (at_ 768 (by omega) L : Fin 1536)) := by
  show x7 _ = x7 _
  congr 1
  funext a
  apply Fin.ext
  match a with
  | ⟨0, _⟩ => show 0 + 1 * r.val = r.val; omega
  | ⟨1, _⟩ => show 768 + 1 * L.val = 768 + L.val; omega

theorem ld16_apply (L : Fin 1024) (r : Fin 256) : View.ld (Val := Elt Ideal) (e' := .bf16) x9 r0_16 (ix2 r L) = x9 (ix2 r (at_ 0 (by omega) L : Fin 3072)) := by
  show x9 _ = x9 _
  congr 1
  funext a
  apply Fin.ext
  match a with
  | ⟨0, _⟩ => show 0 + 1 * r.val = r.val; omega
  | ⟨1, _⟩ => show 0 + 1 * L.val = 0 + L.val; omega

theorem ld18_apply (L : Fin 1024) (r : Fin 256) : View.ld (Val := Elt Ideal) (e' := .bf16) x9 r0_18 (ix2 r L) = x9 (ix2 r (at_ 1024 (by omega) L : Fin 3072)) := by
  show x9 _ = x9 _
  congr 1
  funext a
  apply Fin.ext
  match a with
  | ⟨0, _⟩ => show 0 + 1 * r.val = r.val; omega
  | ⟨1, _⟩ => show 1024 + 1 * L.val = 1024 + L.val; omega

theorem ld20_apply (L : Fin 1024) (r : Fin 256) : View.ld (Val := Elt Ideal) (e' := .bf16) x9 r0_20 (ix2 r L) = x9 (ix2 r (at_ 2048 (by omega) L : Fin 3072)) := by
  show x9 _ = x9 _
  congr 1
  funext a
  apply Fin.ext
  match a with
  | ⟨0, _⟩ => show 0 + 1 * r.val = r.val; omega
  | ⟨1, _⟩ => show 2048 + 1 * L.val = 2048 + L.val; omega

/-- The output block at an index, from the blocks read and the columns loaded of two of them. -/
theorem bpay_cols (a1 a2 : FVec Ideal S256x768 .bf16) (g0 g1 g2 : FVec Ideal S256x1024 .bf16)
    (h1 : ∀ r L, a1 (ix2 r L) = x7 (ix2 r (at_ 0 (by omega) L : Fin 1536))) (h2 : ∀ r L, a2 (ix2 r L) = x7 (ix2 r (at_ 768 (by omega) L : Fin 1536)))
    (h3 : ∀ r L, g0 (ix2 r L) = x9 (ix2 r (at_ 0 (by omega) L : Fin 3072))) (h4 : ∀ r L, g1 (ix2 r L) = x9 (ix2 r (at_ 1024 (by omega) L : Fin 3072)))
    (h5 : ∀ r L, g2 (ix2 r L) = x9 (ix2 r (at_ 2048 (by omega) L : Fin 3072)))
    (r : Fin 256) (l : Fin 1024) (R : Fin 128 → Fin 256) (hR : ∀ s, (R s).val = 128 * (r.val / 128) + s.val) (t : Fin 128) (ht : t.val = r.val % 128) :
    npay (zpay x0 x8 x14 x15 x16 x17 (k0_pay3 (F := Ideal) x4 x5 x6 x1 x2 x3) (gate (k0_pay7 (k0_pay5 a1) (k0_pay6 a1)) (k0_pay8 a2 x10 x11) x12 x13) g0 g1 g2) x18 x19 (ix2 r l)
      = mixRow (fun k => x0 (ix2 r k)) (fun k => x9 (ix2 r k)) (fun j => x4 (ix2 r j)) (fun j => x5 (ix2 r j)) (fun j => x6 (ix2 r j)) (fun j => x1 (ix2 r j)) (fun j => x2 (ix2 r j)) (fun j => x3 (ix2 r j))
          (fun k => x7 (ix2 r k)) (fun s k => x7 (ix2 (R s) k)) t (fun L => x10 (ix2 0 L)) (fun L => x11 (ix2 0 L)) (fun g t s => x12 (ix3 g t s)) (fun t g => x13 (ix2 t g))
          (fun j k => x14 (ix2 j k)) (fun j k => x15 (ix2 j k)) (proj (fun j => x8 (ix2 r j)) fun j k => x16 (ix2 j k)) (fun j k => x17 (ix2 j k)) (fun l => x18 (ix2 0 l)) (fun l => x19 (ix2 0 l)) l := by
  rw [npay_apply]
  unfold mixRow
  simp only [zpay_apply, pay3_apply, h3, h4, h5]
  simp only [gate_apply _ _ _ _ r _ R hR t ht, pay7_apply, pay8_apply, h1, h2]

/-- The output block at an index, from the blocks read. -/
theorem bpay_apply (r : Fin 256) (l : Fin 1024) (R : Fin 128 → Fin 256) (hR : ∀ s, (R s).val = 128 * (r.val / 128) + s.val) (t : Fin 128) (ht : t.val = r.val % 128) :
    bpay x0 x1 x2 x3 x4 x5 x6 x7 x8 x9 x10 x11 x12 x13 x14 x15 x16 x17 x18 x19 (ix2 r l)
      = mixRow (fun k => x0 (ix2 r k)) (fun k => x9 (ix2 r k)) (fun j => x4 (ix2 r j)) (fun j => x5 (ix2 r j)) (fun j => x6 (ix2 r j)) (fun j => x1 (ix2 r j)) (fun j => x2 (ix2 r j)) (fun j => x3 (ix2 r j))
          (fun k => x7 (ix2 r k)) (fun s k => x7 (ix2 (R s) k)) t (fun L => x10 (ix2 0 L)) (fun L => x11 (ix2 0 L)) (fun g t s => x12 (ix3 g t s)) (fun t g => x13 (ix2 t g))
          (fun j k => x14 (ix2 j k)) (fun j k => x15 (ix2 j k)) (proj (fun j => x8 (ix2 r j)) fun j k => x16 (ix2 j k)) (fun j k => x17 (ix2 j k)) (fun l => x18 (ix2 0 l)) (fun l => x19 (ix2 0 l)) l := by
  unfold bpay
  exact bpay_cols x0 x1 x2 x3 x4 x5 x6 x7 x8 x9 x10 x11 x12 x13 x14 x15 x16 x17 x18 x19 _ _ _ _ _ (fun r L => ld1_apply x7 L r) (fun r L => ld2_apply x7 L r)
    (fun r L => ld16_apply x9 L r) (fun r L => ld18_apply x9 L r) (fun r L => ld20_apply x9 L r) r l R hR t ht

end Cert.MixIdeal.Block

end
-- ==== Proof.MixFold.lean ====
/-
  The branch merge's two results, from its arguments: the arrays the call reads, the blocks a grid point reads of them, and
  the result arrays at an index.
-/
module

public import proofs.«01_k».proof.Proof.MixBlock

@[expose] public section

set_option maxRecDepth 16384

noncomputable section

namespace Cert.MixIdeal.Block

open Idealize.ShloMosaic Idealize.ShloMosaic.TcCoe Idealize.SL.Sem
open Cert.MixIdeal Cert.MixIdeal.Gen Cert.Alg

variable (m : (ℓ : Loc nD τ sig) → Buf (Elt Ideal) ℓ)

/-- The arguments, as arrays. -/
abbrev argX (c : Dev nD) : FVec Ideal S16384x1024 .f32 := m ((c : Thread nD τ).loc main_arg0)
abbrev argO0 (c : Dev nD) : FVec Ideal S16384x256 .bf16 := m ((c : Thread nD τ).loc main_arg1)
abbrev argO1 (c : Dev nD) : FVec Ideal S16384x256 .bf16 := m ((c : Thread nD τ).loc main_arg2)
abbrev argO2 (c : Dev nD) : FVec Ideal S16384x256 .bf16 := m ((c : Thread nD τ).loc main_arg3)
abbrev argL0 (c : Dev nD) : FVec Ideal S16384x256 .f32 := m ((c : Thread nD τ).loc main_arg4)
abbrev argL1 (c : Dev nD) : FVec Ideal S16384x256 .f32 := m ((c : Thread nD τ).loc main_arg5)
abbrev argL2 (c : Dev nD) : FVec Ideal S16384x256 .f32 := m ((c : Thread nD τ).loc main_arg6)
abbrev argSg (c : Dev nD) : FVec Ideal S16384x1536 .bf16 := m ((c : Thread nD τ).loc main_arg7)
abbrev argHc (c : Dev nD) : FVec Ideal S16384x1024 .bf16 := m ((c : Thread nD τ).loc main_arg8)
abbrev argGp (c : Dev nD) : FVec Ideal S16384x3072 .bf16 := m ((c : Thread nD τ).loc main_arg9)
abbrev argSgg (c : Dev nD) : FVec Ideal S2x768 .f32 := m ((c : Thread nD τ).loc main_arg10)
abbrev argSgb (c : Dev nD) : FVec Ideal S2x768 .f32 := m ((c : Thread nD τ).loc main_arg11)
abbrev argSw (c : Dev nD) : FVec Ideal S2x6x128x128 .f32 := m ((c : Thread nD τ).loc main_arg12)
abbrev argSb (c : Dev nD) : FVec Ideal S2x6x128 .f32 := m ((c : Thread nD τ).loc main_arg13)
abbrev argWa (c : Dev nD) : FVec Ideal S2x256x1024 .f32 := m ((c : Thread nD τ).loc main_arg14)
abbrev argWb (c : Dev nD) : FVec Ideal S2x768x1024 .f32 := m ((c : Thread nD τ).loc main_arg15)
abbrev argWc (c : Dev nD) : FVec Ideal S2x768x1024 .f32 := m ((c : Thread nD τ).loc main_arg16)
abbrev argWo (c : Dev nD) : FVec Ideal S2x1024x1024 .f32 := m ((c : Thread nD τ).loc main_arg17)
abbrev argLg (c : Dev nD) : FVec Ideal S2x2x1024 .f32 := m ((c : Thread nD τ).loc main_arg18)
abbrev argLb (c : Dev nD) : FVec Ideal S2x2x1024 .f32 := m ((c : Thread nD τ).loc main_arg19)

/-! ## The arrays the call reads -/

theorem V_sgg (c : Dev nD) (L : Fin 768) : V m c main_v2 (ix2 0 L) = argSgg m c (ix2 0 L) := by
  have h : V m c main_v2 = broadcastInDim S1x768 ![1] bcast_S768_S1x768_1 (shapeCast _ (extractStridedSlice S1x768 ![0, 0] (argSgg m c) slices_S2x768_S1x768_0_0) shapeCasts_S1x768_S768) := by
    show StableHlo.after _ _ _ = _
    simp only [List.flatten_cons, List.flatten_nil, List.append_nil, List.cons_append, List.nil_append]
    after_results
    rfl
  rw [h]
  pointwise

theorem V_sgb (c : Dev nD) (L : Fin 768) : V m c main_v5 (ix2 0 L) = argSgb m c (ix2 0 L) := by
  have h : V m c main_v5 = broadcastInDim S1x768 ![1] bcast_S768_S1x768_1 (shapeCast _ (extractStridedSlice S1x768 ![0, 0] (argSgb m c) slices_S2x768_S1x768_0_0) shapeCasts_S1x768_S768) := by
    show StableHlo.after _ _ _ = _
    simp only [List.flatten_cons, List.flatten_nil, List.append_nil, List.cons_append, List.nil_append]
    after_results
    rfl
  rw [h]
  pointwise

theorem V_sw (c : Dev nD) (g : Fin 6) (t s : Fin 128) : V m c main_v7 (ix3 g t s) = argSw m c (ix4 0 g t s) := by
  have h : V m c main_v7 = shapeCast _ (extractStridedSlice S1x6x128x128 ![0, 0, 0, 0] (argSw m c) slices_S2x6x128x128_S1x6x128x128_0_0_0_0) shapeCasts_S1x6x128x128_S6x128x128 := by
    show StableHlo.after _ _ _ = _
    simp only [List.flatten_cons, List.flatten_nil, List.append_nil, List.cons_append, List.nil_append]
    after_results
    rfl
  rw [h]
  pointwise

theorem V_sb (c : Dev nD) (t : Fin 128) (g : Fin 6) : V m c main_v10 (ix2 t g) = argSb m c (ix3 0 g t) := by
  have h : V m c main_v10 = transpose S128x6 [1, 0] (shapeCast _ (extractStridedSlice S1x6x128 ![0, 0, 0] (argSb m c) slices_S2x6x128_S1x6x128_0_0_0) shapeCasts_S1x6x128_S6x128) transposes_S6x128_S128x6_1_0 := by
    show StableHlo.after _ _ _ = _
    simp only [List.flatten_cons, List.flatten_nil, List.append_nil, List.cons_append, List.nil_append]
    after_results
    rfl
  rw [h]
  pointwise

theorem V_wa (c : Dev nD) (j : Fin 256) (k : Fin 1024) : V m c main_v13 (ix2 j k) = argWa m c (ix3 0 j k) := by
  have h : V m c main_v13 = truncf .bf16 (shapeCast _ (extractStridedSlice S1x256x1024 ![0, 0, 0] (argWa m c) slices_S2x256x1024_S1x256x1024_0_0_0) shapeCasts_S1x256x1024_S256x1024) bitsLt_bf16_f32 := by
    show StableHlo.after _ _ _ = _
    simp only [List.flatten_cons, List.flatten_nil, List.append_nil, List.cons_append, List.nil_append]
    after_results
    rfl
  rw [h]
  pointwise

theorem V_wb (c : Dev nD) (j : Fin 768) (k : Fin 1024) : V m c main_v16 (ix2 j k) = argWb m c (ix3 0 j k) := by
  have h : V m c main_v16 = truncf .bf16 (shapeCast _ (extractStridedSlice S1x768x1024 ![0, 0, 0] (argWb m c) slices_S2x768x1024_S1x768x1024_0_0_0) shapeCasts_S1x768x1024_S768x1024) bitsLt_bf16_f32 := by
    show StableHlo.after _ _ _ = _
    simp only [List.flatten_cons, List.flatten_nil, List.append_nil, List.cons_append, List.nil_append]
    after_results
    rfl
  rw [h]
  pointwise

theorem V_wo (c : Dev nD) (j : Fin 1024) (k : Fin 1024) : V m c main_v27 (ix2 j k) = argWo m c (ix3 0 j k) := by
  have h : V m c main_v27 = truncf .bf16 (shapeCast _ (extractStridedSlice S1x1024x1024 ![0, 0, 0] (argWo m c) slices_S2x1024x1024_S1x1024x1024_0_0_0) shapeCasts_S1x1024x1024_S1024x1024) bitsLt_bf16_f32 := by
    show StableHlo.after _ _ _ = _
    simp only [List.flatten_cons, List.flatten_nil, List.append_nil, List.cons_append, List.nil_append]
    after_results
    rfl
  rw [h]
  pointwise

theorem V_lg (c : Dev nD) (l : Fin 1024) : V m c main_v30 (ix2 0 l) = argLg m c (ix3 0 0 l) := by
  have h : V m c main_v30 = broadcastInDim S1x1024 ![1] bcast_S1024_S1x1024_1 (shapeCast _ (extractStridedSlice S1x1x1024 ![0, 0, 0] (argLg m c) slices_S2x2x1024_S1x1x1024_0_0_0) shapeCasts_S1x1x1024_S1024) := by
    show StableHlo.after _ _ _ = _
    simp only [List.flatten_cons, List.flatten_nil, List.append_nil, List.cons_append, List.nil_append]
    after_results
    rfl
  rw [h]
  pointwise

theorem V_lb (c : Dev nD) (l : Fin 1024) : V m c main_v33 (ix2 0 l) = argLb m c (ix3 0 0 l) := by
  have h : V m c main_v33 = broadcastInDim S1x1024 ![1] bcast_S1024_S1x1024_1 (shapeCast _ (extractStridedSlice S1x1x1024 ![0, 0, 0] (argLb m c) slices_S2x2x1024_S1x1x1024_0_0_0) shapeCasts_S1x1x1024_S1024) := by
    show StableHlo.after _ _ _ = _
    simp only [List.flatten_cons, List.flatten_nil, List.append_nil, List.cons_append, List.nil_append]
    after_results
    rfl
  rw [h]
  pointwise

theorem V_wc (c : Dev nD) (K k : Fin 1024) : V m c main_v24 (ix2 K k) = if h : K.val % 256 < 192 then argWc m c (ix3 0 (⟨192 * (K.val / 256) + K.val % 256, by omega⟩ : Fin 768) k) else 0 := by
  have h : V m c main_v24 = truncf .bf16 (transpose S1024x1024 [1, 0] (shapeCast _ (pad S1024x4x256 ![0, 0, 0] ![0, 0, 64] ![0, 0, 0] (shapeCast S1024x4x192 (transpose S1024x768 [1, 0] (shapeCast _ (extractStridedSlice S1x768x1024 ![0, 0, 0] (argWc m c) slices_S2x768x1024_S1x768x1024_0_0_0) shapeCasts_S1x768x1024_S768x1024) transposes_S768x1024_S1024x768_1_0) shapeCasts_S1024x768_S1024x4x192) (sitofp .f32 (constantI S_ 32 0#32)) pads_S1024x4x192_S1024x4x256_000_000_0640 h_S_) shapeCasts_S1024x4x256_S1024x1024) transposes_S1024x1024_S1024x1024_1_0) bitsLt_bf16_f32 := by
    show StableHlo.after _ _ _ = _
    simp only [List.flatten_cons, List.flatten_nil, List.append_nil, List.cons_append, List.nil_append]
    after_results
    rfl
  rw [h]
  have hK := K.isLt
  rw [Cert.Alg.trunc_apply, Pointwise.transpose_apply]
  show shapeCast S1024x1024 _ _ (ix2 k K) = _
  rw [shapeCast_apply _ _ (ix2 k K) (ix3 k (⟨K.val / 256, by omega⟩ : Fin 4) (⟨K.val % 256, by omega⟩ : Fin 256)) (by
    rw [Shape.rowMajor_val_three, Shape.rowMajor_val_two]
    show (k.val * 4 + K.val / 256) * 256 + K.val % 256 = k.val * 1024 + K.val; omega)]
  rw [Cert.Alg.pad3_apply, Cert.Alg.sitofp_zero]
  by_cases hd : K.val % 256 < 192
  · rw [dif_pos hd, dif_pos hd]
    rw [shapeCast_apply _ _ (ix3 k (⟨K.val / 256, by omega⟩ : Fin 4) (⟨K.val % 256, hd⟩ : Fin 192)) (ix2 k (⟨192 * (K.val / 256) + K.val % 256, by omega⟩ : Fin 768)) (by
      rw [Shape.rowMajor_val_three, Shape.rowMajor_val_two]
      show k.val * 768 + (192 * (K.val / 256) + K.val % 256) = (k.val * 4 + K.val / 256) * 192 + K.val % 256; omega)]
    pointwise
  · rw [dif_neg hd, dif_neg hd]

/-! ## The blocks a point reads -/

/-- Every point writes its blocks back. -/
theorem flush20 : ∀ t : Fin cfg0.N, (cfg0.win 20).flush t = true :=
  (by decide +kernel : ∀ t : Fin grid0.N, _)
theorem flush21 : ∀ t : Fin cfg0.N, (cfg0.win 21).flush t = true :=
  (by decide +kernel : ∀ t : Fin grid0.N, _)

/-- The printed index maps, over the grid: point `t` is row block `t` of the row arrays, and the weights are read whole. -/
theorem idx_t : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_20.index t = ![t.val, 0] ∧ win0_21.index t = ![t.val, 0] :=
  (by decide +kernel : ∀ t : Fin grid0.N, _)
theorem idx_z : ∀ t : Fin cfg0.N, win0_12.index t = ![0, 0, 0] ∧ win0_10.index t = ![0, 0] ∧ win0_11.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] :=
  (by decide +kernel : ∀ t : Fin grid0.N, _)

theorem iblk0 (c : Dev nD) (t : Fin cfg0.N) (r : Fin 256) (k : Fin 1024) (R : Fin 16384) (hR : R.val = 256 * t.val + r.val) :
    (iblk m c 0 t : FVec Ideal S256x1024 .f32) (ix2 r k) = argX m c (ix2 R k) := by
  have h := (idx_t t).1
  unfold iblk
  rw [View.read_apply]
  show V m c main_arg0 _ = _
  rw [V_main_arg0]
  congr 1
  funext a
  apply Fin.ext
  match a with
  | ⟨0, _⟩ => show win0_0.index t 0 * 256 + 1 * r.val = R.val; rw [h]; show t.val * 256 + _ = _; omega
  | ⟨1, _⟩ => show win0_0.index t 1 * 1024 + 1 * k.val = k.val; rw [h]; show 0 * 1024 + _ = _; omega

theorem iblk1 (c : Dev nD) (t : Fin cfg0.N) (r : Fin 256) (k : Fin 256) (R : Fin 16384) (hR : R.val = 256 * t.val + r.val) :
    (iblk m c 1 t : FVec Ideal S256x256 .bf16) (ix2 r k) = argO0 m c (ix2 R k) := by
  have h := (idx_t t).2.1
  unfold iblk
  rw [View.read_apply]
  show V m c main_arg1 _ = _
  rw [V_main_arg1]
  congr 1
  funext a
  apply Fin.ext
  match a with
  | ⟨0, _⟩ => show win0_1.index t 0 * 256 + 1 * r.val = R.val; rw [h]; show t.val * 256 + _ = _; omega
  | ⟨1, _⟩ => show win0_1.index t 1 * 256 + 1 * k.val = k.val; rw [h]; show 0 * 256 + _ = _; omega

theorem iblk2 (c : Dev nD) (t : Fin cfg0.N) (r : Fin 256) (k : Fin 256) (R : Fin 16384) (hR : R.val = 256 * t.val + r.val) :
    (iblk m c 2 t : FVec Ideal S256x256 .bf16) (ix2 r k) = argO1 m c (ix2 R k) := by
  have h := (idx_t t).2.2.1
  unfold iblk
  rw [View.read_apply]
  show V m c main_arg2 _ = _
  rw [V_main_arg2]
  congr 1
  funext a
  apply Fin.ext
  match a with
  | ⟨0, _⟩ => show win0_2.index t 0 * 256 + 1 * r.val = R.val; rw [h]; show t.val * 256 + _ = _; omega
  | ⟨1, _⟩ => show win0_2.index t 1 * 256 + 1 * k.val = k.val; rw [h]; show 0 * 256 + _ = _; omega

theorem iblk3 (c : Dev nD) (t : Fin cfg0.N) (r : Fin 256) (k : Fin 256) (R : Fin 16384) (hR : R.val = 256 * t.val + r.val) :
    (iblk m c 3 t : FVec Ideal S256x256 .bf16) (ix2 r k) = argO2 m c (ix2 R k) := by
  have h := (idx_t t).2.2.2.1
  unfold iblk
  rw [View.read_apply]
  show V m c main_arg3 _ = _
  rw [V_main_arg3]
  congr 1
  funext a
  apply Fin.ext
  match a with
  | ⟨0, _⟩ => show win0_3.index t 0 * 256 + 1 * r.val = R.val; rw [h]; show t.val * 256 + _ = _; omega
  | ⟨1, _⟩ => show win0_3.index t 1 * 256 + 1 * k.val = k.val; rw [h]; show 0 * 256 + _ = _; omega

theorem iblk4 (c : Dev nD) (t : Fin cfg0.N) (r : Fin 256) (k : Fin 256) (R : Fin 16384) (hR : R.val = 256 * t.val + r.val) :
    (iblk m c 4 t : FVec Ideal S256x256 .f32) (ix2 r k) = argL0 m c (ix2 R k) := by
  have h := (idx_t t).2.2.2.2.1
  unfold iblk
  rw [View.read_apply]
  show V m c main_arg4 _ = _
  rw [V_main_arg4]
  congr 1
  funext a
  apply Fin.ext
  match a with
  | ⟨0, _⟩ => show win0_4.index t 0 * 256 + 1 * r.val = R.val; rw [h]; show t.val * 256 + _ = _; omega
  | ⟨1, _⟩ => show win0_4.index t 1 * 256 + 1 * k.val = k.val; rw [h]; show 0 * 256 + _ = _; omega

theorem iblk5 (c : Dev nD) (t : Fin cfg0.N) (r : Fin 256) (k : Fin 256) (R : Fin 16384) (hR : R.val = 256 * t.val + r.val) :
    (iblk m c 5 t : FVec Ideal S256x256 .f32) (ix2 r k) = argL1 m c (ix2 R k) := by
  have h := (idx_t t).2.2.2.2.2.1
  unfold iblk
  rw [View.read_apply]
  show V m c main_arg5 _ = _
  rw [V_main_arg5]
  congr 1
  funext a
  apply Fin.ext
  match a with
  | ⟨0, _⟩ => show win0_5.index t 0 * 256 + 1 * r.val = R.val; rw [h]; show t.val * 256 + _ = _; omega
  | ⟨1, _⟩ => show win0_5.index t 1 * 256 + 1 * k.val = k.val; rw [h]; show 0 * 256 + _ = _; omega

theorem iblk6 (c : Dev nD) (t : Fin cfg0.N) (r : Fin 256) (k : Fin 256) (R : Fin 16384) (hR : R.val = 256 * t.val + r.val) :
    (iblk m c 6 t : FVec Ideal S256x256 .f32) (ix2 r k) = argL2 m c (ix2 R k) := by
  have h := (idx_t t).2.2.2.2.2.2.1
  unfold iblk
  rw [View.read_apply]
  show V m c main_arg6 _ = _
  rw [V_main_arg6]
  congr 1
  funext a
  apply Fin.ext
  match a with
  | ⟨0, _⟩ => show win0_6.index t 0 * 256 + 1 * r.val = R.val; rw [h]; show t.val * 256 + _ = _; omega
  | ⟨1, _⟩ => show win0_6.index t 1 * 256 + 1 * k.val = k.val; rw [h]; show 0 * 256 + _ = _; omega

theorem iblk7 (c : Dev nD) (t : Fin cfg0.N) (r : Fin 256) (k : Fin 1536) (R : Fin 16384) (hR : R.val = 256 * t.val + r.val) :
    (iblk m c 7 t : FVec Ideal S256x1536 .bf16) (ix2 r k) = argSg m c (ix2 R k) := by
  have h := (idx_t t).2.2.2.2.2.2.2.1
  unfold iblk
  rw [View.read_apply]
  show V m c main_arg7 _ = _
  rw [V_main_arg7]
  congr 1
  funext a
  apply Fin.ext
  match a with
  | ⟨0, _⟩ => show win0_7.index t 0 * 256 + 1 * r.val = R.val; rw [h]; show t.val * 256 + _ = _; omega
  | ⟨1, _⟩ => show win0_7.index t 1 * 1536 + 1 * k.val = k.val; rw [h]; show 0 * 1536 + _ = _; omega

theorem iblk8 (c : Dev nD) (t : Fin cfg0.N) (r : Fin 256) (k : Fin 1024) (R : Fin 16384) (hR : R.val = 256 * t.val + r.val) :
    (iblk m c 8 t : FVec Ideal S256x1024 .bf16) (ix2 r k) = argHc m c (ix2 R k) := by
  have h := (idx_t t).2.2.2.2.2.2.2.2.1
  unfold iblk
  rw [View.read_apply]
  show V m c main_arg8 _ = _
  rw [V_main_arg8]
  congr 1
  funext a
  apply Fin.ext
  match a with
  | ⟨0, _⟩ => show win0_8.index t 0 * 256 + 1 * r.val = R.val; rw [h]; show t.val * 256 + _ = _; omega
  | ⟨1, _⟩ => show win0_8.index t 1 * 1024 + 1 * k.val = k.val; rw [h]; show 0 * 1024 + _ = _; omega

theorem iblk9 (c : Dev nD) (t : Fin cfg0.N) (r : Fin 256) (k : Fin 3072) (R : Fin 16384) (hR : R.val = 256 * t.val + r.val) :
    (iblk m c 9 t : FVec Ideal S256x3072 .bf16) (ix2 r k) = argGp m c (ix2 R k) := by
  have h := (idx_t t).2.2.2.2.2.2.2.2.2.1
  unfold iblk
  rw [View.read_apply]
  show V m c main_arg9 _ = _
  rw [V_main_arg9]
  congr 1
  funext a
  apply Fin.ext
  match a with
  | ⟨0, _⟩ => show win0_9.index t 0 * 256 + 1 * r.val = R.val; rw [h]; show t.val * 256 + _ = _; omega
  | ⟨1, _⟩ => show win0_9.index t 1 * 3072 + 1 * k.val = k.val; rw [h]; show 0 * 3072 + _ = _; omega

theorem iblk12 (c : Dev nD) (t : Fin cfg0.N) (g : Fin 6) (u s : Fin 128) : (iblk m c 12 t : FVec Ideal S6x128x128 .f32) (ix3 g u s) = V m c main_v7 (ix3 g u s) := by
  have h := (idx_z t).1
  unfold iblk
  rw [View.read_apply]
  show V m c main_v7 _ = _
  congr 1
  funext a
  apply Fin.ext
  match a with
  | ⟨0, _⟩ => show win0_12.index t 0 * 6 + 1 * g.val = g.val; rw [h]; show 0 * 6 + _ = _; omega
  | ⟨1, _⟩ => show win0_12.index t 1 * 128 + 1 * u.val = u.val; rw [h]; show 0 * 128 + _ = _; omega
  | ⟨2, _⟩ => show win0_12.index t 2 * 128 + 1 * s.val = s.val; rw [h]; show 0 * 128 + _ = _; omega

theorem iblk10 (c : Dev nD) (t : Fin cfg0.N) (j : Fin 1) (k : Fin 768) : (iblk m c 10 t : FVec Ideal S1x768 .f32) (ix2 j k) = V m c main_v2 (ix2 j k) := by
  have h := (idx_z t).2.1
  unfold iblk
  rw [View.read_apply]
  show V m c main_v2 _ = _
  congr 1
  funext a
  apply Fin.ext
  match a with
  | ⟨0, _⟩ => show win0_10.index t 0 * 1 + 1 * j.val = j.val; rw [h]; show 0 * 1 + _ = _; omega
  | ⟨1, _⟩ => show win0_10.index t 1 * 768 + 1 * k.val = k.val; rw [h]; show 0 * 768 + _ = _; omega

theorem iblk11 (c : Dev nD) (t : Fin cfg0.N) (j : Fin 1) (k : Fin 768) : (iblk m c 11 t : FVec Ideal S1x768 .f32) (ix2 j k) = V m c main_v5 (ix2 j k) := by
  have h := (idx_z t).2.2.1
  unfold iblk
  rw [View.read_apply]
  show V m c main_v5 _ = _
  congr 1
  funext a
  apply Fin.ext
  match a with
  | ⟨0, _⟩ => show win0_11.index t 0 * 1 + 1 * j.val = j.val; rw [h]; show 0 * 1 + _ = _; omega
  | ⟨1, _⟩ => show win0_11.index t 1 * 768 + 1 * k.val = k.val; rw [h]; show 0 * 768 + _ = _; omega

theorem iblk13 (c : Dev nD) (t : Fin cfg0.N) (j : Fin 128) (k : Fin 6) : (iblk m c 13 t : FVec Ideal S128x6 .f32) (ix2 j k) = V m c main_v10 (ix2 j k) := by
  have h := (idx_z t).2.2.2.1
  unfold iblk
  rw [View.read_apply]
  show V m c main_v10 _ = _
  congr 1
  funext a
  apply Fin.ext
  match a with
  | ⟨0, _⟩ => show win0_13.index t 0 * 128 + 1 * j.val = j.val; rw [h]; show 0 * 128 + _ = _; omega
  | ⟨1, _⟩ => show win0_13.index t 1 * 6 + 1 * k.val = k.val; rw [h]; show 0 * 6 + _ = _; omega

theorem iblk14 (c : Dev nD) (t : Fin cfg0.N) (j : Fin 256) (k : Fin 1024) : (iblk m c 14 t : FVec Ideal S256x1024 .bf16) (ix2 j k) = V m c main_v13 (ix2 j k) := by
  have h := (idx_z t).2.2.2.2.1
  unfold iblk
  rw [View.read_apply]
  show V m c main_v13 _ = _
  congr 1
  funext a
  apply Fin.ext
  match a with
  | ⟨0, _⟩ => show win0_14.index t 0 * 256 + 1 * j.val = j.val; rw [h]; show 0 * 256 + _ = _; omega
  | ⟨1, _⟩ => show win0_14.index t 1 * 1024 + 1 * k.val = k.val; rw [h]; show 0 * 1024 + _ = _; omega

theorem iblk15 (c : Dev nD) (t : Fin cfg0.N) (j : Fin 768) (k : Fin 1024) : (iblk m c 15 t : FVec Ideal S768x1024 .bf16) (ix2 j k) = V m c main_v16 (ix2 j k) := by
  have h := (idx_z t).2.2.2.2.2.1
  unfold iblk
  rw [View.read_apply]
  show V m c main_v16 _ = _
  congr 1
  funext a
  apply Fin.ext
  match a with
  | ⟨0, _⟩ => show win0_15.index t 0 * 768 + 1 * j.val = j.val; rw [h]; show 0 * 768 + _ = _; omega
  | ⟨1, _⟩ => show win0_15.index t 1 * 1024 + 1 * k.val = k.val; rw [h]; show 0 * 1024 + _ = _; omega

theorem iblk16 (c : Dev nD) (t : Fin cfg0.N) (j : Fin 1024) (k : Fin 1024) : (iblk m c 16 t : FVec Ideal S1024x1024 .bf16) (ix2 j k) = V m c main_v24 (ix2 j k) := by
  have h := (idx_z t).2.2.2.2.2.2.1
  unfold iblk
  rw [View.read_apply]
  show V m c main_v24 _ = _
  congr 1
  funext a
  apply Fin.ext
  match a with
  | ⟨0, _⟩ => show win0_16.index t 0 * 1024 + 1 * j.val = j.val; rw [h]; show 0 * 1024 + _ = _; omega
  | ⟨1, _⟩ => show win0_16.index t 1 * 1024 + 1 * k.val = k.val; rw [h]; show 0 * 1024 + _ = _; omega

theorem iblk17 (c : Dev nD) (t : Fin cfg0.N) (j : Fin 1024) (k : Fin 1024) : (iblk m c 17 t : FVec Ideal S1024x1024 .bf16) (ix2 j k) = V m c main_v27 (ix2 j k) := by
  have h := (idx_z t).2.2.2.2.2.2.2.1
  unfold iblk
  rw [View.read_apply]
  show V m c main_v27 _ = _
  congr 1
  funext a
  apply Fin.ext
  match a with
  | ⟨0, _⟩ => show win0_17.index t 0 * 1024 + 1 * j.val = j.val; rw [h]; show 0 * 1024 + _ = _; omega
  | ⟨1, _⟩ => show win0_17.index t 1 * 1024 + 1 * k.val = k.val; rw [h]; show 0 * 1024 + _ = _; omega

theorem iblk18 (c : Dev nD) (t : Fin cfg0.N) (j : Fin 1) (k : Fin 1024) : (iblk m c 18 t : FVec Ideal S1x1024 .f32) (ix2 j k) = V m c main_v30 (ix2 j k) := by
  have h := (idx_z t).2.2.2.2.2.2.2.2.1
  unfold iblk
  rw [View.read_apply]
  show V m c main_v30 _ = _
  congr 1
  funext a
  apply Fin.ext
  match a with
  | ⟨0, _⟩ => show win0_18.index t 0 * 1 + 1 * j.val = j.val; rw [h]; show 0 * 1 + _ = _; omega
  | ⟨1, _⟩ => show win0_18.index t 1 * 1024 + 1 * k.val = k.val; rw [h]; show 0 * 1024 + _ = _; omega

theorem iblk19 (c : Dev nD) (t : Fin cfg0.N) (j : Fin 1) (k : Fin 1024) : (iblk m c 19 t : FVec Ideal S1x1024 .f32) (ix2 j k) = V m c main_v33 (ix2 j k) := by
  have h := (idx_z t).2.2.2.2.2.2.2.2.2
  unfold iblk
  rw [View.read_apply]
  show V m c main_v33 _ = _
  congr 1
  funext a
  apply Fin.ext
  match a with
  | ⟨0, _⟩ => show win0_19.index t 0 * 1 + 1 * j.val = j.val; rw [h]; show 0 * 1 + _ = _; omega
  | ⟨1, _⟩ => show win0_19.index t 1 * 1024 + 1 * k.val = k.val; rw [h]; show 0 * 1024 + _ = _; omega

/-! ## The result arrays -/

/-- Row `128 (R / 128) + s`, of `R`'s chunk, and `R`'s place in it. -/
def chRow (R : Fin 16384) (s : Fin 128) : Fin 16384 := ⟨128 * (R.val / 128) + s.val, by omega⟩
def chPos (R : Fin 16384) : Fin 128 := ⟨R.val % 128, by omega⟩

/-- The results at an index, of the arguments. -/
def res (c : Dev nD) (R : Fin 16384) (l : Fin 1024) : EReal :=
  mixRow (fun k => argX m c (ix2 R k)) (fun k => argGp m c (ix2 R k)) (fun j => argL0 m c (ix2 R j)) (fun j => argL1 m c (ix2 R j)) (fun j => argL2 m c (ix2 R j))
    (fun j => argO0 m c (ix2 R j)) (fun j => argO1 m c (ix2 R j)) (fun j => argO2 m c (ix2 R j)) (fun k => argSg m c (ix2 R k)) (fun s k => argSg m c (ix2 (chRow R s) k)) (chPos R)
    (fun L => argSgg m c (ix2 0 L)) (fun L => argSgb m c (ix2 0 L)) (fun g t s => argSw m c (ix4 0 g t s)) (fun t g => argSb m c (ix3 0 g t))
    (fun j k => argWa m c (ix3 0 j k)) (fun j k => argWb m c (ix3 0 j k))
    (proj (fun J : Fin 768 => argHc m c (ix2 R (⟨256 * (J.val / 192) + J.val % 192, by omega⟩ : Fin 1024))) fun J k => argWc m c (ix3 0 J k))
    (fun j k => argWo m c (ix3 0 j k)) (fun l => argLg m c (ix3 0 0 l)) (fun l => argLb m c (ix3 0 0 l)) l

/-- What a point's block holds at an index. -/
theorem blk_apply (c : Dev nD) (t : Fin cfg0.N) (r : Fin 256) (l : Fin 1024) (R : Fin 16384) (hR : R.val = 256 * t.val + r.val) :
    bpay (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix2 r l) = res m c R l := by
  have hr := r.isLt
  refine (bpay_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) r l (fun s => ⟨128 * (r.val / 128) + s.val, by omega⟩) (fun s => rfl) (chPos R) (by show R.val % 128 = r.val % 128; omega)).trans ?_
  unfold res
  rw [proj_pad (fun j => (iblk m c 8 t : FVec Ideal S256x1024 .bf16) (ix2 r j)) (fun J k => argWc m c (ix3 0 J k)) _ (fun K k => (iblk16 m c t K k).trans (V_wc m c K k))]
  have e7 : ∀ s k, (iblk m c 7 t : FVec Ideal S256x1536 .bf16) (ix2 (⟨128 * (r.val / 128) + s.val, by omega⟩ : Fin 256) k) = argSg m c (ix2 (chRow R s) k) :=
    fun s k => iblk7 m c t _ k _ (by show 128 * (R.val / 128) + s.val = 256 * t.val + (128 * (r.val / 128) + s.val); omega)
  simp only [e7, fun k => iblk0 m c t r k R hR, fun k => iblk1 m c t r k R hR, fun k => iblk2 m c t r k R hR, fun k => iblk3 m c t r k R hR, fun k => iblk4 m c t r k R hR,
    fun k => iblk5 m c t r k R hR, fun k => iblk6 m c t r k R hR, fun k => iblk7 m c t r k R hR, fun k => iblk8 m c t r k R hR, fun k => iblk9 m c t r k R hR,
    fun k => (iblk10 m c t 0 k).trans (V_sgg m c k), fun k => (iblk11 m c t 0 k).trans (V_sgb m c k), fun g u s => (iblk12 m c t g u s).trans (V_sw m c g u s), fun u g => (iblk13 m c t u g).trans (V_sb m c u g),
    fun j k => (iblk14 m c t j k).trans (V_wa m c j k), fun j k => (iblk15 m c t j k).trans (V_wb m c j k), fun j k => (iblk17 m c t j k).trans (V_wo m c j k),
    fun k => (iblk18 m c t 0 k).trans (V_lg m c k), fun k => (iblk19 m c t 0 k).trans (V_lb m c k)]

/-- The result array at an index. -/
theorem arr20_apply (c : Dev nD) (R : Fin 16384) (l : Fin 1024) : ((dats m 0 c).arrAt 20 cfg0.N : FVec Ideal S16384x1024 .f32) (ix2 R l) = res m c R l := by
  have hN : cfg0.N = 64 := N_0
  have hRl := R.isLt
  obtain ⟨t, ht⟩ : ∃ t : Fin cfg0.N, t.val = R.val / 256 := ⟨⟨R.val / 256, by omega⟩, rfl⟩
  obtain ⟨r, hr⟩ : ∃ r : Fin 256, r.val = R.val % 256 := ⟨⟨R.val % 256, Nat.mod_lt _ (by decide)⟩, rfl⟩
  have hi := (idx_t t).2.2.2.2.2.2.2.2.2.2.1
  have hb := congrFun ((Value.blocks20 m c t (flush20 t)).trans (Value.flushed20 m c t)) (ix2 r l)
  rw [View.read_apply] at hb
  have he : ((cfg0.win 20).blk t).view.emb (ix2 r l) = ix2 R l := by
    funext a
    apply Fin.ext
    match a with
    | ⟨0, _⟩ => show win0_20.index t 0 * 256 + 1 * r.val = R.val; rw [hi]; show t.val * 256 + _ = _; omega
    | ⟨1, _⟩ => show win0_20.index t 1 * 1024 + 1 * l.val = l.val; rw [hi]; show 0 * 1024 + _ = _; omega
  rw [he] at hb
  refine hb.trans ?_
  show out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix2 r l) = _
  rw [out20_eq]
  exact blk_apply m c t r l R (by omega)

/-- The rounded result array at an index. -/
theorem arr21_apply (c : Dev nD) (R : Fin 16384) (l : Fin 1024) : ((dats m 0 c).arrAt 21 cfg0.N : FVec Ideal S16384x1024 .bf16) (ix2 R l) = res m c R l := by
  have hN : cfg0.N = 64 := N_0
  have hRl := R.isLt
  obtain ⟨t, ht⟩ : ∃ t : Fin cfg0.N, t.val = R.val / 256 := ⟨⟨R.val / 256, by omega⟩, rfl⟩
  obtain ⟨r, hr⟩ : ∃ r : Fin 256, r.val = R.val % 256 := ⟨⟨R.val % 256, Nat.mod_lt _ (by decide)⟩, rfl⟩
  have hi := (idx_t t).2.2.2.2.2.2.2.2.2.2.2
  have hb := congrFun ((Value.blocks21 m c t (flush21 t)).trans (Value.flushed21 m c t)) (ix2 r l)
  rw [View.read_apply] at hb
  have he : ((cfg0.win 21).blk t).view.emb (ix2 r l) = ix2 R l := by
    funext a
    apply Fin.ext
    match a with
    | ⟨0, _⟩ => show win0_21.index t 0 * 256 + 1 * r.val = R.val; rw [hi]; show t.val * 256 + _ = _; omega
    | ⟨1, _⟩ => show win0_21.index t 1 * 1024 + 1 * l.val = l.val; rw [hi]; show 0 * 1024 + _ = _; omega
  rw [he] at hb
  refine hb.trans ?_
  show out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix2 r l) = _
  rw [out21_eq]
  exact (trunc_apply _ _ _).trans (blk_apply m c t r l R (by omega))

end Cert.MixIdeal.Block

end
-- ==== Proof.MixRef.lean ====
/-
  The branch merge's reference, read at an index: the merge of the three attention scales, the spatial gating unit, the
  gated sum of the three branches and the layer norm.
-/
module

public import proofs.«01_k».proof.Proof.MixAlg
public import proofs.«01_k».proof.Proof.Pads
public import proofs.«01_k».proof.Proof.Gen.MixRefIdeal.Run

@[expose] public section

set_option maxRecDepth 16384

noncomputable section

namespace Cert.MixRefIdeal.Ref

open Idealize.ShloMosaic Idealize.ShloMosaic.TcCoe Idealize.SL.Sem
open Cert.MixRefIdeal Cert.MixRefIdeal.Gen Cert.MixRefIdeal.Value Cert.Alg

/-! ## The three attention scales -/

/-- Three arrays stacked. -/
def stk (a b c : FVec Ideal S16384x256 .f32) : FVec Ideal S3x16384x256 .f32 :=
  concatenate S3x16384x256 0 [⟨S1x16384x256, broadcastInDim S1x16384x256 ![1, 2] bcast_S16384x256_S1x16384x256_1_2 a⟩, ⟨S1x16384x256, broadcastInDim S1x16384x256 ![1, 2] bcast_S16384x256_S1x16384x256_1_2 b⟩,
    ⟨S1x16384x256, broadcastInDim S1x16384x256 ![1, 2] bcast_S16384x256_S1x16384x256_1_2 c⟩] concatenates_S1x16384x256_S1x16384x256_S1x16384x256_S3x16384x256_d0

theorem stk_apply (a b c : FVec Ideal S16384x256 .f32) (i : Fin 3) (R : Fin 16384) (j : Fin 256) :
    stk a b c (ix3 i R j) = (![a, b, c] i : FVec Ideal S16384x256 .f32) (ix2 R j) := by
  refine (concatenate_ofFn_apply (t := S3x16384x256) (s₁ := S1x16384x256) 0 (fun i : Fin 3 => broadcastInDim S1x16384x256 ![1, 2] bcast_S16384x256_S1x16384x256_1_2 (![a, b, c] i : FVec Ideal S16384x256 .f32))
    concatenates_S1x16384x256_S1x16384x256_S1x16384x256_S3x16384x256_d0 rfl 1 rfl (ix3 i R j) i (by show i.val / 1 = i.val; omega) (ix3 0 R j) (by show 0 = i.val % 1; omega) (fun x hx => by
      match x, hx with
      | ⟨0, _⟩, hx => exact absurd rfl hx
      | ⟨1, _⟩, _ => rfl
      | ⟨2, _⟩, _ => rfl)).trans ?_
  pointwise

/-- The exponentials of the three log-denominators, less their maximum. -/
def eRef (L : FVec Ideal S3x16384x256 .f32) : FVec Ideal S3x16384x256 .f32 :=
  Host.exp (subf L (broadcastInDim S3x16384x256 ![0, 1, 2] bcast_S1x16384x256_S3x16384x256_0_1_2 (broadcastInDim S1x16384x256 ![1, 2] bcast_S16384x256_S1x16384x256_1_2 (maximumf (broadcastInDim S16384x256 ![] bcast_S_S16384x256 (constant S_ .f32 0xFF800000#32)) (Host.reduce FloatOps.maximumf L (constant S_ .f32 0xFF800000#32) reducesTo_S3x16384x256_S16384x256_d0 h_S_)))))

/-- The word the maximum starts from is the least value. -/
theorem negInf : Ideal.ofBits .f32 0xFF800000#32 = ⊥ := by
  simp [Ideal.ofBits, Ideal.ieee]

theorem fold3 (b : EReal) (f : Fin 3 → EReal) : (Finset.univ : Finset (Fin 3)).fold max b f = max (f 0) (max (f 1) (max (f 2) b)) := by
  rw [show (Finset.univ : Finset (Fin 3)) = {0, 1, 2} by decide, Finset.fold_insert (by decide), Finset.fold_insert (by decide), Finset.fold_singleton]

/-- The maximum over a leading axis of three. -/
theorem max3_apply {A B : ℕ} (L : FVec Ideal ⟨3, ![3, A, B]⟩ .f32) (h : (⟨3, ![3, A, B]⟩ : Shape).ReducesTo [0] ⟨2, ![A, B]⟩) (R : Fin A) (j : Fin B) :
    Host.reduce FloatOps.maximumf L (constant S_ .f32 0xFF800000#32) h h_S_ (ix2 R j) = max (max (L (ix3 0 R j)) (L (ix3 1 R j))) (L (ix3 2 R j)) := by
  pointwise [fold3, negInf]
  rw [max_eq_left (a := L (ix3 2 R j)) bot_le, max_assoc]

/-- The maximum, in all three rows. -/
def mRef (W : FVec Ideal S16384x256 .f32) : FVec Ideal S3x16384x256 .f32 :=
  broadcastInDim S3x16384x256 ![0, 1, 2] bcast_S1x16384x256_S3x16384x256_0_1_2 (broadcastInDim S1x16384x256 ![1, 2] bcast_S16384x256_S1x16384x256_1_2 (maximumf (broadcastInDim S16384x256 ![] bcast_S_S16384x256 (constant S_ .f32 0xFF800000#32)) W))

theorem mRef_apply (W : FVec Ideal S16384x256 .f32) (i : Fin 3) (R : Fin 16384) (j : Fin 256) : mRef W (ix3 i R j) = max (Ideal.ofBits .f32 0xFF800000#32) (W (ix2 R j)) := by
  pointwise [mRef]

theorem eRef_eq (L : FVec Ideal S3x16384x256 .f32) : eRef L = Host.exp (subf L (mRef (Host.reduce FloatOps.maximumf L (constant S_ .f32 0xFF800000#32) reducesTo_S3x16384x256_S16384x256_d0 h_S_))) := by
  unfold eRef mRef
  rfl

theorem eRef_apply (L : FVec Ideal S3x16384x256 .f32) (i : Fin 3) (R : Fin 16384) (j : Fin 256) :
    eRef L (ix3 i R j) = Ideal.exp (L (ix3 i R j) - max (max (L (ix3 0 R j)) (L (ix3 1 R j))) (L (ix3 2 R j))) := by
  rw [eRef_eq]
  have h := max3_apply L reducesTo_S3x16384x256_S16384x256_d0 R j
  generalize Host.reduce FloatOps.maximumf L (constant S_ .f32 0xFF800000#32) reducesTo_S3x16384x256_S16384x256_d0 h_S_ = W at h ⊢
  have e : mRef W (ix3 i R j) = max (max (L (ix3 0 R j)) (L (ix3 1 R j))) (L (ix3 2 R j)) := by
    rw [mRef_apply, h, negInf, max_eq_right bot_le]
  rw [← e]
  pointwise

/-- The three values merged by the softmax of the log-denominators. -/
def mgRef (L O : FVec Ideal S3x16384x256 .f32) : FVec Ideal S16384x256 .f32 :=
  Host.reduceAdd (mulf (Host.divf (eRef L) (broadcastInDim S3x16384x256 ![0, 1, 2] bcast_S1x16384x256_S3x16384x256_0_1_2 (broadcastInDim S1x16384x256 ![1, 2] bcast_S16384x256_S1x16384x256_1_2 (Host.reduceAdd (eRef L) (constant S_ .f32 0x00000000#32) reducesTo_S3x16384x256_S16384x256_d0 h_S_)))) O) (constant S_ .f32 0x00000000#32) reducesTo_S3x16384x256_S16384x256_d0 h_S_

theorem mgRef_apply (l0 l1 l2 o0 o1 o2 : FVec Ideal S16384x256 .f32) (R : Fin 16384) (j : Fin 256)
    (h0 : max (max (l0 (ix2 R j)) (l1 (ix2 R j))) (l2 (ix2 R j)) ≠ ⊥) (h1 : max (max (l0 (ix2 R j)) (l1 (ix2 R j))) (l2 (ix2 R j)) ≠ ⊤) :
    mgRef (stk l0 l1 l2) (stk o0 o1 o2) (ix2 R j) = merge3 (l0 (ix2 R j)) (l1 (ix2 R j)) (l2 (ix2 R j)) (o0 (ix2 R j)) (o1 (ix2 R j)) (o2 (ix2 R j)) := by
  rw [← merge3_div _ _ _ _ _ _ h0 h1]
  unfold mgRef
  pointwise [eRef_apply, stk_apply, Fin.sum_univ_three]

/-! ## The spatial gating unit -/

/-- Half of the columns, under a leading axis of one. -/
def halfU (S : FVec Ideal S16384x1536 .bf16) : FVec Ideal S1x16384x768 .f32 :=
  broadcastInDim S1x16384x768 ![1, 2] bcast_S16384x768_S1x16384x768_1_2 (extractStridedSlice S16384x768 ![0, 0] (extf .f32 S bitsLt_bf16_f32 : FVec Ideal S16384x1536 .f32) slices_S16384x1536_S16384x768_0_0)
def halfV (S : FVec Ideal S16384x1536 .bf16) : FVec Ideal S1x16384x768 .f32 :=
  broadcastInDim S1x16384x768 ![1, 2] bcast_S16384x768_S1x16384x768_1_2 (extractStridedSlice S16384x768 ![0, 768] (extf .f32 S bitsLt_bf16_f32 : FVec Ideal S16384x1536 .f32) slices_S16384x1536_S16384x768_0_768)

theorem halfU_apply (S : FVec Ideal S16384x1536 .bf16) (R : Fin 16384) (L : Fin 768) : halfU S (ix3 0 R L) = S (ix2 R (at_ 0 (by omega) L : Fin 1536)) := by
  pointwise [halfU]
  congr 1
  funext a
  apply Fin.ext
  match a with
  | ⟨0, _⟩ => rfl
  | ⟨1, _⟩ => show L.val = 0 + L.val; omega

theorem halfV_apply (S : FVec Ideal S16384x1536 .bf16) (R : Fin 16384) (L : Fin 768) : halfV S (ix3 0 R L) = S (ix2 R (at_ 768 (by omega) L : Fin 1536)) := by
  pointwise [halfV]
  congr 1

/-- The activation, elementwise. -/
def geRef (x : FVec Ideal S1x16384x768 .f32) : FVec Ideal S1x16384x768 .f32 :=
  mulf x (mulf (broadcastInDim S1x16384x768 ![] bcast_S_S1x16384x768 (constant S_ .f32 0x3F000000#32)) (addf (broadcastInDim S1x16384x768 ![] bcast_S_S1x16384x768 (constant S_ .f32 0x3F800000#32)) (Host.tanh (mulf (broadcastInDim S1x16384x768 ![] bcast_S_S1x16384x768 (constant S_ .f32 0x3F4C422A#32)) (addf x (mulf (broadcastInDim S1x16384x768 ![] bcast_S_S1x16384x768 (constant S_ .f32 0x3D372713#32)) (mulf (mulf x x) x)))))))

theorem geRef_apply (x : FVec Ideal S1x16384x768 .f32) (R : Fin 16384) (L : Fin 768) : geRef x (ix3 0 R L) = gelu (x (ix3 0 R L)) := by
  unfold gelu
  pointwise [geRef]
  rw [← mul_assoc, mul_comm (x _) (Ideal.ofBits .f32 0x3F000000#32)]

/-- The mean over the columns. -/
def m3Ref (Z : FVec Ideal S1x16384x768 .f32) : FVec Ideal S1x16384x1 .f32 :=
  Host.divf (broadcastInDim S1x16384x1 ![0, 1] bcast_S1x16384_S1x16384x1_0_1 (Host.reduceAdd Z (constant S_ .f32 0x00000000#32) reducesTo_S1x16384x768_S1x16384_d2 h_S_)) (broadcastInDim S1x16384x1 ![] bcast_S_S1x16384x1 (constant S_ .f32 0x44400000#32))

/-- The layer norm over the columns, with row 0 of the scales and shifts. -/
def ln3Ref (Z : FVec Ideal S1x16384x768 .f32) (g b : FVec Ideal S2x768 .f32) : FVec Ideal S1x16384x768 .f32 :=
  let D := subf Z (broadcastInDim S1x16384x768 ![0, 1, 2] bcast_S1x16384x1_S1x16384x768_0_1_2 (m3Ref Z))
  addf (mulf (mulf D (broadcastInDim S1x16384x768 ![0, 1, 2] bcast_S1x16384x1_S1x16384x768_0_1_2 (Host.rsqrt (addf (m3Ref (mulf D D)) (broadcastInDim S1x16384x1 ![] bcast_S_S1x16384x1 (constant S_ .f32 0x3727C5AC#32))))))
      (broadcastInDim S1x16384x768 ![0, 1, 2] bcast_S1x1x768_S1x16384x768_0_1_2 (broadcastInDim S1x1x768 ![2] bcast_S768_S1x1x768_2 (shapeCast _ (extractStridedSlice S1x768 ![0, 0] g slices_S2x768_S1x768_0_0) shapeCasts_S1x768_S768))))
    (broadcastInDim S1x16384x768 ![0, 1, 2] bcast_S1x1x768_S1x16384x768_0_1_2 (broadcastInDim S1x1x768 ![2] bcast_S768_S1x1x768_2 (shapeCast _ (extractStridedSlice S1x768 ![0, 0] b slices_S2x768_S1x768_0_0) shapeCasts_S1x768_S768)))

theorem ln3Ref_apply (Z : FVec Ideal S1x16384x768 .f32) (g b : FVec Ideal S2x768 .f32) (R : Fin 16384) (L : Fin 768) :
    ln3Ref Z g b (ix3 0 R L) = lnorm (Ideal.ofBits .f32 0x44400000#32) (Ideal.ofBits .f32 0x3727C5AC#32) (fun k => Z (ix3 0 R k)) (g (ix2 0 L)) (b (ix2 0 L)) L := by
  unfold lnorm mean
  pointwise [ln3Ref, m3Ref]

/-- The causal weights. -/
def trilRef (W : FVec Ideal S2x6x128x128 .f32) : FVec Ideal S6x128x128 .f32 :=
  select (broadcastInDim S6x128x128 ![1, 2] bcast_S128x128_S6x128x128_1_2 (cmpi .sge (addi (iotaInDim S128x128 32 0) (broadcastInDim S128x128 ![] bcast_S_S128x128 (constantI S_ 32 0#32))) (iotaInDim S128x128 32 1))) (shapeCast _ (extractStridedSlice S1x6x128x128 ![0, 0, 0, 0] W slices_S2x6x128x128_S1x6x128x128_0_0_0_0) shapeCasts_S1x6x128x128_S6x128x128) (broadcastInDim S6x128x128 ![] bcast_S_S6x128x128 (constant S_ .f32 0x00000000#32))

theorem tril_mask (t s : Fin 128) : cmpi .sge (addi (iotaInDim S128x128 32 0) (broadcastInDim S128x128 ![] bcast_S_S128x128 (constantI S_ 32 0#32))) (iotaInDim S128x128 32 1) (ix2 t s) = if s.val ≤ t.val then 1#1 else 0#1 := by
  revert t s
  decide +kernel

theorem trilRef_apply (W : FVec Ideal S2x6x128x128 .f32) (g : Fin 6) (t s : Fin 128) : trilRef W (ix3 g t s) = if s.val ≤ t.val then W (ix4 0 g t s) else 0 := by
  have h := tril_mask t s
  unfold trilRef
  generalize cmpi .sge (addi (iotaInDim S128x128 32 0) (broadcastInDim S128x128 ![] bcast_S_S128x128 (constantI S_ 32 0#32))) (iotaInDim S128x128 32 1) = M at h ⊢
  pointwise [h]
  by_cases hs : s.val ≤ t.val
  · rw [if_pos hs, if_pos hs]; rfl
  · rw [if_neg hs, if_neg hs]; rfl

/-- The product of the causal weights and the chunks' rows, at an index. -/
theorem mixDot_apply (V : FVec Ideal S1x128x128x6x128 .f32) (W : FVec Ideal S6x128x128 .f32) (g : Fin 6) (n d t : Fin 128) :
    Host.dotGeneral dot_S1x128x128x6x128_S6x128x128_S6x1x128x128x128_2_2_014_1_3_0 none V W (ix5 g 0 n d t) = ∑ s : Fin 128, V (ix5 0 n s g d) * W (ix3 g t s) := by
  simp only [Host.dotGeneral]
  have hr : dot_S1x128x128x6x128_S6x128x128_S6x1x128x128x128_2_2_014_1_3_0.contr.rank = 1 := rfl
  have hc : dot_S1x128x128x6x128_S6x128x128_S6x1x128x128x128_2_2_014_1_3_0.contr.size ⟨0, by rw [hr]; omega⟩ = 128 := rfl
  rw [Ideal.dotGeneral_apply, ← Equiv.sum_comp (ValueIdx.contrEquiv1 dot_S1x128x128x6x128_S6x128x128_S6x1x128x128x128_2_2_014_1_3_0 128 hr hc).symm]
  refine Finset.sum_congr rfl fun s _ => ?_
  have hk := ValueIdx.contrEquiv1_symm_val dot_S1x128x128x6x128_S6x128x128_S6x1x128x128x128_2_2_014_1_3_0 128 hr hc s
  refine congrArg₂ HMul.hMul (congrArg V ?_) (congrArg W ?_)
  · funext a; apply Fin.ext
    match a with
    | ⟨0, _⟩ => rfl
    | ⟨1, _⟩ => rfl
    | ⟨2, _⟩ => exact hk
    | ⟨3, _⟩ => rfl
    | ⟨4, _⟩ => rfl
  · funext a; apply Fin.ext
    match a with
    | ⟨0, _⟩ => rfl
    | ⟨1, _⟩ => rfl
    | ⟨2, _⟩ => exact hk

/-- The bias, spread over the chunks and columns. -/
def biasRef (B : FVec Ideal S2x6x128 .f32) : FVec Ideal S1x128x128x6x128 .f32 :=
  broadcastInDim S1x128x128x6x128 ![0, 1, 2, 3, 4] bcast_S1x1x128x6x1_S1x128x128x6x128_0_1_2_3_4 (broadcastInDim S1x1x128x6x1 ![2, 3, 4] bcast_S128x6x1_S1x1x128x6x1_2_3_4 (broadcastInDim S128x6x1 ![0, 1] bcast_S128x6_S128x6x1_0_1 (transpose S128x6 [1, 0] (shapeCast _ (extractStridedSlice S1x6x128 ![0, 0, 0] B slices_S2x6x128_S1x6x128_0_0_0) shapeCasts_S1x6x128_S6x128) transposes_S6x128_S128x6_1_0)))

theorem biasRef_apply (B : FVec Ideal S2x6x128 .f32) (n t : Fin 128) (g : Fin 6) (d : Fin 128) : biasRef B (ix5 0 n t g d) = B (ix3 0 g t) := by
  pointwise [biasRef]

/-- The rows mixed within their chunks. -/
def mixedRef (V : FVec Ideal S1x16384x768 .f32) (W : FVec Ideal S2x6x128x128 .f32) (B : FVec Ideal S2x6x128 .f32) : FVec Ideal S1x16384x768 .f32 :=
  shapeCast _ (addf (transpose S1x128x128x6x128 [1, 2, 4, 0, 3] (Host.dotGeneral dot_S1x128x128x6x128_S6x128x128_S6x1x128x128x128_2_2_014_1_3_0 none (shapeCast _ V shapeCasts_S1x16384x768_S1x128x128x6x128) (trilRef W)) transposes_S6x1x128x128x128_S1x128x128x6x128_1_2_4_0_3) (biasRef B)) shapeCasts_S1x128x128x6x128_S1x16384x768

theorem mixedRef_apply (V : FVec Ideal S1x16384x768 .f32) (W : FVec Ideal S2x6x128x128 .f32) (B : FVec Ideal S2x6x128 .f32) (R : Fin 16384) (L : Fin 768)
    (C : Fin 128 → Fin 16384) (hC : ∀ s, (C s).val = 128 * (R.val / 128) + s.val) (t : Fin 128) (ht : t.val = R.val % 128) :
    mixedRef V W B (ix3 0 R L) = (∑ s : Fin 128, (if s.val ≤ t.val then W (ix4 0 (grp L) t s) else 0) * V (ix3 0 (C s) L)) + B (ix3 0 (grp L) t) := by
  have hR := R.isLt
  have hL := L.isLt
  unfold mixedRef
  rw [shapeCast_apply _ _ (ix3 0 R L) (ix5 0 (⟨R.val / 128, by omega⟩ : Fin 128) t (grp L) (⟨L.val % 128, by omega⟩ : Fin 128)) (by
    rw [Shape.rowMajor_val_five, Shape.rowMajor_val_three]
    show (((0 * 128 + R.val / 128) * 128 + t.val) * 6 + L.val / 128) * 128 + L.val % 128 = (0 * 16384 + R.val) * 768 + L.val
    omega)]
  rw [addf_apply, biasRef_apply]
  refine congrArg₂ HAdd.hAdd ?_ rfl
  refine Eq.trans (b := Host.dotGeneral dot_S1x128x128x6x128_S6x128x128_S6x1x128x128x128_2_2_014_1_3_0 none (shapeCast _ V shapeCasts_S1x16384x768_S1x128x128x6x128) (trilRef W) (ix5 (grp L) 0 (⟨R.val / 128, by omega⟩ : Fin 128) (⟨L.val % 128, by omega⟩ : Fin 128) t)) ?_ ?_
  · generalize Host.dotGeneral dot_S1x128x128x6x128_S6x128x128_S6x1x128x128x128_2_2_014_1_3_0 none (shapeCast _ V shapeCasts_S1x16384x768_S1x128x128x6x128) (trilRef W) = D
    pointwise
  rw [mixDot_apply]
  refine Finset.sum_congr rfl fun s _ => ?_
  rw [trilRef_apply, mul_comm]
  refine congrArg₂ HMul.hMul rfl ?_
  refine shapeCast_apply _ _ _ (ix3 0 (C s) L) (by
    rw [Shape.rowMajor_val_five, Shape.rowMajor_val_three]
    show (0 * 16384 + (C s).val) * 768 + L.val = (((0 * 128 + R.val / 128) * 128 + s.val) * 6 + L.val / 128) * 128 + L.val % 128
    rw [hC]
    omega)

/-- The unit's result. -/
def sgRef (S : FVec Ideal S16384x1536 .bf16) (g b : FVec Ideal S2x768 .f32) (W : FVec Ideal S2x6x128x128 .f32) (B : FVec Ideal S2x6x128 .f32) : FVec Ideal S16384x768 .f32 :=
  shapeCast _ (mulf (geRef (halfU S)) (mixedRef (ln3Ref (geRef (halfV S)) g b) W B)) shapeCasts_S1x16384x768_S16384x768

theorem sgRef_apply (S : FVec Ideal S16384x1536 .bf16) (g b : FVec Ideal S2x768 .f32) (W : FVec Ideal S2x6x128x128 .f32) (B : FVec Ideal S2x6x128 .f32) (R : Fin 16384) (L : Fin 768)
    (C : Fin 128 → Fin 16384) (hC : ∀ s, (C s).val = 128 * (R.val / 128) + s.val) (t : Fin 128) (ht : t.val = R.val % 128) :
    sgRef S g b W B (ix2 R L) = gating (gelu (S (ix2 R (at_ 0 (by omega) L : Fin 1536))))
      (fun s => lnorm (Ideal.ofBits .f32 0x44400000#32) (Ideal.ofBits .f32 0x3727C5AC#32) (fun k => gelu (S (ix2 (C s) (at_ 768 (by omega) k : Fin 1536)))) (g (ix2 0 L)) (b (ix2 0 L)) L)
      (fun s => W (ix4 0 (grp L) t s)) (B (ix3 0 (grp L) t)) t := by
  unfold sgRef gating
  rw [shapeCast_apply _ _ (ix2 R L) (ix3 0 R L) (by
    rw [Shape.rowMajor_val_three, Shape.rowMajor_val_two]
    show (0 * 16384 + R.val) * 768 + L.val = R.val * 768 + L.val
    omega)]
  rw [mulf_apply, geRef_apply, halfU_apply, mixedRef_apply _ _ _ R L C hC t ht]
  simp only [ln3Ref_apply, geRef_apply, halfV_apply]
  rfl

/-! ## The third branch, the gates and the sum -/

/-- The mLSTM heads without their padding. -/
def hdRef (H : FVec Ideal S16384x1024 .bf16) : FVec Ideal S16384x768 .f32 :=
  shapeCast _ (extractStridedSlice S16384x4x192 ![0, 0, 0] (shapeCast _ (extf .f32 H bitsLt_bf16_f32 : FVec Ideal S16384x1024 .f32) shapeCasts_S16384x1024_S16384x4x256) slices_S16384x4x256_S16384x4x192_0_0_0) shapeCasts_S16384x4x192_S16384x768

theorem hdRef_apply (H : FVec Ideal S16384x1024 .bf16) (R : Fin 16384) (J : Fin 768) :
    hdRef H (ix2 R J) = H (ix2 R (⟨256 * (J.val / 192) + J.val % 192, by omega⟩ : Fin 1024)) := by
  have hJ := J.isLt
  unfold hdRef
  rw [shapeCast_apply _ _ (ix2 R J) (ix3 R (⟨J.val / 192, by omega⟩ : Fin 4) (⟨J.val % 192, by omega⟩ : Fin 192)) (by
    rw [Shape.rowMajor_val_three, Shape.rowMajor_val_two]
    show (R.val * 4 + J.val / 192) * 192 + J.val % 192 = R.val * 768 + J.val
    omega)]
  refine Eq.trans (b := shapeCast S16384x4x256 (extf .f32 H bitsLt_bf16_f32 : FVec Ideal S16384x1024 .f32) shapeCasts_S16384x1024_S16384x4x256 (ix3 R (⟨J.val / 192, by omega⟩ : Fin 4) (⟨J.val % 192, by omega⟩ : Fin 256))) ?_ ?_
  · generalize shapeCast S16384x4x256 (extf .f32 H bitsLt_bf16_f32 : FVec Ideal S16384x1024 .f32) shapeCasts_S16384x1024_S16384x4x256 = D
    pointwise
  refine (shapeCast_apply _ _ _ (ix2 R (⟨256 * (J.val / 192) + J.val % 192, by omega⟩ : Fin 1024)) (by
    rw [Shape.rowMajor_val_three, Shape.rowMajor_val_two]
    show R.val * 1024 + (256 * (J.val / 192) + J.val % 192) = (R.val * 4 + J.val / 192) * 256 + J.val % 192
    omega)).trans ?_
  rfl

/-- The three gates. -/
def gRef (G : FVec Ideal S16384x3072 .bf16) : FVec Ideal S16384x3x1024 .f32 :=
  Host.divf (broadcastInDim S16384x3x1024 ![] bcast_S_S16384x3x1024 (constant S_ .f32 0x3F800000#32)) (addf (broadcastInDim S16384x3x1024 ![] bcast_S_S16384x3x1024 (constant S_ .f32 0x3F800000#32)) (Host.exp (Host.negf (shapeCast _ (extf .f32 G bitsLt_bf16_f32 : FVec Ideal S16384x3072 .f32) shapeCasts_S16384x3072_S16384x3x1024))))

theorem gRef_apply (G : FVec Ideal S16384x3072 .bf16) (R : Fin 16384) (i : Fin 3) (k : Fin 1024) (K : Fin 3072) (hK : K.val = 1024 * i.val + k.val) :
    gRef G (ix3 R i k) = Ideal.logistic (G (ix2 R K)) := by
  have h : shapeCast S16384x3x1024 (extf .f32 G bitsLt_bf16_f32 : FVec Ideal S16384x3072 .f32) shapeCasts_S16384x3072_S16384x3x1024 (ix3 R i k) = G (ix2 R K) := by
    refine (shapeCast_apply _ _ _ (ix2 R K) (by
      rw [Shape.rowMajor_val_three, Shape.rowMajor_val_two]
      show R.val * 3072 + K.val = (R.val * 3 + i.val) * 1024 + k.val
      omega)).trans ?_
    rfl
  unfold gRef
  generalize shapeCast S16384x3x1024 (extf .f32 G bitsLt_bf16_f32 : FVec Ideal S16384x3072 .f32) shapeCasts_S16384x3072_S16384x3x1024 = D at h ⊢
  pointwise [h]
  rfl

/-- The first two branches, gated and added. -/
def abRef (Ya : FVec Ideal S16384x256 .f32) (Yb : FVec Ideal S16384x768 .f32) (G : FVec Ideal S16384x3x1024 .f32) (Wa : FVec Ideal S2x256x1024 .f32) (Wb : FVec Ideal S2x768x1024 .f32) : FVec Ideal S16384x1024 .f32 :=
  addf (mulf (shapeCast _ (extractStridedSlice S16384x1x1024 ![0, 0, 0] G slices_S16384x3x1024_S16384x1x1024_0_0_0) shapeCasts_S16384x1x1024_S16384x1024) (Host.dotGeneral dot_S16384x256_S256x1024_S16384x1024_1_0_0_1_n_n none Ya (shapeCast _ (extractStridedSlice S1x256x1024 ![0, 0, 0] Wa slices_S2x256x1024_S1x256x1024_0_0_0) shapeCasts_S1x256x1024_S256x1024)))
    (mulf (shapeCast _ (extractStridedSlice S16384x1x1024 ![0, 1, 0] G slices_S16384x3x1024_S16384x1x1024_0_1_0) shapeCasts_S16384x1x1024_S16384x1024) (Host.dotGeneral dot_S16384x768_S768x1024_S16384x1024_1_0_0_1_n_n none Yb (shapeCast _ (extractStridedSlice S1x768x1024 ![0, 0, 0] Wb slices_S2x768x1024_S1x768x1024_0_0_0) shapeCasts_S1x768x1024_S768x1024)))

theorem abRef_apply (Ya : FVec Ideal S16384x256 .f32) (Yb : FVec Ideal S16384x768 .f32) (G : FVec Ideal S16384x3x1024 .f32) (Wa : FVec Ideal S2x256x1024 .f32) (Wb : FVec Ideal S2x768x1024 .f32) (R : Fin 16384) (k : Fin 1024) :
    abRef Ya Yb G Wa Wb (ix2 R k) = G (ix3 R 0 k) * proj (fun j => Ya (ix2 R j)) (fun j k => Wa (ix3 0 j k)) k + G (ix3 R 1 k) * proj (fun j => Yb (ix2 R j)) (fun j k => Wb (ix3 0 j k)) k := by
  unfold proj
  pointwise [abRef]

/-- The residual and the projected sum of the three branches. -/
def zRef (X : FVec Ideal S16384x1024 .f32) (A : FVec Ideal S16384x1024 .f32) (Yc : FVec Ideal S16384x768 .f32) (G : FVec Ideal S16384x3x1024 .f32) (Wc : FVec Ideal S2x768x1024 .f32) (Wo : FVec Ideal S2x1024x1024 .f32) : FVec Ideal S16384x1024 .f32 :=
  addf (mulf (broadcastInDim S16384x1024 ![] bcast_S_S16384x1024 (constant S_ .f32 0x3FB504F3#32)) X) (Host.dotGeneral dot_S16384x1024_S1024x1024_S16384x1024_1_0_0_1_n_n none (addf A (mulf (shapeCast _ (extractStridedSlice S16384x1x1024 ![0, 2, 0] G slices_S16384x3x1024_S16384x1x1024_0_2_0) shapeCasts_S16384x1x1024_S16384x1024) (Host.dotGeneral dot_S16384x768_S768x1024_S16384x1024_1_0_0_1_n_n none Yc (shapeCast _ (extractStridedSlice S1x768x1024 ![0, 0, 0] Wc slices_S2x768x1024_S1x768x1024_0_0_0) shapeCasts_S1x768x1024_S768x1024)))) (shapeCast _ (extractStridedSlice S1x1024x1024 ![0, 0, 0] Wo slices_S2x1024x1024_S1x1024x1024_0_0_0) shapeCasts_S1x1024x1024_S1024x1024))

theorem zRef_apply (X : FVec Ideal S16384x1024 .f32) (A : FVec Ideal S16384x1024 .f32) (Yc : FVec Ideal S16384x768 .f32) (G : FVec Ideal S16384x3x1024 .f32) (Wc : FVec Ideal S2x768x1024 .f32) (Wo : FVec Ideal S2x1024x1024 .f32) (R : Fin 16384) (l : Fin 1024) :
    zRef X A Yc G Wc Wo (ix2 R l) = Ideal.ofBits .f32 0x3FB504F3#32 * X (ix2 R l)
      + ∑ k : Fin 1024, (A (ix2 R k) + G (ix3 R 2 k) * proj (fun j => Yc (ix2 R j)) (fun j k => Wc (ix3 0 j k)) k) * Wo (ix3 0 k l) := by
  unfold proj
  pointwise [zRef]

/-- The mean over the columns. -/
def muRef (Z : FVec Ideal S16384x1024 .f32) : FVec Ideal S16384x1 .f32 :=
  Host.divf (broadcastInDim S16384x1 ![0] bcast_S16384_S16384x1_0 (Host.reduceAdd Z (constant S_ .f32 0x00000000#32) reducesTo_S16384x1024_S16384_d1 h_S_)) (broadcastInDim S16384x1 ![] bcast_S_S16384x1 (constant S_ .f32 0x44800000#32))

/-- The layer norm over the columns. -/
def lnRef (Z : FVec Ideal S16384x1024 .f32) (g b : FVec Ideal S2x2x1024 .f32) : FVec Ideal S16384x1024 .f32 :=
  let D := subf Z (broadcastInDim S16384x1024 ![0, 1] bcast_S16384x1_S16384x1024_0_1 (muRef Z))
  addf (mulf (mulf D (broadcastInDim S16384x1024 ![0, 1] bcast_S16384x1_S16384x1024_0_1 (Host.rsqrt (addf (muRef (mulf D D)) (broadcastInDim S16384x1 ![] bcast_S_S16384x1 (constant S_ .f32 0x3727C5AC#32))))))
      (broadcastInDim S16384x1024 ![0, 1] bcast_S1x1024_S16384x1024_0_1 (broadcastInDim S1x1024 ![1] bcast_S1024_S1x1024_1 (shapeCast _ (extractStridedSlice S1x1x1024 ![0, 0, 0] g slices_S2x2x1024_S1x1x1024_0_0_0) shapeCasts_S1x1x1024_S1024))))
    (broadcastInDim S16384x1024 ![0, 1] bcast_S1x1024_S16384x1024_0_1 (broadcastInDim S1x1024 ![1] bcast_S1024_S1x1024_1 (shapeCast _ (extractStridedSlice S1x1x1024 ![0, 0, 0] b slices_S2x2x1024_S1x1x1024_0_0_0) shapeCasts_S1x1x1024_S1024)))

theorem lnRef_apply (Z : FVec Ideal S16384x1024 .f32) (g b : FVec Ideal S2x2x1024 .f32) (R : Fin 16384) (l : Fin 1024) :
    lnRef Z g b (ix2 R l) = lnorm (Ideal.ofBits .f32 0x44800000#32) (Ideal.ofBits .f32 0x3727C5AC#32) (fun k => Z (ix2 R k)) (g (ix3 0 0 l)) (b (ix3 0 0 l)) l := by
  unfold lnorm mean
  pointwise [lnRef, muRef]

/-- A bf16 array read as f32. -/
def upRef (O : FVec Ideal S16384x256 .bf16) : FVec Ideal S16384x256 .f32 := extf .f32 O bitsLt_bf16_f32

/-- The whole reference. -/
def refOut (X : FVec Ideal S16384x1024 .f32) (O0 O1 O2 : FVec Ideal S16384x256 .bf16) (L0 L1 L2 : FVec Ideal S16384x256 .f32) (S : FVec Ideal S16384x1536 .bf16) (H : FVec Ideal S16384x1024 .bf16)
    (G : FVec Ideal S16384x3072 .bf16) (sgg sgb : FVec Ideal S2x768 .f32) (W : FVec Ideal S2x6x128x128 .f32) (B : FVec Ideal S2x6x128 .f32) (Wa : FVec Ideal S2x256x1024 .f32) (Wb Wc : FVec Ideal S2x768x1024 .f32)
    (Wo : FVec Ideal S2x1024x1024 .f32) (g b : FVec Ideal S2x2x1024 .f32) : FVec Ideal S16384x1024 .f32 :=
  lnRef (zRef X (abRef (mgRef (stk L0 L1 L2) (stk (upRef O0) (upRef O1) (upRef O2))) (sgRef S sgg sgb W B) (gRef G) Wa Wb) (hdRef H) (gRef G) Wc Wo) g b

/-- The reference at an index, where the row's largest log-sum-exps are finite. -/
theorem refOut_apply (X : FVec Ideal S16384x1024 .f32) (O0 O1 O2 : FVec Ideal S16384x256 .bf16) (L0 L1 L2 : FVec Ideal S16384x256 .f32) (S : FVec Ideal S16384x1536 .bf16) (H : FVec Ideal S16384x1024 .bf16)
    (G : FVec Ideal S16384x3072 .bf16) (sgg sgb : FVec Ideal S2x768 .f32) (W : FVec Ideal S2x6x128x128 .f32) (B : FVec Ideal S2x6x128 .f32) (Wa : FVec Ideal S2x256x1024 .f32) (Wb Wc : FVec Ideal S2x768x1024 .f32)
    (Wo : FVec Ideal S2x1024x1024 .f32) (g b : FVec Ideal S2x2x1024 .f32) (R : Fin 16384) (l : Fin 1024)
    (hL : ∀ j : Fin 256, max (max (L0 (ix2 R j)) (L1 (ix2 R j))) (L2 (ix2 R j)) ≠ ⊥ ∧ max (max (L0 (ix2 R j)) (L1 (ix2 R j))) (L2 (ix2 R j)) ≠ ⊤)
    (C : Fin 128 → Fin 16384) (hC : ∀ s, (C s).val = 128 * (R.val / 128) + s.val) (t : Fin 128) (ht : t.val = R.val % 128) :
    refOut X O0 O1 O2 L0 L1 L2 S H G sgg sgb W B Wa Wb Wc Wo g b (ix2 R l)
      = mixRow (fun k => X (ix2 R k)) (fun k => G (ix2 R k)) (fun j => L0 (ix2 R j)) (fun j => L1 (ix2 R j)) (fun j => L2 (ix2 R j)) (fun j => O0 (ix2 R j)) (fun j => O1 (ix2 R j)) (fun j => O2 (ix2 R j))
          (fun k => S (ix2 R k)) (fun s k => S (ix2 (C s) k)) t (fun L => sgg (ix2 0 L)) (fun L => sgb (ix2 0 L)) (fun g t s => W (ix4 0 g t s)) (fun t g => B (ix3 0 g t))
          (fun j k => Wa (ix3 0 j k)) (fun j k => Wb (ix3 0 j k)) (proj (fun J : Fin 768 => H (ix2 R (⟨256 * (J.val / 192) + J.val % 192, by omega⟩ : Fin 1024))) fun J k => Wc (ix3 0 J k))
          (fun j k => Wo (ix3 0 j k)) (fun l => g (ix3 0 0 l)) (fun l => b (ix3 0 0 l)) l := by
  have hm : ∀ j, mgRef (stk L0 L1 L2) (stk (upRef O0) (upRef O1) (upRef O2)) (ix2 R j)
      = merge3 (L0 (ix2 R j)) (L1 (ix2 R j)) (L2 (ix2 R j)) (O0 (ix2 R j)) (O1 (ix2 R j)) (O2 (ix2 R j)) :=
    fun j => mgRef_apply L0 L1 L2 (upRef O0) (upRef O1) (upRef O2) R j (hL j).1 (hL j).2
  have hs := fun L => sgRef_apply S sgg sgb W B R L C hC t ht
  have g0 := fun k : Fin 1024 => gRef_apply G R 0 k (at_ 0 (by omega) k) (by show 0 + k.val = 1024 * 0 + k.val; omega)
  have g1 := fun k : Fin 1024 => gRef_apply G R 1 k (at_ 1024 (by omega) k) (by show 1024 + k.val = 1024 * 1 + k.val; omega)
  have g2 := fun k : Fin 1024 => gRef_apply G R 2 k (at_ 2048 (by omega) k) (by show 2048 + k.val = 1024 * 2 + k.val; omega)
  unfold refOut mixRow
  rw [lnRef_apply]
  unfold zrow
  simp only [zRef_apply, abRef_apply, hm, hs, g0, g1, g2, hdRef_apply]

/-- The results' terms are the functions above of the arguments. -/
theorem out0_eq (V0 : Valuation τ sig (Elt Ideal)) :
    (val4 V0 (Proc.devRef .tc main_v164) : FVec Ideal S16384x1024 .f32)
      = refOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))
          (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))
          (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) :=
  val4_main_v164 V0

theorem out1_eq (V0 : Valuation τ sig (Elt Ideal)) :
    (val4 V0 (Proc.devRef .tc main_v165) : FVec Ideal S16384x1024 .bf16)
      = truncf .bf16 (refOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))
          (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))
          (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19))) bitsLt_bf16_f32 :=
  val4_main_v165 V0

end Cert.MixRefIdeal.Ref

end
-- ==== Proof.MixClaim.lean ====
/-
  The branch merge: kernel and reference end with equal results.
-/
module

public import proofs.«01_k».proof.Proof.MixFold
public import proofs.«01_k».proof.Proof.MixRef
public import proofs.«01_k».proof.Proof.Gen.MixIdeal.Value
public import proofs.«01_k».proof.Proof.Gen.Pre_largest_finite
public import proofs.«01_k».proof.Defs

@[expose] public section

set_option maxRecDepth 16384

noncomputable section

namespace Cert.Proof

open Idealize.ShloMosaic Idealize.SL.Sem

/-- The reference runs to the end and leaves its arguments and counters alone. -/
theorem quiescent_MixRefIdeal : quiescent_MixRefIdeal := fun m ρ _ =>
  (θ_run Cert.MixRefIdeal.defs _ _).mono (fun r h => ⟨fun c => (h c).2.2, sem_eq_zero_of_no_sems (by decide) r.2⟩)
    (Cert.MixRefIdeal.Value.run (F := Ideal) m ρ)

/-- The same under the precondition. -/
theorem quiescent_MixRefIdeal_pre [hp : Cert.Pre_largest_finite.Facts] : quiescent_MixRefIdeal_pre_largest_finite := fun m ρ _ =>
  (θ_run Cert.MixRefIdeal.defs _ _).mono (fun r h => ⟨fun c => (h c).2.2, sem_eq_zero_of_no_sems (by decide) r.2⟩)
    (Cert.MixRefIdeal.Value.run (F := Ideal) m ρ)

/-- The precondition at an index: the largest of the three log-sum-exps is finite. -/
theorem largest_finite [hp : Cert.Pre_largest_finite.Facts] (m : (ℓ : Loc Cert.MixIdeal.nD Cert.MixIdeal.τ Cert.MixIdeal.sig) → Buf (Elt Ideal) ℓ) (h : Cert.Pre_MixIdeal_largest_finite m)
    (c : Dev Cert.MixIdeal.nD) (i : Cert.MixIdeal.S16384x256.Idx) :
    max (max (Cert.MixIdeal.Block.argL0 m c i) (Cert.MixIdeal.Block.argL1 m c i)) (Cert.MixIdeal.Block.argL2 m c i) ≠ ⊥ ∧ max (max (Cert.MixIdeal.Block.argL0 m c i) (Cert.MixIdeal.Block.argL1 m c i)) (Cert.MixIdeal.Block.argL2 m c i) ≠ ⊤ := by
  have h1 : IntOp.andi (Ideal.cmp .ogt (max (max (Cert.MixIdeal.Block.argL0 m c i) (Cert.MixIdeal.Block.argL1 m c i)) (Cert.MixIdeal.Block.argL2 m c i)) (Ideal.ofBits .f32 0xFF800000#32))
      (Ideal.cmp .olt (max (max (Cert.MixIdeal.Block.argL0 m c i) (Cert.MixIdeal.Block.argL1 m c i)) (Cert.MixIdeal.Block.argL2 m c i)) (Ideal.ofBits .f32 0x7F800000#32)) = 1#1 :=
    congrFun (h c) i
  generalize max (max (Cert.MixIdeal.Block.argL0 m c i) (Cert.MixIdeal.Block.argL1 m c i)) (Cert.MixIdeal.Block.argL2 m c i) = M at h1 ⊢
  unfold Ideal.cmp at h1
  dsimp only at h1
  by_cases a : Ideal.ofBits .f32 0xFF800000#32 < M
  · by_cases b : M < Ideal.ofBits .f32 0x7F800000#32
    · exact ⟨(bot_le.trans_lt a).ne', (lt_of_lt_of_le b le_top).ne⟩
    · rw [decide_eq_false b, decide_eq_true a] at h1; exact absurd h1 (by decide)
  · rw [decide_eq_false a] at h1
    revert h1
    cases decide (M < Ideal.ofBits .f32 0x7F800000#32) <;> exact fun h => absurd h (by decide)

/-- What the reference computes of the kernel's arguments is what the kernel's arrays hold. -/
theorem mix_eq [hp : Cert.Pre_largest_finite.Facts] (m : (ℓ : Loc Cert.MixIdeal.nD Cert.MixIdeal.τ Cert.MixIdeal.sig) → Buf (Elt Ideal) ℓ) (h : Cert.Pre_MixIdeal_largest_finite m)
    (c : Dev Cert.MixIdeal.nD) (R : Fin 16384) (l : Fin 1024) :
    Cert.MixRefIdeal.Ref.refOut (Cert.MixIdeal.Block.argX m c) (Cert.MixIdeal.Block.argO0 m c) (Cert.MixIdeal.Block.argO1 m c) (Cert.MixIdeal.Block.argO2 m c) (Cert.MixIdeal.Block.argL0 m c) (Cert.MixIdeal.Block.argL1 m c) (Cert.MixIdeal.Block.argL2 m c) (Cert.MixIdeal.Block.argSg m c) (Cert.MixIdeal.Block.argHc m c) (Cert.MixIdeal.Block.argGp m c) (Cert.MixIdeal.Block.argSgg m c) (Cert.MixIdeal.Block.argSgb m c) (Cert.MixIdeal.Block.argSw m c) (Cert.MixIdeal.Block.argSb m c) (Cert.MixIdeal.Block.argWa m c) (Cert.MixIdeal.Block.argWb m c) (Cert.MixIdeal.Block.argWc m c) (Cert.MixIdeal.Block.argWo m c) (Cert.MixIdeal.Block.argLg m c) (Cert.MixIdeal.Block.argLb m c) (ix2 R l) = Cert.MixIdeal.Block.res m c R l :=
  Cert.MixRefIdeal.Ref.refOut_apply (Cert.MixIdeal.Block.argX m c) (Cert.MixIdeal.Block.argO0 m c) (Cert.MixIdeal.Block.argO1 m c) (Cert.MixIdeal.Block.argO2 m c) (Cert.MixIdeal.Block.argL0 m c) (Cert.MixIdeal.Block.argL1 m c) (Cert.MixIdeal.Block.argL2 m c) (Cert.MixIdeal.Block.argSg m c) (Cert.MixIdeal.Block.argHc m c) (Cert.MixIdeal.Block.argGp m c) (Cert.MixIdeal.Block.argSgg m c) (Cert.MixIdeal.Block.argSgb m c) (Cert.MixIdeal.Block.argSw m c) (Cert.MixIdeal.Block.argSb m c) (Cert.MixIdeal.Block.argWa m c) (Cert.MixIdeal.Block.argWb m c) (Cert.MixIdeal.Block.argWc m c) (Cert.MixIdeal.Block.argWo m c) (Cert.MixIdeal.Block.argLg m c) (Cert.MixIdeal.Block.argLb m c) R l
    (fun j => largest_finite m h c (ix2 R j)) (Cert.MixIdeal.Block.chRow R) (fun _ => rfl) (Cert.MixIdeal.Block.chPos R) rfl

/-- Where the largest log-sum-exps are finite, kernel and reference end with equal results. -/
theorem algebraic_Mix [hp : Cert.Pre_largest_finite.Facts] : algebraic_MixIdeal_MixRefIdeal_pre_largest_finite := by
  intro m ρ m' ρ' hpre hagree
  refine ⟨_, _, Cert.MixIdeal.Value.run_blocks (F := Ideal) m ρ, ?_⟩
  refine (θ_run Cert.MixRefIdeal.defs _ _).mono (fun _ h c => ⟨?_, ?_, (h c).2.2⟩) (Cert.MixRefIdeal.Value.run (F := Ideal) m' ρ')
  · obtain ⟨a0, a1, a2, a3, a4, a5, a6, a7, a8, a9, a10, a11, a12, a13, a14, a15, a16, a17, a18, a19⟩ := hagree c
    have b0 : StableHlo.launchContents m' c (Proc.devRef .tc Cert.MixRefIdeal.main_arg0) = Cert.MixIdeal.Block.argX m c := a0
    have b1 : StableHlo.launchContents m' c (Proc.devRef .tc Cert.MixRefIdeal.main_arg1) = Cert.MixIdeal.Block.argO0 m c := a1
    have b2 : StableHlo.launchContents m' c (Proc.devRef .tc Cert.MixRefIdeal.main_arg2) = Cert.MixIdeal.Block.argO1 m c := a2
    have b3 : StableHlo.launchContents m' c (Proc.devRef .tc Cert.MixRefIdeal.main_arg3) = Cert.MixIdeal.Block.argO2 m c := a3
    have b4 : StableHlo.launchContents m' c (Proc.devRef .tc Cert.MixRefIdeal.main_arg4) = Cert.MixIdeal.Block.argL0 m c := a4
    have b5 : StableHlo.launchContents m' c (Proc.devRef .tc Cert.MixRefIdeal.main_arg5) = Cert.MixIdeal.Block.argL1 m c := a5
    have b6 : StableHlo.launchContents m' c (Proc.devRef .tc Cert.MixRefIdeal.main_arg6) = Cert.MixIdeal.Block.argL2 m c := a6
    have b7 : StableHlo.launchContents m' c (Proc.devRef .tc Cert.MixRefIdeal.main_arg7) = Cert.MixIdeal.Block.argSg m c := a7
    have b8 : StableHlo.launchContents m' c (Proc.devRef .tc Cert.MixRefIdeal.main_arg8) = Cert.MixIdeal.Block.argHc m c := a8
    have b9 : StableHlo.launchContents m' c (Proc.devRef .tc Cert.MixRefIdeal.main_arg9) = Cert.MixIdeal.Block.argGp m c := a9
    have b10 : StableHlo.launchContents m' c (Proc.devRef .tc Cert.MixRefIdeal.main_arg10) = Cert.MixIdeal.Block.argSgg m c := a10
    have b11 : StableHlo.launchContents m' c (Proc.devRef .tc Cert.MixRefIdeal.main_arg11) = Cert.MixIdeal.Block.argSgb m c := a11
    have b12 : StableHlo.launchContents m' c (Proc.devRef .tc Cert.MixRefIdeal.main_arg12) = Cert.MixIdeal.Block.argSw m c := a12
    have b13 : StableHlo.launchContents m' c (Proc.devRef .tc Cert.MixRefIdeal.main_arg13) = Cert.MixIdeal.Block.argSb m c := a13
    have b14 : StableHlo.launchContents m' c (Proc.devRef .tc Cert.MixRefIdeal.main_arg14) = Cert.MixIdeal.Block.argWa m c := a14
    have b15 : StableHlo.launchContents m' c (Proc.devRef .tc Cert.MixRefIdeal.main_arg15) = Cert.MixIdeal.Block.argWb m c := a15
    have b16 : StableHlo.launchContents m' c (Proc.devRef .tc Cert.MixRefIdeal.main_arg16) = Cert.MixIdeal.Block.argWc m c := a16
    have b17 : StableHlo.launchContents m' c (Proc.devRef .tc Cert.MixRefIdeal.main_arg17) = Cert.MixIdeal.Block.argWo m c := a17
    have b18 : StableHlo.launchContents m' c (Proc.devRef .tc Cert.MixRefIdeal.main_arg18) = Cert.MixIdeal.Block.argLg m c := a18
    have b19 : StableHlo.launchContents m' c (Proc.devRef .tc Cert.MixRefIdeal.main_arg19) = Cert.MixIdeal.Block.argLb m c := a19
    refine ((h c).1.trans ((Cert.MixRefIdeal.Value.val4_main_v164 _).symm.trans (Cert.MixRefIdeal.Ref.out0_eq _))).trans ?_
    rw [b0, b1, b2, b3, b4, b5, b6, b7, b8, b9, b10, b11, b12, b13, b14, b15, b16, b17, b18, b19]
    funext i
    obtain ⟨R, l, rfl⟩ : ∃ (R : Fin 16384) (l : Fin 1024), i = ix2 R l := ⟨i 0, i 1, eq_ix2 i⟩
    exact ((mix_eq m hpre c R l).trans (Cert.MixIdeal.Block.arr20_apply m c R l).symm)
  · obtain ⟨a0, a1, a2, a3, a4, a5, a6, a7, a8, a9, a10, a11, a12, a13, a14, a15, a16, a17, a18, a19⟩ := hagree c
    have b0 : StableHlo.launchContents m' c (Proc.devRef .tc Cert.MixRefIdeal.main_arg0) = Cert.MixIdeal.Block.argX m c := a0
    have b1 : StableHlo.launchContents m' c (Proc.devRef .tc Cert.MixRefIdeal.main_arg1) = Cert.MixIdeal.Block.argO0 m c := a1
    have b2 : StableHlo.launchContents m' c (Proc.devRef .tc Cert.MixRefIdeal.main_arg2) = Cert.MixIdeal.Block.argO1 m c := a2
    have b3 : StableHlo.launchContents m' c (Proc.devRef .tc Cert.MixRefIdeal.main_arg3) = Cert.MixIdeal.Block.argO2 m c := a3
    have b4 : StableHlo.launchContents m' c (Proc.devRef .tc Cert.MixRefIdeal.main_arg4) = Cert.MixIdeal.Block.argL0 m c := a4
    have b5 : StableHlo.launchContents m' c (Proc.devRef .tc Cert.MixRefIdeal.main_arg5) = Cert.MixIdeal.Block.argL1 m c := a5
    have b6 : StableHlo.launchContents m' c (Proc.devRef .tc Cert.MixRefIdeal.main_arg6) = Cert.MixIdeal.Block.argL2 m c := a6
    have b7 : StableHlo.launchContents m' c (Proc.devRef .tc Cert.MixRefIdeal.main_arg7) = Cert.MixIdeal.Block.argSg m c := a7
    have b8 : StableHlo.launchContents m' c (Proc.devRef .tc Cert.MixRefIdeal.main_arg8) = Cert.MixIdeal.Block.argHc m c := a8
    have b9 : StableHlo.launchContents m' c (Proc.devRef .tc Cert.MixRefIdeal.main_arg9) = Cert.MixIdeal.Block.argGp m c := a9
    have b10 : StableHlo.launchContents m' c (Proc.devRef .tc Cert.MixRefIdeal.main_arg10) = Cert.MixIdeal.Block.argSgg m c := a10
    have b11 : StableHlo.launchContents m' c (Proc.devRef .tc Cert.MixRefIdeal.main_arg11) = Cert.MixIdeal.Block.argSgb m c := a11
    have b12 : StableHlo.launchContents m' c (Proc.devRef .tc Cert.MixRefIdeal.main_arg12) = Cert.MixIdeal.Block.argSw m c := a12
    have b13 : StableHlo.launchContents m' c (Proc.devRef .tc Cert.MixRefIdeal.main_arg13) = Cert.MixIdeal.Block.argSb m c := a13
    have b14 : StableHlo.launchContents m' c (Proc.devRef .tc Cert.MixRefIdeal.main_arg14) = Cert.MixIdeal.Block.argWa m c := a14
    have b15 : StableHlo.launchContents m' c (Proc.devRef .tc Cert.MixRefIdeal.main_arg15) = Cert.MixIdeal.Block.argWb m c := a15
    have b16 : StableHlo.launchContents m' c (Proc.devRef .tc Cert.MixRefIdeal.main_arg16) = Cert.MixIdeal.Block.argWc m c := a16
    have b17 : StableHlo.launchContents m' c (Proc.devRef .tc Cert.MixRefIdeal.main_arg17) = Cert.MixIdeal.Block.argWo m c := a17
    have b18 : StableHlo.launchContents m' c (Proc.devRef .tc Cert.MixRefIdeal.main_arg18) = Cert.MixIdeal.Block.argLg m c := a18
    have b19 : StableHlo.launchContents m' c (Proc.devRef .tc Cert.MixRefIdeal.main_arg19) = Cert.MixIdeal.Block.argLb m c := a19
    refine ((h c).2.1.trans ((Cert.MixRefIdeal.Value.val4_main_v165 _).symm.trans (Cert.MixRefIdeal.Ref.out1_eq _))).trans ?_
    rw [b0, b1, b2, b3, b4, b5, b6, b7, b8, b9, b10, b11, b12, b13, b14, b15, b16, b17, b18, b19]
    funext i
    obtain ⟨R, l, rfl⟩ : ∃ (R : Fin 16384) (l : Fin 1024), i = ix2 R l := ⟨i 0, i 1, eq_ix2 i⟩
    exact (Cert.Alg.trunc_apply _ _ _).trans ((mix_eq m hpre c R l).trans (Cert.MixIdeal.Block.arr21_apply m c R l).symm)

end Cert.Proof

end
-- ==== Proof.RouterAlg.lean ====
/-
  The two largest of eight values, found two ways: by a stable sort, greatest first, and by two maxima over lanes with the
  least lane that attains them. And the softmax of the two.
-/
module

public import proofs.«01_k».proof.Proof.MixAlg
public import Idealize.ShloMosaic.Lib.SortFacts
public import Idealize.ShloMosaic.Lib.WordArith

@[expose] public section

noncomputable section

namespace Cert.Alg

open Idealize.ShloMosaic

/-! ## The two first positions of a stable sort -/

/-- Position `k` comes before position `k'`: its value is greater, or equal and its position less. -/
def Ahead {n : ℕ} (f : Fin n → EReal) (k k' : Fin n) : Prop := f k' < f k ∨ (f k = f k' ∧ k < k')

/-- `p` and `q` are the positions of the two greatest values, the lower position first among equals. -/
structure Top2 {n : ℕ} (f : Fin n → EReal) (p q : Fin n) : Prop where
  ne : p ≠ q
  fst : ∀ k, ¬ Ahead f k p
  snd : ∀ k, k ≠ p → ¬ Ahead f k q

open Classical in
/-- The order of the positions, as a test. -/
def aheadB {n : ℕ} (f : Fin n → EReal) (k k' : Fin n) : Bool := decide (Ahead f k k')

open Classical in
theorem aheadB_iff {n : ℕ} (f : Fin n → EReal) (k k' : Fin n) : aheadB f k k' = true ↔ Ahead f k k' := by
  unfold aheadB
  exact decide_eq_true_iff

theorem aheadB_not {n : ℕ} (f : Fin n → EReal) (k k' : Fin n) : aheadB f k k' = false ↔ ¬ Ahead f k k' := by
  rw [← aheadB_iff, Bool.not_eq_true]

/-- The test the sort uses: the value alone. -/
def gtB {n : ℕ} (f : Fin n → EReal) (k k' : Fin n) : Bool := Ideal.cmp .ogt (f k) (f k') == 1#1

theorem gtB_iff {n : ℕ} (f : Fin n → EReal) (k k' : Fin n) : gtB f k k' = true ↔ f k' < f k := by
  unfold gtB Ideal.cmp
  by_cases h : f k' < f k <;> simp [h]

/-- A stable sort of ascending positions by the value alone sorts them by value and position. -/
theorem stableSort_ahead {n : ℕ} (f : Fin n → EReal) (l : List (Fin n)) (hl : l.Pairwise (· < ·)) : stableSort (gtB f) l = stableSort (aheadB f) l := by
  induction l with
  | nil => rfl
  | cons a l ih =>
    rw [List.pairwise_cons] at hl
    unfold stableSort
    rw [ih hl.2]
    refine insertBefore_congr _ _ a _ fun b hb => ?_
    have hb' : b ∈ l := (perm_stableSort _ l).mem_iff.1 hb
    have hab := hl.1 b hb'
    rw [Bool.eq_iff_iff, gtB_iff, aheadB_iff]
    exact ⟨Or.inl, fun h => h.elim id fun h => absurd h.2 (not_lt.2 hab.le)⟩

theorem sortedFrom_ahead {n : ℕ} (f : Fin n → EReal) : sortedFrom (gtB f) = sortedFrom (aheadB f) := by
  funext k
  unfold sortedFrom
  rw [List.get_of_eq (show sortPositions n (gtB f) = sortPositions n (aheadB f) from stableSort_ahead f _ (List.pairwise_lt_finRange n))]
  rfl

theorem ahead_asymm {n : ℕ} (f : Fin n → EReal) (a b : Fin n) (h : Ahead f a b) : ¬ Ahead f b a := by
  rintro (k | k)
  · rcases h with h | h
    · exact lt_asymm h k
    · exact absurd k (by rw [h.1]; exact lt_irrefl _)
  · rcases h with h | h
    · exact absurd h (by rw [k.1]; exact lt_irrefl _)
    · exact lt_asymm h.2 k.2

theorem not_ahead_iff {n : ℕ} (f : Fin n → EReal) (a b : Fin n) : ¬ Ahead f a b ↔ f a < f b ∨ (f a = f b ∧ b ≤ a) := by
  unfold Ahead
  rw [not_or, not_lt, not_and, not_lt]
  constructor
  · rintro ⟨h, k⟩
    rcases lt_or_eq_of_le h with h | h
    · exact Or.inl h
    · exact Or.inr ⟨h, k h⟩
  · rintro (h | h)
    · exact ⟨h.le, fun e => absurd h (by rw [e]; exact lt_irrefl _)⟩
    · exact ⟨h.1.le, fun _ => h.2⟩

theorem not_ahead_trans {n : ℕ} (f : Fin n → EReal) (a b c : Fin n) (h : ¬ Ahead f a b) (k : ¬ Ahead f b c) : ¬ Ahead f a c := by
  rw [not_ahead_iff] at *
  rcases h with h | h <;> rcases k with k | k
  · exact Or.inl (h.trans k)
  · exact Or.inl (h.trans_eq k.1)
  · exact Or.inl (h.1.trans_lt k)
  · exact Or.inr ⟨h.1.trans k.1, k.2.trans h.2⟩

/-- The first two sorted positions are those of the two greatest values. -/
theorem top2_sorted {n : ℕ} (f : Fin (n + 2) → EReal) : Top2 f (sortedFrom (gtB f) 0) (sortedFrom (gtB f) 1) := by
  rw [sortedFrom_ahead]
  have inj := sortedFrom_injective (aheadB f)
  have hno : ∀ i j : Fin (n + 2), i < j → ¬ Ahead f (sortedFrom (aheadB f) j) (sortedFrom (aheadB f) i) := fun i j hij => by
    have h := sortedFrom_noInversion (aheadB f) (aheadB f) (fun a b h => (aheadB_not f b a).2 (ahead_asymm f a b ((aheadB_iff f a b).1 h)))
      (fun a b h => h) (fun a b c h k => (aheadB_not f a c).2 (not_ahead_trans f a b c ((aheadB_not f a b).1 h) ((aheadB_not f b c).1 k))) i j hij
    exact (aheadB_not f _ _).1 h
  have hself : ∀ a, ¬ Ahead f a a := fun a h => ahead_asymm f a a h h
  have h01 : (0 : Fin (n + 2)) ≠ 1 := fun h => by simpa using congrArg Fin.val h
  refine ⟨fun h => h01 (inj h), fun k => ?_, fun k hk => ?_⟩
  · obtain ⟨j, rfl⟩ := sortedFrom_surjective (aheadB f) k
    by_cases hj : j = 0
    · rw [hj]; exact hself _
    · exact hno 0 j (Fin.pos_of_ne_zero hj)
  · obtain ⟨j, rfl⟩ := sortedFrom_surjective (aheadB f) k
    by_cases hj : j = 1
    · rw [hj]; exact hself _
    · have hj0 : j ≠ 0 := fun h => hk (by rw [h])
      refine hno 1 j ?_
      have a0 : j.val ≠ 0 := fun h => hj0 (Fin.ext h)
      have a1 : j.val ≠ 1 := fun h => hj (Fin.ext (by simpa using h))
      show (1 : Fin (n + 2)).val < j.val
      simp only [Fin.val_one]
      omega

/-! ## The maximum over the lanes, and the least lane that attains it -/

theorem fold_max_eq {n : ℕ} (g : Fin n → EReal) (p : Fin n) (h : ∀ l, g l ≤ g p) : (Finset.univ : Finset (Fin n)).fold max ⊥ g = g p :=
  le_antisymm ((Finset.fold_max_le _).2 ⟨bot_le, fun l _ => h l⟩) ((Finset.le_fold_max _).2 (Or.inr ⟨p, Finset.mem_univ _, le_refl _⟩))

theorem fold_minsi_toNat {n : ℕ} (g : Fin n → BitVec 32) (hg : ∀ l, (g l).toNat < 2 ^ 31) (s : Finset (Fin n)) :
    (s.fold IntOp.minsi 2147483647#32 g).toNat = s.fold min 2147483647 (fun l => (g l).toNat) := by
  induction s using Finset.induction with
  | empty => rfl
  | insert a s ha ih =>
    rw [Finset.fold_insert ha, Finset.fold_insert ha, WordArith.toNat_minsi_of_lt _ _ (hg a), ih]
    rw [ih]
    exact lt_of_le_of_lt ((Finset.fold_min_le (s := s) (c := 2147483647)).2 (Or.inl (le_refl _))) (by decide)

/-- The least lane at which `P` holds, as the word minimum of the lanes where it does and 128 elsewhere. -/
theorem fold_minsi_eq (g : Fin 128 → BitVec 32) (P : Fin 128 → Prop) (p : Fin 128) (h1 : ∀ l, P l → g l = BitVec.ofNat 32 l.val) (h0 : ∀ l, ¬ P l → g l = 128#32)
    (hp : P p) (hmin : ∀ l, P l → p ≤ l) : (Finset.univ : Finset (Fin 128)).fold IntOp.minsi 2147483647#32 g = BitVec.ofNat 32 p.val := by
  have hv : ∀ l, P l → (g l).toNat = l.val := fun l hl => by
    rw [h1 l hl, BitVec.toNat_ofNat]
    exact Nat.mod_eq_of_lt (by have := l.isLt; omega)
  have hn : ∀ l, ¬ P l → (g l).toNat = 128 := fun l hl => by rw [h0 l hl]; rfl
  apply BitVec.eq_of_toNat_eq
  rw [fold_minsi_toNat g (fun l => by
    by_cases hl : P l
    · rw [hv l hl]; have := l.isLt; omega
    · rw [hn l hl]; decide), BitVec.toNat_ofNat, Nat.mod_eq_of_lt (by have := p.isLt; omega)]
  refine le_antisymm ((Finset.fold_min_le _).2 (Or.inr ⟨p, Finset.mem_univ _, (hv p hp).le⟩)) ((Finset.le_fold_min _).2 ⟨by have := p.isLt; omega, fun l _ => ?_⟩)
  by_cases hl : P l
  · rw [hv l hl]; exact hmin l hl
  · rw [hn l hl]; exact p.isLt.le

/-! ## Finite values -/

theorem sub_self_fin {x : EReal} (h : x ≠ ⊥ ∧ x ≠ ⊤) : x - x = 0 := EReal.sub_self h.2 h.1

/-- A finite row's product with a finite column, with a finite bias, is finite. -/
theorem dot_fin {n : ℕ} (x w : Fin n → EReal) (b : EReal) (hx : ∀ k, x k ≠ ⊥ ∧ x k ≠ ⊤) (hw : ∀ k, w k ≠ ⊥ ∧ w k ≠ ⊤) (hb : b ≠ ⊥ ∧ b ≠ ⊤) :
    (∑ k, x k * w k) + b ≠ ⊥ ∧ (∑ k, x k * w k) + b ≠ ⊤ := by
  obtain ⟨s, hs⟩ : ∃ s : ℝ, (∑ k, x k * w k) = (s : EReal) := by
    refine Finset.sum_induction (fun k => x k * w k) (fun z => ∃ s : ℝ, z = (s : EReal)) ?_ ⟨0, rfl⟩ fun k _ => ?_
    · rintro _ _ ⟨a, rfl⟩ ⟨c, rfl⟩
      exact ⟨a + c, (EReal.coe_add a c).symm⟩
    · refine ⟨(x k).toReal * (w k).toReal, ?_⟩
      rw [EReal.coe_mul, EReal.coe_toReal (hx k).2 (hx k).1, EReal.coe_toReal (hw k).2 (hw k).1]
  rw [hs, ← EReal.coe_toReal hb.2 hb.1, ← EReal.coe_add]
  exact ⟨EReal.coe_ne_bot _, EReal.coe_ne_top _⟩

/-! ## The softmax of the two greatest -/

/-- The gates: with the two greatest values at `p` and `q`, each position's share in the softmax of the two. -/
def gate {n : ℕ} (f : Fin n → EReal) (p q : Fin n) (l : ℕ) : EReal :=
  (if l = p.val then Ideal.div 1 (1 + Ideal.exp (f q - f p)) else 0) + (if l = q.val then Ideal.exp (f q - f p) * Ideal.div 1 (1 + Ideal.exp (f q - f p)) else 0)

theorem one_add_exp_ne (x : EReal) : (1 : EReal) + Ideal.exp x ≠ 0 := by
  have h : (0 : EReal) < 1 + Ideal.exp x := lt_of_lt_of_le zero_lt_one (le_add_of_nonneg_right (exp_nonneg x))
  exact h.ne'

/-- The softmax's quotient of the second, as a product. -/
theorem exp_div (x : EReal) : Ideal.div (Ideal.exp x) (1 + Ideal.exp x) = Ideal.exp x * Ideal.div 1 (1 + Ideal.exp x) := by
  have h := one_add_exp_ne x
  unfold Ideal.div
  rw [if_neg h, if_neg h, one_mul]

end Cert.Alg

end
-- ==== Proof.RouterBlock.lean ====
/-
  The router, one block of rows: the logits, the two largest of each row with their lanes, and the gates.
-/
module

public import proofs.«01_k».proof.Proof.RouterAlg
public import proofs.«01_k».proof.Proof.Gen.RouterIdeal.Value
public import Idealize.ShloMosaic.Lib.Pointwise

@[expose] public section

set_option maxRecDepth 16384

noncomputable section

namespace Cert.RouterIdeal.Block

open Idealize.ShloMosaic Idealize.ShloMosaic.TcCoe Idealize.SL.Sem
open Cert.RouterIdeal Cert.RouterIdeal.Gen Cert.Alg

theorem hz2 : (![0, 0] : Fin 2 → Nat) = fun _ => 0 := funext fun a => by fin_cases a <;> rfl

/-- The lanes' numbers. -/
abbrev lanes : IVec S1024x128 32 := iota .tc S1024x128 32 [1] iota_S1024x128_d1_w32

/-- The output block is the body's payload of the input blocks. -/
theorem out_eq (x0 : FVec Ideal S1024x1024 .f32) (x1 : FVec Ideal S1024x128 .f32) (x2 : FVec Ideal S1x128 .f32) :
    out0_3 (F := Ideal) x0 x1 x2 = k0_pay1 (F := Ideal) lanes (k0_pay2 (F := Ideal) x0 x1 x2) (k0_pay3 (F := Ideal) x0 x1 x2) (k0_pay4 (F := Ideal) x0 x1 x2) := by
  unfold out0_3
  rw [View.canon_unit_zero hz2]
  simp only [View.ld_unit_zero (S := S1024x1024) hz2, View.ld_unit_zero (S := S1024x128) hz2, View.ld_unit_zero (S := S1x128) hz2]

theorem lanes_apply (r : Fin 1024) (l : Fin 128) : lanes (ix2 r l) = BitVec.ofNat 32 l.val := by
  pointwise

theorem negInf : Ideal.ofBits .f32 0xFF800000#32 = ⊥ := by
  simp [Ideal.ofBits, Ideal.ieee]

theorem lt8 (l : Fin 128) : IntOp.cmpi .slt (BitVec.ofNat 32 l.val) 8#32 = if l.val < 8 then 1#1 else 0#1 := by
  revert l
  decide

/-- The logits: with finite entries the split's low parts are zero, so the row's product with the column and its bias. -/
theorem pay2_apply (x0 : FVec Ideal S1024x1024 .f32) (x1 : FVec Ideal S1024x128 .f32) (x2 : FVec Ideal S1x128 .f32) (r : Fin 1024) (l : Fin 128)
    (hx : ∀ k, x0 (ix2 r k) - x0 (ix2 r k) = 0) (hw : ∀ k, x1 (ix2 k l) - x1 (ix2 k l) = 0) :
    k0_pay2 (F := Ideal) x0 x1 x2 (ix2 r l) = if l.val < 8 then (∑ k : Fin 1024, x0 (ix2 r k) * x1 (ix2 k l)) + x2 (ix2 0 l) else ⊥ := by
  pointwise [k0_pay2, hx, hw, lt8, negInf]
  simp only [mul_zero, zero_mul, Finset.sum_const_zero, add_zero]
  by_cases hl : l.val < 8
  · rw [if_pos hl, if_pos hl]; rfl
  · rw [if_neg hl, if_neg hl]; rfl

/-- The lanes past the experts hold the least value. -/
theorem pay2_high (x0 : FVec Ideal S1024x1024 .f32) (x1 : FVec Ideal S1024x128 .f32) (x2 : FVec Ideal S1x128 .f32) (r : Fin 1024) (l : Fin 128) (hl : ¬ l.val < 8) :
    k0_pay2 (F := Ideal) x0 x1 x2 (ix2 r l) = ⊥ := by
  pointwise [k0_pay2, lt8, negInf]
  rw [if_neg hl]
  rfl

/-- Two lanes' numbers compared. -/
theorem eq_lane (l p : Fin 128) : IntOp.cmpi .eq (BitVec.ofNat 32 l.val) (BitVec.ofNat 32 p.val) = if l.val = p.val then 1#1 else 0#1 := by
  by_cases h : l.val = p.val
  · rw [if_pos h, h]; simp [IntOp.cmpi]
  · rw [if_neg h]
    have : (BitVec.ofNat 32 l.val) ≠ (BitVec.ofNat 32 p.val) := fun e => h (by
      have := congrArg BitVec.toNat e
      rw [BitVec.toNat_ofNat, BitVec.toNat_ofNat, Nat.mod_eq_of_lt (by have := l.isLt; omega), Nat.mod_eq_of_lt (by have := p.isLt; omega)] at this
      exact this)
    show BitVec.ofBool (BitVec.ofNat 32 l.val == BitVec.ofNat 32 p.val) = 0#1
    rw [beq_eq_false_iff_ne.2 this]
    rfl

/-- A row's maximum. -/
theorem rowMax_apply (v : FVec Ideal S1024x128 .f32) (r : Fin 1024) :
    multiReduction .maximumf [1] S1024 v 0xFF800000#32 reduces_S1024x128_S1024 (.inl rfl) rfl (ix1 r) = (Finset.univ : Finset (Fin 128)).fold max ⊥ fun l => v (ix2 r l) := by
  pointwise [negInf]

/-- A row's least word. -/
theorem rowMin_apply (v : IVec S1024x128 32) (r : Fin 1024) :
    multiReductionI .minsi [1] S1024 v 2147483647#32 reduces_S1024x128_S1024 rfl (ix1 r) = (Finset.univ : Finset (Fin 128)).fold IntOp.minsi 2147483647#32 fun l => v (ix2 r l) := by
  pointwise

theorem pay3_apply (x0 : FVec Ideal S1024x1024 .f32) (x1 : FVec Ideal S1024x128 .f32) (x2 : FVec Ideal S1x128 .f32) (r : Fin 1024) :
    k0_pay3 (F := Ideal) x0 x1 x2 (ix2 r 0) = (Finset.univ : Finset (Fin 128)).fold max ⊥ fun l => k0_pay2 (F := Ideal) x0 x1 x2 (ix2 r l) := by
  unfold k0_pay3
  generalize k0_pay2 (F := Ideal) x0 x1 x2 = v
  pointwise [rowMax_apply, negInf]

theorem pay4_apply (x0 : FVec Ideal S1024x1024 .f32) (x1 : FVec Ideal S1024x128 .f32) (x2 : FVec Ideal S1x128 .f32) (r : Fin 1024) (l : Fin 128) :
    k0_pay4 (F := Ideal) x0 x1 x2 (ix2 r l) = if k0_pay2 (F := Ideal) x0 x1 x2 (ix2 r l) = k0_pay3 (F := Ideal) x0 x1 x2 (ix2 r 0) then BitVec.ofNat 32 l.val else 128#32 := by
  unfold k0_pay4
  generalize k0_pay2 (F := Ideal) x0 x1 x2 = v
  generalize k0_pay3 (F := Ideal) x0 x1 x2 = w
  pointwise

/-- The masked logits: the first of the two greatest taken out. -/
def rest (v36 : FVec Ideal S1024x128 .f32) (v42 : IVec S1024x128 32) : FVec Ideal S1024x128 .f32 :=
  select (cmpi .eq lanes (broadcastTo S1024x128 (shapeCast S1024x1 (multiReductionI .minsi [1] S1024 v42 2147483647#32 reduces_S1024x128_S1024 rfl) shapeCasts_S1024_S1024x1) broadcasts_S1024x1_S1024x128)) (broadcast S1024x128 (Scalar.ofBits .f32 0xFF800000#32)) v36

theorem rest_apply (v36 : FVec Ideal S1024x128 .f32) (v42 : IVec S1024x128 32) (r : Fin 1024) (p : Fin 128) (hp : (Finset.univ : Finset (Fin 128)).fold IntOp.minsi 2147483647#32 (fun l => v42 (ix2 r l)) = BitVec.ofNat 32 p.val) (l : Fin 128) :
    rest v36 v42 (ix2 r l) = if l = p then ⊥ else v36 (ix2 r l) := by
  unfold rest
  pointwise [rowMin_apply, hp, negInf]
  rw [eq_lane]
  by_cases hl : l.val = p.val
  · rw [if_pos hl, if_pos (Fin.ext hl)]; rfl
  · rw [if_neg hl, if_neg fun h => hl (congrArg Fin.val h)]; rfl

theorem pay1_apply (v36 : FVec Ideal S1024x128 .f32) (v38 : FVec Ideal S1024x1 .f32) (v42 : IVec S1024x128 32) (r : Fin 1024) (p q : Fin 128) (a b : EReal)
    (ha : v38 (ix2 r 0) = a)
    (hp : (Finset.univ : Finset (Fin 128)).fold IntOp.minsi 2147483647#32 (fun l => v42 (ix2 r l)) = BitVec.ofNat 32 p.val)
    (hb : (Finset.univ : Finset (Fin 128)).fold max ⊥ (fun l => rest v36 v42 (ix2 r l)) = b)
    (hq : (Finset.univ : Finset (Fin 128)).fold IntOp.minsi 2147483647#32 (fun l => if rest v36 v42 (ix2 r l) = b then BitVec.ofNat 32 l.val else 128#32) = BitVec.ofNat 32 q.val) (l : Fin 128) :
    k0_pay1 (F := Ideal) lanes v36 v38 v42 (ix2 r l) = (if l.val = p.val then Ideal.div 1 (1 + Ideal.exp (b - a)) else 0) + (if l.val = q.val then Ideal.exp (b - a) * Ideal.div 1 (1 + Ideal.exp (b - a)) else 0) := by
  unfold k0_pay1
  rw [← rest]
  generalize rest v36 v42 = w at hb hq ⊢
  pointwise [rowMin_apply, rowMax_apply, hp, hb, ha, negInf]
  rw [hq, eq_lane, eq_lane]
  refine congrArg₂ HAdd.hAdd ?_ ?_
  · by_cases hl : l.val = p.val
    · rw [if_pos hl, if_pos hl]; rfl
    · rw [if_neg hl, if_neg hl]; rfl
  · by_cases hl : l.val = q.val
    · rw [if_pos hl, if_pos hl]; rfl
    · rw [if_neg hl, if_neg hl]; rfl

/-- The block's gates: a row whose logits on the first eight lanes are `f`, all finite, ends with the gates of the two greatest. -/
theorem row_gates (x0 : FVec Ideal S1024x1024 .f32) (x1 : FVec Ideal S1024x128 .f32) (x2 : FVec Ideal S1x128 .f32) (r : Fin 1024) (f : Fin 8 → EReal) (p q : Fin 8)
    (hf : ∀ l : Fin 128, k0_pay2 (F := Ideal) x0 x1 x2 (ix2 r l) = if hl : l.val < 8 then f ⟨l.val, hl⟩ else ⊥)
    (hfin : ∀ j, f j ≠ ⊥) (ht : Top2 f p q) (l : Fin 128) :
    out0_3 (F := Ideal) x0 x1 x2 (ix2 r l) = gate f p q l.val := by
  obtain ⟨P, hP⟩ : ∃ P : Fin 128, P.val = p.val := ⟨⟨p.val, by have := p.isLt; omega⟩, rfl⟩
  obtain ⟨Q, hQ⟩ : ∃ Q : Fin 128, Q.val = q.val := ⟨⟨q.val, by have := q.isLt; omega⟩, rfl⟩
  have hp8 := p.isLt
  have hq8 := q.isLt
  have fP : k0_pay2 (F := Ideal) x0 x1 x2 (ix2 r P) = f p := by
    rw [hf, dif_pos (show P.val < 8 by omega)]
    exact congrArg f (Fin.ext hP)
  have fQ : k0_pay2 (F := Ideal) x0 x1 x2 (ix2 r Q) = f q := by
    rw [hf, dif_pos (show Q.val < 8 by omega)]
    exact congrArg f (Fin.ext hQ)
  have hQP : Q ≠ P := fun h => ht.ne (Fin.ext (by rw [← hP, ← hQ, h]))
  have ha : k0_pay3 (F := Ideal) x0 x1 x2 (ix2 r 0) = f p := by
    rw [pay3_apply, ← fP]
    refine fold_max_eq (fun l => k0_pay2 (F := Ideal) x0 x1 x2 (ix2 r l)) P fun l => ?_
    show k0_pay2 (F := Ideal) x0 x1 x2 (ix2 r l) ≤ k0_pay2 (F := Ideal) x0 x1 x2 (ix2 r P)
    rw [fP, hf]
    by_cases hl : l.val < 8
    · rw [dif_pos hl]
      rcases (not_ahead_iff f _ _).1 (ht.fst ⟨l.val, hl⟩) with h | h
      · exact h.le
      · exact h.1.le
    · rw [dif_neg hl]; exact bot_le
  have hp : (Finset.univ : Finset (Fin 128)).fold IntOp.minsi 2147483647#32 (fun l => k0_pay4 (F := Ideal) x0 x1 x2 (ix2 r l)) = BitVec.ofNat 32 P.val := by
    refine fold_minsi_eq _ (fun l => k0_pay2 (F := Ideal) x0 x1 x2 (ix2 r l) = f p) P (fun l hl => ?_) (fun l hl => ?_) fP fun l hl => ?_
    · show k0_pay4 (F := Ideal) x0 x1 x2 (ix2 r l) = _
      rw [pay4_apply, ha]; exact if_pos hl
    · show k0_pay4 (F := Ideal) x0 x1 x2 (ix2 r l) = _
      rw [pay4_apply, ha]; exact if_neg hl
    · show P.val ≤ l.val
      by_cases h8 : l.val < 8
      · rw [hf, dif_pos h8] at hl
        rcases (not_ahead_iff f _ _).1 (ht.fst ⟨l.val, h8⟩) with h | h
        · exact absurd h (by rw [hl]; exact lt_irrefl _)
        · have := h.2
          have : p.val ≤ l.val := this
          omega
      · omega
  have hr := rest_apply (k0_pay2 (F := Ideal) x0 x1 x2) (k0_pay4 (F := Ideal) x0 x1 x2) r P hp
  have rQ : rest (k0_pay2 (F := Ideal) x0 x1 x2) (k0_pay4 (F := Ideal) x0 x1 x2) (ix2 r Q) = f q := by
    rw [hr, if_neg hQP, fQ]
  have hb : (Finset.univ : Finset (Fin 128)).fold max ⊥ (fun l => rest (k0_pay2 (F := Ideal) x0 x1 x2) (k0_pay4 (F := Ideal) x0 x1 x2) (ix2 r l)) = f q := by
    rw [← rQ]
    refine fold_max_eq (fun l => rest (k0_pay2 (F := Ideal) x0 x1 x2) (k0_pay4 (F := Ideal) x0 x1 x2) (ix2 r l)) Q fun l => ?_
    show rest (k0_pay2 (F := Ideal) x0 x1 x2) (k0_pay4 (F := Ideal) x0 x1 x2) (ix2 r l) ≤ rest (k0_pay2 (F := Ideal) x0 x1 x2) (k0_pay4 (F := Ideal) x0 x1 x2) (ix2 r Q)
    rw [rQ, hr, hf]
    by_cases hlp : l = P
    · rw [if_pos hlp]; exact bot_le
    · rw [if_neg hlp]
      by_cases hl : l.val < 8
      · rw [dif_pos hl]
        rcases (not_ahead_iff f _ _).1 (ht.snd ⟨l.val, hl⟩ fun h => hlp (Fin.ext (by rw [hP, ← h]))) with h | h
        · exact h.le
        · exact h.1.le
      · rw [dif_neg hl]; exact bot_le
  have hq : (Finset.univ : Finset (Fin 128)).fold IntOp.minsi 2147483647#32 (fun l => if rest (k0_pay2 (F := Ideal) x0 x1 x2) (k0_pay4 (F := Ideal) x0 x1 x2) (ix2 r l) = f q then BitVec.ofNat 32 l.val else 128#32) = BitVec.ofNat 32 Q.val := by
    refine fold_minsi_eq _ (fun l => rest (k0_pay2 (F := Ideal) x0 x1 x2) (k0_pay4 (F := Ideal) x0 x1 x2) (ix2 r l) = f q) Q (fun l hl => if_pos hl) (fun l hl => if_neg hl) rQ fun l hl => ?_
    show Q.val ≤ l.val
    by_cases h8 : l.val < 8
    · by_cases hlp : l = P
      · rw [hr, if_pos hlp] at hl
        exact absurd hl.symm (hfin q)
      · rw [hr, if_neg hlp, hf, dif_pos h8] at hl
        rcases (not_ahead_iff f _ _).1 (ht.snd ⟨l.val, h8⟩ fun h => hlp (Fin.ext (by rw [hP, ← h]))) with h | h
        · exact absurd h (by rw [hl]; exact lt_irrefl _)
        · have := h.2
          have : q.val ≤ l.val := this
          omega
    · omega
  rw [out_eq]
  refine (pay1_apply _ _ _ r P Q (f p) (f q) ha hp hb hq l).trans ?_
  unfold gate
  rw [hP, hQ]

end Cert.RouterIdeal.Block

end
-- ==== Proof.RouterFold.lean ====
/-
  The router's result array: each point's block written back, and the array at an index.
-/
module

public import proofs.«01_k».proof.Proof.RouterBlock
public import proofs.«01_k».proof.Proof.Pads
public import proofs.«01_k».proof.Proof.Gen.RouterIdeal.Value
public import Idealize.ShloMosaic.Adequacy
public import Idealize.ShloMosaic.Init
public import Idealize.ShloMosaic.Lib.Quiescent
public import Idealize.ShloMosaic.Lib.Tactic
public import Idealize.ShloMosaic.Lib.Pointwise

@[expose] public section

set_option maxRecDepth 16384

noncomputable section

namespace Cert.RouterIdeal.Block

open Idealize.ShloMosaic Idealize.ShloMosaic.TcCoe Idealize.SL.Sem
open Cert.RouterIdeal Cert.RouterIdeal.Gen Cert.Alg

variable (m : (ℓ : Loc nD τ sig) → Buf (Elt Ideal) ℓ)

/-- The arguments, as arrays: the rows, the router's weights and its biases. -/
abbrev argX (c : Dev nD) : FVec Ideal S16384x1024 .f32 := m ((c : Thread nD τ).loc main_arg0)
abbrev argW (c : Dev nD) : FVec Ideal S1x1024x8 .f32 := m ((c : Thread nD τ).loc main_arg1)
abbrev argB (c : Dev nD) : FVec Ideal S1x8 .f32 := m ((c : Thread nD τ).loc main_arg2)

/-! ## The arrays the call reads -/

theorem V_x (c : Dev nD) (r : Fin 16384) (k : Fin 1024) : V m c main_arg0 (ix2 r k) = argX m c (ix2 r k) := by
  have h : V m c main_arg0 = argX m c := by
    show StableHlo.after _ _ _ = _
    simp only [List.flatten_cons, List.flatten_nil, List.append_nil, List.cons_append, List.nil_append]
    after_results
  rw [h]

theorem V_w (c : Dev nD) (k : Fin 1024) (l : Fin 128) (j : Fin 8) (hj : l.val = j.val) : V m c main_v2 (ix2 k l) = argW m c (ix3 0 k j) := by
  have h : V m c main_v2 = pad S1024x128 ![0, 0] ![0, 120] ![0, 0] (shapeCast _ (argW m c) shapeCasts_S1x1024x8_S1024x8) (sitofp .f32 (constantI S_ 32 0#32)) pads_S1024x8_S1024x128_000_01200 h_S_ := by
    show StableHlo.after _ _ _ = _
    simp only [List.flatten_cons, List.flatten_nil, List.append_nil, List.cons_append, List.nil_append]
    after_results
    rfl
  rw [h, pad2_apply, dif_pos (show l.val < 8 by have := j.isLt; omega)]
  pointwise
  exact congrArg (argW m c) (congrArg (ix3 0 k) (Fin.ext hj))

theorem V_b (c : Dev nD) (l : Fin 128) (j : Fin 8) (hj : l.val = j.val) : V m c main_v4 (ix2 0 l) = argB m c (ix2 0 j) := by
  have h : V m c main_v4 = broadcastInDim S1x128 ![1] bcast_S128_S1x128_1 (pad S128 ![0] ![120] ![0] (shapeCast _ (argB m c) shapeCasts_S1x8_S8) (sitofp .f32 (constantI S_ 32 0#32)) pads_S8_S128_01200 h_S_) := by
    show StableHlo.after _ _ _ = _
    simp only [List.flatten_cons, List.flatten_nil, List.append_nil, List.cons_append, List.nil_append]
    after_results
    rfl
  rw [h]
  refine (row_apply _ _ _).trans ?_
  rw [pad1_apply, dif_pos (show l.val < 8 by have := j.isLt; omega)]
  pointwise
  exact congrArg (argB m c) (congrArg (ix2 0) (Fin.ext hj))

/-- Every point writes its block back. -/
theorem flush3 : ∀ t : Fin cfg0.N, (cfg0.win 3).flush t = true :=
  (by decide +kernel : ∀ t : Fin grid0.N, _)

/-! ## The blocks a point reads -/

/-- The printed index maps, over the grid: point `t` is row block `t`. -/
theorem idx_t : ∀ t : Fin cfg0.N, win0_0.index t = ![t.val, 0] ∧ win0_1.index t = ![0, 0] ∧ win0_2.index t = ![0, 0] ∧ win0_3.index t = ![t.val, 0] :=
  (by decide +kernel : ∀ t : Fin grid0.N, _)

theorem iblk0 (c : Dev nD) (t : Fin cfg0.N) (r : Fin 1024) (k : Fin 1024) (R : Fin 16384) (hR : R.val = 1024 * t.val + r.val) :
    (iblk m c 0 t : FVec Ideal S1024x1024 .f32) (ix2 r k) = argX m c (ix2 R k) := by
  have h := (idx_t t).1
  rw [← V_x m c R k]
  unfold iblk
  rw [View.read_apply]
  show V m c main_arg0 _ = _
  congr 1
  funext a
  apply Fin.ext
  match a with
  | ⟨0, _⟩ => show win0_0.index t 0 * 1024 + 1 * r.val = R.val; rw [h]; show t.val * 1024 + _ = _; omega
  | ⟨1, _⟩ => show win0_0.index t 1 * 1024 + 1 * k.val = k.val; rw [h]; show 0 * 1024 + _ = _; omega

theorem iblk1 (c : Dev nD) (t : Fin cfg0.N) (k : Fin 1024) (l : Fin 128) (j : Fin 8) (hj : l.val = j.val) :
    (iblk m c 1 t : FVec Ideal S1024x128 .f32) (ix2 k l) = argW m c (ix3 0 k j) := by
  have h := (idx_t t).2.1
  rw [← V_w m c k l j hj]
  unfold iblk
  rw [View.read_apply]
  show V m c main_v2 _ = _
  congr 1
  funext a
  apply Fin.ext
  match a with
  | ⟨0, _⟩ => show win0_1.index t 0 * 1024 + 1 * k.val = k.val; rw [h]; show 0 * 1024 + _ = _; omega
  | ⟨1, _⟩ => show win0_1.index t 1 * 128 + 1 * l.val = l.val; rw [h]; show 0 * 128 + _ = _; omega

theorem iblk2 (c : Dev nD) (t : Fin cfg0.N) (l : Fin 128) (j : Fin 8) (hj : l.val = j.val) :
    (iblk m c 2 t : FVec Ideal S1x128 .f32) (ix2 0 l) = argB m c (ix2 0 j) := by
  have h := (idx_t t).2.2.1
  rw [← V_b m c l j hj]
  unfold iblk
  rw [View.read_apply]
  show V m c main_v4 _ = _
  congr 1
  funext a
  apply Fin.ext
  match a with
  | ⟨0, _⟩ => show win0_2.index t 0 * 1 + 1 * 0 = 0; rw [h]; rfl
  | ⟨1, _⟩ => show win0_2.index t 1 * 128 + 1 * l.val = l.val; rw [h]; show 0 * 128 + _ = _; omega

/-! ## The result array -/

/-- A row's logits. -/
def logit (c : Dev nD) (R : Fin 16384) (j : Fin 8) : EReal := (∑ k : Fin 1024, argX m c (ix2 R k) * argW m c (ix3 0 k j)) + argB m c (ix2 0 j)

/-- A block's logits, where the arguments are finite. -/
theorem logits (c : Dev nD) (t : Fin cfg0.N) (r : Fin 1024) (R : Fin 16384) (hR : R.val = 1024 * t.val + r.val)
    (hx : ∀ i, argX m c i ≠ ⊥ ∧ argX m c i ≠ ⊤) (hw : ∀ i, argW m c i ≠ ⊥ ∧ argW m c i ≠ ⊤) (l : Fin 128) :
    k0_pay2 (F := Ideal) (iblk m c 0 t) (iblk m c 1 t) (iblk m c 2 t) (ix2 r l) = if hl : l.val < 8 then logit m c R ⟨l.val, hl⟩ else ⊥ := by
  have e0 := fun k => iblk0 m c t r k R hR
  have e1 := fun k j hj => iblk1 m c t k l j hj
  have e2 := fun j hj => iblk2 m c t l j hj
  generalize (iblk m c 0 t : FVec Ideal S1024x1024 .f32) = x0 at e0 ⊢
  generalize (iblk m c 1 t : FVec Ideal S1024x128 .f32) = x1 at e1 ⊢
  generalize (iblk m c 2 t : FVec Ideal S1x128 .f32) = x2 at e2 ⊢
  by_cases hl : l.val < 8
  · rw [pay2_apply x0 x1 x2 r l (fun k => by rw [e0]; exact sub_self_fin (hx _)) (fun k => by rw [e1 k ⟨l.val, hl⟩ rfl]; exact sub_self_fin (hw _)), if_pos hl, dif_pos hl]
    exact congrArg₂ HAdd.hAdd (Finset.sum_congr rfl fun k _ => congrArg₂ HMul.hMul (e0 k) (e1 k ⟨l.val, hl⟩ rfl)) (e2 ⟨l.val, hl⟩ rfl)
  · rw [dif_neg hl]
    exact pay2_high x0 x1 x2 r l hl

/-- The result array at an index: the gates of the row's two greatest logits. -/
theorem arr_apply (c : Dev nD) (R : Fin 16384) (l : Fin 128) (p q : Fin 8)
    (hx : ∀ i, argX m c i ≠ ⊥ ∧ argX m c i ≠ ⊤) (hw : ∀ i, argW m c i ≠ ⊥ ∧ argW m c i ≠ ⊤) (hfin : ∀ j, logit m c R j ≠ ⊥) (ht : Top2 (logit m c R) p q) :
    ((dats m 0 c).arrAt 3 cfg0.N : FVec Ideal S16384x128 .f32) (ix2 R l) = gate (logit m c R) p q l.val := by
  have hN : cfg0.N = 16 := N_0
  have hRl := R.isLt
  obtain ⟨t, ht'⟩ : ∃ t : Fin cfg0.N, t.val = R.val / 1024 := ⟨⟨R.val / 1024, by omega⟩, rfl⟩
  obtain ⟨r, hr⟩ : ∃ r : Fin 1024, r.val = R.val % 1024 := ⟨⟨R.val % 1024, Nat.mod_lt _ (by decide)⟩, rfl⟩
  have hi := (idx_t t).2.2.2
  have hb := congrFun ((Value.blocks3 m c t (flush3 t)).trans (Value.flushed3 m c t)) (ix2 r l)
  rw [View.read_apply] at hb
  have he : ((cfg0.win 3).blk t).view.emb (ix2 r l) = ix2 R l := by
    funext a
    apply Fin.ext
    match a with
    | ⟨0, _⟩ => show win0_3.index t 0 * 1024 + 1 * r.val = R.val; rw [hi]; show t.val * 1024 + _ = _; omega
    | ⟨1, _⟩ => show win0_3.index t 1 * 128 + 1 * l.val = l.val; rw [hi]; show 0 * 128 + _ = _; omega
  rw [he] at hb
  refine hb.trans ?_
  show out0_3 (iblk m c 0 t) (iblk m c 1 t) (iblk m c 2 t) (ix2 r l) = _
  exact row_gates _ _ _ r (logit m c R) p q (logits m c t r R (by omega) hx hw) hfin ht l

end Cert.RouterIdeal.Block

end
-- ==== Proof.RouterRef.lean ====
/-
  The router's reference, read at an index: the logits, the two greatest of each row, their softmax, and the softmax spread
  over the experts' columns.
-/
module

public import proofs.«01_k».proof.Proof.RouterAlg
public import proofs.«01_k».proof.Proof.Pads
public import proofs.«01_k».proof.Proof.Gen.RouterRefIdeal.Run

@[expose] public section

set_option maxRecDepth 16384

noncomputable section

namespace Cert.RouterRefIdeal.Ref

open Idealize.ShloMosaic Idealize.ShloMosaic.TcCoe Idealize.SL.Sem
open Cert.RouterRefIdeal Cert.RouterRefIdeal.Gen Cert.RouterRefIdeal.Value Cert.Alg

/-- The logits. -/
def lg (x : FVec Ideal S16384x1024 .f32) (w : FVec Ideal S1x1024x8 .f32) (b : FVec Ideal S1x8 .f32) : FVec Ideal S16384x8 .f32 :=
  addf (Host.dotGeneral dot_S16384x1024_S1024x8_S16384x8_1_0_0_1_n_n none x (shapeCast _ w shapeCasts_S1x1024x8_S1024x8)) (broadcastInDim S16384x8 ![0, 1] bcast_S1x8_S16384x8_0_1 (broadcastInDim S1x8 ![1] bcast_S8_S1x8_1 (shapeCast _ b shapeCasts_S1x8_S8)))

theorem lg_apply (x : FVec Ideal S16384x1024 .f32) (w : FVec Ideal S1x1024x8 .f32) (b : FVec Ideal S1x8 .f32) (R : Fin 16384) (j : Fin 8) :
    lg x w b (ix2 R j) = (∑ k : Fin 1024, x (ix2 R k) * w (ix3 0 k j)) + b (ix2 0 j) := by
  pointwise [lg]

/-- A row's values. -/
abbrev rowOf (X : FVec Ideal S16384x8 .f32) (R : Fin 16384) : Fin 8 → EReal := fun k => X (ix2 R k)

/-- The position of the `j`-th greatest value of a row. -/
def pos (X : FVec Ideal S16384x8 .f32) (R : Fin 16384) (j : Fin 2) : Fin 8 := sortedFrom (gtB (rowOf X R)) ⟨j.val, by have := j.isLt; omega⟩

theorem along_eq (R : Fin 16384) (j k : Fin 8) : (ix2 R j : S16384x8.Idx).along 1 k = ix2 R k := by
  funext a
  unfold Shape.Idx.along
  match a with
  | ⟨0, _⟩ => rfl
  | ⟨1, _⟩ => rfl

theorem slice_apply {α : Type} (Y : S16384x8.Idx → α) (R : Fin 16384) (j : Fin 2) :
    extractStridedSlice S16384x2 (fun _ => 0) Y sliceFits_S16384x8_S16384x2 (ix2 R j) = Y (ix2 R (⟨j.val, by have := j.isLt; omega⟩ : Fin 8)) := by
  unfold extractStridedSlice
  congr 1
  funext a
  apply Fin.ext
  match a with
  | ⟨0, _⟩ => show 0 + R.val = R.val; omega
  | ⟨1, _⟩ => show 0 + j.val = j.val; omega

/-- The sorted row: position `j`'s source. -/
theorem sort_along (X : FVec Ideal S16384x8 .f32) (R : Fin 16384) (j : Fin 8) :
    (ix2 R j : S16384x8.Idx).along 1 (sortedFrom (fun k k' : Fin 8 => FloatOps.cmpfTotal .gt (X ((ix2 R j : S16384x8.Idx).along 1 k)) (X ((ix2 R j : S16384x8.Idx).along 1 k')) == 1#1) j) = ix2 R (sortedFrom (gtB (rowOf X R)) j) := by
  exact (along_eq R j _).trans (congrArg (ix2 R) (congrArg (fun t => sortedFrom t j) (funext fun k => funext fun k' =>
    congrArg (fun u : BitVec 1 => u == 1#1) (congrArg₂ (Ideal.cmp .ogt) (congrArg X (along_eq R j k)) (congrArg X (along_eq R j k'))))))

theorem vals_apply (X : FVec Ideal S16384x8 .f32) (R : Fin 16384) (j : Fin 2) :
    (Host.topK S16384x2 1 (FloatOps.cmpfTotal .gt) X sliceFits_S16384x8_S16384x2).1 (ix2 R j) = X (ix2 R (pos X R j)) := by
  unfold Host.topK Host.sort2
  dsimp only
  rw [dif_pos (by decide : 1 < S16384x8.rank), slice_apply]
  exact congrArg X (sort_along X R ⟨j.val, by have := j.isLt; omega⟩)

theorem idxs_apply (X : FVec Ideal S16384x8 .f32) (R : Fin 16384) (j : Fin 2) :
    (Host.topK S16384x2 1 (FloatOps.cmpfTotal .gt) X sliceFits_S16384x8_S16384x2).2 (ix2 R j) = BitVec.ofNat 32 (pos X R j).val := by
  unfold Host.topK Host.sort2
  dsimp only
  rw [dif_pos (by decide : 1 < S16384x8.rank), slice_apply]
  dsimp only
  rw [dif_pos (by decide : 1 < 2)]
  refine (congrArg (iotaInDim S16384x8 32 1) (sort_along X R ⟨j.val, by have := j.isLt; omega⟩)).trans ?_
  rfl

/-- The softmax over two columns. -/
def sm (V : FVec Ideal S16384x2 .f32) : FVec Ideal S16384x2 .f32 :=
  let e := Host.exp (subf V (broadcastInDim S16384x2 ![0, 1] bcast_S16384x1_S16384x2_0_1 (broadcastInDim S16384x1 ![0] bcast_S16384_S16384x1_0 (maximumf (broadcastInDim S16384 ![] bcast_S_S16384 (constant S_ .f32 0xFF800000#32)) (Host.reduce FloatOps.maximumf V (constant S_ .f32 0xFF800000#32) reducesTo_S16384x2_S16384_d1 h_S_)))))
  Host.divf e (broadcastInDim S16384x2 ![0, 1] bcast_S16384x1_S16384x2_0_1 (broadcastInDim S16384x1 ![0] bcast_S16384_S16384x1_0 (Host.reduceAdd e (constant S_ .f32 0x00000000#32) reducesTo_S16384x2_S16384_d1 h_S_)))

/-- The columns' indicator of the positions. -/
def oh (I : IVec S16384x2 32) : FVec Ideal S16384x2x8 .f32 :=
  uitofp .f32 (cmpi .eq (broadcastInDim S16384x2x8 ![0, 1, 2] bcast_S16384x2x1_S16384x2x8_0_1_2 (broadcastInDim S16384x2x1 ![0, 1] bcast_S16384x2_S16384x2x1_0_1 I)) (broadcastInDim S16384x2x8 ![0, 1, 2] bcast_S1x1x8_S16384x2x8_0_1_2 (iotaInDim S1x1x8 32 2)))

theorem oh_apply (I : IVec S16384x2 32) (R : Fin 16384) (j : Fin 2) (p : Fin 8) (hp : I (ix2 R j) = BitVec.ofNat 32 p.val) (l : Fin 8) :
    oh I (ix3 R j l) = if l.val = p.val then 1 else 0 := by
  pointwise [oh, hp]
  have e : IntOp.cmpi .eq (BitVec.ofNat 32 p.val) (BitVec.ofNat 32 l.val) = if l.val = p.val then 1#1 else 0#1 := by
    clear hp
    revert p l
    decide
  rw [e]
  by_cases hl : l.val = p.val
  · rw [if_pos hl, if_pos hl]
    show ((1#1 : BitVec 1).toNat : EReal) = 1
    simp
  · rw [if_neg hl, if_neg hl]
    show ((0#1 : BitVec 1).toNat : EReal) = 0
    simp

theorem negInf : Ideal.ofBits .f32 0xFF800000#32 = ⊥ := by
  simp [Ideal.ofBits, Ideal.ieee]

theorem fold2 (b : EReal) (f : Fin 2 → EReal) : (Finset.univ : Finset (Fin 2)).fold max b f = max (f 0) (max (f 1) b) := by
  rw [show (Finset.univ : Finset (Fin 2)) = {0, 1} by decide, Finset.fold_insert (by decide), Finset.fold_singleton]

theorem max2_apply {A : ℕ} (L : FVec Ideal ⟨2, ![A, 2]⟩ .f32) (h : (⟨2, ![A, 2]⟩ : Shape).ReducesTo [1] ⟨1, ![A]⟩) (R : Fin A) :
    Host.reduce FloatOps.maximumf L (constant S_ .f32 0xFF800000#32) h h_S_ (ix1 R) = max (L (ix2 R 0)) (L (ix2 R 1)) := by
  pointwise [fold2, negInf]
  rw [max_eq_left (a := L (ix2 R 1)) bot_le]

theorem sm_apply (V : FVec Ideal S16384x2 .f32) (R : Fin 16384) (j : Fin 2) (a b : EReal) (ha : V (ix2 R 0) = a) (hb : V (ix2 R 1) = b) (hab : b ≤ a) :
    sm V (ix2 R j) = Ideal.div (Ideal.exp (V (ix2 R j) - a)) (Ideal.exp (a - a) + Ideal.exp (b - a)) := by
  have h := max2_apply V reducesTo_S16384x2_S16384_d1 R
  unfold sm
  generalize Host.reduce FloatOps.maximumf V (constant S_ .f32 0xFF800000#32) reducesTo_S16384x2_S16384_d1 h_S_ = W at h ⊢
  rw [ha, hb, max_eq_left hab] at h
  pointwise [Fin.sum_univ_two, h, ha, hb, negInf]
  rw [max_eq_right bot_le]

/-- The gates: the softmax of the two greatest, spread over the columns. -/
def gt (X : FVec Ideal S16384x8 .f32) : FVec Ideal S16384x8 .f32 :=
  Host.dotGeneral dot_S16384x2_S16384x2x8_S16384x8_1_1_n_2_0_0 none (sm (Host.topK S16384x2 1 (FloatOps.cmpfTotal .gt) X sliceFits_S16384x8_S16384x2).1) (oh (Host.topK S16384x2 1 (FloatOps.cmpfTotal .gt) X sliceFits_S16384x8_S16384x2).2)

/-- The product that spreads the softmax over the columns. -/
theorem spread_apply (V : FVec Ideal S16384x2 .f32) (H : FVec Ideal S16384x2x8 .f32) (R : Fin 16384) (l : Fin 8) :
    Host.dotGeneral dot_S16384x2_S16384x2x8_S16384x8_1_1_n_2_0_0 none V H (ix2 R l) = V (ix2 R 0) * H (ix3 R 0 l) + V (ix2 R 1) * H (ix3 R 1 l) := by
  have hr : dot_S16384x2_S16384x2x8_S16384x8_1_1_n_2_0_0.contr.rank = 1 := rfl
  simp only [Host.dotGeneral]
  rw [Ideal.dotGeneral_apply, ← Equiv.sum_comp (ValueIdx.contrEquiv1 dot_S16384x2_S16384x2x8_S16384x8_1_1_n_2_0_0 2 hr rfl).symm, Fin.sum_univ_two]
  refine congrArg₂ HAdd.hAdd (congrArg₂ HMul.hMul (congrArg V ?_) (congrArg H ?_)) (congrArg₂ HMul.hMul (congrArg V ?_) (congrArg H ?_)) <;>
  · funext a
    apply Fin.ext
    fin_cases a <;> rfl

theorem gt_apply (X : FVec Ideal S16384x8 .f32) (R : Fin 16384) (l : Fin 8) (h0 : ∀ k, X (ix2 R k) ≠ ⊥) (h1 : ∀ k, X (ix2 R k) ≠ ⊤) :
    gt X (ix2 R l) = gate (rowOf X R) (pos X R 0) (pos X R 1) l.val := by
  have ht : Top2 (rowOf X R) (pos X R 0) (pos X R 1) := top2_sorted (n := 6) (rowOf X R)
  have hab : X (ix2 R (pos X R 1)) ≤ X (ix2 R (pos X R 0)) := by
    rcases (not_ahead_iff (rowOf X R) _ _).1 (ht.fst (pos X R 1)) with h | h
    · exact h.le
    · exact h.1.le
  unfold gt
  rw [spread_apply, oh_apply _ R 0 _ (idxs_apply X R 0), oh_apply _ R 1 _ (idxs_apply X R 1), sm_apply _ R 0 _ _ (vals_apply X R 0) (vals_apply X R 1) hab,
    sm_apply _ R 1 _ _ (vals_apply X R 0) (vals_apply X R 1) hab, vals_apply, vals_apply]
  have hz : Ideal.exp (X (ix2 R (pos X R 0)) - X (ix2 R (pos X R 0))) = 1 := by
    rw [EReal.sub_self (h1 _) (h0 _)]
    show ((Real.exp 0 : ℝ) : EReal) = 1
    rw [Real.exp_zero]; rfl
  rw [hz, exp_div]
  unfold gate
  refine congrArg₂ HAdd.hAdd ?_ ?_
  · split
    · exact mul_one _
    · exact mul_zero _
  · split
    · exact mul_one _
    · exact mul_zero _

/-- The padding value. -/
theorem pad_zero : (sitofp .f32 (constantI S_ 32 0#32) : FVec Ideal S_ .f32) (Shape.Idx.first h_S_) = 0 := sitofp_zero _

/-- The reference's result at an index: the gates, and zero on the columns past the experts. -/
theorem out_apply (X : FVec Ideal S16384x8 .f32) (R : Fin 16384) (l : Fin 128) (h0 : ∀ k, X (ix2 R k) ≠ ⊥) (h1 : ∀ k, X (ix2 R k) ≠ ⊤) :
    pad S16384x128 ![0, 0] ![0, 120] ![0, 0] (gt X) (sitofp .f32 (constantI S_ 32 0#32)) pads_S16384x8_S16384x128_000_01200 h_S_ (ix2 R l) = gate (rowOf X R) (pos X R 0) (pos X R 1) l.val := by
  rw [pad2_apply]
  by_cases hl : l.val < 8
  · rw [dif_pos hl, gt_apply X R _ h0 h1]
  · rw [dif_neg hl, pad_zero]
    have a0 := (pos X R 0).isLt
    have a1 := (pos X R 1).isLt
    unfold gate
    rw [if_neg (by omega), if_neg (by omega), add_zero]

end Cert.RouterRefIdeal.Ref

end
-- ==== Proof.RouterClaim.lean ====
/-
  The router: kernel and reference end with equal results.
-/
module

public import proofs.«01_k».proof.Proof.RouterFold
public import proofs.«01_k».proof.Proof.RouterRef
public import proofs.«01_k».proof.Proof.Gen.RouterIdeal.Value
public import proofs.«01_k».proof.Proof.Gen.Pre_all_finite
public import proofs.«01_k».proof.Defs

@[expose] public section

set_option maxRecDepth 16384

noncomputable section

namespace Cert.Proof

open Idealize.ShloMosaic Idealize.SL.Sem

/-- The reference runs to the end and leaves its arguments and counters alone. -/
theorem quiescent_RouterRefIdeal : quiescent_RouterRefIdeal := fun m ρ _ =>
  (θ_run Cert.RouterRefIdeal.defs _ _).mono (fun r h => ⟨fun c => (h c).2, sem_eq_zero_of_no_sems (by decide) r.2⟩)
    (Cert.RouterRefIdeal.Value.run (F := Ideal) m ρ)

/-- The same under the precondition. -/
theorem quiescent_RouterRefIdeal_pre [hp : Cert.Pre_all_finite.Facts] : quiescent_RouterRefIdeal_pre_all_finite := fun m ρ _ =>
  (θ_run Cert.RouterRefIdeal.defs _ _).mono (fun r h => ⟨fun c => (h c).2, sem_eq_zero_of_no_sems (by decide) r.2⟩)
    (Cert.RouterRefIdeal.Value.run (F := Ideal) m ρ)

/-- A value strictly between the two infinities' words is finite. -/
theorem finite_of_test {M : EReal} (h : IntOp.andi (Ideal.cmp .ogt M (Ideal.ofBits .f32 0xFF800000#32)) (Ideal.cmp .olt M (Ideal.ofBits .f32 0x7F800000#32)) = 1#1) : M ≠ ⊥ ∧ M ≠ ⊤ := by
  unfold Ideal.cmp at h
  dsimp only at h
  by_cases a : Ideal.ofBits .f32 0xFF800000#32 < M
  · by_cases b : M < Ideal.ofBits .f32 0x7F800000#32
    · exact ⟨(bot_le.trans_lt a).ne', (lt_of_lt_of_le b le_top).ne⟩
    · rw [decide_eq_false b, decide_eq_true a] at h; exact absurd h (by decide)
  · rw [decide_eq_false a] at h
    revert h
    cases decide (M < Ideal.ofBits .f32 0x7F800000#32) <;> exact fun h => absurd h (by decide)

section
variable [hp : Cert.Pre_all_finite.Facts] (m : (ℓ : Loc Cert.RouterIdeal.nD Cert.RouterIdeal.τ Cert.RouterIdeal.sig) → Buf (Elt Ideal) ℓ) (h : Cert.Pre_RouterIdeal_all_finite m) (c : Dev Cert.RouterIdeal.nD)
include h

/-- The precondition at an index of the rows. -/
theorem finX (i : Cert.RouterIdeal.S16384x1024.Idx) : Cert.RouterIdeal.Block.argX m c i ≠ ⊥ ∧ Cert.RouterIdeal.Block.argX m c i ≠ ⊤ := finite_of_test (congrFun (h c).1 i)

/-- The precondition at an index of the weights. -/
theorem finW (i : Cert.RouterIdeal.S1x1024x8.Idx) : Cert.RouterIdeal.Block.argW m c i ≠ ⊥ ∧ Cert.RouterIdeal.Block.argW m c i ≠ ⊤ := finite_of_test (congrFun (h c).2.1 i)

/-- The precondition at an index of the biases. -/
theorem finB (i : Cert.RouterIdeal.S1x8.Idx) : Cert.RouterIdeal.Block.argB m c i ≠ ⊥ ∧ Cert.RouterIdeal.Block.argB m c i ≠ ⊤ := finite_of_test (congrFun (h c).2.2 i)

/-- The logits are finite. -/
theorem finL (R : Fin 16384) (j : Fin 8) : Cert.RouterIdeal.Block.logit m c R j ≠ ⊥ ∧ Cert.RouterIdeal.Block.logit m c R j ≠ ⊤ :=
  Cert.Alg.dot_fin _ _ _ (fun k => finX m h c _) (fun k => finW m h c _) (finB m h c _)

/-- What the reference computes of the kernel's arguments is what the kernel's array holds. -/
theorem router_eq (R : Fin 16384) (l : Fin 128) :
    pad Cert.RouterRefIdeal.S16384x128 ![0, 0] ![0, 120] ![0, 0] (Cert.RouterRefIdeal.Ref.gt (Cert.RouterRefIdeal.Ref.lg (Cert.RouterIdeal.Block.argX m c) (Cert.RouterIdeal.Block.argW m c) (Cert.RouterIdeal.Block.argB m c))) (sitofp .f32 (constantI Cert.RouterRefIdeal.S_ 32 0#32)) Cert.RouterRefIdeal.Gen.pads_S16384x8_S16384x128_000_01200 Cert.RouterRefIdeal.Gen.h_S_ (ix2 R l)
      = ((Cert.RouterIdeal.Gen.dats m 0 c).arrAt 3 Cert.RouterIdeal.cfg0.N : FVec Ideal Cert.RouterIdeal.S16384x128 .f32) (ix2 R l) := by
  have e : Cert.RouterRefIdeal.Ref.rowOf (Cert.RouterRefIdeal.Ref.lg (Cert.RouterIdeal.Block.argX m c) (Cert.RouterIdeal.Block.argW m c) (Cert.RouterIdeal.Block.argB m c)) R = Cert.RouterIdeal.Block.logit m c R :=
    funext fun j => Cert.RouterRefIdeal.Ref.lg_apply _ _ _ R j
  have f0 : ∀ k, Cert.RouterRefIdeal.Ref.lg (Cert.RouterIdeal.Block.argX m c) (Cert.RouterIdeal.Block.argW m c) (Cert.RouterIdeal.Block.argB m c) (ix2 R k) = Cert.RouterIdeal.Block.logit m c R k := fun k => congrFun e k
  rw [Cert.RouterRefIdeal.Ref.out_apply _ R l (fun k => by rw [f0]; exact (finL m h c R k).1) (fun k => by rw [f0]; exact (finL m h c R k).2)]
  have ht : Cert.Alg.Top2 (Cert.RouterIdeal.Block.logit m c R) (Cert.RouterRefIdeal.Ref.pos (Cert.RouterRefIdeal.Ref.lg (Cert.RouterIdeal.Block.argX m c) (Cert.RouterIdeal.Block.argW m c) (Cert.RouterIdeal.Block.argB m c)) R 0) (Cert.RouterRefIdeal.Ref.pos (Cert.RouterRefIdeal.Ref.lg (Cert.RouterIdeal.Block.argX m c) (Cert.RouterIdeal.Block.argW m c) (Cert.RouterIdeal.Block.argB m c)) R 1) := by
    rw [← e]
    exact Cert.Alg.top2_sorted (n := 6) _
  rw [e]
  exact (Cert.RouterIdeal.Block.arr_apply m c R l _ _ (finX m h c) (finW m h c) (fun j => (finL m h c R j).1) ht).symm

end

/-- On finite arguments, kernel and reference end with equal results. -/
theorem algebraic_Router [hp : Cert.Pre_all_finite.Facts] : algebraic_RouterIdeal_RouterRefIdeal_pre_all_finite := by
  intro m ρ m' ρ' hpre hagree
  refine ⟨_, Cert.RouterIdeal.Value.run_blocks (F := Ideal) m ρ, ?_⟩
  refine (θ_run Cert.RouterRefIdeal.defs _ _).mono (fun _ h c => ⟨?_, (h c).2⟩) (Cert.RouterRefIdeal.Value.run (F := Ideal) m' ρ')
  rw [(h c).1]
  obtain ⟨a0, a1, a2⟩ := hagree c
  rw [a0, a1, a2]
  funext i
  obtain ⟨R, l, rfl⟩ : ∃ (R : Fin 16384) (l : Fin 128), i = ix2 R l := ⟨i 0, i 1, eq_ix2 i⟩
  exact router_eq m hpre c R l

end Cert.Proof

end
-- ==== Proof.RopeClaim.lean ====
/-
  The rotary tables' call: what its two result arrays hold, what the reference computes, and that they agree.
-/
module

public import proofs.«01_k».proof.Proof.Gen.Rope.Frame
public import proofs.«01_k».proof.Proof.Gen.RopeIdeal.Value
public import proofs.«01_k».proof.Proof.Gen.RopeRefIdeal.Run
public import proofs.«01_k».proof.Proof.Pads
public import proofs.«01_k».proof.Defs
public import Idealize.ShloMosaic.Adequacy
public import Idealize.ShloMosaic.Init
public import Idealize.ShloMosaic.Lib.Quiescent
public import Idealize.ShloMosaic.Lib.IdealHost
public import Idealize.ShloMosaic.Lib.Tactic
public import Idealize.ShloMosaic.Lib.Pointwise

@[expose] public section

set_option maxRecDepth 16384

noncomputable section

namespace Cert.RopeIdeal.Block

open Idealize.ShloMosaic Idealize.ShloMosaic.TcCoe Idealize.SL.Sem
open Cert.RopeIdeal Cert.RopeIdeal.Gen

variable (m : (ℓ : Loc nD τ sig) → Buf (Elt Ideal) ℓ)

/-- The argument, as an array: the positions. -/
abbrev argP (c : Dev nD) : IVec S4x4096 32 := m ((c : Thread nD τ).loc main_arg0)

/-- The 32 frequencies `10000 ^ (-(2 / 64) k)`, as the program spells them. -/
def freqs : FVec Ideal S32 .f32 :=
  Host.powf (broadcastInDim S32 ![] bcast_S_S32 (constant S_ .f32 0x461C4000#32)) (mulf (Host.negf (sitofp .f32 (iotaInDim S32 32 0))) (broadcastInDim S32 ![] bcast_S_S32 (constant S_ .f32 0x3D000000#32)))

/-! ## What one point computes -/

theorem hz2 : (![0, 0] : Fin 2 → Nat) = fun _ => 0 := funext fun a => by fin_cases a <;> rfl

/-- The cosine block is the body's payload of the input blocks. -/
theorem out3_eq (x0 : Vec Ideal S2048x1 .f32) (x1 : Vec Ideal S1x128 .f32) (x2 : Vec Ideal S1x128 .f32) : out0_3 x0 x1 x2 = k0_pay2 x0 x1 := by
  unfold out0_3
  rw [View.canon_unit_zero hz2]
  simp only [View.ld_unit_zero (S := S2048x1) hz2, View.ld_unit_zero (S := S1x128) hz2]

/-- The sine block is the body's payload of the input blocks. -/
theorem out4_eq (x0 : Vec Ideal S2048x1 .f32) (x1 : Vec Ideal S1x128 .f32) (x2 : Vec Ideal S1x128 .f32) : out0_4 x0 x1 x2 = k0_pay3 x0 x1 x2 := by
  unfold out0_4
  rw [View.canon_unit_zero hz2]
  simp only [View.ld_unit_zero (S := S2048x1) hz2, View.ld_unit_zero (S := S1x128) hz2]

/-- The cosine payload at an index: of the row's position times the lane's frequency. -/
theorem pay2_apply (x0 : FVec Ideal S2048x1 .f32) (x1 : FVec Ideal S1x128 .f32) (r : Fin 2048) (l : Fin 128) :
    k0_pay2 (F := Ideal) x0 x1 (ix2 r l) = Ideal.cos (x0 (ix2 r 0) * x1 (ix2 0 l)) := by
  pointwise [k0_pay2, k0_pay1]

/-- The sine payload at an index: of the row's position times the lane's frequency, times the lane's sign. -/
theorem pay3_apply (x0 : FVec Ideal S2048x1 .f32) (x1 : FVec Ideal S1x128 .f32) (x2 : FVec Ideal S1x128 .f32) (r : Fin 2048) (l : Fin 128) :
    k0_pay3 (F := Ideal) x0 x1 x2 (ix2 r l) = Ideal.sin (x0 (ix2 r 0) * x1 (ix2 0 l)) * x2 (ix2 0 l) := by
  pointwise [k0_pay3, k0_pay1]

/-! ## The arrays the call reads -/

/-- Row `R` of the position column is the position of sequence `R / 4096`, place `R % 4096`. -/
theorem V_p (c : Dev nD) (R : Fin 16384) (b : Fin 4) (s : Fin 4096) (hR : R.val = 4096 * b.val + s.val) :
    V m c main_v14 (ix2 R 0) = sitofp (F := Ideal) .f32 (argP m c) (ix2 b s) := by
  have h : V m c main_v14 = shapeCast _ (sitofp (F := Ideal) .f32 (argP m c)) shapeCasts_S4x4096_S16384x1 := by
    show StableHlo.after hostOps0 _ _ = _
    after_results
    rfl
  rw [h]
  rw [shapeCast_apply _ _ (ix2 R (0 : Fin 1)) (ix2 b s) (by
    rw [Shape.rowMajor_val_two, Shape.rowMajor_val_two]
    show b.val * 4096 + s.val = R.val * 1 + 0; omega)]

/-- The lane's index into the frequencies. -/
theorem lit0_toNat : ∀ l : Fin 128, min (lit0 l).toInt.toNat (32 - 1) = l.val % 32 := by decide

/-- The gather's start index of a lane. -/
def startIx (l : Fin 128) : S128x1.Idx := ix2 l 0

/-- One frequency taken per lane: the gather reads its operand at the lane's start index. -/
theorem gather_apply (x : FVec Ideal S32 .f32) (i : IVec S128x1 32) (l : Fin 128) (k : Fin 32)
    (hk : min (i (startIx l)).toInt.toNat (32 - 1) = k.val) :
    Host.gather gather_S32_S128x1_S128_n_0_n_n_0_1_1 x i (ix1 l) = x (ix1 k) := by
  unfold Host.gather
  congr 1
  funext a
  obtain rfl : a = 0 := Subsingleton.elim _ _
  refine Fin.ext ?_
  show gather_S32_S128x1_S128_n_0_n_n_0_1_1.start (ix1 l) i 0 + gather_S32_S128x1_S128_n_0_n_n_0_1_1.batchCoord (ix1 l) 0 + gather_S32_S128x1_S128_n_0_n_n_0_1_1.offCoord (ix1 l) 0 = k.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S32_S128x1_S128_n_0_n_n_0_1_1.startIndexMap from List.mem_singleton.mpr rfl)]
  have hsi : gather_S32_S128x1_S128_n_0_n_n_0_1_1.siIdx (ix1 l) ⟨List.idxOf (0 : Fin 1) gather_S32_S128x1_S128_n_0_n_n_0_1_1.startIndexMap,
      List.idxOf_lt_length_iff.2 (List.mem_singleton.mpr rfl)⟩ = startIx l := by
    funext b
    refine Fin.ext ?_
    match b with
    | ⟨0, _⟩ => rfl
    | ⟨1, _⟩ => rfl
  rw [hsi]
  exact hk

/-- Lane `l` holds frequency `l % 32`. -/
theorem V_f (c : Dev nD) (l : Fin 128) (k : Fin 32) (hk : k.val = l.val % 32) : V m c main_v11 (ix2 0 l) = freqs (ix1 k) := by
  have h : V m c main_v11 = broadcastInDim S1x128 ![1] bcast_S128_S1x128_1 (Host.gather gather_S32_S128x1_S128_n_0_n_n_0_1_1 freqs (broadcastInDim S128x1 ![0] bcast_S128_S128x1_0
      (select (constantI S128 1 0#1) (addi (fun i => lit0 (S128.rowMajor i)) (broadcastInDim S128 ![] bcast_S_S128 (constantI S_ 32 32#32))) (fun i => lit0 (S128.rowMajor i))))) := by
    show StableHlo.after hostOps0 _ _ = _
    after_results
    rfl
  rw [h, Cert.Alg.row_apply]
  refine gather_apply _ _ l k ?_
  rw [hk, ← lit0_toNat l]
  have e : S128.rowMajor (ix1 l) = l := Fin.ext (Shape.rowMajor_val_one (d := ![128]) (ix1 l))
  have e2 : broadcastInDim S128x1 ![0] bcast_S128_S128x1_0
      (select (constantI S128 1 0#1) (addi (fun i => lit0 (S128.rowMajor i)) (broadcastInDim S128 ![] bcast_S_S128 (constantI S_ 32 32#32))) (fun i => lit0 (S128.rowMajor i))) (startIx l) = lit0 (S128.rowMajor (ix1 l)) := by
    unfold startIx
    pointwise
  rw [e2, e]

/-- Lane `l` holds the sign of its half of the head. -/
theorem V_s (c : Dev nD) (l : Fin 128) : V m c main_v12 (ix2 0 l) = Ideal.ofBits .f32 (lit1 l) := by
  have h : V m c main_v12 = broadcastInDim S1x128 ![1] bcast_S128_S1x128_1 (fun i => FloatOps.ofBits (F := Ideal) .f32 (lit1 (S128.rowMajor i))) := by
    show StableHlo.after hostOps0 _ _ = _
    after_results
    rfl
  have e : S128.rowMajor (ix1 l) = l := Fin.ext (Shape.rowMajor_val_one (d := ![128]) (ix1 l))
  rw [h, Cert.Alg.row_apply]
  exact congrArg (fun q => Ideal.ofBits .f32 (lit1 q)) e

/-- The sign's bits: those of -1 in the first half of a head, of 1 in the second. -/
theorem lit1_eq : ∀ l : Fin 128, lit1 l = if l.val % 64 < 32 then 0xBF800000#32 else 0x3F800000#32 := by decide

/-- The bits of -1. -/
theorem ofBits_negOne : Ideal.ofBits .f32 0xBF800000#32 = -1 := by
  have h : Ideal.ofBits .f32 0xBF800000#32 = ((-1 : ℝ) : EReal) := by
    simp [Ideal.ofBits, Ideal.ieee, -EReal.coe_mul, -EReal.coe_neg]; norm_num
  rw [h]
  rfl

/-- The bits of 1. -/
theorem ofBits_posOne : Ideal.ofBits .f32 0x3F800000#32 = 1 := by
  rw [show (1 : EReal) = ((1 : ℝ) : EReal) by norm_cast]
  simp [Ideal.ofBits, Ideal.ieee, -EReal.coe_mul]; norm_num

/-- Every point writes its blocks back. -/
theorem flush3 : ∀ t : Fin cfg0.N, (cfg0.win 3).flush t = true :=
  (by decide +kernel : ∀ t : Fin grid0.N, _)
theorem flush4 : ∀ t : Fin cfg0.N, (cfg0.win 4).flush t = true :=
  (by decide +kernel : ∀ t : Fin grid0.N, _)

/-- The printed index maps, over the grid: point `t` is row block `t`. -/
theorem idx_t : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

theorem iblk0 (c : Dev nD) (t : Fin cfg0.N) (r : Fin 2048) (R : Fin 16384) (hR : R.val = 2048 * t.val + r.val) :
    (iblk m c 0 t : FVec Ideal S2048x1 .f32) (ix2 r 0) = V m c main_v14 (ix2 R 0) := by
  have h := (idx_t t).1
  unfold iblk
  rw [View.read_apply]
  show V m c main_v14 _ = _
  congr 1
  funext a
  apply Fin.ext
  match a with
  | ⟨0, _⟩ => show win0_0.index t 0 * 2048 + 1 * r.val = R.val; rw [h]; show t.val * 2048 + _ = _; omega
  | ⟨1, _⟩ => show win0_0.index t 1 * 1 + 1 * 0 = 0; rw [h]; rfl

theorem iblk1 (c : Dev nD) (t : Fin cfg0.N) (l : Fin 128) :
    (iblk m c 1 t : FVec Ideal S1x128 .f32) (ix2 0 l) = V m c main_v11 (ix2 0 l) := by
  have h := (idx_t t).2.1
  unfold iblk
  rw [View.read_apply]
  show V m c main_v11 _ = _
  congr 1
  funext a
  apply Fin.ext
  match a with
  | ⟨0, _⟩ => show win0_1.index t 0 * 1 + 1 * 0 = 0; rw [h]; rfl
  | ⟨1, _⟩ => show win0_1.index t 1 * 128 + 1 * l.val = l.val; rw [h]; show 0 * 128 + _ = _; omega

theorem iblk2 (c : Dev nD) (t : Fin cfg0.N) (l : Fin 128) :
    (iblk m c 2 t : FVec Ideal S1x128 .f32) (ix2 0 l) = V m c main_v12 (ix2 0 l) := by
  have h := (idx_t t).2.2.1
  unfold iblk
  rw [View.read_apply]
  show V m c main_v12 _ = _
  congr 1
  funext a
  apply Fin.ext
  match a with
  | ⟨0, _⟩ => show win0_2.index t 0 * 1 + 1 * 0 = 0; rw [h]; rfl
  | ⟨1, _⟩ => show win0_2.index t 1 * 128 + 1 * l.val = l.val; rw [h]; show 0 * 128 + _ = _; omega

/-! ## The result arrays -/

/-- The angle at sequence `b`, place `s`, frequency `k`. -/
def angle (p : IVec S4x4096 32) (b : Fin 4) (s : Fin 4096) (k : Fin 32) : EReal :=
  sitofp (F := Ideal) .f32 p (ix2 b s) * freqs (ix1 k)

/-- The cosine table at an index: the cosine of the angle. -/
theorem arr3_apply (c : Dev nD) (R : Fin 16384) (l : Fin 128) (b : Fin 4) (s : Fin 4096) (k : Fin 32) (hR : R.val = 4096 * b.val + s.val) (hk : k.val = l.val % 32) :
    ((dats m 0 c).arrAt 3 cfg0.N : FVec Ideal S16384x128 .f32) (ix2 R l) = Ideal.cos (angle (argP m c) b s k) := by
  have hN : cfg0.N = 8 := N_0
  have hRl := R.isLt
  obtain ⟨t, ht⟩ : ∃ t : Fin cfg0.N, t.val = R.val / 2048 := ⟨⟨R.val / 2048, by omega⟩, rfl⟩
  obtain ⟨r, hr⟩ : ∃ r : Fin 2048, r.val = R.val % 2048 := ⟨⟨R.val % 2048, Nat.mod_lt _ (by decide)⟩, rfl⟩
  have hi := (idx_t t).2.2.2.1
  have hb := congrFun ((Value.blocks3 m c t (flush3 t)).trans (Value.flushed3 m c t)) (ix2 r l)
  rw [View.read_apply] at hb
  have he : ((cfg0.win 3).blk t).view.emb (ix2 r l) = ix2 R l := by
    funext a
    apply Fin.ext
    match a with
    | ⟨0, _⟩ => show win0_3.index t 0 * 2048 + 1 * r.val = R.val; rw [hi]; show t.val * 2048 + _ = _; omega
    | ⟨1, _⟩ => show win0_3.index t 1 * 128 + 1 * l.val = l.val; rw [hi]; show 0 * 128 + _ = _; omega
  rw [he] at hb
  refine hb.trans ?_
  show out0_3 (iblk m c 0 t) (iblk m c 1 t) (iblk m c 2 t) (ix2 r l) = _
  rw [out3_eq]
  refine (pay2_apply _ _ r l).trans (congrArg Ideal.cos (congrArg₂ HMul.hMul ?_ ?_))
  · exact (iblk0 m c t r R (by omega)).trans (V_p m c R b s hR)
  · exact (iblk1 m c t l).trans (V_f m c l k hk)

/-- The sine table at an index: the sine of the angle, with the sign of the lane's half of its head. -/
theorem arr4_apply (c : Dev nD) (R : Fin 16384) (l : Fin 128) (b : Fin 4) (s : Fin 4096) (k : Fin 32) (hR : R.val = 4096 * b.val + s.val) (hk : k.val = l.val % 32) :
    ((dats m 0 c).arrAt 4 cfg0.N : FVec Ideal S16384x128 .f32) (ix2 R l) = if l.val % 64 < 32 then -Ideal.sin (angle (argP m c) b s k) else Ideal.sin (angle (argP m c) b s k) := by
  have hN : cfg0.N = 8 := N_0
  have hRl := R.isLt
  obtain ⟨t, ht⟩ : ∃ t : Fin cfg0.N, t.val = R.val / 2048 := ⟨⟨R.val / 2048, by omega⟩, rfl⟩
  obtain ⟨r, hr⟩ : ∃ r : Fin 2048, r.val = R.val % 2048 := ⟨⟨R.val % 2048, Nat.mod_lt _ (by decide)⟩, rfl⟩
  have hi := (idx_t t).2.2.2.2
  have hb := congrFun ((Value.blocks4 m c t (flush4 t)).trans (Value.flushed4 m c t)) (ix2 r l)
  rw [View.read_apply] at hb
  have he : ((cfg0.win 4).blk t).view.emb (ix2 r l) = ix2 R l := by
    funext a
    apply Fin.ext
    match a with
    | ⟨0, _⟩ => show win0_4.index t 0 * 2048 + 1 * r.val = R.val; rw [hi]; show t.val * 2048 + _ = _; omega
    | ⟨1, _⟩ => show win0_4.index t 1 * 128 + 1 * l.val = l.val; rw [hi]; show 0 * 128 + _ = _; omega
  rw [he] at hb
  refine hb.trans ?_
  show out0_4 (iblk m c 0 t) (iblk m c 1 t) (iblk m c 2 t) (ix2 r l) = _
  rw [out4_eq]
  have e0 : Ideal.sin ((show FVec Ideal S2048x1 .f32 from iblk m c 0 t) (ix2 r 0) * (show FVec Ideal S1x128 .f32 from iblk m c 1 t) (ix2 0 l)) = Ideal.sin (angle (argP m c) b s k) :=
    congrArg Ideal.sin (congrArg₂ HMul.hMul ((iblk0 m c t r R (by omega)).trans (V_p m c R b s hR)) ((iblk1 m c t l).trans (V_f m c l k hk)))
  refine (pay3_apply _ _ _ r l).trans ((congrArg₂ HMul.hMul e0 ((iblk2 m c t l).trans (V_s m c l))).trans ?_)
  show Ideal.sin _ * Ideal.ofBits .f32 (lit1 l) = _
  rw [lit1_eq l]
  split
  · rw [ofBits_negOne, mul_neg, mul_one]
  · rw [ofBits_posOne, mul_one]

end Cert.RopeIdeal.Block

namespace Cert.RopeRefIdeal.Ref

open Idealize.ShloMosaic Idealize.SL.Sem
open Cert.RopeRefIdeal Cert.RopeRefIdeal.Gen

/-- The reference's angles, as the program spells them. -/
def ang (p : IVec S4x4096 32) : FVec Ideal S4x4096x32 .f32 :=
  mulf (broadcastInDim S4x4096x32 ![0, 1, 2] bcast_S4x4096x1_S4x4096x32_0_1_2 (broadcastInDim S4x4096x1 ![0, 1] bcast_S4x4096_S4x4096x1_0_1 (sitofp .f32 p))) (broadcastInDim S4x4096x32 ![0, 1, 2] bcast_S1x1x32_S4x4096x32_0_1_2 (broadcastInDim S1x1x32 ![2] bcast_S32_S1x1x32_2 (Host.powf (broadcastInDim S32 ![] bcast_S_S32 (constant S_ .f32 0x461C4000#32)) (mulf (Host.negf (sitofp .f32 (iotaInDim S32 32 0))) (broadcastInDim S32 ![] bcast_S_S32 (constant S_ .f32 0x3D000000#32))))))

/-- The reference's angle at an index is the kernel's. -/
theorem ang_apply (p : IVec S4x4096 32) (b : Fin 4) (s : Fin 4096) (k : Fin 32) : ang p (ix3 b s k) = Cert.RopeIdeal.Block.angle p b s k := by
  have h : ∀ f : FVec Ideal S32 .f32, mulf (broadcastInDim S4x4096x32 ![0, 1, 2] bcast_S4x4096x1_S4x4096x32_0_1_2 (broadcastInDim S4x4096x1 ![0, 1] bcast_S4x4096_S4x4096x1_0_1 (sitofp .f32 p))) (broadcastInDim S4x4096x32 ![0, 1, 2] bcast_S1x1x32_S4x4096x32_0_1_2 (broadcastInDim S1x1x32 ![2] bcast_S32_S1x1x32_2 f)) (ix3 b s k)
      = sitofp (F := Ideal) .f32 p (ix2 b s) * f (ix1 k) := by
    intro f
    pointwise
  exact h _

/-- Four 32-lane arrays side by side, the rows of the sequences one under another: lane `l` is lane `l % 32` of array `l / 32`. -/
theorem cat4 (x0 x1 x2 x3 : FVec Ideal S4x4096x32 .f32) (R : Fin 16384) (l : Fin 128) (b : Fin 4) (s : Fin 4096) (k : Fin 32) (hR : R.val = 4096 * b.val + s.val) (hk : k.val = l.val % 32) :
    shapeCast S16384x128 ((concatenate S4x4096x128 2 [⟨S4x4096x32, x0⟩, ⟨S4x4096x32, x1⟩, ⟨S4x4096x32, x2⟩, ⟨S4x4096x32, x3⟩] concatenates_S4x4096x32_S4x4096x32_S4x4096x32_S4x4096x32_S4x4096x128_d2 : FVec Ideal S4x4096x128 .f32)) shapeCasts_S4x4096x128_S16384x128 (ix2 R l)
      = if l.val < 32 then x0 (ix3 b s k) else if l.val < 64 then x1 (ix3 b s k) else if l.val < 96 then x2 (ix3 b s k) else x3 (ix3 b s k) := by
  rw [shapeCast_apply _ _ (ix2 R l) (ix3 b s l) (by
    rw [Shape.rowMajor_val_three, Shape.rowMajor_val_two]
    show (b.val * 4096 + s.val) * 128 + l.val = R.val * 128 + l.val; omega)]
  have hl := l.isLt
  have hx : ∀ (x : FVec Ideal S4x4096x32 .f32) (j : Fin 32), j.val = k.val → x (ix3 b s j) = x (ix3 b s k) := fun x j hj => by rw [Fin.ext hj]
  pointwise
  show (if h : l.val < 32 then x0 (ix3 b s ⟨l.val, h⟩) else if h : l.val - 32 < 32 then x1 (ix3 b s ⟨l.val - 32, h⟩)
    else if h : l.val - 32 - 32 < 32 then x2 (ix3 b s ⟨l.val - 32 - 32, h⟩) else x3 (ix3 b s ⟨l.val - 32 - 32 - 32, by omega⟩)) = _
  split_ifs <;> first
    | exact hx _ _ (show l.val = k.val by omega)
    | exact hx _ _ (show l.val - 32 = k.val by omega)
    | exact hx _ _ (show l.val - 32 - 32 = k.val by omega)
    | exact hx _ _ (show l.val - 32 - 32 - 32 = k.val by omega)
    | (exfalso; omega)

/-- The reference's cosine table: of the angles, four times side by side. -/
def refCos (p : IVec S4x4096 32) : FVec Ideal S16384x128 .f32 :=
  shapeCast S16384x128 ((concatenate S4x4096x128 2 [⟨S4x4096x32, Host.cos (ang p)⟩, ⟨S4x4096x32, Host.cos (ang p)⟩, ⟨S4x4096x32, Host.cos (ang p)⟩, ⟨S4x4096x32, Host.cos (ang p)⟩] concatenates_S4x4096x32_S4x4096x32_S4x4096x32_S4x4096x32_S4x4096x128_d2 : FVec Ideal S4x4096x128 .f32)) shapeCasts_S4x4096x128_S16384x128

/-- The reference's sine table: negated and plain, twice over. -/
def refSin (p : IVec S4x4096 32) : FVec Ideal S16384x128 .f32 :=
  shapeCast S16384x128 ((concatenate S4x4096x128 2 [⟨S4x4096x32, Host.negf (Host.sin (ang p))⟩, ⟨S4x4096x32, Host.sin (ang p)⟩, ⟨S4x4096x32, Host.negf (Host.sin (ang p))⟩, ⟨S4x4096x32, Host.sin (ang p)⟩] concatenates_S4x4096x32_S4x4096x32_S4x4096x32_S4x4096x32_S4x4096x128_d2 : FVec Ideal S4x4096x128 .f32)) shapeCasts_S4x4096x128_S16384x128

/-- The reference's cosine table at an index. -/
theorem refCos_apply (p : IVec S4x4096 32) (R : Fin 16384) (l : Fin 128) (b : Fin 4) (s : Fin 4096) (k : Fin 32) (hR : R.val = 4096 * b.val + s.val) (hk : k.val = l.val % 32) :
    refCos p (ix2 R l) = Ideal.cos (Cert.RopeIdeal.Block.angle p b s k) := by
  have e : (Host.cos (ang p) : FVec Ideal S4x4096x32 .f32) (ix3 b s k) = Ideal.cos (Cert.RopeIdeal.Block.angle p b s k) := congrArg Ideal.cos (ang_apply p b s k)
  refine (cat4 _ _ _ _ R l b s k hR hk).trans ?_
  rw [e, ite_self, ite_self, ite_self]

/-- The reference's sine table at an index. -/
theorem refSin_apply (p : IVec S4x4096 32) (R : Fin 16384) (l : Fin 128) (b : Fin 4) (s : Fin 4096) (k : Fin 32) (hR : R.val = 4096 * b.val + s.val) (hk : k.val = l.val % 32) :
    refSin p (ix2 R l) = if l.val % 64 < 32 then -Ideal.sin (Cert.RopeIdeal.Block.angle p b s k) else Ideal.sin (Cert.RopeIdeal.Block.angle p b s k) := by
  have hl := l.isLt
  have e : (Host.sin (ang p) : FVec Ideal S4x4096x32 .f32) (ix3 b s k) = Ideal.sin (Cert.RopeIdeal.Block.angle p b s k) := congrArg Ideal.sin (ang_apply p b s k)
  have e' : (Host.negf (Host.sin (ang p)) : FVec Ideal S4x4096x32 .f32) (ix3 b s k) = -Ideal.sin (Cert.RopeIdeal.Block.angle p b s k) := congrArg Neg.neg e
  refine (cat4 _ _ _ _ R l b s k hR hk).trans ?_
  rw [e, e']
  split_ifs <;> first
    | rfl
    | (exfalso; omega)

end Cert.RopeRefIdeal.Ref

namespace Cert.Proof

open Idealize.ShloMosaic Idealize.SL.Sem

/-- The reference runs to the end and leaves its argument and counters alone. -/
theorem quiescent_RopeRefIdeal : quiescent_RopeRefIdeal := fun m ρ _ =>
  (θ_run Cert.RopeRefIdeal.defs _ _).mono (fun r h => ⟨fun c => (h c).2.2, sem_eq_zero_of_no_sems (by decide) r.2⟩)
    (Cert.RopeRefIdeal.Value.run (F := Ideal) m ρ)

/-- Kernel and reference end with equal tables. -/
theorem algebraic_Rope : algebraic_RopeIdeal_RopeRefIdeal := by
  intro m ρ m' ρ' hpre hagree
  refine ⟨_, _, Cert.RopeIdeal.Value.run_blocks (F := Ideal) m ρ, ?_⟩
  refine (θ_run Cert.RopeRefIdeal.defs _ _).mono (fun _ h c => ⟨?_, ?_, (h c).2.2⟩) (Cert.RopeRefIdeal.Value.run (F := Ideal) m' ρ')
  · rw [(h c).1, hagree c]
    show Cert.RopeRefIdeal.Ref.refCos (Cert.RopeIdeal.Block.argP m c) = _
    funext i
    obtain ⟨R, l, rfl⟩ : ∃ (R : Fin 16384) (l : Fin 128), i = ix2 R l := ⟨i 0, i 1, eq_ix2 i⟩
    have hRl := R.isLt
    obtain ⟨b, hb⟩ : ∃ b : Fin 4, b.val = R.val / 4096 := ⟨⟨R.val / 4096, by omega⟩, rfl⟩
    obtain ⟨s, hs⟩ : ∃ s : Fin 4096, s.val = R.val % 4096 := ⟨⟨R.val % 4096, Nat.mod_lt _ (by decide)⟩, rfl⟩
    obtain ⟨k, hk⟩ : ∃ k : Fin 32, k.val = l.val % 32 := ⟨⟨l.val % 32, Nat.mod_lt _ (by decide)⟩, rfl⟩
    exact (Cert.RopeRefIdeal.Ref.refCos_apply _ R l b s k (by omega) hk).trans (Cert.RopeIdeal.Block.arr3_apply m c R l b s k (by omega) hk).symm
  · rw [(h c).2.1, hagree c]
    show Cert.RopeRefIdeal.Ref.refSin (Cert.RopeIdeal.Block.argP m c) = _
    funext i
    obtain ⟨R, l, rfl⟩ : ∃ (R : Fin 16384) (l : Fin 128), i = ix2 R l := ⟨i 0, i 1, eq_ix2 i⟩
    have hRl := R.isLt
    obtain ⟨b, hb⟩ : ∃ b : Fin 4, b.val = R.val / 4096 := ⟨⟨R.val / 4096, by omega⟩, rfl⟩
    obtain ⟨s, hs⟩ : ∃ s : Fin 4096, s.val = R.val % 4096 := ⟨⟨R.val % 4096, Nat.mod_lt _ (by decide)⟩, rfl⟩
    obtain ⟨k, hk⟩ : ∃ k : Fin 32, k.val = l.val % 32 := ⟨⟨l.val % 32, Nat.mod_lt _ (by decide)⟩, rfl⟩
    exact (Cert.RopeRefIdeal.Ref.refSin_apply _ R l b s k (by omega) hk).trans (Cert.RopeIdeal.Block.arr4_apply m c R l b s k (by omega) hk).symm

end Cert.Proof

end
-- ==== Proof.lean ====
/-
  The certificate: each call's launches, its frames and its equation, put together.
-/
module

public import proofs.«01_k».proof.Proof.Gen.Moe.Frame
public import proofs.«01_k».proof.Proof.Gen.MoeIdeal.Frame
public import proofs.«01_k».proof.Proof.Gen.Ffn.Frame
public import proofs.«01_k».proof.Proof.Gen.FfnIdeal.Frame
public import proofs.«01_k».proof.Proof.Gen.InAtt.Frame
public import proofs.«01_k».proof.Proof.Gen.InAttIdeal.Frame
public import proofs.«01_k».proof.Proof.Gen.InSg.Frame
public import proofs.«01_k».proof.Proof.Gen.InSgIdeal.Frame
public import proofs.«01_k».proof.Proof.Gen.InMl.Frame
public import proofs.«01_k».proof.Proof.Gen.InMlIdeal.Frame
public import proofs.«01_k».proof.Proof.Gen.InIf.Frame
public import proofs.«01_k».proof.Proof.Gen.InIfIdeal.Frame
public import proofs.«01_k».proof.Proof.Gen.InGate.Frame
public import proofs.«01_k».proof.Proof.Gen.InGateIdeal.Frame
public import proofs.«01_k».proof.Proof.Gen.Mix.Frame
public import proofs.«01_k».proof.Proof.Gen.MixIdeal.Frame
public import proofs.«01_k».proof.Proof.Gen.Router.Frame
public import proofs.«01_k».proof.Proof.Gen.RouterIdeal.Frame
public import proofs.«01_k».proof.Proof.Gen.Rope.Frame
public import proofs.«01_k».proof.Proof.Gen.RopeIdeal.Frame
public import proofs.«01_k».proof.Proof.Gen.Mls.Frame
public import proofs.«01_k».proof.Proof.Gen.MlsIdeal.Frame
public import proofs.«01_k».proof.Proof.Gen.Pre_gates_tame
public import proofs.«01_k».proof.Proof.Gen.Pre_largest_finite
public import proofs.«01_k».proof.Proof.Gen.Pre_all_finite
public import proofs.«01_k».proof.Proof.MoeClaim
public import proofs.«01_k».proof.Proof.FfnClaim
public import proofs.«01_k».proof.Proof.InAttClaim
public import proofs.«01_k».proof.Proof.InSgClaim
public import proofs.«01_k».proof.Proof.InMlClaim
public import proofs.«01_k».proof.Proof.InIfClaim
public import proofs.«01_k».proof.Proof.InGateClaim
public import proofs.«01_k».proof.Proof.MixClaim
public import proofs.«01_k».proof.Proof.RouterClaim
public import proofs.«01_k».proof.Proof.RopeClaim
public import proofs.«01_k».proof.Defs

@[expose] public section

noncomputable section

namespace Cert.Proof

open Idealize.ShloMosaic Idealize.SL.Sem

/-- Every claim of the module: the programs' side conditions, then their frames, then for each call that the idealized
    kernel is the kernel's and that it computes what the reference computes (of the mLSTM recurrence, the frames and the
    first of these alone). -/
theorem claim : Cert.Claim :=
  ⟨Cert.Moe.Gen.facts, Cert.MoeIdeal.Gen.facts, Cert.MoeRefIdeal.Gen.facts,
    Cert.Ffn.Gen.facts, Cert.FfnIdeal.Gen.facts, Cert.FfnRefIdeal.Gen.facts,
    Cert.InAtt.Gen.facts, Cert.InAttIdeal.Gen.facts, Cert.InAttRefIdeal.Gen.facts,
    Cert.InSg.Gen.facts, Cert.InSgIdeal.Gen.facts, Cert.InSgRefIdeal.Gen.facts,
    Cert.InMl.Gen.facts, Cert.InMlIdeal.Gen.facts, Cert.InMlRefIdeal.Gen.facts,
    Cert.InIf.Gen.facts, Cert.InIfIdeal.Gen.facts, Cert.InIfRefIdeal.Gen.facts,
    Cert.InGate.Gen.facts, Cert.InGateIdeal.Gen.facts, Cert.InGateRefIdeal.Gen.facts,
    Cert.Mix.Gen.facts, Cert.MixIdeal.Gen.facts, Cert.MixRefIdeal.Gen.facts,
    Cert.Router.Gen.facts, Cert.RouterIdeal.Gen.facts, Cert.RouterRefIdeal.Gen.facts,
    Cert.Rope.Gen.facts, Cert.RopeIdeal.Gen.facts, Cert.RopeRefIdeal.Gen.facts,
    Cert.Mls.Gen.facts, Cert.MlsIdeal.Gen.facts,
    Cert.Pre_gates_tame.Gen.facts, Cert.Pre_largest_finite.Gen.facts, Cert.Pre_all_finite.Gen.facts,
    fun m ρ _ => Cert.Moe.Gen.frame m ρ,
    fun m ρ _ => Cert.MoeIdeal.Gen.frame m ρ,
    fun m ρ _ => Cert.MoeIdeal.Gen.frame m ρ,
    quiescent_MoeRefIdeal,
    quiescent_MoeRefIdeal_pre,
    fun m ρ _ => Cert.Ffn.Gen.frame m ρ,
    fun m ρ _ => Cert.FfnIdeal.Gen.frame m ρ,
    quiescent_FfnRefIdeal,
    fun m ρ _ => Cert.InAtt.Gen.frame m ρ,
    fun m ρ _ => Cert.InAttIdeal.Gen.frame m ρ,
    quiescent_InAttRefIdeal,
    fun m ρ _ => Cert.InSg.Gen.frame m ρ,
    fun m ρ _ => Cert.InSgIdeal.Gen.frame m ρ,
    quiescent_InSgRefIdeal,
    fun m ρ _ => Cert.InMl.Gen.frame m ρ,
    fun m ρ _ => Cert.InMlIdeal.Gen.frame m ρ,
    quiescent_InMlRefIdeal,
    fun m ρ _ => Cert.InIf.Gen.frame m ρ,
    fun m ρ _ => Cert.InIfIdeal.Gen.frame m ρ,
    quiescent_InIfRefIdeal,
    fun m ρ _ => Cert.InGate.Gen.frame m ρ,
    fun m ρ _ => Cert.InGateIdeal.Gen.frame m ρ,
    quiescent_InGateRefIdeal,
    fun m ρ _ => Cert.Mix.Gen.frame m ρ,
    fun m ρ _ => Cert.MixIdeal.Gen.frame m ρ,
    fun m ρ _ => Cert.MixIdeal.Gen.frame m ρ,
    quiescent_MixRefIdeal,
    quiescent_MixRefIdeal_pre,
    fun m ρ _ => Cert.Router.Gen.frame m ρ,
    fun m ρ _ => Cert.RouterIdeal.Gen.frame m ρ,
    fun m ρ _ => Cert.RouterIdeal.Gen.frame m ρ,
    quiescent_RouterRefIdeal,
    quiescent_RouterRefIdeal_pre,
    fun m ρ _ => Cert.Rope.Gen.frame m ρ,
    fun m ρ _ => Cert.RopeIdeal.Gen.frame m ρ,
    quiescent_RopeRefIdeal,
    fun m ρ _ => Cert.Mls.Gen.frame m ρ,
    fun m ρ _ => Cert.MlsIdeal.Gen.frame m ρ,
    (trivial : preserves_Moe_MoeIdeal),
    algebraic_Moe,
    (trivial : preserves_Ffn_FfnIdeal),
    algebraic_Ffn,
    (trivial : preserves_InAtt_InAttIdeal),
    algebraic_InAtt,
    (trivial : preserves_InSg_InSgIdeal),
    algebraic_InSg,
    (trivial : preserves_InMl_InMlIdeal),
    algebraic_InMl,
    (trivial : preserves_InIf_InIfIdeal),
    algebraic_InIf,
    (trivial : preserves_InGate_InGateIdeal),
    algebraic_InGate,
    (trivial : preserves_Mix_MixIdeal),
    algebraic_Mix,
    (trivial : preserves_Router_RouterIdeal),
    algebraic_Router,
    (trivial : preserves_Rope_RopeIdeal),
    algebraic_Rope,
    (trivial : preserves_Mls_MlsIdeal)⟩

end Cert.Proof

end
